-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores [hPre_finite_scores : Cert.Pre_finite_scores.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores [hPre_finite_scores : Cert.Pre_finite_scores.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6)
      ∧ r.2.mem ((c.tc : Thread Cert.Latent.nD Cert.Latent.τ).loc Cert.Latent.main_arg7) = m ((c.tc : Thread Cert.Latent.nD Cert.Latent.τ).loc Cert.Latent.main_arg7)
      ∧ r.2.mem ((c.tc : Thread Cert.Latent.nD Cert.Latent.τ).loc Cert.Latent.main_arg8) = m ((c.tc : Thread Cert.Latent.nD Cert.Latent.τ).loc Cert.Latent.main_arg8))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
      ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
      ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3)
      ∧ r.2.mem ((c.tc : Thread Cert.LatentRefIdeal.nD Cert.LatentRefIdeal.τ).loc Cert.LatentRefIdeal.main_arg4) = m ((c.tc : Thread Cert.LatentRefIdeal.nD Cert.LatentRefIdeal.τ).loc Cert.LatentRefIdeal.main_arg4)
      ∧ r.2.mem ((c.tc : Thread Cert.LatentRefIdeal.nD Cert.LatentRefIdeal.τ).loc Cert.LatentRefIdeal.main_arg5) = m ((c.tc : Thread Cert.LatentRefIdeal.nD Cert.LatentRefIdeal.τ).loc Cert.LatentRefIdeal.main_arg5)
      ∧ r.2.mem ((c.tc : Thread Cert.LatentRefIdeal.nD Cert.LatentRefIdeal.τ).loc Cert.LatentRefIdeal.main_arg6) = m ((c.tc : Thread Cert.LatentRefIdeal.nD Cert.LatentRefIdeal.τ).loc Cert.LatentRefIdeal.main_arg6)
      ∧ r.2.mem ((c.tc : Thread Cert.LatentRefIdeal.nD Cert.LatentRefIdeal.τ).loc Cert.LatentRefIdeal.main_arg7) = m ((c.tc : Thread Cert.LatentRefIdeal.nD Cert.LatentRefIdeal.τ).loc Cert.LatentRefIdeal.main_arg7)
      ∧ r.2.mem ((c.tc : Thread Cert.LatentRefIdeal.nD Cert.LatentRefIdeal.τ).loc Cert.LatentRefIdeal.main_arg8) = m ((c.tc : Thread Cert.LatentRefIdeal.nD Cert.LatentRefIdeal.τ).loc Cert.LatentRefIdeal.main_arg8))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_scores [hMlaIdeal : Cert.MlaIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_scores [hMlaRefIdeal : Cert.MlaRefIdeal.Facts] [hPre_finite_scores : Cert.Pre_finite_scores.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)) (v4 : (c : Dev Cert.ProjIdeal.nD) → Buf (Elt Ideal) ((c.tc : Thread Cert.ProjIdeal.nD Cert.ProjIdeal.τ).loc Cert.ProjIdeal.main_v13_4)) (v5 : (c : Dev Cert.ProjIdeal.nD) → Buf (Elt Ideal) ((c.tc : Thread Cert.ProjIdeal.nD Cert.ProjIdeal.τ).loc Cert.ProjIdeal.main_v13_5)) (v6 : (c : Dev Cert.ProjIdeal.nD) → Buf (Elt Ideal) ((c.tc : Thread Cert.ProjIdeal.nD Cert.ProjIdeal.τ).loc Cert.ProjIdeal.main_v13_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_v13_4) = v4 c
          ∧ r.2.mem ((c.tc : Thread Cert.ProjIdeal.nD Cert.ProjIdeal.τ).loc Cert.ProjIdeal.main_v13_5) = v5 c
          ∧ r.2.mem ((c.tc : Thread Cert.ProjIdeal.nD Cert.ProjIdeal.τ).loc Cert.ProjIdeal.main_v13_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v37) = v0 c
          ∧ r.2.mem ((c.tc : Thread Cert.ProjRefIdeal.nD Cert.ProjRefIdeal.τ).loc Cert.ProjRefIdeal.main_v36) = v1 c
          ∧ r.2.mem ((c.tc : Thread Cert.ProjRefIdeal.nD Cert.ProjRefIdeal.τ).loc Cert.ProjRefIdeal.main_v39) = v2 c
          ∧ r.2.mem ((c.tc : Thread Cert.ProjRefIdeal.nD Cert.ProjRefIdeal.τ).loc Cert.ProjRefIdeal.main_v41) = v3 c
          ∧ r.2.mem ((c.tc : Thread Cert.ProjRefIdeal.nD Cert.ProjRefIdeal.τ).loc Cert.ProjRefIdeal.main_v43) = v4 c
          ∧ r.2.mem ((c.tc : Thread Cert.ProjRefIdeal.nD Cert.ProjRefIdeal.τ).loc Cert.ProjRefIdeal.main_v45) = v5 c
          ∧ r.2.mem ((c.tc : Thread Cert.ProjRefIdeal.nD Cert.ProjRefIdeal.τ).loc Cert.ProjRefIdeal.main_v47) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Latent_LatentIdeal : Prop :=
  IdealRules.named_const.Statement Cert.LatentIdeal.κ "inv_dim" .f32 0x3BAAAAAB#32 ((1 / 192 : ℝ) : EReal)

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)
      ∧ m' ((c.tc : Thread Cert.LatentRefIdeal.nD Cert.LatentRefIdeal.τ).loc Cert.LatentRefIdeal.main_arg4) = m ((c.tc : Thread Cert.LatentIdeal.nD Cert.LatentIdeal.τ).loc Cert.LatentIdeal.main_arg4)
      ∧ m' ((c.tc : Thread Cert.LatentRefIdeal.nD Cert.LatentRefIdeal.τ).loc Cert.LatentRefIdeal.main_arg5) = m ((c.tc : Thread Cert.LatentIdeal.nD Cert.LatentIdeal.τ).loc Cert.LatentIdeal.main_arg5)
      ∧ m' ((c.tc : Thread Cert.LatentRefIdeal.nD Cert.LatentRefIdeal.τ).loc Cert.LatentRefIdeal.main_arg6) = m ((c.tc : Thread Cert.LatentIdeal.nD Cert.LatentIdeal.τ).loc Cert.LatentIdeal.main_arg6)
      ∧ m' ((c.tc : Thread Cert.LatentRefIdeal.nD Cert.LatentRefIdeal.τ).loc Cert.LatentRefIdeal.main_arg7) = m ((c.tc : Thread Cert.LatentIdeal.nD Cert.LatentIdeal.τ).loc Cert.LatentIdeal.main_arg7)
      ∧ m' ((c.tc : Thread Cert.LatentRefIdeal.nD Cert.LatentRefIdeal.τ).loc Cert.LatentRefIdeal.main_arg8) = m ((c.tc : Thread Cert.LatentIdeal.nD Cert.LatentIdeal.τ).loc Cert.LatentIdeal.main_arg8)) →
    ∃ (v0 : (c : Dev Cert.LatentIdeal.nD) → Buf (Elt Ideal) ((c.tc : Thread Cert.LatentIdeal.nD Cert.LatentIdeal.τ).loc Cert.LatentIdeal.main_v65)) (v1 : (c : Dev Cert.LatentIdeal.nD) → Buf (Elt Ideal) ((c.tc : Thread Cert.LatentIdeal.nD Cert.LatentIdeal.τ).loc Cert.LatentIdeal.main_v66)) (v2 : (c : Dev Cert.LatentIdeal.nD) → Buf (Elt Ideal) ((c.tc : Thread Cert.LatentIdeal.nD Cert.LatentIdeal.τ).loc Cert.LatentIdeal.main_v64_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v65) = v0 c
          ∧ r.2.mem ((c.tc : Thread Cert.LatentIdeal.nD Cert.LatentIdeal.τ).loc Cert.LatentIdeal.main_v66) = v1 c
          ∧ r.2.mem ((c.tc : Thread Cert.LatentIdeal.nD Cert.LatentIdeal.τ).loc Cert.LatentIdeal.main_v64_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
          ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
          ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v141) = v0 c
          ∧ r.2.mem ((c.tc : Thread Cert.LatentRefIdeal.nD Cert.LatentRefIdeal.τ).loc Cert.LatentRefIdeal.main_v143) = v1 c
          ∧ r.2.mem ((c.tc : Thread Cert.LatentRefIdeal.nD Cert.LatentRefIdeal.τ).loc Cert.LatentRefIdeal.main_v145) = v2 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3)
          ∧ r.2.mem ((c.tc : Thread Cert.LatentRefIdeal.nD Cert.LatentRefIdeal.τ).loc Cert.LatentRefIdeal.main_arg4) = m' ((c.tc : Thread Cert.LatentRefIdeal.nD Cert.LatentRefIdeal.τ).loc Cert.LatentRefIdeal.main_arg4)
          ∧ r.2.mem ((c.tc : Thread Cert.LatentRefIdeal.nD Cert.LatentRefIdeal.τ).loc Cert.LatentRefIdeal.main_arg5) = m' ((c.tc : Thread Cert.LatentRefIdeal.nD Cert.LatentRefIdeal.τ).loc Cert.LatentRefIdeal.main_arg5)
          ∧ r.2.mem ((c.tc : Thread Cert.LatentRefIdeal.nD Cert.LatentRefIdeal.τ).loc Cert.LatentRefIdeal.main_arg6) = m' ((c.tc : Thread Cert.LatentRefIdeal.nD Cert.LatentRefIdeal.τ).loc Cert.LatentRefIdeal.main_arg6)
          ∧ r.2.mem ((c.tc : Thread Cert.LatentRefIdeal.nD Cert.LatentRefIdeal.τ).loc Cert.LatentRefIdeal.main_arg7) = m' ((c.tc : Thread Cert.LatentRefIdeal.nD Cert.LatentRefIdeal.τ).loc Cert.LatentRefIdeal.main_arg7)
          ∧ r.2.mem ((c.tc : Thread Cert.LatentRefIdeal.nD Cert.LatentRefIdeal.τ).loc Cert.LatentRefIdeal.main_arg8) = m' ((c.tc : Thread Cert.LatentRefIdeal.nD Cert.LatentRefIdeal.τ).loc Cert.LatentRefIdeal.main_arg8))

def preserves_Mla_MlaIdeal : Prop :=
  IdealRules.named_const.Statement Cert.MlaIdeal.κ "mask" .f32 0xF149F2CA#32 ⊥

def algebraic_MlaIdeal_MlaRefIdeal_pre_finite_scores [hMlaIdeal : Cert.MlaIdeal.Facts] [hMlaRefIdeal : Cert.MlaRefIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v30) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hLatent : Cert.Latent.Facts) (hLatentIdeal : Cert.LatentIdeal.Facts) (hLatentRefIdeal : Cert.LatentRefIdeal.Facts) (hMla : Cert.Mla.Facts) (hMlaIdeal : Cert.MlaIdeal.Facts) (hMlaRefIdeal : Cert.MlaRefIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Latent (hLatent := hLatent)
    ∧ quiescent_LatentIdeal (hLatentIdeal := hLatentIdeal)
    ∧ quiescent_LatentRefIdeal (hLatentRefIdeal := hLatentRefIdeal)
    ∧ quiescent_Mla (hMla := hMla)
    ∧ quiescent_MlaIdeal (hMlaIdeal := hMlaIdeal)
    ∧ quiescent_MlaIdeal_pre_finite_scores (hMlaIdeal := hMlaIdeal) (hPre_finite_scores := hPre_finite_scores)
    ∧ quiescent_MlaRefIdeal (hMlaRefIdeal := hMlaRefIdeal)
    ∧ quiescent_MlaRefIdeal_pre_finite_scores (hMlaRefIdeal := hMlaRefIdeal) (hPre_finite_scores := hPre_finite_scores)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Latent_LatentIdeal
    ∧ algebraic_LatentIdeal_LatentRefIdeal (hLatentIdeal := hLatentIdeal) (hLatentRefIdeal := hLatentRefIdeal)
    ∧ preserves_Mla_MlaIdeal
    ∧ algebraic_MlaIdeal_MlaRefIdeal_pre_finite_scores (hMlaIdeal := hMlaIdeal) (hMlaRefIdeal := hMlaRefIdeal) (hPre_finite_scores := hPre_finite_scores)
-- ==== Pre_finite_scores.lean ====
abbrev S4x8x4096x256 : Shape := ⟨4, ![4, 8, 4096, 256]⟩
abbrev S4x8x128x4096 : Shape := ⟨4, ![4, 8, 128, 4096]⟩
abbrev S_ : Shape := ⟨0, ![]⟩

class Facts : Prop where
  bitsLt_bf16_f32 : FTy.bits .bf16 < FTy.bits .f32
  bcast_S_S4x8x4096x256 : S_.BroadcastsInDim S4x8x4096x256 (![] : Fin 0 → Fin S4x8x4096x256.rank)

variable [Facts]

def fn {F : FTy → Type} [FloatOps F] (main_arg0 : FVec F S4x8x4096x256 .bf16) (main_arg1 : FVec F S4x8x4096x256 .bf16) (main_arg2 : FVec F S4x8x128x4096 .bf16) : IVec S4x8x4096x256 1 :=
  let main_v0 : FVec F S4x8x4096x256 .f32 := (extf .f32 · bitsLt_bf16_f32) main_arg0
  let main_v1 : FVec F S4x8x4096x256 .f32 := Host.absf main_v0
  let main_cst : FVec F S_ .f32 := constant S_ .f32 0x7F800000#32
  let main_v2 : FVec F S4x8x4096x256 .f32 := broadcastInDim S4x8x4096x256 ![] bcast_S_S4x8x4096x256 main_cst
  let main_v3 : IVec S4x8x4096x256 1 := cmpf .olt main_v1 main_v2
  let main_v4 : FVec F S4x8x4096x256 .f32 := (extf .f32 · bitsLt_bf16_f32) main_arg1
  let main_v5 : FVec F S4x8x4096x256 .f32 := Host.absf main_v4
  let main_cst_0 : FVec F S_ .f32 := constant S_ .f32 0x7F800000#32
  let main_v6 : FVec F S4x8x4096x256 .f32 := broadcastInDim S4x8x4096x256 ![] bcast_S_S4x8x4096x256 main_cst_0
  let main_v7 : IVec S4x8x4096x256 1 := cmpf .olt main_v5 main_v6
  let main_v8 : IVec S4x8x4096x256 1 := andi main_v3 main_v7
  main_v8
-- ==== Kernel.lean ====
abbrev S4x2048 : Shape := ⟨2, ![4, 2048]⟩
abbrev S1x2048x12288 : Shape := ⟨3, ![1, 2048, 12288]⟩
abbrev S1x12288 : Shape := ⟨2, ![1, 12288]⟩
abbrev S1x2048x8256 : Shape := ⟨3, ![1, 2048, 8256]⟩
abbrev S_ : Shape := ⟨0, ![]⟩
abbrev S8x2048 : Shape := ⟨2, ![8, 2048]⟩
abbrev S2048x8256 : Shape := ⟨2, ![2048, 8256]⟩
abbrev S8256x2048 : Shape := ⟨2, ![8256, 2048]⟩
abbrev S2048x12288 : Shape := ⟨2, ![2048, 12288]⟩
abbrev S12288 : Shape := ⟨1, ![12288]⟩
abbrev S8x12288 : Shape := ⟨2, ![8, 12288]⟩
abbrev S2048x8192 : Shape := ⟨2, ![2048, 8192]⟩
abbrev S64x2048 : Shape := ⟨2, ![64, 2048]⟩
abbrev S2048x768 : Shape := ⟨2, ![2048, 768]⟩
abbrev S1x768 : Shape := ⟨2, ![1, 768]⟩
abbrev S1024x2048 : Shape := ⟨2, ![1024, 2048]⟩
abbrev S8x768 : Shape := ⟨2, ![8, 768]⟩
abbrev S2048x1024 : Shape := ⟨2, ![2048, 1024]⟩
abbrev S4x12288 : Shape := ⟨2, ![4, 12288]⟩

abbrev nBuf : Space → Nat
  | .hbm => 16
  | .vmem => 13
  | .smem => 0
  | _ => 0

abbrev bufTy : (tb : Table) → Fin (tcTables nBuf tb) → BufTy
  | .hbm, ⟨0, _⟩ => ⟨S4x2048, .f32⟩
  | .hbm, ⟨1, _⟩ => ⟨S1x2048x12288, .f32⟩
  | .hbm, ⟨2, _⟩ => ⟨S1x12288, .f32⟩
  | .hbm, ⟨3, _⟩ => ⟨S1x2048x8256, .f32⟩
  | .hbm, ⟨4, _⟩ => ⟨S_, .i32⟩
  | .hbm, ⟨5, _⟩ => ⟨S_, .f32⟩
  | .hbm, ⟨6, _⟩ => ⟨S8x2048, .f32⟩
  | .hbm, ⟨7, _⟩ => ⟨S2048x8256, .f32⟩
  | .hbm, ⟨8, _⟩ => ⟨S8256x2048, .f32⟩
  | .hbm, ⟨9, _⟩ => ⟨S2048x12288, .f32⟩
  | .hbm, ⟨10, _⟩ => ⟨S12288, .f32⟩
  | .hbm, ⟨11, _⟩ => ⟨S1x12288, .f32⟩
  | .hbm, ⟨12, _⟩ => ⟨S8x12288, .f32⟩
  | .hbm, ⟨13, _⟩ => ⟨S2048x8192, .bf16⟩
  | .hbm, ⟨14, _⟩ => ⟨S64x2048, .bf16⟩
  | .hbm, ⟨15, _⟩ => ⟨S4x12288, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S1024x2048, .f32⟩
  | .local _ .vmem, ⟨6, _⟩ => ⟨S1024x2048, .f32⟩
  | .local _ .vmem, ⟨7, _⟩ => ⟨S64x2048, .f32⟩
  | .local _ .vmem, ⟨8, _⟩ => ⟨S8x768, .f32⟩
  | .local _ .vmem, ⟨9, _⟩ => ⟨S8x768, .f32⟩
  | .local _ .vmem, ⟨10, _⟩ => ⟨S2048x1024, .bf16⟩
  | .local _ .vmem, ⟨11, _⟩ => ⟨S2048x1024, .bf16⟩
  | .local _ .vmem, ⟨12, _⟩ => ⟨S64x2048, .bf16⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v20 : BitVec 1 := Scalar.cmpi .slt arg0 c8_i32
  let v21 : BitVec 32 := Scalar.extui v20
  let c0_i32 : BitVec 32 := 0#32
  let v22 : BitVec 1 := Scalar.cmpi .ne v21 c0_i32
  v22

def k0_cond2 (i : grid0.Coords) : BitVec 1 :=
  let arg0 : BitVec 32 := BitVec.ofNat 32 (i 0).val
  let c0_i32_10 : BitVec 32 := 0#32
  let v23 : BitVec 1 := Scalar.cmpi .eq arg0 c0_i32_10
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c7_i32 : BitVec 32 := 7#32
  let v0 : BitVec 1 := Scalar.cmpi .slt arg0 c7_i32
  let c1024_i32 : BitVec 32 := 1024#32
  let v1 : BitVec 32 := Scalar.muli c1024_i32 arg0
  let c1088_i32 : BitVec 32 := 1088#32
  let v2 : BitVec 32 := Scalar.addi c1088_i32 v1
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let v20 : BitVec 32 := Scalar.select v0 v19 c0_i32_4
  let c8_i32_5 : BitVec 32 := 8#32
  let v21 : BitVec 32 := Scalar.muli c8_i32_5 v20
  let c0_i32_6 : BitVec 32 := 0#32
  let c0_i32_7 : BitVec 32 := 0#32
  ![v21.toNat, c0_i32_6.toNat]

def cc0_transform_4 (i : grid0.Coords) : Fin 2 → Nat :=
  let arg0 : BitVec 32 := BitVec.ofNat 32 (i 0).val
  let c1024_i32 : BitVec 32 := 1024#32
  let c0_i32 : BitVec 32 := 0#32
  let c0_i32_0 : BitVec 32 := 0#32
  ![c1024_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c7_i32 : BitVec 32 := 7#32
  let v0 : BitVec 1 := Scalar.cmpi .slt arg0 c7_i32
  let c1_i32 : BitVec 32 := 1#32
  let v1 : BitVec 32 := Scalar.addi arg0 c1_i32
  let c0_i32 : BitVec 32 := 0#32
  let v2 : BitVec 32 := Scalar.select v0 v1 c0_i32
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x2048 : Shape := ⟨2, ![4, 2048]⟩
abbrev S1x2048x12288 : Shape := ⟨3, ![1, 2048, 12288]⟩
abbrev S1x12288 : Shape := ⟨2, ![1, 12288]⟩
abbrev S1x2048x8256 : Shape := ⟨3, ![1, 2048, 8256]⟩
abbrev S_ : Shape := ⟨0, ![]⟩
abbrev S2048x12288 : Shape := ⟨2, ![2048, 12288]⟩
abbrev S4x12288 : Shape := ⟨2, ![4, 12288]⟩
abbrev S12288 : Shape := ⟨1, ![12288]⟩
abbrev S2048x8256 : Shape := ⟨2, ![2048, 8256]⟩
abbrev S2048x1024 : Shape := ⟨2, ![2048, 1024]⟩
abbrev S2048x7168 : Shape := ⟨2, ![2048, 7168]⟩
abbrev S2048x8192 : Shape := ⟨2, ![2048, 8192]⟩
abbrev S2048x64 : Shape := ⟨2, ![2048, 64]⟩
abbrev S64x2048 : Shape := ⟨2, ![64, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x12288, .f32⟩
  | .hbm, ⟨2, _⟩ => ⟨S1x12288, .f32⟩
  | .hbm, ⟨3, _⟩ => ⟨S1x2048x8256, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048x12288, .f32⟩
  | .hbm, ⟨14, _⟩ => ⟨S4x12288, .f32⟩
  | .hbm, ⟨15, _⟩ => ⟨S12288, .f32⟩
  | .hbm, ⟨16, _⟩ => ⟨S1x12288, .f32⟩
  | .hbm, ⟨17, _⟩ => ⟨S4x12288, .f32⟩
  | .hbm, ⟨18, _⟩ => ⟨S4x12288, .f32⟩
  | .hbm, ⟨19, _⟩ => ⟨S2048x8256, .f32⟩
  | .hbm, ⟨20, _⟩ => ⟨S2048x1024, .f32⟩
  | .hbm, ⟨21, _⟩ => ⟨S2048x7168, .f32⟩
  | .hbm, ⟨22, _⟩ => ⟨S2048x8192, .f32⟩
  | .hbm, ⟨23, _⟩ => ⟨S2048x64, .f32⟩
  | .hbm, ⟨24, _⟩ => ⟨S2048x8192, .bf16⟩
  | .hbm, ⟨25, _⟩ => ⟨S64x2048, .f32⟩
  | .hbm, ⟨26, _⟩ => ⟨S64x2048, .bf16⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Ffn.lean ====
abbrev S4x4096x2048 : Shape := ⟨3, ![4, 4096, 2048]⟩
abbrev S4x12288 : Shape := ⟨2, ![4, 12288]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S4x6x2048 : Shape := ⟨3, ![4, 6, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S1x6x2048 : Shape := ⟨3, ![1, 6, 2048]⟩
abbrev S2048x512 : Shape := ⟨2, ![2048, 512]⟩
abbrev S512x2048 : Shape := ⟨2, ![512, 2048]⟩
abbrev S2048x128 : Shape := ⟨2, ![2048, 128]⟩
abbrev S1024x128 : Shape := ⟨2, ![1024, 128]⟩
abbrev S1x1x2048 : Shape := ⟨3, ![1, 1, 2048]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S16384x2048, .f32⟩
  | .hbm, ⟨6, _⟩ => ⟨S4x6x2048, .f32⟩
  | .hbm, ⟨7, _⟩ => ⟨S2048, .f32⟩
  | .hbm, ⟨8, _⟩ => ⟨S1x2048, .f32⟩
  | .hbm, ⟨9, _⟩ => ⟨S2048x11264, .f32⟩
  | .hbm, ⟨10, _⟩ => ⟨S2048x11264, .bf16⟩
  | .hbm, ⟨11, _⟩ => ⟨S5632x2048, .f32⟩
  | .hbm, ⟨12, _⟩ => ⟨S5632x2048, .bf16⟩
  | .hbm, ⟨13, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S4x12288 : Shape := ⟨2, ![4, 12288]⟩
abbrev S1x2048 : Shape := ⟨2, ![1, 2048]⟩
abbrev S1x2048x11264 : Shape := ⟨3, ![1, 2048, 11264]⟩
abbrev S1x5632x2048 : Shape := ⟨3, ![1, 5632, 2048]⟩
abbrev S4x1x12288 : Shape := ⟨3, ![4, 1, 12288]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S5632x2048 : Shape := ⟨2, ![5632, 2048]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S2048x11264, .f32⟩
  | .hbm, ⟨37, _⟩ => ⟨S4x4096x11264, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S_, .f32⟩
  | .hbm, ⟨43, _⟩ => ⟨S4x4096x5632, .f32⟩
  | .hbm, ⟨44, _⟩ => ⟨S4x4096x5632, .f32⟩
  | .hbm, ⟨45, _⟩ => ⟨S_, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S5632x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proj.lean ====
abbrev S4x4096x2048 : Shape := ⟨3, ![4, 4096, 2048]⟩
abbrev S4x12288 : Shape := ⟨2, ![4, 12288]⟩
abbrev S1x2048 : Shape := ⟨2, ![1, 2048]⟩
abbrev S2048x8192 : Shape := ⟨2, ![2048, 8192]⟩
abbrev S64x2048 : Shape := ⟨2, ![64, 2048]⟩
abbrev S1x1024x2048 : Shape := ⟨3, ![1, 1024, 2048]⟩
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S32x2048 : Shape := ⟨2, ![32, 2048]⟩
abbrev S_ : Shape := ⟨0, ![]⟩
abbrev S256x2048 : Shape := ⟨2, ![256, 2048]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩
abbrev S16384x2048 : Shape := ⟨2, ![16384, 2048]⟩
abbrev S4x6x2048 : Shape := ⟨3, ![4, 6, 2048]⟩
abbrev S2048 : Shape := ⟨1, ![2048]⟩
abbrev S16384x8192 : Shape := ⟨2, ![16384, 8192]⟩
abbrev S16384x256 : Shape := ⟨2, ![16384, 256]⟩
abbrev S1x6x2048 : Shape := ⟨3, ![1, 6, 2048]⟩
abbrev S2048x1024 : Shape := ⟨2, ![2048, 1024]⟩
abbrev S16x2048 : Shape := ⟨2, ![16, 2048]⟩
abbrev S16x11264 : Shape := ⟨2, ![16, 11264]⟩
abbrev S176x2048 : Shape := ⟨2, ![176, 2048]⟩
abbrev S1024x1024 : Shape := ⟨2, ![1024, 1024]⟩
abbrev S1024x256 : Shape := ⟨2, ![1024, 256]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 31
  | .vmem => 33
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S2048x8192, .bf16⟩
  | .hbm, ⟨4, _⟩ => ⟨S64x2048, .bf16⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048x11264, .f32⟩
  | .hbm, ⟨9, _⟩ => ⟨S1x5632x2048, .f32⟩
  | .hbm, ⟨10, _⟩ => ⟨S32x2048, .bf16⟩
  | .hbm, ⟨11, _⟩ => ⟨S32x2048, .bf16⟩
  | .hbm, ⟨12, _⟩ => ⟨S_, .bf16⟩
  | .hbm, ⟨13, _⟩ => ⟨S64x2048, .bf16⟩
  | .hbm, ⟨14, _⟩ => ⟨S256x2048, .bf16⟩
  | .hbm, ⟨15, _⟩ => ⟨S1024x2048, .f32⟩
  | .hbm, ⟨16, _⟩ => ⟨S1024x2048, .f32⟩
  | .hbm, ⟨17, _⟩ => ⟨S2048x2048, .f32⟩
  | .hbm, ⟨18, _⟩ => ⟨S2048x11264, .f32⟩
  | .hbm, ⟨19, _⟩ => ⟨S5632x2048, .f32⟩
  | .hbm, ⟨20, _⟩ => ⟨S16384x2048, .f32⟩
  | .hbm, ⟨21, _⟩ => ⟨S4x6x2048, .f32⟩
  | .hbm, ⟨22, _⟩ => ⟨S2048, .f32⟩
  | .hbm, ⟨23, _⟩ => ⟨S1x2048, .f32⟩
  | .hbm, ⟨24, _⟩ => ⟨S16384x8192, .bf16⟩
  | .hbm, ⟨25, _⟩ => ⟨S16384x256, .f32⟩
  | .hbm, ⟨26, _⟩ => ⟨S1024x2048, .bf16⟩
  | .hbm, ⟨27, _⟩ => ⟨S1024x2048, .bf16⟩
  | .hbm, ⟨28, _⟩ => ⟨S2048x2048, .bf16⟩
  | .hbm, ⟨29, _⟩ => ⟨S2048x11264, .bf16⟩
  | .hbm, ⟨30, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S256x2048, .bf16⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x11264, .f32⟩
  | .local _ .vmem, ⟨15, _⟩ => ⟨S16x11264, .f32⟩
  | .local _ .vmem, ⟨16, _⟩ => ⟨S176x2048, .f32⟩
  | .local _ .vmem, ⟨17, _⟩ => ⟨S176x2048, .f32⟩
  | .local _ .vmem, ⟨18, _⟩ => ⟨S1024x1024, .bf16⟩
  | .local _ .vmem, ⟨19, _⟩ => ⟨S1024x1024, .bf16⟩
  | .local _ .vmem, ⟨20, _⟩ => ⟨S1024x256, .f32⟩
  | .local _ .vmem, ⟨21, _⟩ => ⟨S1024x256, .f32⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | .local _ .vmem, ⟨26, _⟩ => ⟨S16x2048, .bf16⟩
  | .local _ .vmem, ⟨27, _⟩ => ⟨S16x2048, .bf16⟩
  | .local _ .vmem, ⟨28, _⟩ => ⟨S16x11264, .bf16⟩
  | .local _ .vmem, ⟨29, _⟩ => ⟨S16x11264, .bf16⟩
  | .local _ .vmem, ⟨30, _⟩ => ⟨S176x2048, .bf16⟩
  | .local _ .vmem, ⟨31, _⟩ => ⟨S176x2048, .bf16⟩
  | .local _ .vmem, ⟨32, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x11264 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x11264 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S176x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjRefIdeal.lean ====
abbrev S4x4096x2048 : Shape := ⟨3, ![4, 4096, 2048]⟩
abbrev S4x12288 : Shape := ⟨2, ![4, 12288]⟩
abbrev S1x2048 : Shape := ⟨2, ![1, 2048]⟩
abbrev S2048x8192 : Shape := ⟨2, ![2048, 8192]⟩
abbrev S64x2048 : Shape := ⟨2, ![64, 2048]⟩
abbrev S1x1024x2048 : Shape := ⟨3, ![1, 1024, 2048]⟩
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S4x1x12288 : Shape := ⟨3, ![4, 1, 12288]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩
abbrev S16384x8192 : Shape := ⟨2, ![16384, 8192]⟩
abbrev S2048x64 : Shape := ⟨2, ![2048, 64]⟩
abbrev S16384x64 : Shape := ⟨2, ![16384, 64]⟩
abbrev S16384x32 : Shape := ⟨2, ![16384, 32]⟩
abbrev S16384x256 : Shape := ⟨2, ![16384, 256]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S2048x8192, .bf16⟩
  | .hbm, ⟨4, _⟩ => ⟨S64x2048, .bf16⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048x11264, .f32⟩
  | .hbm, ⟨9, _⟩ => ⟨S1x5632x2048, .f32⟩
  | .hbm, ⟨10, _⟩ => ⟨S4x1x12288, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S16384x2048, .f32⟩
  | .hbm, ⟨42, _⟩ => ⟨S2048x8192, .f32⟩
  | .hbm, ⟨43, _⟩ => ⟨S16384x8192, .f32⟩
  | .hbm, ⟨44, _⟩ => ⟨S64x2048, .f32⟩
  | .hbm, ⟨45, _⟩ => ⟨S2048x64, .f32⟩
  | .hbm, ⟨46, _⟩ => ⟨S16384x64, .f32⟩
  | .hbm, ⟨47, _⟩ => ⟨S_, .f32⟩
  | .hbm, ⟨48, _⟩ => ⟨S16384x64, .f32⟩
  | .hbm, ⟨49, _⟩ => ⟨S16384x32, .f32⟩
  | .hbm, ⟨50, _⟩ => ⟨S16384x32, .f32⟩
  | .hbm, ⟨51, _⟩ => ⟨S16384x256, .f32⟩
  | .hbm, ⟨52, _⟩ => ⟨S16384x8192, .bf16⟩
  | .hbm, ⟨53, _⟩ => ⟨S1024x2048, .f32⟩
  | .hbm, ⟨54, _⟩ => ⟨S1024x2048, .bf16⟩
  | .hbm, ⟨55, _⟩ => ⟨S1024x2048, .f32⟩
  | .hbm, ⟨56, _⟩ => ⟨S1024x2048, .bf16⟩
  | .hbm, ⟨57, _⟩ => ⟨S2048x2048, .f32⟩
  | .hbm, ⟨58, _⟩ => ⟨S2048x2048, .bf16⟩
  | .hbm, ⟨59, _⟩ => ⟨S2048x11264, .f32⟩
  | .hbm, ⟨60, _⟩ => ⟨S2048x11264, .bf16⟩
  | .hbm, ⟨61, _⟩ => ⟨S5632x2048, .f32⟩
  | .hbm, ⟨62, _⟩ => ⟨S5632x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Merge.lean ====
abbrev S16384x1024 : Shape := ⟨2, ![16384, 1024]⟩
abbrev S16384x8192 : Shape := ⟨2, ![16384, 8192]⟩
abbrev S4x4096x2048 : Shape := ⟨3, ![4, 4096, 2048]⟩
abbrev S4x12288 : Shape := ⟨2, ![4, 12288]⟩
abbrev S1x1024x2048 : Shape := ⟨3, ![1, 1024, 2048]⟩
abbrev S1x2048x2048 : Shape := ⟨3, ![1, 2048, 2048]⟩
abbrev S16384x2048 : Shape := ⟨2, ![16384, 2048]⟩
abbrev S4x6x2048 : Shape := ⟨3, ![4, 6, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 17
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .bf16⟩
  | .hbm, ⟨3, _⟩ => ⟨S4x4096x2048, .f32⟩
  | .hbm, ⟨4, _⟩ => ⟨S4x12288, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S16384x2048, .f32⟩
  | .hbm, ⟨9, _⟩ => ⟨S4x6x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x6x2048, .f32⟩
  | .local _ .vmem, ⟨11, _⟩ => ⟨S1x6x2048, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S16384x8192 : Shape := ⟨2, ![16384, 8192]⟩
abbrev S4x4096x2048 : Shape := ⟨3, ![4, 4096, 2048]⟩
abbrev S4x12288 : Shape := ⟨2, ![4, 12288]⟩
abbrev S1x1024x2048 : Shape := ⟨3, ![1, 1024, 2048]⟩
abbrev S1x2048x2048 : Shape := ⟨3, ![1, 2048, 2048]⟩
abbrev S4x1x12288 : Shape := ⟨3, ![4, 1, 12288]⟩
abbrev S4x1x2048 : Shape := ⟨3, ![4, 1, 2048]⟩
abbrev S4x4096x1024 : Shape := ⟨3, ![4, 4096, 1024]⟩
abbrev S16384x2048 : Shape := ⟨2, ![16384, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .bf16⟩
  | .hbm, ⟨3, _⟩ => ⟨S4x4096x2048, .f32⟩
  | .hbm, ⟨4, _⟩ => ⟨S4x12288, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S4x1x12288, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S16384x1024, .f32⟩
  | .hbm, ⟨16, _⟩ => ⟨S4x4096x1024, .f32⟩
  | .hbm, ⟨17, _⟩ => ⟨S16384x1024, .f32⟩
  | .hbm, ⟨18, _⟩ => ⟨S4x4096x1024, .f32⟩
  | .hbm, ⟨19, _⟩ => ⟨S16384x2048, .bf16⟩
  | .hbm, ⟨20, _⟩ => ⟨S16384x2048, .f32⟩
  | .hbm, ⟨21, _⟩ => ⟨S4x4096x2048, .f32⟩
  | .hbm, ⟨22, _⟩ => ⟨S16384x2048, .bf16⟩
  | .hbm, ⟨23, _⟩ => ⟨S16384x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096x2048, .f32⟩
  | .hbm, ⟨32, _⟩ => ⟨S4x4096x2048, .f32⟩
  | .hbm, ⟨33, _⟩ => ⟨S1024x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096x2048, .f32⟩
  | .hbm, ⟨43, _⟩ => ⟨S4x4096x2048, .f32⟩
  | .hbm, ⟨44, _⟩ => ⟨S1024x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S2048x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Latent.lean ====
abbrev S16384x8192 : Shape := ⟨2, ![16384, 8192]⟩
abbrev S16384x64 : Shape := ⟨2, ![16384, 64]⟩
abbrev S4x4096 : Shape := ⟨2, ![4, 4096]⟩
abbrev S1x512 : Shape := ⟨2, ![1, 512]⟩
abbrev S1x512x1536 : Shape := ⟨3, ![1, 512, 1536]⟩
abbrev S1x512x2048 : Shape := ⟨3, ![1, 512, 2048]⟩
abbrev S1x192 : Shape := ⟨2, ![1, 192]⟩
abbrev S128 : Shape := ⟨1, ![128]⟩
abbrev S1x128 : Shape := ⟨2, ![1, 128]⟩
abbrev S16384x1 : Shape := ⟨2, ![16384, 1]⟩
abbrev S_ : Shape := ⟨0, ![]⟩
abbrev S512x1536 : Shape := ⟨2, ![512, 1536]⟩
abbrev S512x2048 : Shape := ⟨2, ![512, 2048]⟩
abbrev S192 : Shape := ⟨1, ![192]⟩
abbrev S512x8x192 : Shape := ⟨3, ![512, 8, 192]⟩
abbrev S8x512x192 : Shape := ⟨3, ![8, 512, 192]⟩
abbrev S8x512x128 : Shape := ⟨3, ![8, 512, 128]⟩
abbrev S8x512x64 : Shape := ⟨3, ![8, 512, 64]⟩
abbrev S8x512x32 : Shape := ⟨3, ![8, 512, 32]⟩
abbrev S8x512x256 : Shape := ⟨3, ![8, 512, 256]⟩
abbrev S8x512x384 : Shape := ⟨3, ![8, 512, 384]⟩
abbrev S512x8x256 : Shape := ⟨3, ![512, 8, 256]⟩
abbrev S32 : Shape := ⟨1, ![32]⟩
abbrev S64 : Shape := ⟨1, ![64]⟩
abbrev S384 : Shape := ⟨1, ![384]⟩
abbrev S1x384 : Shape := ⟨2, ![1, 384]⟩
abbrev S16384x32 : Shape := ⟨2, ![16384, 32]⟩
abbrev S16384x256 : Shape := ⟨2, ![16384, 256]⟩
abbrev S512 : Shape := ⟨1, ![512]⟩
abbrev S4x8x4096x256 : Shape := ⟨4, ![4, 8, 4096, 256]⟩
abbrev S4x8x128x4096 : Shape := ⟨4, ![4, 8, 128, 4096]⟩
abbrev S512x512 : Shape := ⟨2, ![512, 512]⟩
abbrev S512x256 : Shape := ⟨2, ![512, 256]⟩
abbrev S512x1 : Shape := ⟨2, ![512, 1]⟩
abbrev S1x8x512x256 : Shape := ⟨4, ![1, 8, 512, 256]⟩
abbrev S1x8x128x512 : Shape := ⟨4, ![1, 8, 128, 512]⟩
abbrev S512x128 : Shape := ⟨2, ![512, 128]⟩
abbrev S128x128 : Shape := ⟨2, ![128, 128]⟩
abbrev S1x512x384 : Shape := ⟨3, ![1, 512, 384]⟩
abbrev S512x384 : Shape := ⟨2, ![512, 384]⟩
abbrev S256x128 : Shape := ⟨2, ![256, 128]⟩
abbrev S1x1x512x128 : Shape := ⟨4, ![1, 1, 512, 128]⟩
abbrev S1x512x256 : Shape := ⟨3, ![1, 512, 256]⟩
abbrev S128x512 : Shape := ⟨2, ![128, 512]⟩
abbrev S1x1x128x512 : Shape := ⟨4, ![1, 1, 128, 512]⟩
abbrev S4x8x4096x192 : Shape := ⟨4, ![4, 8, 4096, 192]⟩

abbrev nBuf : Space → Nat
  | .hbm => 96
  | .vmem => 28
  | .smem => 0
  | _ => 0

abbrev bufTy : (tb : Table) → Fin (tcTables nBuf tb) → BufTy
  | .hbm, ⟨0, _⟩ => ⟨S16384x8192, .bf16⟩
  | .hbm, ⟨1, _⟩ => ⟨S16384x64, .f32⟩
  | .hbm, ⟨2, _⟩ => ⟨S4x4096, .i32⟩
  | .hbm, ⟨3, _⟩ => ⟨S1x512, .f32⟩
  | .hbm, ⟨4, _⟩ => ⟨S1x512, .f32⟩
  | .hbm, ⟨5, _⟩ => ⟨S1x512x1536, .f32⟩
  | .hbm, ⟨6, _⟩ => ⟨S1x512x2048, .f32⟩
  | .hbm, ⟨7, _⟩ => ⟨S1x192, .f32⟩
  | .hbm, ⟨8, _⟩ => ⟨S1x192, .f32⟩
  | .hbm, ⟨9, _⟩ => ⟨S128, .f32⟩
  | .hbm, ⟨10, _⟩ => ⟨S128, .i1⟩
  | .hbm, ⟨11, _⟩ => ⟨S128, .f32⟩
  | .hbm, ⟨12, _⟩ => ⟨S1x128, .f32⟩
  | .hbm, ⟨13, _⟩ => ⟨S16384x1, .i32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S512x1536, .f32⟩
  | .hbm, ⟨27, _⟩ => ⟨S512x2048, .f32⟩
  | .hbm, ⟨28, _⟩ => ⟨S192, .f32⟩
  | .hbm, ⟨29, _⟩ => ⟨S192, .f32⟩
  | .hbm, ⟨30, _⟩ => ⟨S512x8x192, .f32⟩
  | .hbm, ⟨31, _⟩ => ⟨S8x512x192, .f32⟩
  | .hbm, ⟨32, _⟩ => ⟨S8x512x128, .f32⟩
  | .hbm, ⟨33, _⟩ => ⟨S8x512x64, .f32⟩
  | .hbm, ⟨34, _⟩ => ⟨S8x512x32, .f32⟩
  | .hbm, ⟨35, _⟩ => ⟨S8x512x32, .f32⟩
  | .hbm, ⟨36, _⟩ => ⟨S_, .f32⟩
  | .hbm, ⟨37, _⟩ => ⟨S8x512x64, .f32⟩
  | .hbm, ⟨38, _⟩ => ⟨S8x512x256, .f32⟩
  | .hbm, ⟨39, _⟩ => ⟨S8x512x384, .f32⟩
  | .hbm, ⟨40, _⟩ => ⟨S8x512x384, .bf16⟩
  | .hbm, ⟨41, _⟩ => ⟨S512x8x256, .f32⟩
  | .hbm, ⟨42, _⟩ => ⟨S8x512x256, .f32⟩
  | .hbm, ⟨43, _⟩ => ⟨S8x512x256, .bf16⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S64, .f32⟩
  | .hbm, ⟨48, _⟩ => ⟨S128, .f32⟩
  | .hbm, ⟨49, _⟩ => ⟨S32, .f32⟩
  | .hbm, ⟨50, _⟩ => ⟨S384, .f32⟩
  | .hbm, ⟨51, _⟩ => ⟨S1x384, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S64, .f32⟩
  | .hbm, ⟨56, _⟩ => ⟨S128, .f32⟩
  | .hbm, ⟨57, _⟩ => ⟨S32, .f32⟩
  | .hbm, ⟨58, _⟩ => ⟨S384, .f32⟩
  | .hbm, ⟨59, _⟩ => ⟨S1x384, .f32⟩
  | .hbm, ⟨60, _⟩ => ⟨S192, .f32⟩
  | .hbm, ⟨61, _⟩ => ⟨S192, .f32⟩
  | .hbm, ⟨62, _⟩ => ⟨S192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S16384x32, .f32⟩
  | .hbm, ⟨83, _⟩ => ⟨S16384x32, .f32⟩
  | .hbm, ⟨84, _⟩ => ⟨S_, .f32⟩
  | .hbm, ⟨85, _⟩ => ⟨S16384x64, .f32⟩
  | .hbm, ⟨86, _⟩ => ⟨S16384x256, .f32⟩
  | .hbm, ⟨87, _⟩ => ⟨S512, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S4x8x4096x256, .bf16⟩
  | .hbm, ⟨92, _⟩ => ⟨S4x8x4096x256, .bf16⟩
  | .hbm, ⟨93, _⟩ => ⟨S4x8x128x4096, .bf16⟩
  | .hbm, ⟨94, _⟩ => ⟨S4x8x4096x192, .bf16⟩
  | .hbm, ⟨95, _⟩ => ⟨S4x8x4096x192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x1, .i32⟩
  | .local _ .vmem, ⟨7, _⟩ => ⟨S512x1, .i32⟩
  | .local _ .vmem, ⟨8, _⟩ => ⟨S1x128, .f32⟩
  | .local _ .vmem, ⟨9, _⟩ => ⟨S1x512, .f32⟩
  | .local _ .vmem, ⟨10, _⟩ => ⟨S1x512, .f32⟩
  | .local _ .vmem, ⟨11, _⟩ => ⟨S8x512x384, .bf16⟩
  | .local _ .vmem, ⟨12, _⟩ => ⟨S8x512x256, .bf16⟩
  | .local _ .vmem, ⟨13, _⟩ => ⟨S1x384, .f32⟩
  | .local _ .vmem, ⟨14, _⟩ => ⟨S1x384, .f32⟩
  | .local _ .vmem, ⟨15, _⟩ => ⟨S1x128, .f32⟩
  | .local _ .vmem, ⟨16, _⟩ => ⟨S1x128, .f32⟩
  | .local _ .vmem, ⟨17, _⟩ => ⟨S1x8x512x256, .bf16⟩
  | .local _ .vmem, ⟨18, _⟩ => ⟨S1x8x512x256, .bf16⟩
  | .local _ .vmem, ⟨19, _⟩ => ⟨S1x8x512x256, .bf16⟩
  | .local _ .vmem, ⟨20, _⟩ => ⟨S1x8x512x256, .bf16⟩
  | .local _ .vmem, ⟨21, _⟩ => ⟨S1x8x128x512, .bf16⟩
  | .local _ .vmem, ⟨22, _⟩ => ⟨S1x8x128x512, .bf16⟩
  | .local _ .vmem, ⟨23, _⟩ => ⟨S512x512, .bf16⟩
  | .local _ .vmem, ⟨24, _⟩ => ⟨S512x512, .bf16⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64_0 : Ref sig .tc := ⟨.hbm, 91, rfl⟩
abbrev main_v64_1 : Ref sig .tc := ⟨.hbm, 92, rfl⟩
abbrev main_v64_2 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v71 : BitVec 32 := Scalar.addi c0_i32 c8_i32
  let c1_i32 : BitVec 32 := 1#32
  ⟨c0_i32, v71, c1_i32⟩
def k0_off1 (k0_t1 : Fin k0_t1_loop.trips) : Fin 3 → Nat :=
  let c0_i32 : BitVec 32 := 0#32
  let c1_i32 : BitVec 32 := 1#32
  let arg22 : BitVec 32 := Scf.iv c0_i32 c1_i32 k0_t1
  let v75 : Index := Scalar.indexCast arg22
  let c0_42 : Index := 0#32
  let c0_43 : Index := 0#32
  ![v75.toNat, 0, 0]
def k0_off2 (k0_t1 : Fin k0_t1_loop.trips) : Fin 4 → Nat :=
  let c0_49 : Index := 0#32
  let c0_i32 : BitVec 32 := 0#32
  let c1_i32 : BitVec 32 := 1#32
  let arg22 : BitVec 32 := Scf.iv c0_i32 c1_i32 k0_t1
  let v95 : Index := Scalar.indexCast arg22
  let c0_50 : Index := 0#32
  let c0_51 : Index := 0#32
  ![0, v95.toNat, 0, 0]
def k0_off3 (k0_t1 : Fin k0_t1_loop.trips) : Fin 4 → Nat :=
  let c0_54 : Index := 0#32
  let c0_i32 : BitVec 32 := 0#32
  let c1_i32 : BitVec 32 := 1#32
  let arg22 : BitVec 32 := Scf.iv c0_i32 c1_i32 k0_t1
  let v117 : Index := Scalar.indexCast arg22
  let c0_55 : Index := 0#32
  let c128 : Index := 128#32
  ![0, v117.toNat, 0, 128]
def k0_off4 (k0_t1 : Fin k0_t1_loop.trips) : Fin 3 → Nat :=
  let c0_i32 : BitVec 32 := 0#32
  let c1_i32 : BitVec 32 := 1#32
  let arg22 : BitVec 32 := Scf.iv c0_i32 c1_i32 k0_t1
  let v122 : Index := Scalar.indexCast arg22
  let c0_58 : Index := 0#32
  let c0_59 : Index := 0#32
  ![v122.toNat, 0, 0]
def k0_off5 (k0_t1 : Fin k0_t1_loop.trips) : Fin 4 → Nat :=
  let c0_79 : Index := 0#32
  let c0_i32 : BitVec 32 := 0#32
  let c1_i32 : BitVec 32 := 1#32
  let arg22 : BitVec 32 := Scf.iv c0_i32 c1_i32 k0_t1
  let v174 : Index := Scalar.indexCast arg22
  let c0_80 : Index := 0#32
  let c0_81 : Index := 0#32
  ![0, v174.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x8x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== LatentIdeal.lean ====
variable {F : FTy → Type} [FloatOps F] [Named F]
def κ : String → Option EReal := fun
  | "inv_dim" => some ((1 / 192 : ℝ) : EReal)
  | _ => none
-- ==== LatentRefIdeal.lean ====
abbrev S16384x8192 : Shape := ⟨2, ![16384, 8192]⟩
abbrev S16384x64 : Shape := ⟨2, ![16384, 64]⟩
abbrev S4x4096 : Shape := ⟨2, ![4, 4096]⟩
abbrev S1x512 : Shape := ⟨2, ![1, 512]⟩
abbrev S1x512x1536 : Shape := ⟨3, ![1, 512, 1536]⟩
abbrev S1x512x2048 : Shape := ⟨3, ![1, 512, 2048]⟩
abbrev S1x192 : Shape := ⟨2, ![1, 192]⟩
abbrev S16384x512 : Shape := ⟨2, ![16384, 512]⟩
abbrev S4x4096x512 : Shape := ⟨3, ![4, 4096, 512]⟩
abbrev S4x4096x64 : Shape := ⟨3, ![4, 4096, 64]⟩
abbrev S512 : Shape := ⟨1, ![512]⟩
abbrev S_ : Shape := ⟨0, ![]⟩
abbrev S4x4096x1 : Shape := ⟨3, ![4, 4096, 1]⟩
abbrev S1x1x512 : Shape := ⟨3, ![1, 1, 512]⟩
abbrev S512x1536 : Shape := ⟨2, ![512, 1536]⟩
abbrev S4x4096x1536 : Shape := ⟨3, ![4, 4096, 1536]⟩
abbrev S4x4096x8x192 : Shape := ⟨4, ![4, 4096, 8, 192]⟩
abbrev S512x2048 : Shape := ⟨2, ![512, 2048]⟩
abbrev S4x4096x2048 : Shape := ⟨3, ![4, 4096, 2048]⟩
abbrev S4x4096x8x256 : Shape := ⟨4, ![4, 4096, 8, 256]⟩
abbrev S4x4096x8x128 : Shape := ⟨4, ![4, 4096, 8, 128]⟩
abbrev S4x4096x1x64 : Shape := ⟨4, ![4, 4096, 1, 64]⟩
abbrev S4x4096x8x64 : Shape := ⟨4, ![4, 4096, 8, 64]⟩
abbrev S192 : Shape := ⟨1, ![192]⟩
abbrev S4x4096x8 : Shape := ⟨3, ![4, 4096, 8]⟩
abbrev S4x4096x8x1 : Shape := ⟨4, ![4, 4096, 8, 1]⟩
abbrev S1x1x1x192 : Shape := ⟨4, ![1, 1, 1, 192]⟩
abbrev S32 : Shape := ⟨1, ![32]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x8x32 : Shape := ⟨4, ![4, 4096, 8, 32]⟩
abbrev S4x8x4096x192 : Shape := ⟨4, ![4, 8, 4096, 192]⟩
abbrev S4x8x128x4096 : Shape := ⟨4, ![4, 8, 128, 4096]⟩

abbrev nBuf : Space → Nat
  | .hbm => 172
  | .vmem => 0
  | .smem => 0
  | _ => 0

abbrev hbmTy0_0 (i : Nat) : BufTy := match i % 128 with
  | 0 => ⟨S16384x8192, .bf16⟩
  | 1 => ⟨S16384x64, .f32⟩
  | 2 => ⟨S4x4096, .i32⟩
  | 3 => ⟨S1x512, .f32⟩
  | 4 => ⟨S1x512, .f32⟩
  | 5 => ⟨S1x512x1536, .f32⟩
  | 6 => ⟨S1x512x2048, .f32⟩
  | 7 => ⟨S1x192, .f32⟩
  | 8 => ⟨S1x192, .f32⟩
  | 9 => ⟨S16384x512, .bf16⟩
  | 10 => ⟨S16384x512, .f32⟩
  | 11 => ⟨S4x4096x512, .f32⟩
  | 12 => ⟨S16384x512, .bf16⟩
  | 13 => ⟨S16384x512, .f32⟩
  | 14 => ⟨S4x4096x512, .f32⟩
  | 15 => ⟨S4x4096x64, .f32⟩
  | 16 => ⟨S512, .f32⟩
  | 17 => ⟨S4x4096x512, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x512, .f32⟩
  | 29 => ⟨S4x4096x512, .f32⟩
  | 30 => ⟨S1x1x512, .f32⟩
  | 31 => ⟨S4x4096x512, .f32⟩
  | 32 => ⟨S4x4096x512, .f32⟩
  | 33 => ⟨S512x1536, .f32⟩
  | 34 => ⟨S4x4096x1536, .f32⟩
  | 35 => ⟨S4x4096x8x192, .f32⟩
  | 36 => ⟨S512, .f32⟩
  | 37 => ⟨S4x4096x512, .f32⟩
  | 38 => ⟨S_, .f32⟩
  | 39 => ⟨S4x4096, .f32⟩
  | 40 => ⟨S4x4096x1, .f32⟩
  | 41 => ⟨S_, .f32⟩
  | 42 => ⟨S4x4096x1, .f32⟩
  | 43 => ⟨S4x4096x1, .f32⟩
  | 44 => ⟨S_, .f32⟩
  | 45 => ⟨S4x4096x1, .f32⟩
  | 46 => ⟨S4x4096x1, .f32⟩
  | 47 => ⟨S4x4096x1, .f32⟩
  | 48 => ⟨S4x4096x512, .f32⟩
  | 49 => ⟨S4x4096x512, .f32⟩
  | 50 => ⟨S1x1x512, .f32⟩
  | 51 => ⟨S4x4096x512, .f32⟩
  | 52 => ⟨S4x4096x512, .f32⟩
  | 53 => ⟨S512x2048, .f32⟩
  | 54 => ⟨S4x4096x2048, .f32⟩
  | 55 => ⟨S4x4096x8x256, .f32⟩
  | 56 => ⟨S4x4096x8x128, .f32⟩
  | 57 => ⟨S4x4096x8x128, .f32⟩
  | 58 => ⟨S4x4096x1x64, .f32⟩
  | 59 => ⟨S4x4096x8x64, .f32⟩
  | 60 => ⟨S4x4096x8x192, .f32⟩
  | 61 => ⟨S192, .f32⟩
  | 62 => ⟨S4x4096x8x192, .f32⟩
  | 63 => ⟨S_, .f32⟩
  | 64 => ⟨S4x4096x8, .f32⟩
  | 65 => ⟨S4x4096x8x1, .f32⟩
  | 66 => ⟨S_, .f32⟩
  | 67 => ⟨S4x4096x8x1, .f32⟩
  | 68 => ⟨S4x4096x8x1, .f32⟩
  | 69 => ⟨S_, .f32⟩
  | 70 => ⟨S4x4096x8x1, .f32⟩
  | 71 => ⟨S4x4096x8x1, .f32⟩
  | 72 => ⟨S4x4096x8x1, .f32⟩
  | 73 => ⟨S4x4096x8x192, .f32⟩
  | 74 => ⟨S4x4096x8x192, .f32⟩
  | 75 => ⟨S1x1x1x192, .f32⟩
  | 76 => ⟨S4x4096x8x192, .f32⟩
  | 77 => ⟨S4x4096x8x192, .f32⟩
  | 78 => ⟨S192, .f32⟩
  | 79 => ⟨S4x4096x8x192, .f32⟩
  | 80 => ⟨S_, .f32⟩
  | 81 => ⟨S4x4096x8, .f32⟩
  | 82 => ⟨S4x4096x8x1, .f32⟩
  | 83 => ⟨S_, .f32⟩
  | 84 => ⟨S4x4096x8x1, .f32⟩
  | 85 => ⟨S4x4096x8x1, .f32⟩
  | 86 => ⟨S_, .f32⟩
  | 87 => ⟨S4x4096x8x1, .f32⟩
  | 88 => ⟨S4x4096x8x1, .f32⟩
  | 89 => ⟨S4x4096x8x1, .f32⟩
  | 90 => ⟨S4x4096x8x192, .f32⟩
  | 91 => ⟨S4x4096x8x192, .f32⟩
  | 92 => ⟨S1x1x1x192, .f32⟩
  | 93 => ⟨S4x4096x8x192, .f32⟩
  | 94 => ⟨S4x4096x8x192, .f32⟩
  | 95 => ⟨S4x4096x8x128, .f32⟩
  | 96 => ⟨S4x4096x8x64, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S4x4096, .f32⟩
  | 106 => ⟨S4x4096x1, .f32⟩
  | 107 => ⟨S1x1x32, .f32⟩
  | 108 => ⟨S4x4096x32, .f32⟩
  | 109 => ⟨S4x4096x32, .f32⟩
  | 110 => ⟨S4x4096x32, .f32⟩
  | 111 => ⟨S4x4096x32, .f32⟩
  | 112 => ⟨S4x4096x1x32, .f32⟩
  | 113 => ⟨S4x4096x32, .f32⟩
  | 114 => ⟨S4x4096x1x32, .f32⟩
  | 115 => ⟨S4x4096x8x32, .f32⟩
  | 116 => ⟨S4x4096x8x32, .f32⟩
  | 117 => ⟨S4x4096x8x32, .f32⟩
  | 118 => ⟨S4x4096x8x32, .f32⟩
  | 119 => ⟨S4x4096x8x32, .f32⟩
  | 120 => ⟨S4x4096x8x32, .f32⟩
  | 121 => ⟨S4x4096x8x32, .f32⟩
  | 122 => ⟨S4x4096x8x32, .f32⟩
  | 123 => ⟨S4x4096x8x32, .f32⟩
  | 124 => ⟨S4x4096x8x32, .f32⟩
  | 125 => ⟨S4x4096x8x32, .f32⟩
  | 126 => ⟨S4x4096x8x32, .f32⟩
  | 127 => ⟨S4x4096x8x64, .f32⟩
  | _ => ⟨S16384x8192, .bf16⟩

abbrev hbmTy0_1 (i : Nat) : BufTy := match i % 128 with
  | 0 => ⟨S4x4096x8x192, .f32⟩
  | 1 => ⟨S4x4096x8x128, .f32⟩
  | 2 => ⟨S4x4096x8x64, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S4x4096, .f32⟩
  | 12 => ⟨S4x4096x1, .f32⟩
  | 13 => ⟨S1x1x32, .f32⟩
  | 14 => ⟨S4x4096x32, .f32⟩
  | 15 => ⟨S4x4096x32, .f32⟩
  | 16 => ⟨S4x4096x32, .f32⟩
  | 17 => ⟨S4x4096x32, .f32⟩
  | 18 => ⟨S4x4096x1x32, .f32⟩
  | 19 => ⟨S4x4096x32, .f32⟩
  | 20 => ⟨S4x4096x1x32, .f32⟩
  | 21 => ⟨S4x4096x8x32, .f32⟩
  | 22 => ⟨S4x4096x8x32, .f32⟩
  | 23 => ⟨S4x4096x8x32, .f32⟩
  | 24 => ⟨S4x4096x8x32, .f32⟩
  | 25 => ⟨S4x4096x8x32, .f32⟩
  | 26 => ⟨S4x4096x8x32, .f32⟩
  | 27 => ⟨S4x4096x8x32, .f32⟩
  | 28 => ⟨S4x4096x8x32, .f32⟩
  | 29 => ⟨S4x4096x8x32, .f32⟩
  | 30 => ⟨S4x4096x8x32, .f32⟩
  | 31 => ⟨S4x4096x8x32, .f32⟩
  | 32 => ⟨S4x4096x8x32, .f32⟩
  | 33 => ⟨S4x4096x8x64, .f32⟩
  | 34 => ⟨S4x4096x8x192, .f32⟩
  | 35 => ⟨S_, .f32⟩
  | 36 => ⟨S4x4096x8x192, .f32⟩
  | 37 => ⟨S4x4096x8x192, .f32⟩
  | 38 => ⟨S4x8x4096x192, .f32⟩
  | 39 => ⟨S4x8x4096x192, .bf16⟩
  | 40 => ⟨S4x8x4096x192, .f32⟩
  | 41 => ⟨S4x8x4096x192, .bf16⟩
  | 42 => ⟨S4x8x128x4096, .f32⟩
  | 43 => ⟨S4x8x128x4096, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_13 : Ref sig .tc := ⟨.hbm, 133, rfl⟩
abbrev main_v110 : Ref sig .tc := ⟨.hbm, 134, rfl⟩
abbrev main_v111 : Ref sig .tc := ⟨.hbm, 135, rfl⟩
abbrev main_cst_14 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_15 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩

abbrev nD : Nat := 1
abbrev τ : Topo := Topo.v7x

variable {F : FTy → Type} [FloatOps F]
-- ==== Mla.lean ====
abbrev S4x8x4096x256 : Shape := ⟨4, ![4, 8, 4096, 256]⟩
abbrev S4x8x128x4096 : Shape := ⟨4, ![4, 8, 128, 4096]⟩
abbrev S16384x1024 : Shape := ⟨2, ![16384, 1024]⟩
abbrev S1x4x512x256 : Shape := ⟨4, ![1, 4, 512, 256]⟩
abbrev S1x4x4096x256 : Shape := ⟨4, ![1, 4, 4096, 256]⟩
abbrev S1x4x128x4096 : Shape := ⟨4, ![1, 4, 128, 4096]⟩
abbrev S512x512 : Shape := ⟨2, ![512, 512]⟩
abbrev S4x128x512 : Shape := ⟨3, ![4, 128, 512]⟩
abbrev S1x512 : Shape := ⟨2, ![1, 512]⟩
abbrev S1x1x512x256 : Shape := ⟨4, ![1, 1, 512, 256]⟩
abbrev S512x256 : Shape := ⟨2, ![512, 256]⟩
abbrev S1x128x512 : Shape := ⟨3, ![1, 128, 512]⟩
abbrev S128x512 : Shape := ⟨2, ![128, 512]⟩
abbrev S1x1x128x512 : Shape := ⟨4, ![1, 1, 128, 512]⟩
abbrev S512 : Shape := ⟨1, ![512]⟩
abbrev S512x128 : Shape := ⟨2, ![512, 128]⟩

abbrev nBuf : Space → Nat
  | .hbm => 4
  | .vmem => 9
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x128x4096, .bf16⟩
  | .hbm, ⟨3, _⟩ => ⟨S16384x1024, .bf16⟩
  | .local _ .vmem, ⟨0, _⟩ => ⟨S1x4x512x256, .bf16⟩
  | .local _ .vmem, ⟨1, _⟩ => ⟨S1x4x512x256, .bf16⟩
  | .local _ .vmem, ⟨2, _⟩ => ⟨S1x4x4096x256, .bf16⟩
  | .local _ .vmem, ⟨3, _⟩ => ⟨S1x4x4096x256, .bf16⟩
  | .local _ .vmem, ⟨4, _⟩ => ⟨S1x4x128x4096, .bf16⟩
  | .local _ .vmem, ⟨5, _⟩ => ⟨S1x4x128x4096, .bf16⟩
  | .local _ .vmem, ⟨6, _⟩ => ⟨S512x512, .bf16⟩
  | .local _ .vmem, ⟨7, _⟩ => ⟨S512x512, .bf16⟩
  | .local _ .vmem, ⟨8, _⟩ => ⟨S4x128x512, .f32⟩
  | _, _ => ⟨S4x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  ⟨c0_i32, v12, c1_i32_6⟩
def k0_mult1 (i : grid0.Coords) (k0_t1 : Fin (k0_t1_loop i).trips) : BitVec 32 :=
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  v149
def k0_off1 (i : grid0.Coords) (k0_t1 : Fin (k0_t1_loop i).trips) : Fin 4 → Nat :=
  let c0_103 : Index := 0#32
  let c0_104 : Index := 0#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v151 : Index := Scalar.indexCast v150
  let c0_105 : Index := 0#32
  ![0, 0, v151.toNat, 0]
def k0_off2 (i : grid0.Coords) (k0_t1 : Fin (k0_t1_loop i).trips) : Fin 4 → Nat :=
  let c0_111 : Index := 0#32
  let c1_112 : Index := 1#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v157 : Index := Scalar.indexCast v150
  let c0_113 : Index := 0#32
  ![0, 1, v157.toNat, 0]
def k0_off3 (i : grid0.Coords) (k0_t1 : Fin (k0_t1_loop i).trips) : Fin 4 → Nat :=
  let c0_119 : Index := 0#32
  let c2_120 : Index := 2#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v163 : Index := Scalar.indexCast v150
  let c0_121 : Index := 0#32
  ![0, 2, v163.toNat, 0]
def k0_off4 (i : grid0.Coords) (k0_t1 : Fin (k0_t1_loop i).trips) : Fin 4 → Nat :=
  let c0_127 : Index := 0#32
  let c3_128 : Index := 3#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v169 : Index := Scalar.indexCast v150
  let c0_129 : Index := 0#32
  ![0, 3, v169.toNat, 0]
def k0_off5 (i : grid0.Coords) (k0_t1 : Fin (k0_t1_loop i).trips) : Fin 4 → Nat :=
  let c0_138 : Index := 0#32
  let c0_139 : Index := 0#32
  let c0_140 : Index := 0#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v178 : Index := Scalar.indexCast v150
  ![0, 0, 0, v178.toNat]
def k0_off6 (i : grid0.Coords) (k0_t1 : Fin (k0_t1_loop i).trips) : Fin 4 → Nat :=
  let c0_149 : Index := 0#32
  let c1_150 : Index := 1#32
  let c0_151 : Index := 0#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v193 : Index := Scalar.indexCast v150
  ![0, 1, 0, v193.toNat]
def k0_off7 (i : grid0.Coords) (k0_t1 : Fin (k0_t1_loop i).trips) : Fin 4 → Nat :=
  let c0_160 : Index := 0#32
  let c2_161 : Index := 2#32
  let c0_162 : Index := 0#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v208 : Index := Scalar.indexCast v150
  ![0, 2, 0, v208.toNat]
def k0_off8 (i : grid0.Coords) (k0_t1 : Fin (k0_t1_loop i).trips) : Fin 4 → Nat :=
  let c0_171 : Index := 0#32
  let c3_172 : Index := 3#32
  let c0_173 : Index := 0#32
  let c0_i32 : BitVec 32 := 0#32
  let c1_i32_6 : BitVec 32 := 1#32
  let arg8 : BitVec 32 := Scf.iv c0_i32 c1_i32_6 k0_t1
  let c512_i32_102 : BitVec 32 := 512#32
  let v149 : BitVec 32 := Scalar.muli arg8 c512_i32_102
  let v150 : BitVec 32 := v149
  let v223 : Index := Scalar.indexCast v150
  ![0, 3, 0, v223.toNat]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_7 : BitVec 32 := 1#32
  ⟨v12, v9, c1_i32_7⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  v149
def k0_off9 (i : grid0.Coords) (k0_t2 : Fin (k0_t2_loop i).trips) : Fin 4 → Nat :=
  let c0_103 : Index := 0#32
  let c0_104 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v151 : Index := Scalar.indexCast v150
  let c0_105 : Index := 0#32
  ![0, 0, v151.toNat, 0]
def k0_off10 (i : grid0.Coords) (k0_t2 : Fin (k0_t2_loop i).trips) : Fin 4 → Nat :=
  let c0_111 : Index := 0#32
  let c1_112 : Index := 1#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v157 : Index := Scalar.indexCast v150
  let c0_113 : Index := 0#32
  ![0, 1, v157.toNat, 0]
def k0_off11 (i : grid0.Coords) (k0_t2 : Fin (k0_t2_loop i).trips) : Fin 4 → Nat :=
  let c0_119 : Index := 0#32
  let c2_120 : Index := 2#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v163 : Index := Scalar.indexCast v150
  let c0_121 : Index := 0#32
  ![0, 2, v163.toNat, 0]
def k0_off12 (i : grid0.Coords) (k0_t2 : Fin (k0_t2_loop i).trips) : Fin 4 → Nat :=
  let c0_127 : Index := 0#32
  let c3_128 : Index := 3#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v169 : Index := Scalar.indexCast v150
  let c0_129 : Index := 0#32
  ![0, 3, v169.toNat, 0]
def k0_off13 (i : grid0.Coords) (k0_t2 : Fin (k0_t2_loop i).trips) : Fin 4 → Nat :=
  let c0_138 : Index := 0#32
  let c0_139 : Index := 0#32
  let c0_140 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v178 : Index := Scalar.indexCast v150
  ![0, 0, 0, v178.toNat]
def k0_off14 (i : grid0.Coords) (k0_t2 : Fin (k0_t2_loop i).trips) : Fin 4 → Nat :=
  let c0_149 : Index := 0#32
  let c1_150 : Index := 1#32
  let c0_151 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v193 : Index := Scalar.indexCast v150
  ![0, 1, 0, v193.toNat]
def k0_off15 (i : grid0.Coords) (k0_t2 : Fin (k0_t2_loop i).trips) : Fin 4 → Nat :=
  let c0_160 : Index := 0#32
  let c2_161 : Index := 2#32
  let c0_162 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v208 : Index := Scalar.indexCast v150
  ![0, 2, 0, v208.toNat]
def k0_off16 (i : grid0.Coords) (k0_t2 : Fin (k0_t2_loop i).trips) : Fin 4 → Nat :=
  let c0_171 : Index := 0#32
  let c3_172 : Index := 3#32
  let c0_173 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg8 : BitVec 32 := Scf.iv v12 c1_i32_7 k0_t2
  let c512_i32_102 : BitVec 32 := 512#32
  let v149 : BitVec 32 := Scalar.muli arg8 c512_i32_102
  let v150 : BitVec 32 := v149
  let v223 : Index := Scalar.indexCast v150
  ![0, 3, 0, v223.toNat]
def k0_mult3 (i : grid0.Coords) : BitVec 32 :=
  let arg2 : BitVec 32 := BitVec.ofNat 32 (i 2).val
  let c512_i32 : BitVec 32 := 512#32
  let v15 : BitVec 32 := Scalar.muli arg2 c512_i32
  v15
def k0_off17 (i : grid0.Coords) : Fin 4 → Nat :=
  let c0_8 : Index := 0#32
  let c0_9 : Index := 0#32
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_10 : Index := 0#32
  ![0, 0, v17.toNat, 0]
def k0_off18 (i : grid0.Coords) : Fin 4 → Nat :=
  let c0_16 : Index := 0#32
  let c1 : Index := 1#32
  let arg2 : BitVec 32 := BitVec.ofNat 32 (i 2).val
  let c512_i32 : BitVec 32 := 512#32
  let v15 : BitVec 32 := Scalar.muli arg2 c512_i32
  let v16 : BitVec 32 := v15
  let v23 : Index := Scalar.indexCast v16
  let c0_17 : Index := 0#32
  ![0, 1, v23.toNat, 0]
def k0_off19 (i : grid0.Coords) : Fin 4 → Nat :=
  let c0_23 : Index := 0#32
  let c2 : Index := 2#32
  let arg2 : BitVec 32 := BitVec.ofNat 32 (i 2).val
  let c512_i32 : BitVec 32 := 512#32
  let v15 : BitVec 32 := Scalar.muli arg2 c512_i32
  let v16 : BitVec 32 := v15
  let v29 : Index := Scalar.indexCast v16
  let c0_24 : Index := 0#32
  ![0, 2, v29.toNat, 0]
def k0_off20 (i : grid0.Coords) : Fin 4 → Nat :=
  let c0_30 : Index := 0#32
  let c3 : Index := 3#32
  let arg2 : BitVec 32 := BitVec.ofNat 32 (i 2).val
  let c512_i32 : BitVec 32 := 512#32
  let v15 : BitVec 32 := Scalar.muli arg2 c512_i32
  let v16 : BitVec 32 := v15
  let v35 : Index := Scalar.indexCast v16
  let c0_31 : Index := 0#32
  ![0, 3, v35.toNat, 0]
def k0_off21 (i : grid0.Coords) : Fin 4 → Nat :=
  let c0_41 : Index := 0#32
  let c0_42 : Index := 0#32
  let c0_43 : Index := 0#32
  let arg2 : BitVec 32 := BitVec.ofNat 32 (i 2).val
  let c512_i32 : BitVec 32 := 512#32
  let v15 : BitVec 32 := Scalar.muli arg2 c512_i32
  let v16 : BitVec 32 := v15
  let v49 : Index := Scalar.indexCast v16
  ![0, 0, 0, v49.toNat]
def k0_off22 (i : grid0.Coords) : Fin 4 → Nat :=
  let c0_53 : Index := 0#32
  let c1_54 : Index := 1#32
  let c0_55 : Index := 0#32
  let arg2 : BitVec 32 := BitVec.ofNat 32 (i 2).val
  let c512_i32 : BitVec 32 := 512#32
  let v15 : BitVec 32 := Scalar.muli arg2 c512_i32
  let v16 : BitVec 32 := v15
  let v69 : Index := Scalar.indexCast v16
  ![0, 1, 0, v69.toNat]
def k0_off23 (i : grid0.Coords) : Fin 4 → Nat :=
  let c0_65 : Index := 0#32
  let c2_66 : Index := 2#32
  let c0_67 : Index := 0#32
  let arg2 : BitVec 32 := BitVec.ofNat 32 (i 2).val
  let c512_i32 : BitVec 32 := 512#32
  let v15 : BitVec 32 := Scalar.muli arg2 c512_i32
  let v16 : BitVec 32 := v15
  let v89 : Index := Scalar.indexCast v16
  ![0, 2, 0, v89.toNat]
def k0_off24 (i : grid0.Coords) : Fin 4 → Nat :=
  let c0_77 : Index := 0#32
  let c3_78 : Index := 3#32
  let c0_79 : Index := 0#32
  let arg2 : BitVec 32 := BitVec.ofNat 32 (i 2).val
  let c512_i32 : BitVec 32 := 512#32
  let v15 : BitVec 32 := Scalar.muli arg2 c512_i32
  let v16 : BitVec 32 := v15
  let v109 : Index := Scalar.indexCast v16
  ![0, 3, 0, v109.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S4x8x4096x256 : Shape := ⟨4, ![4, 8, 4096, 256]⟩
abbrev S4x8x128x4096 : Shape := ⟨4, ![4, 8, 128, 4096]⟩
abbrev S4x8x4096x128 : Shape := ⟨4, ![4, 8, 4096, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x4096x8x128 : Shape := ⟨4, ![4, 4096, 8, 128]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x128x4096, .bf16⟩
  | .hbm, ⟨3, _⟩ => ⟨S4x8x4096x128, .bf16⟩
  | .hbm, ⟨4, _⟩ => ⟨S4x8x4096x128, .f32⟩
  | .hbm, ⟨5, _⟩ => ⟨S4x8x4096x256, .f32⟩
  | .hbm, ⟨6, _⟩ => ⟨S4x8x4096x256, .f32⟩
  | .hbm, ⟨7, _⟩ => ⟨S4x8x4096x4096, .f32⟩
  | .hbm, ⟨8, _⟩ => ⟨S_, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S4096, .i32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x8x4096x4096, .i1⟩
  | .hbm, ⟨22, _⟩ => ⟨S4x8x4096x4096, .f32⟩
  | .hbm, ⟨23, _⟩ => ⟨S4x8x4096x4096, .f32⟩
  | .hbm, ⟨24, _⟩ => ⟨S_, .f32⟩
  | .hbm, ⟨25, _⟩ => ⟨S4x8x4096, .f32⟩
  | .hbm, ⟨26, _⟩ => ⟨S_, .f32⟩
  | .hbm, ⟨27, _⟩ => ⟨S4x8x4096, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x8x4096x128, .f32⟩
  | .hbm, ⟨39, _⟩ => ⟨S4x4096x8x128, .f32⟩
  | .hbm, ⟨40, _⟩ => ⟨S16384x1024, .f32⟩
  | .hbm, ⟨41, _⟩ => ⟨S16384x1024, .bf16⟩
  | _, _ => ⟨S4x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Whole.lean ====
/- Stores and loads of a whole buffer. -/
module

public import Idealize.ShloMosaic.Lib.Pipeline.Value

@[expose] public section

noncomputable section

namespace Cert.Whole

open Idealize.ShloMosaic

variable {F : FTy → Type} [FloatOps F] {sig : RefSig} {κ : Kind}

/-- One store over a whole buffer leaves its payload there. -/
theorem read_whole_store {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- A load of a whole buffer reads what it holds, -/
theorem loaded {sp : Space} {S : Shape} {e : EltTy} {M : Memref sig κ sp S e} (hM : M.IsWhole)
    {off : Fin S.rank → Nat} (h : off = fun _ => 0) (inb : ∀ a, off a + S.size a ≤ S.size a) (x : Vec F S e) :
    M.view.readAt (Elt F) (Rect.unit off S.size inb).toLoadRect (hM.unread x) = x :=
  (View.readAt_eq_ld _ _ _).trans ((View.ld_unit_zero h inb _).trans (hM.read_unread x))

/-- what one store over it has left, if there was one, -/
theorem loaded_stored {sp : Space} {S : Shape} {e : EltTy} (v : View sig κ sp S e) (f : v.ty.Contents (Elt F))
    {off off' : Fin S.rank → Nat} (h : off = fun _ => 0) (h' : off' = fun _ => 0) (inb : ∀ a, off a + S.size a ≤ S.size a)
    (inb' : ∀ a, off' a + S.size a ≤ S.size a) (w : S.Idx → Elt F e) :
    v.readAt (Elt F) (Rect.unit off' S.size inb').toLoadRect (v.writes (Elt F) f [(⟨Rect.unit off S.size inb, w⟩ : View.Piece (Elt F) S e)]) = w :=
  (View.readAt_eq_ld _ _ _).trans ((View.ld_unit_zero h' inb' _).trans (read_whole_store v f h inb w))

/-- and a load of a part of it that part. -/
theorem loaded_part {sp : Space} {S : Shape} {e : EltTy} {M : Memref sig κ sp S e} (hM : M.IsWhole) (r : Rect S) (x : Vec F S e) :
    M.view.readAt (Elt F) r.toLoadRect (hM.unread x) = View.ld x r :=
  (View.readAt_eq_ld _ _ _).trans (congrArg (View.ld · r) (hM.read_unread x))

theorem two_zero : (![0, 0] : Fin 2 → Nat) = fun _ => 0 := by
  funext a; fin_cases a <;> rfl

end Cert.Whole

end
-- ==== Proof.Ada.Body.lean ====
/- The modulations' kernel, run once at a grid point, in each of the three cases of its two conditions. -/
module

public import proofs.«01_k».proof.Proof.Gen.KernelIdeal.Frame
public import proofs.«01_k».proof.Proof.Gen.KernelIdeal.Skeleton
public import proofs.«01_k».proof.Proof.Whole

@[expose] public section

set_option maxRecDepth 16384

noncomputable section

namespace Cert.KernelIdeal.Ada

open Cert.KernelIdeal Cert.KernelIdeal.Gen Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the point lays out a block of the main columns, -/
abbrev lays (i : grid0.Coords) : Prop := k0_cond1 i = 1#1
/-- and whether it lays out the small block of columns. -/
abbrev laysSmall (i : grid0.Coords) : Prop := k0_cond2 i = 1#1

theorem lays_iff : ∀ t : Fin cfg0.N, lays (grid0.coords t) ↔ t.val < 8 :=
  (by decide +kernel : ∀ t : Fin grid0.N, lays (grid0.coords t) ↔ t.val < 8)

theorem laysSmall_iff : ∀ t : Fin cfg0.N, laysSmall (grid0.coords t) ↔ t.val = 0 :=
  (by decide +kernel : ∀ t : Fin grid0.N, laysSmall (grid0.coords t) ↔ t.val = 0)

set_option maxHeartbeats 1000000 in
/-- At the first point all three outputs are stored. -/
theorem runFirst (c : Dev nD) (i : grid0.Coords) (a0 : Memref sig .tc .vmem S8x2048 .f32) (h0 : a0.IsWhole) (a1 : Memref sig .tc .vmem S2048x768 .f32) (h1 : a1.IsWhole) (a2 : Memref sig .tc .vmem S1x768 .f32) (h2 : a2.IsWhole) (a3 : Memref sig .tc .vmem S1024x2048 .f32) (h3 : a3.IsWhole) (a4 : Memref sig .tc .vmem S64x2048 .f32) (h4 : a4.IsWhole) (a5 : Memref sig .tc .vmem S8x768 .f32) (h5 : a5.IsWhole) (a6 : Memref sig .tc .vmem S2048x1024 .bf16) (h6 : a6.IsWhole) (a7 : Memref sig .tc .vmem S64x2048 .bf16) (h7 : a7.IsWhole)
    (hc0 : lays i) (hc1 : laysSmall i)
    (x0 : Vec F S8x2048 .f32) (x1 : Vec F S2048x768 .f32) (x2 : Vec F S1x768 .f32) (x3 : Vec F S1024x2048 .f32) (x4 : Vec F S64x2048 .f32)
    (y5 : Vec F S8x768 .f32) (y6 : Vec F S2048x1024 .bf16) (y7 : Vec F S64x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare y5 ∗ owns (c : Thread nD τ) a6 fullShare y6 ∗ owns (c : Thread nD τ) a7 fullShare y7
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay1 x0 x1 x2) ∗ owns (c : Thread nD τ) a6 fullShare (k0_pay2 x3) ∗ owns (c : Thread nD τ) a7 fullShare (k0_pay3 x4)) -∗ K ⟨⟩))
      ⊢ wp frame (wpE (defs₀ (F := F)) Variants.none c none) E (cc0_ada i a0 h0 a1 h1 a2 h2 a3 h3 a4 h4 a5 h5 a6 h6 a7 h7) K := by
  simp only [cc0_ada_eq_skeleton]; unfold cc0_ada_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  sl_exec (disch := first | sl_exact hc0 | sl_exact hc1)
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro
    exact (read_whole_store _ _ two_zero _ _).trans (congr (congr (congrArg k0_pay1 (loaded h0 two_zero _ x0)) (loaded h1 two_zero _ x1)) (loaded h2 two_zero _ x2))
  isplitl [H6]
  · iexists _; isplitr; swap; · iexact H6
    ipureintro
    exact (read_whole_store _ _ two_zero _ _).trans (congrArg k0_pay2 (loaded h3 two_zero _ x3))
  iexists _; isplitr; swap; · iexact H7
  ipureintro
  exact (read_whole_store _ _ two_zero _ _).trans (congrArg k0_pay3 (loaded h4 two_zero _ x4))

set_option maxHeartbeats 1000000 in
/-- At the next seven the small block's buffer is left as it was. -/
theorem runMain (c : Dev nD) (i : grid0.Coords) (a0 : Memref sig .tc .vmem S8x2048 .f32) (h0 : a0.IsWhole) (a1 : Memref sig .tc .vmem S2048x768 .f32) (h1 : a1.IsWhole) (a2 : Memref sig .tc .vmem S1x768 .f32) (h2 : a2.IsWhole) (a3 : Memref sig .tc .vmem S1024x2048 .f32) (h3 : a3.IsWhole) (a4 : Memref sig .tc .vmem S64x2048 .f32) (h4 : a4.IsWhole) (a5 : Memref sig .tc .vmem S8x768 .f32) (h5 : a5.IsWhole) (a6 : Memref sig .tc .vmem S2048x1024 .bf16) (h6 : a6.IsWhole) (a7 : Memref sig .tc .vmem S64x2048 .bf16) (h7 : a7.IsWhole)
    (hc0 : lays i) (hc1 : ¬laysSmall i)
    (x0 : Vec F S8x2048 .f32) (x1 : Vec F S2048x768 .f32) (x2 : Vec F S1x768 .f32) (x3 : Vec F S1024x2048 .f32) (x4 : Vec F S64x2048 .f32)
    (y5 : Vec F S8x768 .f32) (y6 : Vec F S2048x1024 .bf16) (y7 : Vec F S64x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare y5 ∗ owns (c : Thread nD τ) a6 fullShare y6 ∗ owns (c : Thread nD τ) a7 fullShare y7
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay1 x0 x1 x2) ∗ owns (c : Thread nD τ) a6 fullShare (k0_pay2 x3) ∗ owns (c : Thread nD τ) a7 fullShare y7) -∗ K ⟨⟩))
      ⊢ wp frame (wpE (defs₀ (F := F)) Variants.none c none) E (cc0_ada i a0 h0 a1 h1 a2 h2 a3 h3 a4 h4 a5 h5 a6 h6 a7 h7) K := by
  simp only [cc0_ada_eq_skeleton]; unfold cc0_ada_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  sl_exec (disch := first | sl_exact hc0 | sl_exact hc1)
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro
    exact (read_whole_store _ _ two_zero _ _).trans (congr (congr (congrArg k0_pay1 (loaded h0 two_zero _ x0)) (loaded h1 two_zero _ x1)) (loaded h2 two_zero _ x2))
  isplitl [H6]
  · iexists _; isplitr; swap; · iexact H6
    ipureintro
    exact (read_whole_store _ _ two_zero _ _).trans (congrArg k0_pay2 (loaded h3 two_zero _ x3))
  iexists _; isplitr; swap; · iexact H7
  ipureintro; exact h7.read_unread _

set_option maxHeartbeats 1000000 in
/-- At the others only the modulations are stored. -/
theorem runRest (c : Dev nD) (i : grid0.Coords) (a0 : Memref sig .tc .vmem S8x2048 .f32) (h0 : a0.IsWhole) (a1 : Memref sig .tc .vmem S2048x768 .f32) (h1 : a1.IsWhole) (a2 : Memref sig .tc .vmem S1x768 .f32) (h2 : a2.IsWhole) (a3 : Memref sig .tc .vmem S1024x2048 .f32) (h3 : a3.IsWhole) (a4 : Memref sig .tc .vmem S64x2048 .f32) (h4 : a4.IsWhole) (a5 : Memref sig .tc .vmem S8x768 .f32) (h5 : a5.IsWhole) (a6 : Memref sig .tc .vmem S2048x1024 .bf16) (h6 : a6.IsWhole) (a7 : Memref sig .tc .vmem S64x2048 .bf16) (h7 : a7.IsWhole)
    (hc0 : ¬lays i) (hc1 : ¬laysSmall i)
    (x0 : Vec F S8x2048 .f32) (x1 : Vec F S2048x768 .f32) (x2 : Vec F S1x768 .f32) (x3 : Vec F S1024x2048 .f32) (x4 : Vec F S64x2048 .f32)
    (y5 : Vec F S8x768 .f32) (y6 : Vec F S2048x1024 .bf16) (y7 : Vec F S64x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare y5 ∗ owns (c : Thread nD τ) a6 fullShare y6 ∗ owns (c : Thread nD τ) a7 fullShare y7
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k0_pay1 x0 x1 x2) ∗ owns (c : Thread nD τ) a6 fullShare y6 ∗ owns (c : Thread nD τ) a7 fullShare y7) -∗ K ⟨⟩))
      ⊢ wp frame (wpE (defs₀ (F := F)) Variants.none c none) E (cc0_ada i a0 h0 a1 h1 a2 h2 a3 h3 a4 h4 a5 h5 a6 h6 a7 h7) K := by
  simp only [cc0_ada_eq_skeleton]; unfold cc0_ada_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  sl_exec (disch := first | sl_exact hc0 | sl_exact hc1)
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro
    exact (read_whole_store _ _ two_zero _ _).trans (congr (congr (congrArg k0_pay1 (loaded h0 two_zero _ x0)) (loaded h1 two_zero _ x1)) (loaded h2 two_zero _ x2))
  isplitl [H6]
  · iexists _; isplitr; swap; · iexact H6
    ipureintro; exact h6.read_unread _
  iexists _; isplitr; swap; · iexact H7
  ipureintro; exact h7.read_unread _

end Cert.KernelIdeal.Ada

end
-- ==== Proof.Ada.Frame.lean ====
/- The modulations' kernel over its grid: what its buffers hold point by point, its run, and its frame. -/
module

public import proofs.«01_k».proof.Proof.Ada.Body
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Ada

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold after each point: an input its block; the modulations' their columns; the main columns' the
    input block laid out — the input block is one and the same from point 7 on, as is the output's —; the small block's
    its one block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 0 t) (iblk m c 1 t) (iblk m c 2 t)
    | ⟨6, _⟩ => k0_pay2 (iblk m c 3 t)
    | ⟨7, _⟩ => k0_pay3 (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay1 (iblk m c 0 t) (iblk m c 1 t) (iblk m c 2 t) := by dsimp only [dats]
theorem after_6 (c : Dev nD) (t : Fin cfg0.N) : (dats m 0 c).after 6 t = k0_pay2 (iblk m c 3 t) := by dsimp only [dats]
theorem after_7 (c : Dev nD) (t : Fin cfg0.N) : (dats m 0 c).after 7 t = k0_pay3 (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The two outputs the body does not store at every point -/

theorem idle6_iff : ∀ t : Fin cfg0.N, cfg0.idle 6 (grid0.coords t) = true ↔ 8 ≤ t.val :=
  (by decide +kernel : ∀ t : Fin grid0.N, idle0 6 (grid0.coords t) = true ↔ 8 ≤ t.val)

theorem idle7_iff : ∀ t : Fin cfg0.N, cfg0.idle 7 (grid0.coords t) = true ↔ 1 ≤ t.val :=
  (by decide +kernel : ∀ t : Fin grid0.N, idle0 7 (grid0.coords t) = true ↔ 1 ≤ t.val)

theorem flush6_iff : ∀ t : Fin cfg0.N, (cfg0.win 6).flush t = true ↔ t.val < 7 ∨ t.val = 15 :=
  (by decide +kernel : ∀ t : Fin grid0.N, win0_6.flush t = true ↔ t.val < 7 ∨ t.val = 15)

theorem fetch6 : ∀ t : Fin cfg0.N, (cfg0.win 6).fetch t = false := fun _ => rfl
theorem fetch7 : ∀ t : Fin cfg0.N, (cfg0.win 7).fetch t = false := fun _ => rfl

/-- From point 7 on the main columns' input block is the same, -/
theorem index3_const : ∀ s t : Fin cfg0.N, 7 ≤ s.val → 7 ≤ t.val → (cfg0.win 3).index s = (cfg0.win 3).index t :=
  (by decide +kernel : ∀ s t : Fin grid0.N, 7 ≤ s.val → 7 ≤ t.val → win0_3.index s = win0_3.index t)
/-- and the small block's always is. -/
theorem index4_const : ∀ s t : Fin cfg0.N, (cfg0.win 4).index s = (cfg0.win 4).index t :=
  (by decide +kernel : ∀ s t : Fin grid0.N, win0_4.index s = win0_4.index t)

theorem iblk3_const (c : Dev nD) (s t : Fin cfg0.N) (hs : 7 ≤ s.val) (ht : 7 ≤ t.val) : iblk m c 3 s = iblk m c 3 t := by
  have h := (dats m 0 c).fetched_congr 3 (index3_const s t hs ht) rfl (iblk m c 3 s)
  exact h
theorem iblk4_const (c : Dev nD) (s t : Fin cfg0.N) : iblk m c 4 s = iblk m c 4 t := by
  have h := (dats m 0 c).fetched_congr 4 (index4_const s t) rfl (iblk m c 4 s)
  exact h

/-- Where the body no longer stores a block of main columns, the buffer holds the last one it stored. -/
theorem before_6 (c : Dev nD) (d) : ∀ (n : ℕ) (hn : n < cfg0.N), 8 ≤ n →
    (dats m 0 c).before 6 ⟨n, hn⟩ d = k0_pay2 (iblk m c 3 ⟨n, hn⟩) := by
  intro n
  induction n with
  | zero => intro _ h; omega
  | succ n ih =>
    intro hn h8
    have hN : n + 1 < 16 := lt_of_lt_of_eq hn (show cfg0.N = 16 from N_0)
    have hn' : n < cfg0.N := Nat.lt_of_succ_lt hn
    rw [(dats m 0 c).before_of_pos 6 ⟨n + 1, hn⟩ (Nat.succ_ne_zero n) (fetch6 _) d]
    have hfl : (cfg0.win 6).flush ⟨n, hn'⟩ = false := by
      rw [Bool.eq_false_iff]; intro hf
      rcases (flush6_iff ⟨n, hn'⟩).mp hf with h | h <;> (dsimp only at h; omega)
    show (if (cfg0.win 6).flush ⟨n, hn'⟩ = true then d else (dats m 0 c).left 6 ⟨n, hn'⟩ d) = _
    rw [hfl, if_neg Bool.false_ne_true, iblk3_const m c ⟨n + 1, hn⟩ ⟨n, hn'⟩ (by dsimp only; omega) (by dsimp only; omega)]
    unfold Dat.left
    by_cases hi : 8 ≤ n
    · rw [show cfg0.idle 6 (cfg0.grid.coords ⟨n, hn'⟩) = true from (idle6_iff ⟨n, hn'⟩).mpr hi]
      exact ih hn' hi
    · rw [show cfg0.idle 6 (cfg0.grid.coords ⟨n, hn'⟩) = false from by
        rw [Bool.eq_false_iff]; exact fun h => hi ((idle6_iff ⟨n, hn'⟩).mp h)]
      exact after_6 m c ⟨n, hn'⟩

/-- After the first point the small block's buffer holds what was stored there. -/
theorem before_7 (c : Dev nD) (d) : ∀ (n : ℕ) (hn : n < cfg0.N), 1 ≤ n →
    (dats m 0 c).before 7 ⟨n, hn⟩ d = k0_pay3 (iblk m c 4 ⟨n, hn⟩) := by
  intro n
  induction n with
  | zero => intro _ h; omega
  | succ n ih =>
    intro hn h8
    have hN : n + 1 < 16 := lt_of_lt_of_eq hn (show cfg0.N = 16 from N_0)
    have hn' : n < cfg0.N := Nat.lt_of_succ_lt hn
    rw [(dats m 0 c).before_of_pos 7 ⟨n + 1, hn⟩ (Nat.succ_ne_zero n) (fetch7 _) d]
    have hfl : (cfg0.win 7).flush ⟨n, hn'⟩ = false := by
      rw [Bool.eq_false_iff]; intro hf
      have h := (flush0_7 ⟨n, hn'⟩).mp hf
      dsimp only at h; omega
    show (if (cfg0.win 7).flush ⟨n, hn'⟩ = true then d else (dats m 0 c).left 7 ⟨n, hn'⟩ d) = _
    rw [hfl, if_neg Bool.false_ne_true, iblk4_const m c ⟨n + 1, hn⟩ ⟨n, hn'⟩]
    unfold Dat.left
    by_cases hi : 1 ≤ n
    · rw [show cfg0.idle 7 (cfg0.grid.coords ⟨n, hn'⟩) = true from (idle7_iff ⟨n, hn'⟩).mpr hi]
      exact ih hn' hi
    · rw [show cfg0.idle 7 (cfg0.grid.coords ⟨n, hn'⟩) = false from by
        rw [Bool.eq_false_iff]; exact fun h => hi ((idle7_iff ⟨n, hn'⟩).mp h)]
      exact after_7 m c ⟨n, hn'⟩

/-! ## One point of the grid -/

/-- The buffer of window 0 at point `t`. -/
abbrev buf0 (t : Fin cfg0.N) : Memref sig .tc .vmem S8x2048 .f32 := win0_0.stage (cfg0.slots t 0)
/-- The buffer of window 1 at point `t`. -/
abbrev buf1 (t : Fin cfg0.N) : Memref sig .tc .vmem S2048x768 .f32 := win0_1.stage (cfg0.slots t 1)
/-- The buffer of window 2 at point `t`. -/
abbrev buf2 (t : Fin cfg0.N) : Memref sig .tc .vmem S1x768 .f32 := win0_2.stage (cfg0.slots t 2)
/-- The buffer of window 3 at point `t`. -/
abbrev buf3 (t : Fin cfg0.N) : Memref sig .tc .vmem S1024x2048 .f32 := win0_3.stage (cfg0.slots t 3)
/-- The buffer of window 4 at point `t`. -/
abbrev buf4 (t : Fin cfg0.N) : Memref sig .tc .vmem S64x2048 .f32 := win0_4.stage (cfg0.slots t 4)
/-- The buffer of window 5 at point `t`. -/
abbrev buf5 (t : Fin cfg0.N) : Memref sig .tc .vmem S8x768 .f32 := win0_5.stage (cfg0.slots t 5)
/-- The buffer of window 6 at point `t`. -/
abbrev buf6 (t : Fin cfg0.N) : Memref sig .tc .vmem S2048x1024 .bf16 := win0_6.stage (cfg0.slots t 6)
/-- The buffer of window 7 at point `t`. -/
abbrev buf7 (t : Fin cfg0.N) : Memref sig .tc .vmem S64x2048 .bf16 := win0_7.stage (cfg0.slots t 7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) :
    (dats m 0 c).leavesExact 0 t = owns (c : Thread nD τ) (buf0 t) fullShare (iblk m c 0 t) := by
  rw [← after_0]
theorem leaves_1 (c : Dev nD) (t : Fin cfg0.N) :
    (dats m 0 c).leavesExact 1 t = owns (c : Thread nD τ) (buf1 t) fullShare (iblk m c 1 t) := by
  rw [← after_1]
theorem leaves_2 (c : Dev nD) (t : Fin cfg0.N) :
    (dats m 0 c).leavesExact 2 t = owns (c : Thread nD τ) (buf2 t) fullShare (iblk m c 2 t) := by
  rw [← after_2]
theorem leaves_3 (c : Dev nD) (t : Fin cfg0.N) :
    (dats m 0 c).leavesExact 3 t = owns (c : Thread nD τ) (buf3 t) fullShare (iblk m c 3 t) := by
  rw [← after_3]
theorem leaves_4 (c : Dev nD) (t : Fin cfg0.N) :
    (dats m 0 c).leavesExact 4 t = owns (c : Thread nD τ) (buf4 t) fullShare (iblk m c 4 t) := by
  rw [← after_4]
theorem leaves_5 (c : Dev nD) (t : Fin cfg0.N) :
    (dats m 0 c).leavesExact 5 t = owns (c : Thread nD τ) (buf5 t) fullShare (k0_pay1 (iblk m c 0 t) (iblk m c 1 t) (iblk m c 2 t)) := by
  rw [← after_5]
/-- A point that stores window 6 leaves its block, -/
theorem leaves_6_live (c : Dev nD) (t : Fin cfg0.N) (h : t.val < 8) :
    (dats m 0 c).leavesExact 6 t = owns (c : Thread nD τ) (buf6 t) fullShare (k0_pay2 (iblk m c 3 t)) := by
  unfold Dat.leavesExact
  rw [show cfg0.idle 6 (cfg0.grid.coords t) = false from by
    rw [Bool.eq_false_iff]; exact fun h' => absurd ((idle6_iff t).mp h') (by omega), after_6]
/-- and any other leaves the buffer as it found it, at that same block. -/
theorem leaves_6_idle (c : Dev nD) (t : Fin cfg0.N) (h : 8 ≤ t.val) (d) :
    owns (c : Thread nD τ) (buf6 t) fullShare ((dats m 0 c).before 6 t d) ⊢ (dats m 0 c).leavesExact 6 t := by
  unfold Dat.leavesExact
  rw [show cfg0.idle 6 (cfg0.grid.coords t) = true from (idle6_iff t).mpr h]
  cases hf : (cfg0.win 6).flush t
  · iintro H
    iexists d; iexact H
  · rw [after_6, before_6 m c d t.val t.isLt h]
/-- A point that stores window 7 leaves its block, -/
theorem leaves_7_live (c : Dev nD) (t : Fin cfg0.N) (h : t.val < 1) :
    (dats m 0 c).leavesExact 7 t = owns (c : Thread nD τ) (buf7 t) fullShare (k0_pay3 (iblk m c 4 t)) := by
  unfold Dat.leavesExact
  rw [show cfg0.idle 7 (cfg0.grid.coords t) = false from by
    rw [Bool.eq_false_iff]; exact fun h' => absurd ((idle7_iff t).mp h') (by omega), after_7]
/-- and any other leaves the buffer as it found it, at that same block. -/
theorem leaves_7_idle (c : Dev nD) (t : Fin cfg0.N) (h : 1 ≤ t.val) (d) :
    owns (c : Thread nD τ) (buf7 t) fullShare ((dats m 0 c).before 7 t d) ⊢ (dats m 0 c).leavesExact 7 t := by
  unfold Dat.leavesExact
  rw [show cfg0.idle 7 (cfg0.grid.coords t) = true from (idle7_iff t).mpr h]
  cases hf : (cfg0.win 7).flush t
  · iintro H
    iexists d; iexact H
  · rw [after_7, before_7 m c d t.val t.isLt h]

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4, leaves_5]
  rw [show (dats m 0 c).Φ t.succ = (dats m 0 c).Φ t.castSucc from rfl,
    show (dats m 0 c).owesAt () t.succ = (dats m 0 c).owesAt () t.castSucc from rfl]
  rcases Nat.lt_or_ge t.val 8 with h0 | h0
  · rcases Nat.eq_zero_or_pos t.val with h1 | h1
    · rw [leaves_6_live m c t (by omega)]
      rw [leaves_7_live m c t (by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst c (grid0.coords t) _ _ _ _ _ _ _ _ _ _ _ _ _ _ _ _ ((lays_iff t).mpr h0) ((laysSmall_iff t).mpr h1) (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [leaves_6_live m c t (by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runMain c (grid0.coords t) _ _ _ _ _ _ _ _ _ _ _ _ _ _ _ _ ((lays_iff t).mpr h0) (fun h => absurd ((laysSmall_iff t).mp h) (by omega)) (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_7_idle m c t (by omega) d7); iexact H7
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runRest c (grid0.coords t) _ _ _ _ _ _ _ _ _ _ _ _ _ _ _ _ (fun h => absurd ((lays_iff t).mp h) (by omega)) (fun h => absurd ((laysSmall_iff t).mp h) (by omega)) (iblk m c 0 t) (iblk m c 1 t) (iblk m c 2 t) (iblk m c 3 t) (iblk m c 4 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6_idle m c t (by omega) d6); iexact H6
    iapply (leaves_7_idle m c t (by omega) d7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array of the windows ends at what the buffers' contents make of it, every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Ada

end
-- ==== Proof.Ada.Bits.lean ====
/- The modulations' kernel at its own numbers: it is printed with the same text as over the reals, so its frame is
   the one run's. -/
module

public import proofs.«01_k».proof.Defs
public import proofs.«01_k».proof.Proof.Gen.Kernel
public import proofs.«01_k».proof.Proof.Ada.Frame

@[expose] public section

noncomputable section

namespace Cert.KernelIdeal.AdaBits

open Idealize.ShloMosaic Idealize.SL.Sem

/-- The two body tables run the same function, -/
theorem bodies_eq : Cert.KernelIdeal.defs₀ (F := Bits) = Cert.Kernel.defs₀ (F := Bits) := by
  unfold Cert.KernelIdeal.defs₀ Cert.Kernel.defs₀
  refine congrArg Defs.onTc ?_
  funext l a
  match l, a with
  | 0, (t, s) => rfl
  | ⟨_ + 1, h⟩, _ => exact absurd h (Nat.not_lt.2 (Nat.le_add_left _ _))

/-- so the two programs have the same definitions, -/
theorem defs_eq : Cert.KernelIdeal.defs (F := Bits) = Cert.Kernel.defs (F := Bits) := by
  unfold Cert.KernelIdeal.defs Cert.Kernel.defs
  rw [bodies_eq]
  rfl

/-- and the frame of the one is the frame of the other. -/
theorem frame : Cert.quiescent_Kernel := by
  intro m ρ _
  rw [← defs_eq]
  exact (θ_run Cert.KernelIdeal.defs _ _).mono (fun _ h => h) (Cert.KernelIdeal.Ada.frame (F := Bits) m ρ)

end Cert.KernelIdeal.AdaBits

end
-- ==== Proof.Ada.Pure.lean ====
/- The modulations' two computations, element by element over the reals: the kernel's stored blocks and the reference's results. -/
module

public import proofs.«01_k».proof.Proof.Gen.KernelIdeal.Skeleton
public import proofs.«01_k».proof.Proof.Gen.ReferenceIdeal.Read
public import Idealize.ShloMosaic.Lib.Pointwise

@[expose] public section

set_option maxRecDepth 16384

noncomputable section

namespace Cert.KernelIdeal.AdaPure

open Idealize.ShloMosaic Cert.KernelIdeal Cert.KernelIdeal.Gen

/-- The activation of one element. -/
def act (x : EReal) : EReal := x * Ideal.div (Ideal.ofBits .f32 0x3F800000#32) (Ideal.ofBits .f32 0x3F800000#32 + Ideal.exp (-x))

/-- The columns of the modulations that one point stores. -/
theorem pay1_apply (x0 : Vec Ideal S8x2048 .f32) (x1 : Vec Ideal S2048x768 .f32) (x2 : Vec Ideal S1x768 .f32) (r : Fin 8) (l : Fin 768) :
    k0_pay1 x0 x1 x2 (ix2 r l) = (∑ k : Fin 2048, act (x0 (ix2 r k)) * x1 (ix2 k l)) + x2 (ix2 0 l) := by
  pointwise [k0_pay1, act]
  simp only [zero_sub]

/-- The block of main columns that one point lays out. -/
theorem pay2_apply (x : Vec Ideal S1024x2048 .f32) (r : Fin 2048) (l : Fin 1024) :
    k0_pay2 x (ix2 r l) = x (ix2 l r) := by
  pointwise [k0_pay2]

/-- The small block. -/
theorem pay3_apply (x : Vec Ideal S64x2048 .f32) (r : Fin 64) (l : Fin 2048) :
    k0_pay3 x (ix2 r l) = x (ix2 r l) := by
  pointwise [k0_pay3]

open Cert.ReferenceIdeal.Read in
/-- The reference's modulations. -/
theorem ref6_apply (x0 : Vec Ideal Cert.ReferenceIdeal.S4x2048 .f32) (x1 : Vec Ideal Cert.ReferenceIdeal.S1x2048x12288 .f32)
    (x2 : Vec Ideal Cert.ReferenceIdeal.S1x12288 .f32) (r : Fin 4) (l : Fin 12288) :
    val_main_v6 (F := Ideal) x0 x1 x2 (ix2 r l) = (∑ k : Fin 2048, act (x0 (ix2 r k)) * x1 (ix3 0 k l)) + x2 (ix2 0 l) := by
  pointwise [val_main_v6, val_main_v2, val_main_v0, val_main_v1, val_main_v5, val_main_v4, val_main_v3, val_main_call0_v5, val_main_call0_v4,
    val_main_call0_v3, val_main_call0_v2, val_main_call0_v1, val_main_call0_v0, val_main_call0_cst, val_main_call0_cst_0, act]

open Cert.ReferenceIdeal.Read in
/-- The reference's main columns: the first 1024 as they stand, the others past the 64 of the small block. -/
theorem ref12_apply (x3 : Vec Ideal Cert.ReferenceIdeal.S1x2048x8256 .f32) (r : Fin 2048) (l : Fin 8192) :
    val_main_v12 (F := Ideal) x3 (ix2 r l)
      = x3 (ix3 0 r ⟨if l.val < 1024 then l.val else l.val + 64, by split <;> omega⟩) := by
  pointwise [val_main_v12, val_main_v10, val_main_v8, val_main_v9, val_main_v7]
  by_cases h : l.val < 1024
  · rw [dif_pos h]; simp only [if_pos h]
  · rw [dif_neg h]; exact congrArg x3 (congrArg _ (Fin.ext (show 1088 + (l.val - 1024) = if l.val < 1024 then l.val else l.val + 64 by rw [if_neg h]; omega)))

open Cert.ReferenceIdeal.Read in
/-- The reference's small block. -/
theorem ref14_apply (x3 : Vec Ideal Cert.ReferenceIdeal.S1x2048x8256 .f32) (r : Fin 64) (l : Fin 2048) :
    val_main_v14 (F := Ideal) x3 (ix2 r l) = x3 (ix3 0 l ⟨1024 + r.val, by omega⟩) := by
  pointwise [val_main_v14, val_main_v13, val_main_v11, val_main_v7]

/-! ## The host's lines before the kernel -/

theorem pad_apply (x : Vec Ideal S4x2048 .f32) (v : Vec Ideal S_ .f32) (r : Fin 8) (h : r.val < 4) (k : Fin 2048) :
    pad S8x2048 ![0, 0] ![4, 0] ![0, 0] x v pads_S4x2048_S8x2048_040_000 h_S_ (ix2 r k) = x (ix2 ⟨r.val, h⟩ k) := by
  pointwise
  rw [dif_pos h]

theorem weight_apply (x : Vec Ideal S1x2048x8256 .f32) (r : Fin 8256) (k : Fin 2048) :
    transpose S8256x2048 [1, 0] (shapeCast S2048x8256 x shapeCasts_S1x2048x8256_S2048x8256) transposes_S2048x8256_S8256x2048_1_0 (ix2 r k)
      = x (ix3 0 k r) := by
  pointwise

theorem mod_apply (x : Vec Ideal S1x2048x12288 .f32) (r : Fin 2048) (k : Fin 12288) :
    shapeCast S2048x12288 x shapeCasts_S1x2048x12288_S2048x12288 (ix2 r k) = x (ix3 0 r k) := by
  pointwise

theorem bias_apply (x : Vec Ideal S1x12288 .f32) (k : Fin 12288) :
    broadcastInDim S1x12288 ![1] bcast_S12288_S1x12288_1 (shapeCast S12288 x shapeCasts_S1x12288_S12288) (ix2 0 k) = x (ix2 0 k) := by
  pointwise

theorem cut_apply (x : Vec Ideal S8x12288 .f32) (r : Fin 4) (l : Fin 12288) :
    extractStridedSlice S4x12288 ![0, 0] x slices_S8x12288_S4x12288_0_0 (ix2 r l) = x (ix2 ⟨r.val, by omega⟩ l) := by
  pointwise

end Cert.KernelIdeal.AdaPure

end
-- ==== Proof.Ada.Value.lean ====
/- The modulations' kernel: what its three result arrays hold after the run, over the reals, and the claim against the reference. -/
module

public import proofs.«01_k».proof.Proof.Ada.Frame
public import proofs.«01_k».proof.Proof.Ada.Pure
public import Idealize.ShloMosaic.Lib.Pipeline.Value
public import proofs.«01_k».proof.Defs

@[expose] public section

set_option maxRecDepth 16384

noncomputable section

namespace Cert.KernelIdeal.AdaValue

open Idealize.ShloMosaic Idealize.ShloMosaic.TcCoe Idealize.SL.Sem Cert.KernelIdeal Cert.KernelIdeal.Gen
open Cert.KernelIdeal.Ada Cert.KernelIdeal.AdaPure
open Idealize.ShloMosaic.Pipeline (Dat)

section Host

variable {F : FTy → Type} [FloatOps F]
variable (m : (ℓ : Loc nD τ sig) → Buf (Elt F) ℓ)

/-! ## The arrays the region finds -/

theorem V_v0 (c : Dev nD) : (V m c main_v0 : Vec F S8x2048 .f32)
    = pad S8x2048 ![0, 0] ![4, 0] ![0, 0] (m ((c : Thread nD τ).loc main_arg0)) (sitofp .f32 (constantI S_ 32 0#32)) pads_S4x2048_S8x2048_040_000 h_S_ := by
  dsimp only [V, V0]
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

theorem V_v2 (c : Dev nD) : (V m c main_v2 : Vec F S8256x2048 .f32)
    = transpose S8256x2048 [1, 0] (shapeCast S2048x8256 (m ((c : Thread nD τ).loc main_arg3)) shapeCasts_S1x2048x8256_S2048x8256) transposes_S2048x8256_S8256x2048_1_0 := by
  dsimp only [V, V0]
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

theorem V_v3 (c : Dev nD) : (V m c main_v3 : Vec F S2048x12288 .f32)
    = shapeCast S2048x12288 (m ((c : Thread nD τ).loc main_arg1)) shapeCasts_S1x2048x12288_S2048x12288 := by
  dsimp only [V, V0]
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

theorem V_v5 (c : Dev nD) : (V m c main_v5 : Vec F S1x12288 .f32)
    = broadcastInDim S1x12288 ![1] bcast_S12288_S1x12288_1 (shapeCast S12288 (m ((c : Thread nD τ).loc main_arg2)) shapeCasts_S1x12288_S12288) := by
  dsimp only [V, V0]
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

end Host

variable (m : (ℓ : Loc nD τ sig) → Buf (Elt Ideal) ℓ) (ρ : Dev nD → PrngReg)

theorem v0_apply (c : Dev nD) (r : Fin 8) (h : r.val < 4) (k : Fin 2048) :
    (V m c main_v0 : Vec Ideal S8x2048 .f32) (ix2 r k) = (m ((c : Thread nD τ).loc main_arg0) : Vec Ideal S4x2048 .f32) (ix2 ⟨r.val, h⟩ k) := by
  rw [V_v0]
  exact pad_apply _ _ r h k

theorem v2_apply (c : Dev nD) (r : Fin 8256) (k : Fin 2048) :
    (V m c main_v2 : Vec Ideal S8256x2048 .f32) (ix2 r k) = (m ((c : Thread nD τ).loc main_arg3) : Vec Ideal S1x2048x8256 .f32) (ix3 0 k r) := by
  rw [V_v2]
  exact weight_apply _ r k

theorem v3_apply (c : Dev nD) (r : Fin 2048) (k : Fin 12288) :
    (V m c main_v3 : Vec Ideal S2048x12288 .f32) (ix2 r k) = (m ((c : Thread nD τ).loc main_arg1) : Vec Ideal S1x2048x12288 .f32) (ix3 0 r k) := by
  rw [V_v3]
  exact mod_apply _ r k

theorem v5_apply (c : Dev nD) (k : Fin 12288) :
    (V m c main_v5 : Vec Ideal S1x12288 .f32) (ix2 0 k) = (m ((c : Thread nD τ).loc main_arg2) : Vec Ideal S1x12288 .f32) (ix2 0 k) := by
  rw [V_v5]
  exact bias_apply _ k

/-! ## Where a window's block lies -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = t.val :=
  (by decide +kernel : ∀ t : Fin grid0.N, _)
theorem index_2 : ∀ t : Fin cfg0.N, win0_2.index t (0 : Fin 2) = 0 ∧ win0_2.index t (1 : Fin 2) = t.val :=
  (by decide +kernel : ∀ t : Fin grid0.N, _)
theorem index_3 : ∀ t : Fin cfg0.N, win0_3.index t (0 : Fin 2) = (if t.val < 7 then 1088 + 1024 * t.val else 0) ∧ win0_3.index t (1 : Fin 2) = 0 :=
  (by decide +kernel : ∀ t : Fin grid0.N, _)
theorem index_4 : ∀ t : Fin cfg0.N, win0_4.index t (0 : Fin 2) = 1024 ∧ win0_4.index t (1 : Fin 2) = 0 :=
  (by decide +kernel : ∀ t : Fin grid0.N, _)
theorem index_5 : ∀ t : Fin cfg0.N, win0_5.index t (0 : Fin 2) = 0 ∧ win0_5.index t (1 : Fin 2) = t.val :=
  (by decide +kernel : ∀ t : Fin grid0.N, _)
theorem index_6 : ∀ t : Fin cfg0.N, win0_6.index t (0 : Fin 2) = 0 ∧ win0_6.index t (1 : Fin 2) = (if t.val < 7 then t.val + 1 else 0) :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)

theorem lt16 (t : Fin cfg0.N) : t.val < 16 := lt_of_lt_of_eq t.isLt (show cfg0.N = 16 from N_0)

theorem blk0_apply (c : Dev nD) (t : Fin cfg0.N) (r : Fin 8) (k : Fin 2048) :
    (iblk m c 0 t : Vec Ideal S8x2048 .f32) (ix2 r k) = (V m c main_v0 : Vec Ideal S8x2048 .f32) (ix2 r k) := by
  obtain ⟨e0, e1⟩ := index_0 t
  show (V m c main_v0 : Vec Ideal S8x2048 .f32) (((cfg0.win 0).blk t).view.emb (ix2 r k)) = _
  refine congrArg (V m c main_v0 : Vec Ideal S8x2048 .f32) (funext fun a => Fin.ext ?_)
  match a with
  | ⟨0, _⟩ => show win0_0.index t (0 : Fin 2) * 8 + 1 * r.val = r.val; omega
  | ⟨1, _⟩ => show win0_0.index t (1 : Fin 2) * 2048 + 1 * k.val = k.val; omega

theorem blk1_apply (c : Dev nD) (t : Fin cfg0.N) (k : Fin 2048) (l : Fin 768) :
    (iblk m c 1 t : Vec Ideal S2048x768 .f32) (ix2 k l)
      = (V m c main_v3 : Vec Ideal S2048x12288 .f32) (ix2 k ⟨t.val * 768 + l.val, by have := lt16 t; omega⟩) := by
  obtain ⟨e0, e1⟩ := index_1 t
  show (V m c main_v3 : Vec Ideal S2048x12288 .f32) (((cfg0.win 1).blk t).view.emb (ix2 k l)) = _
  refine congrArg (V m c main_v3 : Vec Ideal S2048x12288 .f32) (funext fun a => Fin.ext ?_)
  match a with
  | ⟨0, _⟩ => show win0_1.index t (0 : Fin 2) * 2048 + 1 * k.val = k.val; omega
  | ⟨1, _⟩ => show win0_1.index t (1 : Fin 2) * 768 + 1 * l.val = t.val * 768 + l.val; omega

theorem blk2_apply (c : Dev nD) (t : Fin cfg0.N) (l : Fin 768) :
    (iblk m c 2 t : Vec Ideal S1x768 .f32) (ix2 0 l)
      = (V m c main_v5 : Vec Ideal S1x12288 .f32) (ix2 0 ⟨t.val * 768 + l.val, by have := lt16 t; omega⟩) := by
  obtain ⟨e0, e1⟩ := index_2 t
  show (V m c main_v5 : Vec Ideal S1x12288 .f32) (((cfg0.win 2).blk t).view.emb (ix2 0 l)) = _
  refine congrArg (V m c main_v5 : Vec Ideal S1x12288 .f32) (funext fun a => Fin.ext ?_)
  match a with
  | ⟨0, _⟩ => show win0_2.index t (0 : Fin 2) * 1 + 1 * 0 = 0; omega
  | ⟨1, _⟩ => show win0_2.index t (1 : Fin 2) * 768 + 1 * l.val = t.val * 768 + l.val; omega

/-- The element-indexed windows' blocks: rows of the transposed weight from the offset that their index map gives. -/
theorem blk3_apply (c : Dev nD) (t : Fin cfg0.N) (l : Fin 1024) (k : Fin 2048) :
    (iblk m c 3 t : Vec Ideal S1024x2048 .f32) (ix2 l k)
      = (V m c main_v2 : Vec Ideal S8256x2048 .f32) (ix2 ⟨(if t.val < 7 then 1088 + 1024 * t.val else 0) + l.val, by split <;> omega⟩ k) := by
  obtain ⟨e0, e1⟩ := index_3 t
  show (V m c main_v2 : Vec Ideal S8256x2048 .f32) (((cfg0.win 3).blk t).view.emb (ix2 l k)) = _
  refine congrArg (V m c main_v2 : Vec Ideal S8256x2048 .f32) (funext fun a => Fin.ext ?_)
  match a with
  | ⟨0, _⟩ => show win0_3.index t (0 : Fin 2) + 1 * l.val = (if t.val < 7 then 1088 + 1024 * t.val else 0) + l.val; omega
  | ⟨1, _⟩ => show win0_3.index t (1 : Fin 2) + 1 * k.val = k.val; omega

theorem blk4_apply (c : Dev nD) (t : Fin cfg0.N) (l : Fin 64) (k : Fin 2048) :
    (iblk m c 4 t : Vec Ideal S64x2048 .f32) (ix2 l k)
      = (V m c main_v2 : Vec Ideal S8256x2048 .f32) (ix2 ⟨1024 + l.val, by omega⟩ k) := by
  obtain ⟨e0, e1⟩ := index_4 t
  show (V m c main_v2 : Vec Ideal S8256x2048 .f32) (((cfg0.win 4).blk t).view.emb (ix2 l k)) = _
  refine congrArg (V m c main_v2 : Vec Ideal S8256x2048 .f32) (funext fun a => Fin.ext ?_)
  match a with
  | ⟨0, _⟩ => show win0_4.index t (0 : Fin 2) + 1 * l.val = 1024 + l.val; omega
  | ⟨1, _⟩ => show win0_4.index t (1 : Fin 2) + 1 * k.val = k.val; omega

/-! ## The three arrays after the region -/

/-- The modulations of every row of the padded input, -/
def G5 (c : Dev nD) : Vec Ideal S8x12288 .f32 := fun i =>
  (∑ k : Fin 2048, act ((V m c main_v0 : Vec Ideal S8x2048 .f32) (ix2 (i 0) k)) * (V m c main_v3 : Vec Ideal S2048x12288 .f32) (ix2 k (i 1)))
    + (V m c main_v5 : Vec Ideal S1x12288 .f32) (ix2 0 (i 1))
/-- the main columns, -/
def G6 (c : Dev nD) : Vec Ideal S2048x8192 .bf16 := fun i =>
  (V m c main_v2 : Vec Ideal S8256x2048 .f32) (ix2 ⟨if (i 1).val < 1024 then (i 1).val else (i 1).val + 64, by have h : (i 1).val < 8192 := (i 1).isLt; split <;> omega⟩ (i 0))
/-- and the small block. -/
def G7 (c : Dev nD) : Vec Ideal S64x2048 .bf16 := fun i =>
  (V m c main_v2 : Vec Ideal S8256x2048 .f32) (ix2 ⟨1024 + (i 0).val, by have h : (i 0).val < 64 := (i 0).isLt; omega⟩ (i 1))

theorem flushed5 (c : Dev nD) (t : Fin cfg0.N) :
    (dats m 0 c).flushed 5 t = ((cfg0.win 5).blk t).view.read (Elt Ideal) (G5 m c) := by
  obtain ⟨e0, e1⟩ := index_5 t
  show (cfg0.win 5).cut (grid0.coords t) ((dats m 0 c).after 5 t) = _
  rw [after_5]
  funext (y : S8x768.Idx)
  show k0_pay1 (iblk m c 0 t) (iblk m c 1 t) (iblk m c 2 t) y = G5 m c (((cfg0.win 5).blk t).view.emb y)
  obtain ⟨r, l, rfl⟩ : ∃ (r : Fin 8) (l : Fin 768), y = ix2 r l := ⟨y 0, y 1, by funext a; match a with | ⟨0, _⟩ => rfl | ⟨1, _⟩ => rfl⟩
  rw [show ((cfg0.win 5).blk t).view.emb (ix2 r l) = (ix2 r ⟨t.val * 768 + l.val, by have := lt16 t; omega⟩ : S8x12288.Idx) from
    funext fun a => Fin.ext (by
      match a with
      | ⟨0, _⟩ => show win0_5.index t (0 : Fin 2) * 8 + 1 * r.val = r.val; omega
      | ⟨1, _⟩ => show win0_5.index t (1 : Fin 2) * 768 + 1 * l.val = t.val * 768 + l.val; omega)]
  rw [pay1_apply, blk2_apply]
  simp only [blk0_apply, blk1_apply]
  rfl

theorem flushed6 (c : Dev nD) (t : Fin cfg0.N) :
    (dats m 0 c).flushed 6 t = ((cfg0.win 6).blk t).view.read (Elt Ideal) (G6 m c) := by
  obtain ⟨e0, e1⟩ := index_6 t
  show (cfg0.win 6).cut (grid0.coords t) ((dats m 0 c).after 6 t) = _
  rw [after_6]
  funext (y : S2048x1024.Idx)
  show k0_pay2 (iblk m c 3 t) y = G6 m c (((cfg0.win 6).blk t).view.emb y)
  obtain ⟨r, l, rfl⟩ : ∃ (r : Fin 2048) (l : Fin 1024), y = ix2 r l := ⟨y 0, y 1, by funext a; match a with | ⟨0, _⟩ => rfl | ⟨1, _⟩ => rfl⟩
  rw [show ((cfg0.win 6).blk t).view.emb (ix2 r l) = (ix2 r ⟨(if t.val < 7 then t.val + 1 else 0) * 1024 + l.val, by split <;> omega⟩ : S2048x8192.Idx) from
    funext fun a => Fin.ext (by
      match a with
      | ⟨0, _⟩ => show win0_6.index t (0 : Fin 2) * 2048 + 1 * r.val = r.val; omega
      | ⟨1, _⟩ => show win0_6.index t (1 : Fin 2) * 1024 + 1 * l.val = (if t.val < 7 then t.val + 1 else 0) * 1024 + l.val; rw [e1]; omega)]
  rw [pay2_apply, blk3_apply]
  refine congrArg (fun q : Fin 8256 => (V m c main_v2 : Vec Ideal S8256x2048 .f32) (ix2 q r)) (Fin.ext ?_)
  show (if t.val < 7 then 1088 + 1024 * t.val else 0) + l.val = if (if t.val < 7 then t.val + 1 else 0) * 1024 + l.val < 1024 then (if t.val < 7 then t.val + 1 else 0) * 1024 + l.val else (if t.val < 7 then t.val + 1 else 0) * 1024 + l.val + 64
  have := l.isLt
  by_cases h : t.val < 7
  · simp only [if_pos h]; rw [if_neg (by omega)]; omega
  · simp only [if_neg h]; rw [if_pos (by omega)]

theorem flushed7 (c : Dev nD) (t : Fin cfg0.N) :
    (dats m 0 c).flushed 7 t = ((cfg0.win 7).blk t).view.read (Elt Ideal) (G7 m c) := by
  obtain ⟨e0, e1⟩ := index_7 t
  show (cfg0.win 7).cut (grid0.coords t) ((dats m 0 c).after 7 t) = _
  rw [after_7]
  funext (y : S64x2048.Idx)
  show k0_pay3 (iblk m c 4 t) y = G7 m c (((cfg0.win 7).blk t).view.emb y)
  obtain ⟨r, l, rfl⟩ : ∃ (r : Fin 64) (l : Fin 2048), y = ix2 r l := ⟨y 0, y 1, by funext a; match a with | ⟨0, _⟩ => rfl | ⟨1, _⟩ => rfl⟩
  rw [show ((cfg0.win 7).blk t).view.emb (ix2 r l) = (ix2 r l : S64x2048.Idx) from
    funext fun a => Fin.ext (by
      match a with
      | ⟨0, _⟩ => show win0_7.index t (0 : Fin 2) * 64 + 1 * r.val = r.val; omega
      | ⟨1, _⟩ => show win0_7.index t (1 : Fin 2) * 2048 + 1 * l.val = l.val; omega)]
  rw [pay3_apply, blk4_apply]
  rfl

theorem mem5 (t : Fin cfg0.N) (i : S8x12288.Idx) : i ∈ ((cfg0.win 5).blk t).view.set
    ↔ ∀ a : Fin 2, win0_5.index t a * S8x768.size a ≤ (i a).val ∧ (i a).val < win0_5.index t a * S8x768.size a + S8x768.size a := by
  show i ∈ ((View.whole main_v6_0).slice (win0_5.rect t)).set ↔ _
  rw [View.set_slice_whole, Rect.mem_set_unit]; exact Iff.rfl
theorem mem6 (t : Fin cfg0.N) (i : S2048x8192.Idx) : i ∈ ((cfg0.win 6).blk t).view.set
    ↔ ∀ a : Fin 2, win0_6.index t a * S2048x1024.size a ≤ (i a).val ∧ (i a).val < win0_6.index t a * S2048x1024.size a + S2048x1024.size a := by
  show i ∈ ((View.whole main_v6_1).slice (win0_6.rect t)).set ↔ _
  rw [View.set_slice_whole, Rect.mem_set_unit]; exact Iff.rfl
theorem mem7 (t : Fin cfg0.N) (i : S64x2048.Idx) : i ∈ ((cfg0.win 7).blk t).view.set
    ↔ ∀ a : Fin 2, win0_7.index t a * S64x2048.size a ≤ (i a).val ∧ (i a).val < win0_7.index t a * S64x2048.size a + S64x2048.size a := by
  show i ∈ ((View.whole main_v6_2).slice (win0_7.rect t)).set ↔ _
  rw [View.set_slice_whole, Rect.mem_set_unit]; exact Iff.rfl

theorem final5 (c : Dev nD) : (dats m 0 c).arrAt 5 cfg0.N = G5 m c :=
  (dats m 0 c).arrAt_eq_of_cover 5 _ (fun t _ => flushed5 m c t) (fun (i : S8x12288.Idx) => by
    have h0 : (i 0).val < 8 := (i 0).isLt
    have h1 : (i 1).val < 12288 := (i 1).isLt
    have ht : (i 1).val / 768 < cfg0.N := lt_of_lt_of_eq (by omega) (show 16 = cfg0.N from N_0.symm)
    refine ⟨⟨(i 1).val / 768, ht⟩, flush0_5 _, (mem5 _ i).mpr fun a => ?_⟩
    obtain ⟨e0, e1⟩ := index_5 ⟨(i 1).val / 768, ht⟩
    dsimp only at e1
    match a with
    | ⟨0, _⟩ => show win0_5.index _ (0 : Fin 2) * 8 ≤ (i 0).val ∧ (i 0).val < win0_5.index _ (0 : Fin 2) * 8 + 8; omega
    | ⟨1, _⟩ => show win0_5.index _ (1 : Fin 2) * 768 ≤ (i 1).val ∧ (i 1).val < win0_5.index _ (1 : Fin 2) * 768 + 768; omega)

theorem final6 (c : Dev nD) : (dats m 0 c).arrAt 6 cfg0.N = G6 m c :=
  (dats m 0 c).arrAt_eq_of_cover 6 _ (fun t _ => flushed6 m c t) (fun (i : S2048x8192.Idx) => by
    have h0 : (i 0).val < 2048 := (i 0).isLt
    have h1 : (i 1).val < 8192 := (i 1).isLt
    by_cases h : (i 1).val < 1024
    · have ht : 15 < cfg0.N := lt_of_lt_of_eq (by omega) (show 16 = cfg0.N from N_0.symm)
      refine ⟨⟨15, ht⟩, (flush6_iff _).mpr (.inr rfl), (mem6 _ i).mpr fun a => ?_⟩
      obtain ⟨e0, e1⟩ := index_6 ⟨15, ht⟩
      rw [if_neg (by dsimp only; omega)] at e1
      match a with
      | ⟨0, _⟩ => show win0_6.index _ (0 : Fin 2) * 2048 ≤ (i 0).val ∧ (i 0).val < win0_6.index _ (0 : Fin 2) * 2048 + 2048; omega
      | ⟨1, _⟩ => show win0_6.index _ (1 : Fin 2) * 1024 ≤ (i 1).val ∧ (i 1).val < win0_6.index _ (1 : Fin 2) * 1024 + 1024; omega
    · have ht : (i 1).val / 1024 - 1 < cfg0.N := lt_of_lt_of_eq (by omega) (show 16 = cfg0.N from N_0.symm)
      refine ⟨⟨(i 1).val / 1024 - 1, ht⟩, (flush6_iff _).mpr (.inl (by dsimp only; omega)), (mem6 _ i).mpr fun a => ?_⟩
      obtain ⟨e0, e1⟩ := index_6 ⟨(i 1).val / 1024 - 1, ht⟩
      rw [if_pos (by dsimp only; omega)] at e1
      dsimp only at e1
      match a with
      | ⟨0, _⟩ => show win0_6.index _ (0 : Fin 2) * 2048 ≤ (i 0).val ∧ (i 0).val < win0_6.index _ (0 : Fin 2) * 2048 + 2048; omega
      | ⟨1, _⟩ => show win0_6.index _ (1 : Fin 2) * 1024 ≤ (i 1).val ∧ (i 1).val < win0_6.index _ (1 : Fin 2) * 1024 + 1024; omega)

theorem final7 (c : Dev nD) : (dats m 0 c).arrAt 7 cfg0.N = G7 m c :=
  (dats m 0 c).arrAt_eq_of_cover 7 _ (fun t _ => flushed7 m c t) (fun (i : S64x2048.Idx) => by
    have h0 : (i 0).val < 64 := (i 0).isLt
    have h1 : (i 1).val < 2048 := (i 1).isLt
    have ht : 15 < cfg0.N := lt_of_lt_of_eq (by omega) (show 16 = cfg0.N from N_0.symm)
    refine ⟨⟨15, ht⟩, (flush0_7 _).mpr rfl, (mem7 _ i).mpr fun a => ?_⟩
    obtain ⟨e0, e1⟩ := index_7 ⟨15, ht⟩
    match a with
    | ⟨0, _⟩ => show win0_7.index _ (0 : Fin 2) * 64 ≤ (i 0).val ∧ (i 0).val < win0_7.index _ (0 : Fin 2) * 64 + 64; omega
    | ⟨1, _⟩ => show win0_7.index _ (1 : Fin 2) * 2048 ≤ (i 1).val ∧ (i 1).val < win0_7.index _ (1 : Fin 2) * 2048 + 2048; omega)

/-- The result cut from the padded modulations. -/
theorem tail_v7 (c : Dev nD) :
    (Pipeline.afterTail₀ cfgs (dats m) 0 (V0 m) [hostOps1] c main_v7 : Vec Ideal S4x12288 .f32)
      = extractStridedSlice S4x12288 ![0, 0] (G5 m c) slices_S8x12288_S4x12288_0_0 := by
  rw [← final5]
  rw [← (dats m 0 c).withArrays_arrAt sharedIn0 (V0 m c) (A_eq m c) 5]
  unfold Pipeline.afterTail₀
  simp only [hostOps1, List.flatten_cons, List.flatten_nil, List.append_nil]
  after_results <;> rfl

/-- The run with its three results as functions of the arrays that the region finds. -/
theorem run (ρ : Dev nD → PrngReg) : θ_run defs (onTc (τ := τ) (main (F := Ideal))) ⟨m, fun _ => 0, ρ⟩ fun r => ∀ c : Dev nD,
      (r.2.mem ((c.tc : Thread nD τ).loc main_v7) : Vec Ideal S4x12288 .f32) = extractStridedSlice S4x12288 ![0, 0] (G5 m c) slices_S8x12288_S4x12288_0_0
      ∧ r.2.mem ((c.tc : Thread nD τ).loc main_v6_1) = G6 m c
      ∧ r.2.mem ((c.tc : Thread nD τ).loc main_v6_2) = G7 m c :=
  (θ_run defs _ _).mono (fun r h c => ⟨((h.1 c).2 main_v7 (Pipeline.mem_restRefs_of main_v7 (by decide) (by decide))).trans (tail_v7 m c),
    ((h.1 c).1 6).trans (final6 m c), ((h.1 c).1 7).trans (final7 m c)⟩) (run_quiescent m ρ)

/-! ## Against the reference -/

open Cert.ReferenceIdeal.Read (val_main_v6 val_main_v12 val_main_v14)

theorem r8 (r : Fin 4) : r.val < 8 := by omega

theorem mods_eq (c : Dev nD) :
    extractStridedSlice S4x12288 ![0, 0] (G5 m c) slices_S8x12288_S4x12288_0_0
      = val_main_v6 (F := Ideal) (m ((c : Thread nD τ).loc main_arg0)) (m ((c : Thread nD τ).loc main_arg1)) (m ((c : Thread nD τ).loc main_arg2)) := by
  funext (y : S4x12288.Idx)
  obtain ⟨r, l, rfl⟩ : ∃ (r : Fin 4) (l : Fin 12288), y = ix2 r l := ⟨y 0, y 1, by funext a; match a with | ⟨0, _⟩ => rfl | ⟨1, _⟩ => rfl⟩
  refine (cut_apply _ r l).trans (Eq.trans ?_ (ref6_apply _ _ _ r l).symm)
  exact congrArg₂ (· + ·) (Finset.sum_congr rfl fun k _ => congrArg₂ (· * ·) (congrArg act (v0_apply m c (⟨r.val, r8 r⟩ : Fin 8) r.isLt k)) (v3_apply m c k l)) (v5_apply m c l)

theorem main_eq (c : Dev nD) :
    G6 m c = val_main_v12 (F := Ideal) (m ((c : Thread nD τ).loc main_arg3)) := by
  funext (y : S2048x8192.Idx)
  obtain ⟨r, l, rfl⟩ : ∃ (r : Fin 2048) (l : Fin 8192), y = ix2 r l := ⟨y 0, y 1, by funext a; match a with | ⟨0, _⟩ => rfl | ⟨1, _⟩ => rfl⟩
  refine Eq.trans ?_ (ref12_apply _ r l).symm
  exact v2_apply m c _ r

theorem small_eq (c : Dev nD) :
    G7 m c = val_main_v14 (F := Ideal) (m ((c : Thread nD τ).loc main_arg3)) := by
  funext (y : S64x2048.Idx)
  obtain ⟨r, l, rfl⟩ : ∃ (r : Fin 64) (l : Fin 2048), y = ix2 r l := ⟨y 0, y 1, by funext a; match a with | ⟨0, _⟩ => rfl | ⟨1, _⟩ => rfl⟩
  refine Eq.trans ?_ (ref14_apply _ r l).symm
  exact v2_apply m c _ l

/-- The claim: from the same arguments the kernel's three results are the reference's. -/
theorem algebraic : Cert.algebraic_KernelIdeal_ReferenceIdeal := by
  intro m g m' g' _ hargs
  refine ⟨fun c => extractStridedSlice S4x12288 ![0, 0] (G5 m c) slices_S8x12288_S4x12288_0_0, fun c => G6 m c, fun c => G7 m c, ?_, ?_⟩
  · exact (θ_run defs _ _).mono (fun r h c => ⟨(h.1 c).1, (h.1 c).2.1, (h.1 c).2.2, h.2.1 c⟩) (θ_run_and (run m g) (Ada.frame m g))
  · refine (θ_run Cert.ReferenceIdeal.defs _ _).mono (fun r h c => ?_) (Cert.ReferenceIdeal.Value.run m' g')
    obtain ⟨e0, e1, e2, e3⟩ := hargs c
    obtain ⟨h6, h12, h14, hk⟩ := h c
    refine ⟨h6.trans ((Cert.ReferenceIdeal.Read.val_main_v6_eq _ _ _).trans ?_), h12.trans ((Cert.ReferenceIdeal.Read.val_main_v12_eq _).trans ?_),
      h14.trans ((Cert.ReferenceIdeal.Read.val_main_v14_eq _).trans ?_), hk⟩
    · rw [e0, e1, e2]; exact (mods_eq m c).symm
    · rw [e3]; exact (main_eq m c).symm
    · rw [e3]; exact (small_eq m c).symm

end Cert.KernelIdeal.AdaValue

end
-- ==== Proof.Ffn.Cases.lean ====
/- What the feed-forward kernel's body leaves behind at a point, in each of its three cases — the first of a row
   block's eleven points, a middle one, the last one —, as terms over the point's blocks. -/
module

public import proofs.«01_k».proof.Proof.Gen.FfnIdeal.Frame
public import Idealize.ShloMosaic.Lib.Pipeline.Value
public import Idealize.ShloMosaic.Lib.Tactic

@[expose] public section

set_option maxRecDepth 16384

noncomputable section

namespace Cert.FfnIdeal.FfnCases

open Idealize.ShloMosaic Idealize.ShloMosaic.TcCoe Cert.FfnIdeal Cert.FfnIdeal.Gen

variable {F : FTy → Type} [FloatOps F]

theorem hz : (![0, 0] : Fin 2 → Nat) = fun _ => 0 := funext fun a => by fin_cases a <;> rfl

/-- The shift, the scale and the gate: three of the six rows of the modulations. -/
abbrev shiftOf (x : Vec F S1x6x2048 .f32) : Vec F S1x1x2048 .f32 := View.ld x (Rect.unit (s := S1x6x2048) ![0, 3, 0] S1x1x2048.size inb_S1x6x2048_S1x1x2048_0_3_0)
abbrev scaleOf (x : Vec F S1x6x2048 .f32) : Vec F S1x1x2048 .f32 := View.ld x (Rect.unit (s := S1x6x2048) ![0, 4, 0] S1x1x2048.size inb_S1x6x2048_S1x1x2048_0_4_0)
abbrev gateOf (x : Vec F S1x6x2048 .f32) : Vec F S1x1x2048 .f32 := View.ld x (Rect.unit (s := S1x6x2048) ![0, 5, 0] S1x1x2048.size inb_S1x6x2048_S1x1x2048_0_5_0)

/-- The hidden rows that the first point keeps for the other ten. -/
theorem hidden_A (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x6x2048 .f32) (x2 : Vec F S1x2048 .f32) (x3 : Vec F S2048x512 .bf16) (x4 : Vec F S2048x512 .bf16) (x5 : Vec F S512x2048 .bf16) :
    sout0_A_0 c i arg2 harg2 arg3 harg3 arg4 harg4 arg5 harg5 arg6 harg6 arg7 harg7 arg8 harg8 arg9 harg9 hc0 hc1 x0 x1 x2 x3 x4 x5 = k0_pay1 x0 x2 (scaleOf x1) (shiftOf x1) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero hz]
  simp only [View.readAt_eq_ld, harg2.read_unread, harg3.read_unread, harg4.read_unread, View.ld_unit_zero (S := S1024x2048) hz, View.ld_unit_zero (S := S1x2048) hz]
  try rfl

/-- The first point's sum: from nothing, its own share. -/
theorem sum_A (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1024x2048 .f32) (x1 : Vec F S1x6x2048 .f32) (x2 : Vec F S1x2048 .f32) (x3 : Vec F S2048x512 .bf16) (x4 : Vec F S2048x512 .bf16) (x5 : Vec F S512x2048 .bf16) :
    out0_A_6 c i arg2 harg2 arg3 harg3 arg4 harg4 arg5 harg5 arg6 harg6 arg7 harg7 arg8 harg8 arg9 harg9 hc0 hc1 x0 x1 x2 x3 x4 x5 = k0_pay3 (k0_pay1 x0 x2 (scaleOf x1) (shiftOf x1)) x3 x4 k0_pay2 x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) hz, View.readCov_unit_zero (S := S1024x2048) _ hz, View.readCov_unit_zero (S := S1024x2048) _ hz]
  simp only [View.readAt_eq_ld, harg2.read_unread, harg3.read_unread, harg4.read_unread, harg5.read_unread, harg6.read_unread, harg7.read_unread,
    View.ld_unit_zero (S := S1024x2048) hz, View.ld_unit_zero (S := S1x2048) hz, View.ld_unit_zero (S := S2048x512) hz, View.ld_unit_zero (S := S512x2048) hz]
  try rfl

/-- A middle point's: the sum so far and its share. -/
theorem sum_B (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1024x2048 .f32) (x1 : Vec F S1x6x2048 .f32) (x2 : Vec F S1x2048 .f32) (x3 : Vec F S2048x512 .bf16) (x4 : Vec F S2048x512 .bf16) (x5 : Vec F S512x2048 .bf16)
    (o : Vec F S1024x2048 .f32) (h : Vec F S1024x2048 .bf16) :
    out0_B_6 c i arg2 harg2 arg3 harg3 arg4 harg4 arg5 harg5 arg6 harg6 arg7 harg7 arg8 harg8 arg9 harg9 hc0 hc1 x0 x1 x2 x3 x4 x5 o h = k0_pay3 h x3 x4 o x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 o h)]
  unfold kernelRun0_B
  dsimp only
  sl_unfold_words
  rw [View.canon_unit_zero hz]
  simp only [View.readAt_eq_ld, harg5.read_unread, harg6.read_unread, harg7.read_unread, harg8.read_unread, harg9.read_unread,
    View.ld_unit_zero (S := S1024x2048) hz, View.ld_unit_zero (S := S2048x512) hz, View.ld_unit_zero (S := S512x2048) hz]
  try rfl

/-- The last point's: the whole sum through the gate, added to the stream. -/
theorem sum_C (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1024x2048 .f32) (x1 : Vec F S1x6x2048 .f32) (x2 : Vec F S1x2048 .f32) (x3 : Vec F S2048x512 .bf16) (x4 : Vec F S2048x512 .bf16) (x5 : Vec F S512x2048 .bf16)
    (o : Vec F S1024x2048 .f32) (h : Vec F S1024x2048 .bf16) :
    out0_C_6 c i arg2 harg2 arg3 harg3 arg4 harg4 arg5 harg5 arg6 harg6 arg7 harg7 arg8 harg8 arg9 harg9 hc0 hc1 x0 x1 x2 x3 x4 x5 o h = k0_pay4 x0 (gateOf x1) (k0_pay3 h x3 x4 o x5) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 o h)]
  unfold kernelRun0_C
  dsimp only
  sl_unfold_words
  rw [View.canon_cons_unit_zero (S := S1024x2048) hz, View.readCov_unit_zero (S := S1024x2048) _ hz]
  simp only [View.readAt_eq_ld, harg2.read_unread, harg3.read_unread, harg5.read_unread, harg6.read_unread, harg7.read_unread, harg8.read_unread, harg9.read_unread,
    View.ld_unit_zero (S := S1024x2048) hz, View.ld_unit_zero (S := S2048x512) hz, View.ld_unit_zero (S := S512x2048) hz]
  try rfl

end Cert.FfnIdeal.FfnCases

end
-- ==== Proof.Ffn.Pure.lean ====
/- The feed-forward's computations, element by element over the reals: the kernel's stored blocks and the reference's result. -/
module

public import proofs.«01_k».proof.Proof.Gen.FfnIdeal.Skeleton
public import proofs.«01_k».proof.Proof.Gen.FfnRefIdeal.Read
public import Idealize.ShloMosaic.Lib.Pointwise

@[expose] public section

set_option maxRecDepth 16384

noncomputable section

namespace Cert.FfnIdeal.FfnPure

open Idealize.ShloMosaic Cert.FfnIdeal Cert.FfnIdeal.Gen

/-- One element of the normalised row `X`, scaled by `g` and by the modulation's scale, shifted by its shift. -/
def hid (X g sc sh : Fin 2048 → EReal) (k : Fin 2048) : EReal :=
  X k * Ideal.rsqrt ((∑ j, X j * X j) * Ideal.ofBits .f32 0x3A000000#32 + Ideal.ofBits .f32 0x358637BD#32) * (g k * (1 + sc k)) + sh k

/-- One element of the gated activations of the row `H`, from its column of each half of the weights. -/
def gated (H wg wu : Fin 2048 → EReal) : EReal :=
  (∑ k, H k * wg k) * Ideal.div 1 (1 + Ideal.exp (-∑ k, H k * wg k)) * ∑ k, H k * wu k

/-- To multiply by 1/2048 is to divide by 2048. -/
theorem mean_eq (x : EReal) : Ideal.div x (Ideal.ofBits .f32 0x45000000#32) = x * Ideal.ofBits .f32 0x3A000000#32 := by
  have h1 : Ideal.ofBits .f32 0x45000000#32 = ((2048 : ℝ) : EReal) := by simp [Ideal.ofBits, Ideal.ieee, -EReal.coe_mul]; norm_num
  have h2 : Ideal.ofBits .f32 0x3A000000#32 = ((1 / 2048 : ℝ) : EReal) := by simp [Ideal.ofBits, Ideal.ieee, -EReal.coe_mul]; norm_num
  have h3 : ((2048 : ℝ) : EReal) ≠ 0 := by exact_mod_cast (by norm_num : (2048 : ℝ) ≠ 0)
  rw [h1, h2, Ideal.div, if_neg h3, one_div, EReal.coe_inv]

theorem pay1_apply (x : Vec Ideal S1024x2048 .f32) (g : Vec Ideal S1x2048 .f32) (a b : Vec Ideal S1x1x2048 .f32) (r : Fin 1024) (l : Fin 2048) :
    k0_pay1 x g a b (ix2 r l) = hid (fun k => x (ix2 r k)) (fun k => g (ix2 0 k)) (fun k => a (ix3 0 0 k)) (fun k => b (ix3 0 0 k)) l := by
  pointwise [k0_pay1, hid]
  simp only [dite_eq_ite, ite_self]
  try rfl

theorem pay2_apply (r : Fin 1024) (l : Fin 2048) : k0_pay2 (F := Ideal) (ix2 r l) = 0 := by
  pointwise [k0_pay2]

theorem pay3_apply (h : Vec Ideal S1024x2048 .bf16) (wg wu : Vec Ideal S2048x512 .bf16) (o : Vec Ideal S1024x2048 .f32) (wo : Vec Ideal S512x2048 .bf16)
    (r : Fin 1024) (l : Fin 2048) :
    k0_pay3 h wg wu o wo (ix2 r l)
      = o (ix2 r l) + ∑ f : Fin 512, gated (fun k => h (ix2 r k)) (fun k => wg (ix2 k f)) (fun k => wu (ix2 k f)) * wo (ix2 f l) := by
  pointwise [k0_pay3, gated]
  simp only [zero_sub]

theorem pay4_apply (x : Vec Ideal S1024x2048 .f32) (g : Vec Ideal S1x1x2048 .f32) (o : Vec Ideal S1024x2048 .f32) (r : Fin 1024) (l : Fin 2048) :
    k0_pay4 x g o (ix2 r l) = x (ix2 r l) + g (ix3 0 0 l) * o (ix2 r l) := by
  pointwise [k0_pay4]

/-- The batch and the token of a row. -/
abbrev batchOf (r : Fin 16384) : Fin 4 := ⟨r.val / 4096, by omega⟩
abbrev tokOf (r : Fin 16384) : Fin 4096 := ⟨r.val % 4096, Nat.mod_lt _ (by decide)⟩

open Cert.FfnRefIdeal.Read in
/-- The reference's result. -/
theorem ref_apply (x0 : Vec Ideal Cert.FfnRefIdeal.S4x4096x2048 .f32) (x1 : Vec Ideal Cert.FfnRefIdeal.S4x12288 .f32) (x2 : Vec Ideal Cert.FfnRefIdeal.S1x2048 .f32)
    (x3 : Vec Ideal Cert.FfnRefIdeal.S1x2048x11264 .f32) (x4 : Vec Ideal Cert.FfnRefIdeal.S1x5632x2048 .f32) (r : Fin 16384) (l : Fin 2048) :
    val_main_v38 (F := Ideal) x0 x1 x2 x3 x4 (ix2 r l)
      = x0 (ix3 (batchOf r) (tokOf r) l) + x1 (ix2 (batchOf r) ⟨10240 + l.val, by omega⟩)
          * ∑ f : Fin 5632, gated (hid (fun k => x0 (ix3 (batchOf r) (tokOf r) k)) (fun k => x2 (ix2 0 k)) (fun k => x1 (ix2 (batchOf r) ⟨8192 + k.val, by omega⟩)) (fun k => x1 (ix2 (batchOf r) ⟨6144 + k.val, by omega⟩)))
              (fun k => x3 (ix3 0 k ⟨f.val, by omega⟩)) (fun k => x3 (ix3 0 k ⟨5632 + f.val, by omega⟩)) * x4 (ix3 0 f l) := by
  pointwise [val_main_v0, val_main_v1, val_main_v2, val_main_v3, val_main_v4, val_main_v5, val_main_v6, val_main_v7, val_main_v8, val_main_cst,
    val_main_v9, val_main_v10, val_main_cst_0, val_main_v11, val_main_v12, val_main_cst_1, val_main_v13, val_main_v14, val_main_v15,
    val_main_v16, val_main_v17, val_main_v18, val_main_v19, val_main_v20, val_main_cst_2, val_main_v21, val_main_v22, val_main_v23,
    val_main_v24, val_main_v25, val_main_v26, val_main_v27, val_main_v28, val_main_v29, val_main_v30, val_main_call0_v0,
    val_main_call0_v1, val_main_call0_cst, val_main_call0_v2, val_main_call0_v3, val_main_call0_cst_0, val_main_call0_v4,
    val_main_call0_v5, val_main_v31, val_main_v32, val_main_v33, val_main_v34, val_main_v35, val_main_v36, val_main_v37, val_main_v38]
  simp only [hid, gated, mean_eq, mul_assoc]
  try rfl

/-! ## The host's lines before the kernel -/

theorem rows_apply (x : Vec Ideal S4x4096x2048 .f32) (r : Fin 16384) (k : Fin 2048) :
    shapeCast S16384x2048 x shapeCasts_S4x4096x2048_S16384x2048 (ix2 r k) = x (ix3 (batchOf r) (tokOf r) k) := by
  pointwise

theorem mods_apply (x : Vec Ideal S4x12288 .f32) (b : Fin 4) (j : Fin 6) (k : Fin 2048) :
    shapeCast S4x6x2048 x shapeCasts_S4x12288_S4x6x2048 (ix3 b j k) = x (ix2 b ⟨j.val * 2048 + k.val, by omega⟩) := by
  pointwise

theorem scale_apply (x : Vec Ideal S1x2048 .f32) (k : Fin 2048) :
    broadcastInDim S1x2048 ![1] bcast_S2048_S1x2048_1 (shapeCast S2048 x shapeCasts_S1x2048_S2048) (ix2 0 k) = x (ix2 0 k) := by
  pointwise

theorem win_apply (x : FVec Ideal S1x2048x11264 .f32) (k : Fin 2048) (f : Fin 11264) :
    (truncf .bf16 (shapeCast S2048x11264 x shapeCasts_S1x2048x11264_S2048x11264) bitsLt_bf16_f32 : FVec Ideal S2048x11264 .bf16) (ix2 k f) = x (ix3 0 k f) := by
  pointwise

theorem wout_apply (x : FVec Ideal S1x5632x2048 .f32) (f : Fin 5632) (l : Fin 2048) :
    (truncf .bf16 (shapeCast S5632x2048 x shapeCasts_S1x5632x2048_S5632x2048) bitsLt_bf16_f32 : FVec Ideal S5632x2048 .bf16) (ix2 f l) = x (ix3 0 f l) := by
  pointwise

end Cert.FfnIdeal.FfnPure

end
-- ==== Proof.Ffn.Value.lean ====
/- The feed-forward kernel: what its result array holds after the run, over the reals, and the claim against the reference. -/
module

public import proofs.«01_k».proof.Proof.Gen.FfnIdeal.Value
public import proofs.«01_k».proof.Proof.Ffn.Cases
public import proofs.«01_k».proof.Proof.Ffn.Pure
public import proofs.«01_k».proof.Defs

@[expose] public section

set_option maxRecDepth 16384

noncomputable section

namespace Cert.FfnIdeal.FfnValue

open Idealize.ShloMosaic Idealize.ShloMosaic.TcCoe Idealize.SL.Sem Cert.FfnIdeal Cert.FfnIdeal.Gen
open Cert.FfnIdeal.FfnPure Cert.FfnIdeal.FfnCases
open Idealize.ShloMosaic.Pipeline (Dat)

section Host

variable {F : FTy → Type} [FloatOps F]
variable (m : (ℓ : Loc nD τ sig) → Buf (Elt F) ℓ)

/-! ## The arrays the region finds -/

theorem V_v0 (c : Dev nD) : (V m c main_v0 : Vec F S16384x2048 .f32)
    = shapeCast S16384x2048 (m ((c : Thread nD τ).loc main_arg0)) shapeCasts_S4x4096x2048_S16384x2048 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v1 (c : Dev nD) : (V m c main_v1 : Vec F S4x6x2048 .f32)
    = shapeCast S4x6x2048 (m ((c : Thread nD τ).loc main_arg1)) shapeCasts_S4x12288_S4x6x2048 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v3 (c : Dev nD) : (V m c main_v3 : Vec F S1x2048 .f32)
    = broadcastInDim S1x2048 ![1] bcast_S2048_S1x2048_1 (shapeCast S2048 (m ((c : Thread nD τ).loc main_arg2)) shapeCasts_S1x2048_S2048) := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v5 (c : Dev nD) : (V m c main_v5 : FVec F S2048x11264 .bf16)
    = truncf .bf16 (shapeCast S2048x11264 (m ((c : Thread nD τ).loc main_arg3) : FVec F S1x2048x11264 .f32) shapeCasts_S1x2048x11264_S2048x11264) bitsLt_bf16_f32 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v7 (c : Dev nD) : (V m c main_v7 : FVec F S5632x2048 .bf16)
    = truncf .bf16 (shapeCast S5632x2048 (m ((c : Thread nD τ).loc main_arg4) : FVec F S1x5632x2048 .f32) shapeCasts_S1x5632x2048_S5632x2048) bitsLt_bf16_f32 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

end Host

variable (m : (ℓ : Loc nD τ sig) → Buf (Elt Ideal) ℓ) (ρ : Dev nD → PrngReg)

/-- The five arguments. -/
abbrev argX (c : Dev nD) : Vec Ideal S4x4096x2048 .f32 := m ((c : Thread nD τ).loc main_arg0)
abbrev argM (c : Dev nD) : Vec Ideal S4x12288 .f32 := m ((c : Thread nD τ).loc main_arg1)
abbrev argG (c : Dev nD) : Vec Ideal S1x2048 .f32 := m ((c : Thread nD τ).loc main_arg2)
abbrev argI (c : Dev nD) : Vec Ideal S1x2048x11264 .f32 := m ((c : Thread nD τ).loc main_arg3)
abbrev argO (c : Dev nD) : Vec Ideal S1x5632x2048 .f32 := m ((c : Thread nD τ).loc main_arg4)

/-! ## Where a window's block lies -/

theorem index_0 : ∀ t : Fin cfg0.N, win0_0.index t (0 : Fin 2) = t.val / 11 ∧ win0_0.index t (1 : Fin 2) = 0 :=
  (by decide +kernel : ∀ t : Fin grid0.N, _)
theorem index_1 : ∀ t : Fin cfg0.N, win0_1.index t (0 : Fin 3) = t.val / 44 ∧ win0_1.index t (1 : Fin 3) = 0 ∧ win0_1.index t (2 : Fin 3) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = t.val % 11 :=
  (by decide +kernel : ∀ t : Fin grid0.N, _)
theorem index_4 : ∀ t : Fin cfg0.N, win0_4.index t (0 : Fin 2) = 0 ∧ win0_4.index t (1 : Fin 2) = 11 + t.val % 11 :=
  (by decide +kernel : ∀ t : Fin grid0.N, _)
theorem index_5 : ∀ t : Fin cfg0.N, win0_5.index t (0 : Fin 2) = t.val % 11 ∧ win0_5.index t (1 : Fin 2) = 0 :=
  (by decide +kernel : ∀ t : Fin grid0.N, _)

theorem lt176 (t : Fin cfg0.N) : t.val < 176 := lt_of_lt_of_eq t.isLt (show cfg0.N = 176 from N_0)

/-- The row of the whole array that is row `r` of point `n`'s block. -/
def rowOf (n : ℕ) (hn : n < cfg0.N) (r : Fin 1024) : Fin 16384 :=
  ⟨n / 11 * 1024 + r.val, by have := lt_of_lt_of_eq hn (show cfg0.N = 176 from N_0); omega⟩

/-- The column of the activations at place `e` of tile `j`. -/
def colOf (j : ℕ) (e : Fin 512) : Fin 5632 := ⟨(j * 512 + e.val) % 5632, Nat.mod_lt _ (by decide)⟩

theorem blk0_apply (c : Dev nD) (t : Fin cfg0.N) (r : Fin 1024) (k : Fin 2048) :
    (iblk m c 0 t : Vec Ideal S1024x2048 .f32) (ix2 r k) = argX m c (ix3 (batchOf (rowOf t.val t.isLt r)) (tokOf (rowOf t.val t.isLt r)) k) := by
  obtain ⟨e0, e1⟩ := index_0 t
  refine Eq.trans (b := (V m c main_v0 : Vec Ideal S16384x2048 .f32) (ix2 (rowOf t.val t.isLt r) k)) ?_ ?_
  · show (V m c main_v0 : Vec Ideal S16384x2048 .f32) (((cfg0.win 0).blk t).view.emb (ix2 r k)) = _
    refine congrArg (V m c main_v0 : Vec Ideal S16384x2048 .f32) (funext fun a => Fin.ext ?_)
    match a with
    | ⟨0, _⟩ => show win0_0.index t (0 : Fin 2) * 1024 + 1 * r.val = t.val / 11 * 1024 + r.val; omega
    | ⟨1, _⟩ => show win0_0.index t (1 : Fin 2) * 2048 + 1 * k.val = k.val; omega
  · rw [V_v0]; exact rows_apply _ _ k

theorem blk1_apply (c : Dev nD) (t : Fin cfg0.N) (r : Fin 1024) (j : Fin 6) (k : Fin 2048) :
    (iblk m c 1 t : Vec Ideal S1x6x2048 .f32) (ix3 0 j k) = argM m c (ix2 (batchOf (rowOf t.val t.isLt r)) ⟨j.val * 2048 + k.val, by omega⟩) := by
  obtain ⟨e0, e1, e2⟩ := index_1 t
  refine Eq.trans (b := (V m c main_v1 : Vec Ideal S4x6x2048 .f32) (ix3 (batchOf (rowOf t.val t.isLt r)) j k)) ?_ ?_
  · show (V m c main_v1 : Vec Ideal S4x6x2048 .f32) (((cfg0.win 1).blk t).view.emb (ix3 0 j k)) = _
    refine congrArg (V m c main_v1 : Vec Ideal S4x6x2048 .f32) (funext fun a => Fin.ext ?_)
    match a with
    | ⟨0, _⟩ => show win0_1.index t (0 : Fin 3) * 1 + 1 * 0 = (t.val / 11 * 1024 + r.val) / 4096; omega
    | ⟨1, _⟩ => show win0_1.index t (1 : Fin 3) * 6 + 1 * j.val = j.val; omega
    | ⟨2, _⟩ => show win0_1.index t (2 : Fin 3) * 2048 + 1 * k.val = k.val; omega
  · rw [V_v1]; exact mods_apply _ _ j k

theorem blk2_apply (c : Dev nD) (t : Fin cfg0.N) (k : Fin 2048) :
    (iblk m c 2 t : Vec Ideal S1x2048 .f32) (ix2 0 k) = argG m c (ix2 0 k) := by
  obtain ⟨e0, e1⟩ := index_2 t
  refine Eq.trans (b := (V m c main_v3 : Vec Ideal S1x2048 .f32) (ix2 0 k)) ?_ ?_
  · show (V m c main_v3 : Vec Ideal S1x2048 .f32) (((cfg0.win 2).blk t).view.emb (ix2 0 k)) = _
    refine congrArg (V m c main_v3 : Vec Ideal S1x2048 .f32) (funext fun a => Fin.ext ?_)
    match a with
    | ⟨0, _⟩ => show win0_2.index t (0 : Fin 2) * 1 + 1 * 0 = 0; omega
    | ⟨1, _⟩ => show win0_2.index t (1 : Fin 2) * 2048 + 1 * k.val = k.val; omega
  · rw [V_v3]; exact scale_apply _ k

theorem blk3_apply (c : Dev nD) (t : Fin cfg0.N) (k : Fin 2048) (e : Fin 512) :
    (iblk m c 3 t : Vec Ideal S2048x512 .bf16) (ix2 k e) = argI m c (ix3 0 k ⟨(colOf (t.val % 11) e).val, by omega⟩) := by
  obtain ⟨e0, e1⟩ := index_3 t
  refine Eq.trans (b := (V m c main_v5 : Vec Ideal S2048x11264 .bf16) (ix2 k ⟨(colOf (t.val % 11) e).val, by omega⟩)) ?_ ?_
  · show (V m c main_v5 : Vec Ideal S2048x11264 .bf16) (((cfg0.win 3).blk t).view.emb (ix2 k e)) = _
    refine congrArg (V m c main_v5 : Vec Ideal S2048x11264 .bf16) (funext fun a => Fin.ext ?_)
    match a with
    | ⟨0, _⟩ => show win0_3.index t (0 : Fin 2) * 2048 + 1 * k.val = k.val; omega
    | ⟨1, _⟩ => show win0_3.index t (1 : Fin 2) * 512 + 1 * e.val = (t.val % 11 * 512 + e.val) % 5632; omega
  · exact (congrFun (V_v5 m c) _).trans (win_apply _ k _)

theorem blk4_apply (c : Dev nD) (t : Fin cfg0.N) (k : Fin 2048) (e : Fin 512) :
    (iblk m c 4 t : Vec Ideal S2048x512 .bf16) (ix2 k e) = argI m c (ix3 0 k ⟨5632 + (colOf (t.val % 11) e).val, by omega⟩) := by
  obtain ⟨e0, e1⟩ := index_4 t
  refine Eq.trans (b := (V m c main_v5 : Vec Ideal S2048x11264 .bf16) (ix2 k ⟨5632 + (colOf (t.val % 11) e).val, by omega⟩)) ?_ ?_
  · show (V m c main_v5 : Vec Ideal S2048x11264 .bf16) (((cfg0.win 4).blk t).view.emb (ix2 k e)) = _
    refine congrArg (V m c main_v5 : Vec Ideal S2048x11264 .bf16) (funext fun a => Fin.ext ?_)
    match a with
    | ⟨0, _⟩ => show win0_4.index t (0 : Fin 2) * 2048 + 1 * k.val = k.val; omega
    | ⟨1, _⟩ => show win0_4.index t (1 : Fin 2) * 512 + 1 * e.val = 5632 + (t.val % 11 * 512 + e.val) % 5632; omega
  · exact (congrFun (V_v5 m c) _).trans (win_apply _ k _)

theorem blk5_apply (c : Dev nD) (t : Fin cfg0.N) (e : Fin 512) (l : Fin 2048) :
    (iblk m c 5 t : Vec Ideal S512x2048 .bf16) (ix2 e l) = argO m c (ix3 0 (colOf (t.val % 11) e) l) := by
  obtain ⟨e0, e1⟩ := index_5 t
  refine Eq.trans (b := (V m c main_v7 : Vec Ideal S5632x2048 .bf16) (ix2 (colOf (t.val % 11) e) l)) ?_ ?_
  · show (V m c main_v7 : Vec Ideal S5632x2048 .bf16) (((cfg0.win 5).blk t).view.emb (ix2 e l)) = _
    refine congrArg (V m c main_v7 : Vec Ideal S5632x2048 .bf16) (funext fun a => Fin.ext ?_)
    match a with
    | ⟨0, _⟩ => show win0_5.index t (0 : Fin 2) * 512 + 1 * e.val = (t.val % 11 * 512 + e.val) % 5632; omega
    | ⟨1, _⟩ => show win0_5.index t (1 : Fin 2) * 2048 + 1 * l.val = l.val; omega
  · exact (congrFun (V_v7 m c) _).trans (wout_apply _ _ l)

theorem shift_apply (x : Vec Ideal S1x6x2048 .f32) (k : Fin 2048) : shiftOf x (ix3 0 0 k) = x (ix3 0 3 k) := by
  refine congrArg x (funext fun a => Fin.ext ?_)
  match a with
  | ⟨0, _⟩ => rfl
  | ⟨1, _⟩ => rfl
  | ⟨2, _⟩ => show 0 + 1 * k.val = k.val; omega

theorem scale_row (x : Vec Ideal S1x6x2048 .f32) (k : Fin 2048) : scaleOf x (ix3 0 0 k) = x (ix3 0 4 k) := by
  refine congrArg x (funext fun a => Fin.ext ?_)
  match a with
  | ⟨0, _⟩ => rfl
  | ⟨1, _⟩ => rfl
  | ⟨2, _⟩ => show 0 + 1 * k.val = k.val; omega

theorem gate_row (x : Vec Ideal S1x6x2048 .f32) (k : Fin 2048) : gateOf x (ix3 0 0 k) = x (ix3 0 5 k) := by
  refine congrArg x (funext fun a => Fin.ext ?_)
  match a with
  | ⟨0, _⟩ => rfl
  | ⟨1, _⟩ => rfl
  | ⟨2, _⟩ => show 0 + 1 * k.val = k.val; omega

/-! ## What the points of a row block leave, one after the other -/

/-- The hidden row. -/
def hrow (c : Dev nD) (R : Fin 16384) : Fin 2048 → EReal :=
  hid (fun k => argX m c (ix3 (batchOf R) (tokOf R) k)) (fun k => argG m c (ix2 0 k))
    (fun k => argM m c (ix2 (batchOf R) ⟨8192 + k.val, by omega⟩)) (fun k => argM m c (ix2 (batchOf R) ⟨6144 + k.val, by omega⟩))

/-- What column `f` of the activations gives to column `l` of the sum. -/
def term (c : Dev nD) (R : Fin 16384) (l : Fin 2048) (f : Fin 5632) : EReal :=
  gated (hrow m c R) (fun k => argI m c (ix3 0 k ⟨f.val, by omega⟩)) (fun k => argI m c (ix3 0 k ⟨5632 + f.val, by omega⟩)) * argO m c (ix3 0 f l)

/-- What the first `n` tiles give. -/
def part (c : Dev nD) (R : Fin 16384) (l : Fin 2048) (n : ℕ) : EReal := ∑ j ∈ Finset.range n, ∑ e : Fin 512, term m c R l (colOf j e)

/-- One point's share, over any hidden block that holds the row. -/
theorem step_apply (c : Dev nD) (t : Fin cfg0.N) (h : Vec Ideal S1024x2048 .bf16) (o : Vec Ideal S1024x2048 .f32) (r : Fin 1024) (l : Fin 2048)
    (hh : ∀ k, h (ix2 r k) = hrow m c (rowOf t.val t.isLt r) k) (ho : o (ix2 r l) = part m c (rowOf t.val t.isLt r) l (t.val % 11)) :
    k0_pay3 h (iblk m c 3 t : Vec Ideal S2048x512 .bf16) (iblk m c 4 t : Vec Ideal S2048x512 .bf16) o (iblk m c 5 t : Vec Ideal S512x2048 .bf16) (ix2 r l)
      = part m c (rowOf t.val t.isLt r) l (t.val % 11 + 1) := by
  rw [pay3_apply, ho]
  unfold part
  rw [Finset.sum_range_succ]
  refine congrArg₂ (· + ·) rfl (Finset.sum_congr rfl fun e _ => congrArg₂ (· * ·) ?_ (blk5_apply m c t e l))
  rw [show (fun k => h (ix2 r k)) = hrow m c (rowOf t.val t.isLt r) from funext hh]
  exact congrArg₂ (gated _) (funext fun k => blk3_apply m c t k e) (funext fun k => blk4_apply m c t k e)

theorem first_apply (c : Dev nD) (t : Fin cfg0.N) (r : Fin 1024) (k : Fin 2048) :
    k0_pay1 (iblk m c 0 t : Vec Ideal S1024x2048 .f32) (iblk m c 2 t : Vec Ideal S1x2048 .f32) (scaleOf (iblk m c 1 t : Vec Ideal S1x6x2048 .f32))
      (shiftOf (iblk m c 1 t : Vec Ideal S1x6x2048 .f32)) (ix2 r k) = hrow m c (rowOf t.val t.isLt r) k := by
  rw [pay1_apply]
  unfold hrow
  congr 1
  · funext k; exact blk0_apply m c t r k
  · funext k; exact blk2_apply m c t k
  · funext k; exact (scale_row _ k).trans (blk1_apply m c t r 4 k)
  · funext k; exact (shift_apply _ k).trans (blk1_apply m c t r 3 k)

/-- The row's result. -/
def result (c : Dev nD) (R : Fin 16384) (l : Fin 2048) : EReal :=
  argX m c (ix3 (batchOf R) (tokOf R) l) + argM m c (ix2 (batchOf R) ⟨10240 + l.val, by omega⟩) * part m c R l 11

theorem last_apply (c : Dev nD) (t : Fin cfg0.N) (o : Vec Ideal S1024x2048 .f32) (r : Fin 1024) (l : Fin 2048)
    (ho : o (ix2 r l) = part m c (rowOf t.val t.isLt r) l 11) :
    k0_pay4 (iblk m c 0 t : Vec Ideal S1024x2048 .f32) (gateOf (iblk m c 1 t : Vec Ideal S1x6x2048 .f32)) o (ix2 r l)
      = result m c (rowOf t.val t.isLt r) l := by
  rw [pay4_apply, ho]
  exact congrArg₂ (· + ·) (blk0_apply m c t r l) (congrArg (· * _) ((gate_row _ l).trans (blk1_apply m c t r 5 l)))

/-- After every point: the hidden block of its rows, and the sum of the tiles so far, or the result after the last. -/
theorem points (c : Dev nD) : ∀ (n : ℕ) (hn : n < cfg0.N),
    (∀ r k, (outsAt0 m c n hn).2 (ix2 r k) = hrow m c (rowOf n hn r) k)
      ∧ (∀ r l, n % 11 ≠ 10 → (outsAt0 m c n hn).1 (ix2 r l) = part m c (rowOf n hn r) l (n % 11 + 1))
      ∧ (∀ r l, n % 11 = 10 → (outsAt0 m c n hn).1 (ix2 r l) = result m c (rowOf n hn r) l) := by
  have caseA : ∀ t : Fin cfg0.N, t.val % 11 = 0 →
      (∀ r k, (outsAt0 m c t.val t.isLt).2 (ix2 r k) = hrow m c (rowOf t.val t.isLt r) k)
      ∧ (∀ r l, t.val % 11 ≠ 10 → (outsAt0 m c t.val t.isLt).1 (ix2 r l) = part m c (rowOf t.val t.isLt r) l (t.val % 11 + 1))
      ∧ (∀ r l, t.val % 11 = 10 → (outsAt0 m c t.val t.isLt).1 (ix2 r l) = result m c (rowOf t.val t.isLt r) l) := by
    intro t h0
    rw [outsAt0_A m c t h0 (by omega)]
    dsimp only
    rw [hidden_A, sum_A]
    refine ⟨fun r k => first_apply m c t r k, fun r l _ => ?_, fun r l h => absurd h (by omega)⟩
    refine step_apply m c t _ _ r l (fun k => first_apply m c t r k) ((pay2_apply r l).trans ?_)
    rw [h0]; rfl
  intro n
  induction n with
  | zero => exact fun hn => caseA ⟨0, hn⟩ (Nat.zero_mod _)
  | succ n ih =>
    intro hn
    by_cases h0 : (n + 1) % 11 = 0
    · exact caseA ⟨n + 1, hn⟩ h0
    · obtain ⟨ih1, ih2, -⟩ := ih (Nat.lt_of_succ_lt hn)
      have hrw : ∀ r, rowOf (n + 1) hn r = rowOf n (Nat.lt_of_succ_lt hn) r := fun r => Fin.ext (by show (n + 1) / 11 * 1024 + r.val = n / 11 * 1024 + r.val; omega)
      have hm : (n + 1) % 11 = n % 11 + 1 := by omega
      have hsum : ∀ r l, k0_pay3 (outsAt0 m c n (Nat.lt_of_succ_lt hn)).2 (iblk m c 3 ⟨n + 1, hn⟩ : Vec Ideal S2048x512 .bf16) (iblk m c 4 ⟨n + 1, hn⟩ : Vec Ideal S2048x512 .bf16)
          (outsAt0 m c n (Nat.lt_of_succ_lt hn)).1 (iblk m c 5 ⟨n + 1, hn⟩ : Vec Ideal S512x2048 .bf16) (ix2 r l) = part m c (rowOf (n + 1) hn r) l ((n + 1) % 11 + 1) := fun r l =>
        step_apply m c ⟨n + 1, hn⟩ _ _ r l (fun k => (ih1 r k).trans (by rw [hrw])) ((ih2 r l (by omega)).trans (by rw [hrw, hm]))
      by_cases h1 : (n + 1) % 11 = 10
      · rw [outsAt0_C m c ⟨n + 1, hn⟩ h0 h1]
        dsimp only
        rw [sum_C]
        refine ⟨fun r k => (ih1 r k).trans (by rw [hrw]), fun r l h => absurd h1 h, fun r l _ => last_apply m c ⟨n + 1, hn⟩ _ r l ?_⟩
        exact (hsum r l).trans (by rw [h1])
      · rw [outsAt0_B m c ⟨n + 1, hn⟩ h0 h1]
        dsimp only
        rw [sum_B]
        exact ⟨fun r k => (ih1 r k).trans (by rw [hrw]), fun r l _ => hsum r l, fun r l h => absurd h h1⟩

/-! ## Against the reference -/

open Cert.FfnRefIdeal.Read (val_main_v38)

/-- The tiles together are all the columns. -/
theorem part_all (c : Dev nD) (R : Fin 16384) (l : Fin 2048) : part m c R l 11 = ∑ f : Fin 5632, term m c R l f := by
  unfold part
  refine (Finset.sum_range _).trans (Eq.trans ?_ (Fin.sum_univ_tiles 11 512 (by decide) _).symm)
  refine Finset.sum_congr rfl fun j _ => Finset.sum_congr rfl fun e _ => congrArg (term m c R l) (Fin.ext ?_)
  show (j.val * 512 + e.val) % 5632 = j.val * 512 + e.val
  omega

theorem result_eq (c : Dev nD) :
    Value.G6 m c = val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  funext (y : S16384x2048.Idx)
  obtain ⟨R, l, rfl⟩ : ∃ (r : Fin 16384) (l : Fin 2048), y = ix2 r l := ⟨y 0, y 1, by funext a; match a with | ⟨0, _⟩ => rfl | ⟨1, _⟩ => rfl⟩
  refine Eq.trans ?_ (ref_apply _ _ _ _ _ R l).symm
  have hR : R.val < 16384 := R.isLt
  have hr : Value.run6Of (ix2 R l) = R.val / 1024 := by
    show 1 * (R.val / 1024 - 0) + 1 * (l.val / 2048 - 0) = _
    omega
  have hpt : Value.pt6Of (ix2 R l) < cfg0.N := by
    have e : cfg0.N = 176 := N_0
    unfold Value.pt6Of
    rw [hr, e]; omega
  unfold Value.G6
  rw [dif_pos hpt, ← Value.outsAt0_sweep m c _ hpt]
  have hloc : Value.loc6Of (ix2 R l) = ix2 ⟨R.val % 1024, Nat.mod_lt _ (by decide)⟩ l := by
    funext a; apply Fin.ext
    match a with
    | ⟨0, _⟩ => rfl
    | ⟨1, _⟩ => show l.val % 2048 = l.val; omega
  rw [hloc, (points m c _ hpt).2.2 _ l (by unfold Value.pt6Of; omega)]
  have hrow : rowOf (Value.pt6Of (ix2 R l)) hpt ⟨R.val % 1024, Nat.mod_lt _ (by decide)⟩ = R := Fin.ext (by
    show Value.pt6Of (ix2 R l) / 11 * 1024 + R.val % 1024 = R.val
    unfold Value.pt6Of
    rw [hr]; omega)
  rw [hrow]
  unfold result
  rw [part_all]
  rfl

/-- The claim: from the same arguments the kernel's result is the reference's. -/
theorem algebraic : Cert.algebraic_FfnIdeal_FfnRefIdeal := by
  intro m g m' g' _ hargs
  refine ⟨fun c => Value.G6 m c, ?_, ?_⟩
  · exact Value.run m g
  · refine (θ_run Cert.FfnRefIdeal.defs _ _).mono (fun r h c => ?_) (Cert.FfnRefIdeal.Value.run m' g')
    obtain ⟨e0, e1, e2, e3, e4⟩ := hargs c
    obtain ⟨h38, hk⟩ := h c
    refine ⟨h38.trans ((Cert.FfnRefIdeal.Read.val_main_v38_eq _ _).trans ?_), hk⟩
    rw [e0, e1, e2, e3, e4]; exact (result_eq m c).symm

end Cert.FfnIdeal.FfnValue

end
-- ==== Proof.Proj.Body.lean ====
/- The input projection's kernel, run once at a grid point: at a point that opens a block of rows, and at any other. -/
module

public import proofs.«01_k».proof.Proof.Gen.ProjIdeal.Frame
public import proofs.«01_k».proof.Proof.Gen.ProjIdeal.Skeleton
public import proofs.«01_k».proof.Proof.Whole

@[expose] public section

set_option maxRecDepth 16384

noncomputable section

namespace Cert.ProjIdeal.Proj

open Cert.ProjIdeal Cert.ProjIdeal.Gen Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the point opens a block of rows: it normalises them and stores their rotary columns. -/
abbrev opens (i : grid0.Coords) : Prop := k0_cond1 i = 1#1

theorem opens_iff : ∀ t : Fin cfg0.N, opens (grid0.coords t) ↔ t.val % 8 = 0 :=
  (by decide +kernel : ∀ t : Fin grid0.N, opens (grid0.coords t) ↔ t.val % 8 = 0)

/-- A block of rows, normalised and modulated. -/
def hidden (x0 : Vec F S1024x2048 .f32) (x1 : Vec F S1x6x2048 .f32) (x2 : Vec F S1x2048 .f32) : FVec F S1024x2048 .bf16 :=
  k0_pay2 (View.ld x1 (Rect.unit (s := S1x6x2048) ![0, 0, 0] S1x1x2048.size inb_S1x6x2048_S1x1x2048_0_0_0))
    (View.ld x1 (Rect.unit (s := S1x6x2048) ![0, 1, 0] S1x1x2048.size inb_S1x6x2048_S1x1x2048_0_1_0)) x0 x2

set_option maxHeartbeats 4000000 in
/-- A point that opens a block of rows stores everything, -/
theorem runOpen (c : Dev nD) (i : grid0.Coords) (a0 : Memref sig .tc .vmem S1024x2048 .f32) (h0 : a0.IsWhole) (a1 : Memref sig .tc .vmem S1x6x2048 .f32) (h1 : a1.IsWhole) (a2 : Memref sig .tc .vmem S1x2048 .f32) (h2 : a2.IsWhole) (a3 : Memref sig .tc .vmem S2048x1024 .bf16) (h3 : a3.IsWhole) (a4 : Memref sig .tc .vmem S256x2048 .bf16) (h4 : a4.IsWhole) (a5 : Memref sig .tc .vmem S16x2048 .f32) (h5 : a5.IsWhole) (a6 : Memref sig .tc .vmem S16x2048 .f32) (h6 : a6.IsWhole) (a7 : Memref sig .tc .vmem S16x2048 .f32) (h7 : a7.IsWhole) (a8 : Memref sig .tc .vmem S16x11264 .f32) (h8 : a8.IsWhole) (a9 : Memref sig .tc .vmem S176x2048 .f32) (h9 : a9.IsWhole) (a10 : Memref sig .tc .vmem S1024x1024 .bf16) (h10 : a10.IsWhole) (a11 : Memref sig .tc .vmem S1024x256 .f32) (h11 : a11.IsWhole) (a12 : Memref sig .tc .vmem S16x2048 .bf16) (h12 : a12.IsWhole) (a13 : Memref sig .tc .vmem S16x2048 .bf16) (h13 : a13.IsWhole) (a14 : Memref sig .tc .vmem S16x2048 .bf16) (h14 : a14.IsWhole) (a15 : Memref sig .tc .vmem S16x11264 .bf16) (h15 : a15.IsWhole) (a16 : Memref sig .tc .vmem S176x2048 .bf16) (h16 : a16.IsWhole) (a17 : Memref sig .tc .vmem S1024x2048 .bf16) (h17 : a17.IsWhole)
    (hc0 : opens i)
    (x0 : Vec F S1024x2048 .f32) (x1 : Vec F S1x6x2048 .f32) (x2 : Vec F S1x2048 .f32) (x3 : Vec F S2048x1024 .bf16) (x4 : Vec F S256x2048 .bf16) (x5 : Vec F S16x2048 .f32) (x6 : Vec F S16x2048 .f32) (x7 : Vec F S16x2048 .f32) (x8 : Vec F S16x11264 .f32) (x9 : Vec F S176x2048 .f32)
    (y10 : Vec F S1024x1024 .bf16) (y11 : Vec F S1024x256 .f32) (y12 : Vec F S16x2048 .bf16) (y13 : Vec F S16x2048 .bf16) (y14 : Vec F S16x2048 .bf16) (y15 : Vec F S16x11264 .bf16) (y16 : Vec F S176x2048 .bf16) (y17 : Vec F S1024x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare y10 ∗ owns (c : Thread nD τ) a11 fullShare y11 ∗ owns (c : Thread nD τ) a12 fullShare y12 ∗ owns (c : Thread nD τ) a13 fullShare y13 ∗ owns (c : Thread nD τ) a14 fullShare y14 ∗ owns (c : Thread nD τ) a15 fullShare y15 ∗ owns (c : Thread nD τ) a16 fullShare y16 ∗ owns (c : Thread nD τ) a17 fullShare y17
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (k0_pay4 (hidden x0 x1 x2) x3) ∗ owns (c : Thread nD τ) a11 fullShare (k0_pay3 (hidden x0 x1 x2) x4) ∗ owns (c : Thread nD τ) a12 fullShare (k0_pay5 x5) ∗ owns (c : Thread nD τ) a13 fullShare (k0_pay6 x6) ∗ owns (c : Thread nD τ) a14 fullShare (k0_pay7 x7) ∗ owns (c : Thread nD τ) a15 fullShare (k0_pay8 x8) ∗ owns (c : Thread nD τ) a16 fullShare (k0_pay1 x9) ∗ owns (c : Thread nD τ) a17 fullShare (hidden x0 x1 x2)) -∗ K ⟨⟩))
      ⊢ wp frame (wpE (defs₀ (F := F)) Variants.none c none) E (cc0_in_proj i a0 h0 a1 h1 a2 h2 a3 h3 a4 h4 a5 h5 a6 h6 a7 h7 a8 h8 a9 h9 a10 h10 a11 h11 a12 h12 a13 h13 a14 h14 a15 h15 a16 h16 a17 h17) K := by
  simp only [cc0_in_proj_eq_skeleton]; unfold cc0_in_proj_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  obtain rfl := h13.eq_unread hf13
  obtain rfl := h14.eq_unread hf14
  obtain rfl := h15.eq_unread hf15
  obtain rfl := h16.eq_unread hf16
  obtain rfl := h17.eq_unread hf17
  sl_exec (disch := sl_exact hc0)
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro
    exact (read_whole_store _ _ two_zero _ _).trans (congr (congrArg k0_pay4 ((loaded_stored _ _ two_zero two_zero _ _ _).trans (congr (congr (congr (congrArg k0_pay2 (loaded_part h1 _ x1)) (loaded_part h1 _ x1)) (loaded h0 two_zero _ x0)) (loaded h2 two_zero _ x2)))) (loaded h3 two_zero _ x3))
  isplitl [H11]
  · iexists _; isplitr; swap; · iexact H11
    ipureintro
    exact (read_whole_store _ _ two_zero _ _).trans (congr (congrArg k0_pay3 ((loaded_stored _ _ two_zero two_zero _ _ _).trans (congr (congr (congr (congrArg k0_pay2 (loaded_part h1 _ x1)) (loaded_part h1 _ x1)) (loaded h0 two_zero _ x0)) (loaded h2 two_zero _ x2)))) (loaded h4 two_zero _ x4))
  isplitl [H12]
  · iexists _; isplitr; swap; · iexact H12
    ipureintro
    exact (read_whole_store _ _ two_zero _ _).trans (congrArg k0_pay5 (loaded h5 two_zero _ x5))
  isplitl [H13]
  · iexists _; isplitr; swap; · iexact H13
    ipureintro
    exact (read_whole_store _ _ two_zero _ _).trans (congrArg k0_pay6 (loaded h6 two_zero _ x6))
  isplitl [H14]
  · iexists _; isplitr; swap; · iexact H14
    ipureintro
    exact (read_whole_store _ _ two_zero _ _).trans (congrArg k0_pay7 (loaded h7 two_zero _ x7))
  isplitl [H15]
  · iexists _; isplitr; swap; · iexact H15
    ipureintro
    exact (read_whole_store _ _ two_zero _ _).trans (congrArg k0_pay8 (loaded h8 two_zero _ x8))
  isplitl [H16]
  · iexists _; isplitr; swap; · iexact H16
    ipureintro
    exact (read_whole_store _ _ two_zero _ _).trans (congrArg k0_pay1 (loaded h9 two_zero _ x9))
  iexists _; isplitr; swap; · iexact H17
  ipureintro
  exact (read_whole_store _ _ two_zero _ _).trans (congr (congr (congr (congrArg k0_pay2 (loaded_part h1 _ x1)) (loaded_part h1 _ x1)) (loaded h0 two_zero _ x0)) (loaded h2 two_zero _ x2))

set_option maxHeartbeats 4000000 in
/-- and any other keeps the normalised rows and the rotary columns' buffer. -/
theorem runKeep (c : Dev nD) (i : grid0.Coords) (a0 : Memref sig .tc .vmem S1024x2048 .f32) (h0 : a0.IsWhole) (a1 : Memref sig .tc .vmem S1x6x2048 .f32) (h1 : a1.IsWhole) (a2 : Memref sig .tc .vmem S1x2048 .f32) (h2 : a2.IsWhole) (a3 : Memref sig .tc .vmem S2048x1024 .bf16) (h3 : a3.IsWhole) (a4 : Memref sig .tc .vmem S256x2048 .bf16) (h4 : a4.IsWhole) (a5 : Memref sig .tc .vmem S16x2048 .f32) (h5 : a5.IsWhole) (a6 : Memref sig .tc .vmem S16x2048 .f32) (h6 : a6.IsWhole) (a7 : Memref sig .tc .vmem S16x2048 .f32) (h7 : a7.IsWhole) (a8 : Memref sig .tc .vmem S16x11264 .f32) (h8 : a8.IsWhole) (a9 : Memref sig .tc .vmem S176x2048 .f32) (h9 : a9.IsWhole) (a10 : Memref sig .tc .vmem S1024x1024 .bf16) (h10 : a10.IsWhole) (a11 : Memref sig .tc .vmem S1024x256 .f32) (h11 : a11.IsWhole) (a12 : Memref sig .tc .vmem S16x2048 .bf16) (h12 : a12.IsWhole) (a13 : Memref sig .tc .vmem S16x2048 .bf16) (h13 : a13.IsWhole) (a14 : Memref sig .tc .vmem S16x2048 .bf16) (h14 : a14.IsWhole) (a15 : Memref sig .tc .vmem S16x11264 .bf16) (h15 : a15.IsWhole) (a16 : Memref sig .tc .vmem S176x2048 .bf16) (h16 : a16.IsWhole) (a17 : Memref sig .tc .vmem S1024x2048 .bf16) (h17 : a17.IsWhole)
    (hc0 : ¬opens i)
    (x0 : Vec F S1024x2048 .f32) (x1 : Vec F S1x6x2048 .f32) (x2 : Vec F S1x2048 .f32) (x3 : Vec F S2048x1024 .bf16) (x4 : Vec F S256x2048 .bf16) (x5 : Vec F S16x2048 .f32) (x6 : Vec F S16x2048 .f32) (x7 : Vec F S16x2048 .f32) (x8 : Vec F S16x11264 .f32) (x9 : Vec F S176x2048 .f32)
    (y10 : Vec F S1024x1024 .bf16) (y11 : Vec F S1024x256 .f32) (y12 : Vec F S16x2048 .bf16) (y13 : Vec F S16x2048 .bf16) (y14 : Vec F S16x2048 .bf16) (y15 : Vec F S16x11264 .bf16) (y16 : Vec F S176x2048 .bf16) (y17 : Vec F S1024x2048 .bf16) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare y10 ∗ owns (c : Thread nD τ) a11 fullShare y11 ∗ owns (c : Thread nD τ) a12 fullShare y12 ∗ owns (c : Thread nD τ) a13 fullShare y13 ∗ owns (c : Thread nD τ) a14 fullShare y14 ∗ owns (c : Thread nD τ) a15 fullShare y15 ∗ owns (c : Thread nD τ) a16 fullShare y16 ∗ owns (c : Thread nD τ) a17 fullShare y17
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (k0_pay4 y17 x3) ∗ owns (c : Thread nD τ) a11 fullShare y11 ∗ owns (c : Thread nD τ) a12 fullShare (k0_pay5 x5) ∗ owns (c : Thread nD τ) a13 fullShare (k0_pay6 x6) ∗ owns (c : Thread nD τ) a14 fullShare (k0_pay7 x7) ∗ owns (c : Thread nD τ) a15 fullShare (k0_pay8 x8) ∗ owns (c : Thread nD τ) a16 fullShare (k0_pay1 x9) ∗ owns (c : Thread nD τ) a17 fullShare y17) -∗ K ⟨⟩))
      ⊢ wp frame (wpE (defs₀ (F := F)) Variants.none c none) E (cc0_in_proj i a0 h0 a1 h1 a2 h2 a3 h3 a4 h4 a5 h5 a6 h6 a7 h7 a8 h8 a9 h9 a10 h10 a11 h11 a12 h12 a13 h13 a14 h14 a15 h15 a16 h16 a17 h17) K := by
  simp only [cc0_in_proj_eq_skeleton]; unfold cc0_in_proj_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  obtain rfl := h13.eq_unread hf13
  obtain rfl := h14.eq_unread hf14
  obtain rfl := h15.eq_unread hf15
  obtain rfl := h16.eq_unread hf16
  obtain rfl := h17.eq_unread hf17
  sl_exec (disch := sl_exact hc0)
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro
    exact (read_whole_store _ _ two_zero _ _).trans (congr (congrArg k0_pay4 (loaded h17 two_zero _ y17)) (loaded h3 two_zero _ x3))
  isplitl [H11]
  · iexists _; isplitr; swap; · iexact H11
    ipureintro; exact h11.read_unread _
  isplitl [H12]
  · iexists _; isplitr; swap; · iexact H12
    ipureintro
    exact (read_whole_store _ _ two_zero _ _).trans (congrArg k0_pay5 (loaded h5 two_zero _ x5))
  isplitl [H13]
  · iexists _; isplitr; swap; · iexact H13
    ipureintro
    exact (read_whole_store _ _ two_zero _ _).trans (congrArg k0_pay6 (loaded h6 two_zero _ x6))
  isplitl [H14]
  · iexists _; isplitr; swap; · iexact H14
    ipureintro
    exact (read_whole_store _ _ two_zero _ _).trans (congrArg k0_pay7 (loaded h7 two_zero _ x7))
  isplitl [H15]
  · iexists _; isplitr; swap; · iexact H15
    ipureintro
    exact (read_whole_store _ _ two_zero _ _).trans (congrArg k0_pay8 (loaded h8 two_zero _ x8))
  isplitl [H16]
  · iexists _; isplitr; swap; · iexact H16
    ipureintro
    exact (read_whole_store _ _ two_zero _ _).trans (congrArg k0_pay1 (loaded h9 two_zero _ x9))
  iexists _; isplitr; swap; · iexact H17
  ipureintro; exact h17.read_unread _

end Cert.ProjIdeal.Proj

end
-- ==== Proof.Proj.Frame.lean ====
/- The input projection's kernel over its grid: what its buffers hold point by point, its run, and its frame. -/
module

public import proofs.«01_k».proof.Proof.Proj.Body
public import proofs.«01_k».proof.Proof.Gen.ProjIdeal.Launch
public import proofs.«01_k».proof.Proof.Gen.ProjIdeal.Points
public import Idealize.ShloMosaic.Lib.Claim

@[expose] public section

set_option maxRecDepth 16384

noncomputable section

namespace Cert.ProjIdeal.Proj

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point's rows, normalised and modulated. -/
def rowsAt (c : Dev nD) (t : Fin cfg0.N) : FVec F S1024x2048 .bf16 := hidden (iblk m c 0 t) (iblk m c 1 t) (iblk m c 2 t)

/-- What the kernel keeps from point to point: before the first, a scratch buffer with anything in it; after each, the
    rows of that point. -/
def kept (c : Dev nD) : (n : ℕ) → n ≤ cfg0.N → sProp 𝕄
  | 0, _ => Pipeline.ΦA spec0 c
  | n + 1, hn => iprop(owns (c : Thread nD τ) (Memref.whole cc0_scratch0) fullShare (rowsAt m c ⟨n, hn⟩) ∗ (∃ r, prngReg c r))

theorem kept_zero (c : Dev nD) (n : ℕ) (h : n ≤ cfg0.N) (hz : n = 0) : kept m c n h = Pipeline.ΦA spec0 c := by
  subst hz; rfl

theorem kept_succ (c : Dev nD) (t : Fin cfg0.N) :
    kept m c (t.val + 1) t.isLt = iprop(owns (c : Thread nD τ) (Memref.whole cc0_scratch0) fullShare (rowsAt m c t) ∗ (∃ r, prngReg c r)) := rfl

theorem kept_pos (c : Dev nD) (n : ℕ) (h : n ≤ cfg0.N) (hz : n ≠ 0) :
    kept m c n h = iprop(owns (c : Thread nD τ) (Memref.whole cc0_scratch0) fullShare (rowsAt m c ⟨n - 1, by omega⟩) ∗ (∃ r, prngReg c r)) := by
  cases n with
  | zero => exact absurd rfl hz
  | succ n => rfl

theorem free_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]

/-- What the buffers hold after each point: an input its block; the outputs the point's columns of the projected rows,
    the rows' rotary columns, and the five blocks cast. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay4 (rowsAt m c t) (iblk m c 3 t)
    | ⟨11, _⟩ => k0_pay3 (rowsAt m c t) (iblk m c 4 t)
    | ⟨12, _⟩ => k0_pay5 (iblk m c 5 t)
    | ⟨13, _⟩ => k0_pay6 (iblk m c 6 t)
    | ⟨14, _⟩ => k0_pay7 (iblk m c 7 t)
    | ⟨15, _⟩ => k0_pay8 (iblk m c 8 t)
    | ⟨16, _⟩ => k0_pay1 (iblk m c 9 t)
    | ⟨_ + 17, h⟩ => absurd h (Nat.not_lt.2 (Nat.le_add_left _ _))
  Φ t := kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_start (c : Dev nD) (t : Fin cfg0.N) : (dats m 0 c).Φ t.castSucc = kept m c t.val (Nat.le_of_lt t.isLt) := by
  dsimp only [dats]; exact Dat.Φ_castSucc (kept m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = k0_pay4 (rowsAt m c t) (iblk m c 3 t) := by dsimp only [dats]
theorem after_11 (c : Dev nD) (t : Fin cfg0.N) : (dats m 0 c).after 11 t = k0_pay3 (rowsAt m c t) (iblk m c 4 t) := by dsimp only [dats]
theorem after_12 (c : Dev nD) (t : Fin cfg0.N) : (dats m 0 c).after 12 t = k0_pay5 (iblk m c 5 t) := by dsimp only [dats]
theorem after_13 (c : Dev nD) (t : Fin cfg0.N) : (dats m 0 c).after 13 t = k0_pay6 (iblk m c 6 t) := by dsimp only [dats]
theorem after_14 (c : Dev nD) (t : Fin cfg0.N) : (dats m 0 c).after 14 t = k0_pay7 (iblk m c 7 t) := by dsimp only [dats]
theorem after_15 (c : Dev nD) (t : Fin cfg0.N) : (dats m 0 c).after 15 t = k0_pay8 (iblk m c 8 t) := by dsimp only [dats]
theorem after_16 (c : Dev nD) (t : Fin cfg0.N) : (dats m 0 c).after 16 t = k0_pay1 (iblk m c 9 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## Along a block of rows -/

theorem index0_const : ∀ s t : Fin cfg0.N, s.val / 8 = t.val / 8 → (cfg0.win 0).index s = (cfg0.win 0).index t :=
  (by decide +kernel : ∀ s t : Fin grid0.N, s.val / 8 = t.val / 8 → win0_0.index s = win0_0.index t)
theorem iblk0_const (c : Dev nD) (s t : Fin cfg0.N) (h : s.val / 8 = t.val / 8) : iblk m c 0 s = iblk m c 0 t := by
  have h := (dats m 0 c).fetched_congr 0 (index0_const s t h) rfl (iblk m c 0 s)
  exact h
theorem index1_const : ∀ s t : Fin cfg0.N, s.val / 8 = t.val / 8 → (cfg0.win 1).index s = (cfg0.win 1).index t :=
  (by decide +kernel : ∀ s t : Fin grid0.N, s.val / 8 = t.val / 8 → win0_1.index s = win0_1.index t)
theorem iblk1_const (c : Dev nD) (s t : Fin cfg0.N) (h : s.val / 8 = t.val / 8) : iblk m c 1 s = iblk m c 1 t := by
  have h := (dats m 0 c).fetched_congr 1 (index1_const s t h) rfl (iblk m c 1 s)
  exact h
theorem index2_const : ∀ s t : Fin cfg0.N, s.val / 8 = t.val / 8 → (cfg0.win 2).index s = (cfg0.win 2).index t :=
  (by decide +kernel : ∀ s t : Fin grid0.N, s.val / 8 = t.val / 8 → win0_2.index s = win0_2.index t)
theorem iblk2_const (c : Dev nD) (s t : Fin cfg0.N) (h : s.val / 8 = t.val / 8) : iblk m c 2 s = iblk m c 2 t := by
  have h := (dats m 0 c).fetched_congr 2 (index2_const s t h) rfl (iblk m c 2 s)
  exact h
theorem index4_const : ∀ s t : Fin cfg0.N, s.val / 8 = t.val / 8 → (cfg0.win 4).index s = (cfg0.win 4).index t :=
  (by decide +kernel : ∀ s t : Fin grid0.N, s.val / 8 = t.val / 8 → win0_4.index s = win0_4.index t)
theorem iblk4_const (c : Dev nD) (s t : Fin cfg0.N) (h : s.val / 8 = t.val / 8) : iblk m c 4 s = iblk m c 4 t := by
  have h := (dats m 0 c).fetched_congr 4 (index4_const s t h) rfl (iblk m c 4 s)
  exact h

/-- The normalised rows are the same, -/
theorem rowsAt_const (c : Dev nD) (s t : Fin cfg0.N) (h : s.val / 8 = t.val / 8) : rowsAt m c s = rowsAt m c t := by
  unfold rowsAt; rw [iblk0_const m c s t h, iblk1_const m c s t h, iblk2_const m c s t h]

/-- and so is what the rotary columns' buffer holds. -/
theorem rope_const (c : Dev nD) (s t : Fin cfg0.N) (h : s.val / 8 = t.val / 8) :
    k0_pay3 (rowsAt m c s) (iblk m c 4 s) = k0_pay3 (rowsAt m c t) (iblk m c 4 t) := by
  rw [rowsAt_const m c s t h, iblk4_const m c s t h]

theorem idle11_iff : ∀ t : Fin cfg0.N, cfg0.idle 11 (grid0.coords t) = true ↔ t.val % 8 ≠ 0 :=
  (by decide +kernel : ∀ t : Fin grid0.N, idle0 11 (grid0.coords t) = true ↔ t.val % 8 ≠ 0)

theorem fetch11 : ∀ t : Fin cfg0.N, (cfg0.win 11).fetch t = false := fun _ => rfl

/-- Where the body does not store the rotary columns, the buffer holds those of its block of rows. -/
theorem before_11 (c : Dev nD) (d) : ∀ (n : ℕ) (hn : n < cfg0.N), n % 8 ≠ 0 →
    (dats m 0 c).before 11 ⟨n, hn⟩ d = k0_pay3 (rowsAt m c ⟨n, hn⟩) (iblk m c 4 ⟨n, hn⟩) := by
  intro n
  induction n with
  | zero => intro _ h; exact absurd rfl h
  | succ n ih =>
    intro hn h8
    have hn' : n < cfg0.N := Nat.lt_of_succ_lt hn
    rw [(dats m 0 c).before_of_pos 11 ⟨n + 1, hn⟩ (Nat.succ_ne_zero n) (fetch11 _) d]
    have hfl : (cfg0.win 11).flush ⟨n, hn'⟩ = false := by
      rw [Bool.eq_false_iff]; intro hf
      have h := (flush0_11 ⟨n, hn'⟩).mp hf
      dsimp only at h; omega
    show (if (cfg0.win 11).flush ⟨n, hn'⟩ = true then d else (dats m 0 c).left 11 ⟨n, hn'⟩ d) = _
    rw [hfl, if_neg Bool.false_ne_true, rope_const m c ⟨n + 1, hn⟩ ⟨n, hn'⟩ (by dsimp only; omega)]
    unfold Dat.left
    by_cases hi : n % 8 ≠ 0
    · rw [show cfg0.idle 11 (cfg0.grid.coords ⟨n, hn'⟩) = true from (idle11_iff ⟨n, hn'⟩).mpr hi]
      exact ih hn' hi
    · rw [show cfg0.idle 11 (cfg0.grid.coords ⟨n, hn'⟩) = false from by
        rw [Bool.eq_false_iff]; exact fun h => hi ((idle11_iff ⟨n, hn'⟩).mp h)]
      exact after_11 m c ⟨n, hn'⟩

/-! ## One point of the grid -/

/-- The buffer of window 0 at point `t`. -/
abbrev buf0 (t : Fin cfg0.N) : Memref sig .tc .vmem S1024x2048 .f32 := win0_0.stage (cfg0.slots t 0)
/-- The buffer of window 1 at point `t`. -/
abbrev buf1 (t : Fin cfg0.N) : Memref sig .tc .vmem S1x6x2048 .f32 := win0_1.stage (cfg0.slots t 1)
/-- The buffer of window 2 at point `t`. -/
abbrev buf2 (t : Fin cfg0.N) : Memref sig .tc .vmem S1x2048 .f32 := win0_2.stage (cfg0.slots t 2)
/-- The buffer of window 3 at point `t`. -/
abbrev buf3 (t : Fin cfg0.N) : Memref sig .tc .vmem S2048x1024 .bf16 := win0_3.stage (cfg0.slots t 3)
/-- The buffer of window 4 at point `t`. -/
abbrev buf4 (t : Fin cfg0.N) : Memref sig .tc .vmem S256x2048 .bf16 := win0_4.stage (cfg0.slots t 4)
/-- The buffer of window 5 at point `t`. -/
abbrev buf5 (t : Fin cfg0.N) : Memref sig .tc .vmem S16x2048 .f32 := win0_5.stage (cfg0.slots t 5)
/-- The buffer of window 6 at point `t`. -/
abbrev buf6 (t : Fin cfg0.N) : Memref sig .tc .vmem S16x2048 .f32 := win0_6.stage (cfg0.slots t 6)
/-- The buffer of window 7 at point `t`. -/
abbrev buf7 (t : Fin cfg0.N) : Memref sig .tc .vmem S16x2048 .f32 := win0_7.stage (cfg0.slots t 7)
/-- The buffer of window 8 at point `t`. -/
abbrev buf8 (t : Fin cfg0.N) : Memref sig .tc .vmem S16x11264 .f32 := win0_8.stage (cfg0.slots t 8)
/-- The buffer of window 9 at point `t`. -/
abbrev buf9 (t : Fin cfg0.N) : Memref sig .tc .vmem S176x2048 .f32 := win0_9.stage (cfg0.slots t 9)
/-- The buffer of window 10 at point `t`. -/
abbrev buf10 (t : Fin cfg0.N) : Memref sig .tc .vmem S1024x1024 .bf16 := win0_10.stage (cfg0.slots t 10)
/-- The buffer of window 11 at point `t`. -/
abbrev buf11 (t : Fin cfg0.N) : Memref sig .tc .vmem S1024x256 .f32 := win0_11.stage (cfg0.slots t 11)
/-- The buffer of window 12 at point `t`. -/
abbrev buf12 (t : Fin cfg0.N) : Memref sig .tc .vmem S16x2048 .bf16 := win0_12.stage (cfg0.slots t 12)
/-- The buffer of window 13 at point `t`. -/
abbrev buf13 (t : Fin cfg0.N) : Memref sig .tc .vmem S16x2048 .bf16 := win0_13.stage (cfg0.slots t 13)
/-- The buffer of window 14 at point `t`. -/
abbrev buf14 (t : Fin cfg0.N) : Memref sig .tc .vmem S16x2048 .bf16 := win0_14.stage (cfg0.slots t 14)
/-- The buffer of window 15 at point `t`. -/
abbrev buf15 (t : Fin cfg0.N) : Memref sig .tc .vmem S16x11264 .bf16 := win0_15.stage (cfg0.slots t 15)
/-- The buffer of window 16 at point `t`. -/
abbrev buf16 (t : Fin cfg0.N) : Memref sig .tc .vmem S176x2048 .bf16 := win0_16.stage (cfg0.slots t 16)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d))
    ∗ (∃ d, owns (c : Thread nD τ) (buf15 t) fullShare ((dats m 0 c).before 15 t d))
    ∗ (∃ d, owns (c : Thread nD τ) (buf16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

theorem leaves_0 (c : Dev nD) (t : Fin cfg0.N) :
    (dats m 0 c).leavesExact 0 t = owns (c : Thread nD τ) (buf0 t) fullShare (iblk m c 0 t) := by
  rw [← after_0]
theorem leaves_1 (c : Dev nD) (t : Fin cfg0.N) :
    (dats m 0 c).leavesExact 1 t = owns (c : Thread nD τ) (buf1 t) fullShare (iblk m c 1 t) := by
  rw [← after_1]
theorem leaves_2 (c : Dev nD) (t : Fin cfg0.N) :
    (dats m 0 c).leavesExact 2 t = owns (c : Thread nD τ) (buf2 t) fullShare (iblk m c 2 t) := by
  rw [← after_2]
theorem leaves_3 (c : Dev nD) (t : Fin cfg0.N) :
    (dats m 0 c).leavesExact 3 t = owns (c : Thread nD τ) (buf3 t) fullShare (iblk m c 3 t) := by
  rw [← after_3]
theorem leaves_4 (c : Dev nD) (t : Fin cfg0.N) :
    (dats m 0 c).leavesExact 4 t = owns (c : Thread nD τ) (buf4 t) fullShare (iblk m c 4 t) := by
  rw [← after_4]
theorem leaves_5 (c : Dev nD) (t : Fin cfg0.N) :
    (dats m 0 c).leavesExact 5 t = owns (c : Thread nD τ) (buf5 t) fullShare (iblk m c 5 t) := by
  rw [← after_5]
theorem leaves_6 (c : Dev nD) (t : Fin cfg0.N) :
    (dats m 0 c).leavesExact 6 t = owns (c : Thread nD τ) (buf6 t) fullShare (iblk m c 6 t) := by
  rw [← after_6]
theorem leaves_7 (c : Dev nD) (t : Fin cfg0.N) :
    (dats m 0 c).leavesExact 7 t = owns (c : Thread nD τ) (buf7 t) fullShare (iblk m c 7 t) := by
  rw [← after_7]
theorem leaves_8 (c : Dev nD) (t : Fin cfg0.N) :
    (dats m 0 c).leavesExact 8 t = owns (c : Thread nD τ) (buf8 t) fullShare (iblk m c 8 t) := by
  rw [← after_8]
theorem leaves_9 (c : Dev nD) (t : Fin cfg0.N) :
    (dats m 0 c).leavesExact 9 t = owns (c : Thread nD τ) (buf9 t) fullShare (iblk m c 9 t) := by
  rw [← after_9]
theorem leaves_10 (c : Dev nD) (t : Fin cfg0.N) :
    (dats m 0 c).leavesExact 10 t = owns (c : Thread nD τ) (buf10 t) fullShare (k0_pay4 (rowsAt m c t) (iblk m c 3 t)) := by
  rw [← after_10]
theorem leaves_12 (c : Dev nD) (t : Fin cfg0.N) :
    (dats m 0 c).leavesExact 12 t = owns (c : Thread nD τ) (buf12 t) fullShare (k0_pay5 (iblk m c 5 t)) := by
  rw [← after_12]
theorem leaves_13 (c : Dev nD) (t : Fin cfg0.N) :
    (dats m 0 c).leavesExact 13 t = owns (c : Thread nD τ) (buf13 t) fullShare (k0_pay6 (iblk m c 6 t)) := by
  rw [← after_13]
theorem leaves_14 (c : Dev nD) (t : Fin cfg0.N) :
    (dats m 0 c).leavesExact 14 t = owns (c : Thread nD τ) (buf14 t) fullShare (k0_pay7 (iblk m c 7 t)) := by
  rw [← after_14]
theorem leaves_15 (c : Dev nD) (t : Fin cfg0.N) :
    (dats m 0 c).leavesExact 15 t = owns (c : Thread nD τ) (buf15 t) fullShare (k0_pay8 (iblk m c 8 t)) := by
  rw [← after_15]
theorem leaves_16 (c : Dev nD) (t : Fin cfg0.N) :
    (dats m 0 c).leavesExact 16 t = owns (c : Thread nD τ) (buf16 t) fullShare (k0_pay1 (iblk m c 9 t)) := by
  rw [← after_16]
/-- A point that opens a block of rows leaves its rotary columns, -/
theorem leaves_11_live (c : Dev nD) (t : Fin cfg0.N) (h : t.val % 8 = 0) :
    (dats m 0 c).leavesExact 11 t = owns (c : Thread nD τ) (buf11 t) fullShare (k0_pay3 (rowsAt m c t) (iblk m c 4 t)) := by
  unfold Dat.leavesExact
  rw [show cfg0.idle 11 (cfg0.grid.coords t) = false from by
    rw [Bool.eq_false_iff]; exact fun h' => absurd h ((idle11_iff t).mp h'), after_11]
/-- and any other leaves the buffer as it found it, at that same block. -/
theorem leaves_11_idle (c : Dev nD) (t : Fin cfg0.N) (h : t.val % 8 ≠ 0) (d) :
    owns (c : Thread nD τ) (buf11 t) fullShare ((dats m 0 c).before 11 t d) ⊢ (dats m 0 c).leavesExact 11 t := by
  unfold Dat.leavesExact
  rw [show cfg0.idle 11 (cfg0.grid.coords t) = true from (idle11_iff t).mpr h]
  cases hf : (cfg0.win 11).flush t
  · iintro H
    iexists d; iexact H
  · rw [after_11, before_11 m c d t.val t.isLt h]

set_option maxHeartbeats 4800000 in
/-- The body at a point that opens a block of rows, whatever the scratch holds: -/
theorem sound_open (c : Dev nD) (t : Fin cfg0.N) (h0 : t.val % 8 = 0) (Φ : sProp 𝕄)
    (hΦ : Φ ⊢ iprop((∃ d, owns (c : Thread nD τ) (Memref.whole cc0_scratch0) fullShare d) ∗ (∃ r, prngReg c r))) :
    iprop(Φ ∗ (dats m 0 c).owesAt () t.castSucc
      ∗ (∃ d, owns (c : Thread nD τ) (buf0 t) fullShare ((dats m 0 c).before 0 t d))
      ∗ (∃ d, owns (c : Thread nD τ) (buf1 t) fullShare ((dats m 0 c).before 1 t d))
      ∗ (∃ d, owns (c : Thread nD τ) (buf2 t) fullShare ((dats m 0 c).before 2 t d))
      ∗ (∃ d, owns (c : Thread nD τ) (buf3 t) fullShare ((dats m 0 c).before 3 t d))
      ∗ (∃ d, owns (c : Thread nD τ) (buf4 t) fullShare ((dats m 0 c).before 4 t d))
      ∗ (∃ d, owns (c : Thread nD τ) (buf5 t) fullShare ((dats m 0 c).before 5 t d))
      ∗ (∃ d, owns (c : Thread nD τ) (buf6 t) fullShare ((dats m 0 c).before 6 t d))
      ∗ (∃ d, owns (c : Thread nD τ) (buf7 t) fullShare ((dats m 0 c).before 7 t d))
      ∗ (∃ d, owns (c : Thread nD τ) (buf8 t) fullShare ((dats m 0 c).before 8 t d))
      ∗ (∃ d, owns (c : Thread nD τ) (buf9 t) fullShare ((dats m 0 c).before 9 t d))
      ∗ (∃ d, owns (c : Thread nD τ) (buf10 t) fullShare ((dats m 0 c).before 10 t d))
      ∗ (∃ d, owns (c : Thread nD τ) (buf11 t) fullShare ((dats m 0 c).before 11 t d))
      ∗ (∃ d, owns (c : Thread nD τ) (buf12 t) fullShare ((dats m 0 c).before 12 t d))
      ∗ (∃ d, owns (c : Thread nD τ) (buf13 t) fullShare ((dats m 0 c).before 13 t d))
      ∗ (∃ d, owns (c : Thread nD τ) (buf14 t) fullShare ((dats m 0 c).before 14 t d))
      ∗ (∃ d, owns (c : Thread nD τ) (buf15 t) fullShare ((dats m 0 c).before 15 t d))
      ∗ (∃ d, owns (c : Thread nD τ) (buf16 t) fullShare ((dats m 0 c).before 16 t d)))
      ⊢ wp frame (wpE (defs₀ (F := F)) Variants.none c none) Set.univ (bodyAt0 t) (fun _ => bodyPost m c t) := by
  unfold bodyPost bodyAt0
  simp only [before_0, before_1, before_2, before_3, before_4, before_5, before_6, before_7, before_8, before_9, leaves_0, leaves_1, leaves_2, leaves_3, leaves_4, leaves_5, leaves_6, leaves_7, leaves_8, leaves_9, leaves_10, leaves_12, leaves_13, leaves_14, leaves_15, leaves_16]
  rw [show (dats m 0 c).owesAt () t.succ = (dats m 0 c).owesAt () t.castSucc from rfl,
    show (dats m 0 c).Φ t.succ = kept m c (t.val + 1) t.isLt from rfl, kept_succ, leaves_11_live m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  icases (hΦ) $$ HΦ with ⟨⟨%ds, HS⟩, Hg⟩
  iapply (runOpen c (grid0.coords t) _ _ _ _ _ _ _ _ _ _ _ _ _ _ _ _ _ _ _ _ _ _ _ _ _ _ _ _ _ _ _ _ _ _ _ _ ((opens_iff t).mpr h0) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS]; · iexact HS
  iintro ⟨H0, H1, H2, H3, H4, H5, H6, H7, H8, H9, H10, H11, H12, H13, H14, H15, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4800000 in
/-- at any other, where the scratch holds the rows of this point too; -/
theorem sound_keep (c : Dev nD) (t : Fin cfg0.N) (h0 : t.val % 8 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, leaves_0, leaves_1, leaves_2, leaves_3, leaves_4, leaves_5, leaves_6, leaves_7, leaves_8, leaves_9, leaves_10, leaves_12, leaves_13, leaves_14, leaves_15, leaves_16]
  rw [show (dats m 0 c).owesAt () t.succ = (dats m 0 c).owesAt () t.castSucc from rfl,
    show (dats m 0 c).Φ t.succ = kept m c (t.val + 1) t.isLt from rfl, kept_succ, Φ_start,
    kept_pos m c t.val _ (fun h => h0 (by rw [h])), rowsAt_const m c ⟨t.val - 1, _⟩ t (by dsimp only; omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runKeep c (grid0.coords t) _ _ _ _ _ _ _ _ _ _ _ _ _ _ _ _ _ _ _ _ _ _ _ _ _ _ _ _ _ _ _ _ _ _ _ _ (fun h => h0 ((opens_iff t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ (rowsAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS]; · iexact HS
  iintro ⟨H0, H1, H2, H3, H4, H5, H6, H7, H8, H9, H10, H11, H12, H13, H14, H15, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves_11_idle m c t h0 d11); iexact H11
  isplitl [H12]; · iexact H12
  isplitl [H13]; · iexact H13
  isplitl [H14]; · iexact H14
  isplitl [H15]; · iexact H15
  iexact H16

/-- so at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · refine sound_open m c t h0 _ ?_
    rw [Φ_start]
    by_cases hz : t.val = 0
    · rw [kept_zero m c _ _ hz, free_eq]
    · rw [kept_pos m c _ _ hz]
      iintro ⟨HS, Hg⟩
      isplitl [HS]
      · iexists _; iexact HS
      iexact Hg
  · exact sound_keep m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The launch hands over what holds before the first point, -/
theorem enters (c : Dev nD) : Pipeline.ΦA spec0 c ⊢ (dats m 0 c).Φ 0 := by
  rw [show (dats m 0 c).Φ 0 = kept m c 0 (Nat.zero_le _) from rfl, kept_zero m c 0 _ rfl]

/-- and gets it back after the last. -/
theorem leaves (c : Dev nD) : (dats m 0 c).Φ (Fin.last cfg0.N) ⊢ Pipeline.ΦA spec0 c := by
  rw [show (dats m 0 c).Φ (Fin.last cfg0.N) = kept m c cfg0.N le_rfl from rfl,
    kept_pos m c cfg0.N _ (by rw [show cfg0.N = 128 from N_0]; decide), free_eq]
  iintro ⟨HS, Hg⟩
  isplitl [HS]
  · iexists _; iexact HS
  iexact Hg

set_option backward.isDefEq.respectTransparency.types false in
set_option maxHeartbeats 800000 in
/-- The run: every array of the windows ends at what the buffers' contents make of it, every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => ite_self _)
    (howed := fun _ _ => rfl) (V := V m) (hmain := hmain m Variants.none) (hA := A_eq m) (hin := enters m) (hout := leaves m)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.ProjIdeal.Proj

end
-- ==== Proof.Proj.Bits.lean ====
/- The input projection's kernel at its own numbers: it is printed with the same text as over the reals, so its frame is
   the one run's. -/
module

public import proofs.«01_k».proof.Defs
public import proofs.«01_k».proof.Proof.Gen.Proj
public import proofs.«01_k».proof.Proof.Proj.Frame

@[expose] public section

set_option maxRecDepth 16384
set_option maxHeartbeats 4000000

noncomputable section

namespace Cert.ProjIdeal.ProjBits

open Idealize.ShloMosaic Idealize.SL.Sem

/-- The two body tables run the same function, -/
theorem bodies_eq : Cert.ProjIdeal.defs₀ (F := Bits) = Cert.Proj.defs₀ (F := Bits) := by
  unfold Cert.ProjIdeal.defs₀ Cert.Proj.defs₀
  refine congrArg Defs.onTc ?_
  funext l a
  match l, a with
  | 0, (t, s) => rfl
  | ⟨_ + 1, h⟩, _ => exact absurd h (Nat.not_lt.2 (Nat.le_add_left _ _))

/-- so the two programs have the same definitions, -/
theorem defs_eq : Cert.ProjIdeal.defs (F := Bits) = Cert.Proj.defs (F := Bits) := by
  unfold Cert.ProjIdeal.defs Cert.Proj.defs
  rw [bodies_eq]
  rfl

/-- and the frame of the one is the frame of the other. -/
theorem frame : Cert.quiescent_Proj := by
  intro m ρ _
  rw [← defs_eq]
  exact (θ_run Cert.ProjIdeal.defs _ _).mono (fun _ h => h) (Cert.ProjIdeal.Proj.frame (F := Bits) m ρ)

end Cert.ProjIdeal.ProjBits

end
-- ==== Proof.Proj.Pure.lean ====
/- The input projection's computations, element by element over the reals: the kernel's stored blocks and the reference's results. -/
module

public import proofs.«01_k».proof.Proof.Gen.ProjIdeal.Skeleton
public import proofs.«01_k».proof.Proof.Gen.ProjRefIdeal.Read
public import proofs.«01_k».proof.Proof.Ffn.Pure

@[expose] public section

set_option maxRecDepth 16384

noncomputable section

namespace Cert.ProjIdeal.ProjPure

open Idealize.ShloMosaic Cert.ProjIdeal Cert.ProjIdeal.Gen
open Cert.FfnIdeal.FfnPure (hid mean_eq batchOf tokOf)

/-- The rotary columns as the attention reads them, from the 64 of them: themselves, then their two halves swapped, each
    filled up with zeros. -/
def rope (K : Fin 64 → EReal) (l : Fin 256) : EReal :=
  if h : l.val < 64 then K ⟨l.val, h⟩
  else if l.val - 64 < 64 then 0
  else if h : l.val - 64 - 64 < 32 then K ⟨32 + (l.val - 64 - 64), by omega⟩
  else if h : l.val - 64 - 64 - 32 < 32 then K ⟨l.val - 64 - 64 - 32, by omega⟩
  else 0

/-- To lay the columns out and then multiply is to multiply and then lay out. -/
theorem sum_rope (H : Fin 2048 → EReal) (W : Fin 64 → Fin 2048 → EReal) (l : Fin 256) :
    ∑ k, H k * rope (fun j => W j k) l = rope (fun j => ∑ k, H k * W j k) l := by
  unfold rope; split_ifs <;> simp

theorem pay2_apply (a b : Vec Ideal S1x1x2048 .f32) (x : Vec Ideal S1024x2048 .f32) (g : Vec Ideal S1x2048 .f32) (r : Fin 1024) (l : Fin 2048) :
    k0_pay2 a b x g (ix2 r l) = hid (fun k => x (ix2 r k)) (fun k => g (ix2 0 k)) (fun k => b (ix3 0 0 k)) (fun k => a (ix3 0 0 k)) l := by
  pointwise [k0_pay2, hid]
  simp only [mean_eq, mul_assoc]

theorem pay3_apply (h : Vec Ideal S1024x2048 .bf16) (w : Vec Ideal S256x2048 .bf16) (r : Fin 1024) (l : Fin 256) :
    k0_pay3 h w (ix2 r l) = ∑ k : Fin 2048, h (ix2 r k) * w (ix2 l k) := by
  pointwise [k0_pay3]

theorem pay4_apply (h : Vec Ideal S1024x2048 .bf16) (w : Vec Ideal S2048x1024 .bf16) (r : Fin 1024) (l : Fin 1024) :
    k0_pay4 h w (ix2 r l) = ∑ k : Fin 2048, h (ix2 r k) * w (ix2 k l) := by
  pointwise [k0_pay4]

theorem pay5_apply (x : Vec Ideal S16x2048 .f32) (r : Fin 16) (l : Fin 2048) : k0_pay5 x (ix2 r l) = x (ix2 r l) := by
  pointwise [k0_pay5]

theorem pay6_apply (x : Vec Ideal S16x2048 .f32) (r : Fin 16) (l : Fin 2048) : k0_pay6 x (ix2 r l) = x (ix2 r l) := by
  pointwise [k0_pay6]

theorem pay7_apply (x : Vec Ideal S16x2048 .f32) (r : Fin 16) (l : Fin 2048) : k0_pay7 x (ix2 r l) = x (ix2 r l) := by
  pointwise [k0_pay7]

theorem pay8_apply (x : Vec Ideal S16x11264 .f32) (r : Fin 16) (l : Fin 11264) : k0_pay8 x (ix2 r l) = x (ix2 r l) := by
  pointwise [k0_pay8]

theorem pay1_apply (x : Vec Ideal S176x2048 .f32) (r : Fin 176) (l : Fin 2048) : k0_pay1 x (ix2 r l) = x (ix2 r l) := by
  pointwise [k0_pay1]

section Ref
open Cert.ProjRefIdeal.Read

/-- The reference's projected rows, -/
theorem ref37_apply (x0 : Vec Ideal Cert.ProjRefIdeal.S4x4096x2048 .f32) (x1 : Vec Ideal Cert.ProjRefIdeal.S4x12288 .f32) (x2 : Vec Ideal Cert.ProjRefIdeal.S1x2048 .f32)
    (x3 : Vec Ideal Cert.ProjRefIdeal.S2048x8192 .bf16) (r : Fin 16384) (l : Fin 8192) :
    val_main_v37 (F := Ideal) x0 x1 x2 x3 (ix2 r l)
      = ∑ k : Fin 2048, hid (fun k => x0 (ix3 (batchOf r) (tokOf r) k)) (fun k => x2 (ix2 0 k)) (fun k => x1 (ix2 (batchOf r) ⟨2048 + k.val, by omega⟩)) (fun k => x1 (ix2 (batchOf r) ⟨k.val, by omega⟩)) k * x3 (ix2 k l) := by
  pointwise [val_main_v0, val_main_v1, val_main_v2, val_main_v3, val_main_v4, val_main_v5, val_main_v6, val_main_v7, val_main_v8, val_main_cst,
    val_main_v9, val_main_v10, val_main_cst_0, val_main_v11, val_main_v12, val_main_cst_1, val_main_v13, val_main_v14, val_main_v15,
    val_main_v16, val_main_v17, val_main_v18, val_main_v19, val_main_v20, val_main_cst_2, val_main_v21, val_main_v22, val_main_v23,
    val_main_v24, val_main_v25, val_main_v26, val_main_v27, val_main_v28, val_main_v29, val_main_v30, val_main_v31, val_main_v32,
    val_main_cst_3, val_main_v33, val_main_v34, val_main_v35, val_main_v36, val_main_v37]
  simp only [hid, mean_eq, mul_assoc]

/-- and their rotary columns. -/
theorem ref36_apply (x0 : Vec Ideal Cert.ProjRefIdeal.S4x4096x2048 .f32) (x1 : Vec Ideal Cert.ProjRefIdeal.S4x12288 .f32) (x2 : Vec Ideal Cert.ProjRefIdeal.S1x2048 .f32)
    (x4 : Vec Ideal Cert.ProjRefIdeal.S64x2048 .bf16) (r : Fin 16384) (l : Fin 256) :
    val_main_v36 (F := Ideal) x0 x1 x2 x4 (ix2 r l)
      = rope (fun j => ∑ k : Fin 2048, hid (fun k => x0 (ix3 (batchOf r) (tokOf r) k)) (fun k => x2 (ix2 0 k)) (fun k => x1 (ix2 (batchOf r) ⟨2048 + k.val, by omega⟩)) (fun k => x1 (ix2 (batchOf r) ⟨k.val, by omega⟩)) k * x4 (ix2 j k)) l := by
  pointwise [val_main_v0, val_main_v1, val_main_v2, val_main_v3, val_main_v4, val_main_v5, val_main_v6, val_main_v7, val_main_v8, val_main_cst,
    val_main_v9, val_main_v10, val_main_cst_0, val_main_v11, val_main_v12, val_main_cst_1, val_main_v13, val_main_v14, val_main_v15,
    val_main_v16, val_main_v17, val_main_v18, val_main_v19, val_main_v20, val_main_cst_2, val_main_v21, val_main_v22, val_main_v23,
    val_main_v24, val_main_v25, val_main_v26, val_main_v27, val_main_v28, val_main_v29, val_main_v30, val_main_v31, val_main_v32,
    val_main_cst_3, val_main_v33, val_main_v34, val_main_v35, val_main_v36]
  simp only [rope, hid, mean_eq, mul_assoc, dite_eq_ite]

theorem ref39_apply (x : Vec Ideal Cert.ProjRefIdeal.S1x1024x2048 .f32) (r : Fin 1024) (l : Fin 2048) : val_main_v39 (F := Ideal) x (ix2 r l) = x (ix3 0 r l) := by
  pointwise [val_main_v38, val_main_v39]

theorem ref41_apply (x : Vec Ideal Cert.ProjRefIdeal.S1x1024x2048 .f32) (r : Fin 1024) (l : Fin 2048) : val_main_v41 (F := Ideal) x (ix2 r l) = x (ix3 0 r l) := by
  pointwise [val_main_v40, val_main_v41]

theorem ref43_apply (x : Vec Ideal Cert.ProjRefIdeal.S1x2048x2048 .f32) (r : Fin 2048) (l : Fin 2048) : val_main_v43 (F := Ideal) x (ix2 r l) = x (ix3 0 r l) := by
  pointwise [val_main_v42, val_main_v43]

theorem ref45_apply (x : Vec Ideal Cert.ProjRefIdeal.S1x2048x11264 .f32) (r : Fin 2048) (l : Fin 11264) : val_main_v45 (F := Ideal) x (ix2 r l) = x (ix3 0 r l) := by
  pointwise [val_main_v44, val_main_v45]

theorem ref47_apply (x : Vec Ideal Cert.ProjRefIdeal.S1x5632x2048 .f32) (r : Fin 5632) (l : Fin 2048) : val_main_v47 (F := Ideal) x (ix2 r l) = x (ix3 0 r l) := by
  pointwise [val_main_v46, val_main_v47]

end Ref

/-! ## The host's lines before the kernel -/

theorem rows_apply (x : Vec Ideal S4x4096x2048 .f32) (r : Fin 16384) (k : Fin 2048) :
    shapeCast S16384x2048 x shapeCasts_S4x4096x2048_S16384x2048 (ix2 r k) = x (ix3 (batchOf r) (tokOf r) k) := by
  pointwise

theorem mods_apply (x : Vec Ideal S4x12288 .f32) (b : Fin 4) (j : Fin 6) (k : Fin 2048) :
    shapeCast S4x6x2048 x shapeCasts_S4x12288_S4x6x2048 (ix3 b j k) = x (ix2 b ⟨j.val * 2048 + k.val, by omega⟩) := by
  pointwise

theorem norm_apply (x : Vec Ideal S1x2048 .f32) (k : Fin 2048) :
    broadcastInDim S1x2048 ![1] bcast_S2048_S1x2048_1 (shapeCast S2048 x shapeCasts_S1x2048_S2048) (ix2 0 k) = x (ix2 0 k) := by
  pointwise

theorem side_apply_1024_2048 (x : Vec Ideal S1x1024x2048 .f32) (r : Fin 1024) (l : Fin 2048) :
    shapeCast S1024x2048 x shapeCasts_S1x1024x2048_S1024x2048 (ix2 r l) = x (ix3 0 r l) := by
  pointwise

theorem side_apply_2048_2048 (x : Vec Ideal S1x2048x2048 .f32) (r : Fin 2048) (l : Fin 2048) :
    shapeCast S2048x2048 x shapeCasts_S1x2048x2048_S2048x2048 (ix2 r l) = x (ix3 0 r l) := by
  pointwise

theorem side_apply_2048_11264 (x : Vec Ideal S1x2048x11264 .f32) (r : Fin 2048) (l : Fin 11264) :
    shapeCast S2048x11264 x shapeCasts_S1x2048x11264_S2048x11264 (ix2 r l) = x (ix3 0 r l) := by
  pointwise

theorem side_apply_5632_2048 (x : Vec Ideal S1x5632x2048 .f32) (r : Fin 5632) (l : Fin 2048) :
    shapeCast S5632x2048 x shapeCasts_S1x5632x2048_S5632x2048 (ix2 r l) = x (ix3 0 r l) := by
  pointwise

theorem swapped_apply (x : Vec Ideal S64x2048 .bf16) (l : Fin 256) (k : Fin 2048) :
    (concatenate S256x2048 0 [⟨S32x2048, (extractStridedSlice S32x2048 ![0, 0] x slices_S64x2048_S32x2048_0_0)⟩, ⟨S32x2048, (extractStridedSlice S32x2048 ![32, 0] x slices_S64x2048_S32x2048_32_0)⟩, ⟨S64x2048, (broadcastInDim S64x2048 ![] bcast_S_S64x2048 (constant (F := Ideal) S_ .bf16 0x0000#16 : Vec Ideal S_ .bf16))⟩, ⟨S32x2048, (extractStridedSlice S32x2048 ![32, 0] x slices_S64x2048_S32x2048_32_0)⟩, ⟨S32x2048, (extractStridedSlice S32x2048 ![0, 0] x slices_S64x2048_S32x2048_0_0)⟩, ⟨S64x2048, (broadcastInDim S64x2048 ![] bcast_S_S64x2048 (constant (F := Ideal) S_ .bf16 0x0000#16 : Vec Ideal S_ .bf16))⟩] concatenates_S32x2048_S32x2048_S64x2048_S32x2048_S32x2048_S64x2048_S256x2048_d0) (ix2 l k) = rope (fun j => x (ix2 j k)) l := by
  pointwise
  unfold rope
  by_cases h0 : l.val < 32
  · rw [dif_pos h0, dif_pos (by omega)]
  rw [dif_neg h0]
  by_cases h1 : l.val - 32 < 32
  · rw [dif_pos h1, dif_pos (by omega)]
    exact congrArg (fun j : Fin 64 => x (ix2 j k)) (Fin.ext (show 32 + (l.val - 32) = l.val by omega))
  rw [dif_neg h1, dif_neg (show ¬ l.val < 64 by omega)]
  by_cases h2 : l.val - 32 - 32 < 64
  · rw [dif_pos h2, if_pos (by omega)]
  rw [dif_neg h2, if_neg (show ¬ l.val - 64 < 64 by omega)]
  by_cases h3 : l.val - 32 - 32 - 64 < 32
  · rw [dif_pos h3, dif_pos (by omega)]
    exact congrArg (fun j : Fin 64 => x (ix2 j k)) (Fin.ext (show 32 + (l.val - 32 - 32 - 64) = 32 + (l.val - 64 - 64) by omega))
  rw [dif_neg h3, dif_neg (show ¬ l.val - 64 - 64 < 32 by omega)]
  by_cases h4 : l.val - 32 - 32 - 64 - 32 < 32
  · rw [dif_pos h4, dif_pos (by omega)]
    exact congrArg (fun j : Fin 64 => x (ix2 j k)) (Fin.ext (show l.val - 32 - 32 - 64 - 32 = l.val - 64 - 64 - 32 by omega))
  rw [dif_neg h4, dif_neg (by omega)]

end Cert.ProjIdeal.ProjPure

end
-- ==== Proof.Proj.Value.lean ====
/- The input projection's kernel: what its seven result arrays hold after the run, over the reals, and the claim against the reference. -/
module

public import proofs.«01_k».proof.Proof.Proj.Frame
public import proofs.«01_k».proof.Proof.Proj.Pure
public import Idealize.ShloMosaic.Lib.Pipeline.Value
public import proofs.«01_k».proof.Defs

@[expose] public section

set_option maxRecDepth 16384

noncomputable section

namespace Cert.ProjIdeal.ProjValue

open Idealize.ShloMosaic Idealize.ShloMosaic.TcCoe Idealize.SL.Sem Cert.ProjIdeal Cert.ProjIdeal.Gen
open Cert.ProjIdeal.Proj Cert.ProjIdeal.ProjPure
open Cert.FfnIdeal.FfnPure (hid batchOf tokOf)
open Idealize.ShloMosaic.Pipeline (Dat)

section Host

variable {F : FTy → Type} [FloatOps F]
variable (m : (ℓ : Loc nD τ sig) → Buf (Elt F) ℓ)

/-! ## The arrays the region finds -/

theorem V_v3 (c : Dev nD) : (V m c main_v3 : Vec F S256x2048 .bf16)
    = (concatenate S256x2048 0 [⟨S32x2048, (extractStridedSlice S32x2048 ![0, 0] (m ((c : Thread nD τ).loc main_arg4)) slices_S64x2048_S32x2048_0_0)⟩, ⟨S32x2048, (extractStridedSlice S32x2048 ![32, 0] (m ((c : Thread nD τ).loc main_arg4)) slices_S64x2048_S32x2048_32_0)⟩, ⟨S64x2048, (broadcastInDim S64x2048 ![] bcast_S_S64x2048 (constant (F := F) S_ .bf16 0x0000#16 : Vec F S_ .bf16))⟩, ⟨S32x2048, (extractStridedSlice S32x2048 ![32, 0] (m ((c : Thread nD τ).loc main_arg4)) slices_S64x2048_S32x2048_32_0)⟩, ⟨S32x2048, (extractStridedSlice S32x2048 ![0, 0] (m ((c : Thread nD τ).loc main_arg4)) slices_S64x2048_S32x2048_0_0)⟩, ⟨S64x2048, (broadcastInDim S64x2048 ![] bcast_S_S64x2048 (constant (F := F) S_ .bf16 0x0000#16 : Vec F S_ .bf16))⟩] concatenates_S32x2048_S32x2048_S64x2048_S32x2048_S32x2048_S64x2048_S256x2048_d0) := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results_simp <;> (try dsimp only [Matrix.cons_val]) <;> (try after_results_simp) <;> rfl

theorem V_v4 (c : Dev nD) : (V m c main_v4 : Vec F S1024x2048 .f32)
    = shapeCast S1024x2048 (m ((c : Thread nD τ).loc main_arg5)) shapeCasts_S1x1024x2048_S1024x2048 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v5 (c : Dev nD) : (V m c main_v5 : Vec F S1024x2048 .f32)
    = shapeCast S1024x2048 (m ((c : Thread nD τ).loc main_arg6)) shapeCasts_S1x1024x2048_S1024x2048 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v6 (c : Dev nD) : (V m c main_v6 : Vec F S2048x2048 .f32)
    = shapeCast S2048x2048 (m ((c : Thread nD τ).loc main_arg7)) shapeCasts_S1x2048x2048_S2048x2048 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v7 (c : Dev nD) : (V m c main_v7 : Vec F S2048x11264 .f32)
    = shapeCast S2048x11264 (m ((c : Thread nD τ).loc main_arg8)) shapeCasts_S1x2048x11264_S2048x11264 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v8 (c : Dev nD) : (V m c main_v8 : Vec F S5632x2048 .f32)
    = shapeCast S5632x2048 (m ((c : Thread nD τ).loc main_arg9)) shapeCasts_S1x5632x2048_S5632x2048 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v9 (c : Dev nD) : (V m c main_v9 : Vec F S16384x2048 .f32)
    = shapeCast S16384x2048 (m ((c : Thread nD τ).loc main_arg0)) shapeCasts_S4x4096x2048_S16384x2048 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v10 (c : Dev nD) : (V m c main_v10 : Vec F S4x6x2048 .f32)
    = shapeCast S4x6x2048 (m ((c : Thread nD τ).loc main_arg1)) shapeCasts_S4x12288_S4x6x2048 := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

theorem V_v12 (c : Dev nD) : (V m c main_v12 : Vec F S1x2048 .f32)
    = broadcastInDim S1x2048 ![1] bcast_S2048_S1x2048_1 (shapeCast S2048 (m ((c : Thread nD τ).loc main_arg2)) shapeCasts_S1x2048_S2048) := by
  dsimp only [V]
  simp only [hostOps0, List.flatten_cons, List.flatten_nil, List.append_nil, List.cons_append, List.nil_append, StableHlo.TRef.unary, StableHlo.TRef.nullary, StableHlo.TRef.toBuf, StableHlo.TRef.ofBuf, cast_eq]
  after_results <;> rfl

end Host

variable (m : (ℓ : Loc nD τ sig) → Buf (Elt Ideal) ℓ) (ρ : Dev nD → PrngReg)

/-! ## The ten arguments: stream, modulations, gain, main columns, rotary columns, and the five weights to cast -/

abbrev argX (c : Dev nD) : Vec Ideal S4x4096x2048 .f32 := m ((c : Thread nD τ).loc main_arg0)
abbrev argM (c : Dev nD) : Vec Ideal S4x12288 .f32 := m ((c : Thread nD τ).loc main_arg1)
abbrev argG (c : Dev nD) : Vec Ideal S1x2048 .f32 := m ((c : Thread nD τ).loc main_arg2)
abbrev argW (c : Dev nD) : Vec Ideal S2048x8192 .bf16 := m ((c : Thread nD τ).loc main_arg3)
abbrev argK (c : Dev nD) : Vec Ideal S64x2048 .bf16 := m ((c : Thread nD τ).loc main_arg4)
abbrev arg5 (c : Dev nD) : Vec Ideal S1x1024x2048 .f32 := m ((c : Thread nD τ).loc main_arg5)
abbrev arg6 (c : Dev nD) : Vec Ideal S1x1024x2048 .f32 := m ((c : Thread nD τ).loc main_arg6)
abbrev arg7 (c : Dev nD) : Vec Ideal S1x2048x2048 .f32 := m ((c : Thread nD τ).loc main_arg7)
abbrev arg8 (c : Dev nD) : Vec Ideal S1x2048x11264 .f32 := m ((c : Thread nD τ).loc main_arg8)
abbrev arg9 (c : Dev nD) : Vec Ideal S1x5632x2048 .f32 := m ((c : Thread nD τ).loc main_arg9)

/-! ## Where a window's block lies -/

theorem index_0 : ∀ t : Fin cfg0.N, win0_0.index t (0 : Fin 2) = t.val / 8 ∧ win0_0.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = t.val % 8 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_10 : ∀ t : Fin cfg0.N, win0_10.index t (0 : Fin 2) = t.val / 8 ∧ win0_10.index t (1 : Fin 2) = t.val % 8 :=
  (by decide +kernel : ∀ t : Fin grid0.N, _)
theorem index_11 : ∀ t : Fin cfg0.N, win0_11.index t (0 : Fin 2) = t.val / 8 ∧ win0_11.index t (1 : Fin 2) = 0 :=
  (by decide +kernel : ∀ t : Fin grid0.N, _)
theorem index_5 : ∀ t : Fin cfg0.N, win0_5.index t (0 : Fin 2) = t.val / 2 ∧ win0_5.index t (1 : Fin 2) = 0 :=
  (by decide +kernel : ∀ t : Fin grid0.N, _)
theorem index_12 : ∀ t : Fin cfg0.N, win0_12.index t (0 : Fin 2) = t.val / 2 ∧ win0_12.index t (1 : Fin 2) = 0 :=
  (by decide +kernel : ∀ t : Fin grid0.N, _)
theorem index_6 : ∀ t : Fin cfg0.N, win0_6.index t (0 : Fin 2) = t.val / 2 ∧ win0_6.index t (1 : Fin 2) = 0 :=
  (by decide +kernel : ∀ t : Fin grid0.N, _)
theorem index_13 : ∀ t : Fin cfg0.N, win0_13.index t (0 : Fin 2) = t.val / 2 ∧ win0_13.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_14 : ∀ t : Fin cfg0.N, win0_14.index t (0 : Fin 2) = t.val ∧ win0_14.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_15 : ∀ t : Fin cfg0.N, win0_15.index t (0 : Fin 2) = t.val ∧ win0_15.index t (1 : Fin 2) = 0 :=
  (by decide +kernel : ∀ t : Fin grid0.N, _)
theorem index_9 : ∀ t : Fin cfg0.N, win0_9.index t (0 : Fin 2) = t.val / 4 ∧ win0_9.index t (1 : Fin 2) = 0 :=
  (by decide +kernel : ∀ t : Fin grid0.N, _)
theorem index_16 : ∀ t : Fin cfg0.N, win0_16.index t (0 : Fin 2) = t.val / 4 ∧ win0_16.index t (1 : Fin 2) = 0 :=
  (by decide +kernel : ∀ t : Fin grid0.N, _)
theorem index_1 : ∀ t : Fin cfg0.N, win0_1.index t (0 : Fin 3) = t.val / 32 ∧ win0_1.index t (1 : Fin 3) = 0 ∧ win0_1.index t (2 : Fin 3) = 0 :=
  (by decide +kernel : ∀ t : Fin grid0.N, _)

theorem lt128 (t : Fin cfg0.N) : t.val < 128 := lt_of_lt_of_eq t.isLt (show cfg0.N = 128 from N_0)

/-- The row of the whole array that is row `r` of point `t`'s block, the column that is column `l` of it, and the rows of
    the five weights. -/
abbrev rowOf (t : Fin cfg0.N) (r : Fin 1024) : Fin 16384 := ⟨t.val / 8 * 1024 + r.val, by have := lt128 t; omega⟩
abbrev colOf (t : Fin cfg0.N) (l : Fin 1024) : Fin 8192 := ⟨t.val % 8 * 1024 + l.val, by have := lt128 t; omega⟩
abbrev row5 (t : Fin cfg0.N) (r : Fin 16) : Fin 1024 := ⟨t.val / 2 * 16 + r.val, by have := lt128 t; omega⟩
abbrev row6 (t : Fin cfg0.N) (r : Fin 16) : Fin 1024 := ⟨t.val / 2 * 16 + r.val, by have := lt128 t; omega⟩
abbrev row7 (t : Fin cfg0.N) (r : Fin 16) : Fin 2048 := ⟨t.val * 16 + r.val, by have := lt128 t; omega⟩
abbrev row8 (t : Fin cfg0.N) (r : Fin 16) : Fin 2048 := ⟨t.val * 16 + r.val, by have := lt128 t; omega⟩
abbrev row9 (t : Fin cfg0.N) (r : Fin 176) : Fin 5632 := ⟨t.val / 4 * 176 + r.val, by have := lt128 t; omega⟩

theorem blk0_apply (c : Dev nD) (t : Fin cfg0.N) (r : Fin 1024) (k : Fin 2048) :
    (iblk m c 0 t : Vec Ideal S1024x2048 .f32) (ix2 r k) = argX m c (ix3 (batchOf (rowOf t r)) (tokOf (rowOf t r)) k) := by
  obtain ⟨e0, e1⟩ := index_0 t
  refine Eq.trans (b := (V m c main_v9 : Vec Ideal S16384x2048 .f32) (ix2 (rowOf t r) k)) ?_ ?_
  · show (V m c main_v9 : Vec Ideal S16384x2048 .f32) (((cfg0.win 0).blk t).view.emb (ix2 r k)) = _
    refine congrArg (V m c main_v9 : Vec Ideal S16384x2048 .f32) (funext fun a => Fin.ext ?_)
    match a with
    | ⟨0, _⟩ => show win0_0.index t (0 : Fin 2) * 1024 + 1 * r.val = t.val / 8 * 1024 + r.val; omega
    | ⟨1, _⟩ => show win0_0.index t (1 : Fin 2) * 2048 + 1 * k.val = k.val; omega
  · rw [V_v9]; exact rows_apply _ _ k

theorem blk2_apply (c : Dev nD) (t : Fin cfg0.N) (z : Fin 1) (k : Fin 2048) :
    (iblk m c 2 t : Vec Ideal S1x2048 .f32) (ix2 z k) = argG m c (ix2 z k) := by
  obtain ⟨e0, e1⟩ := index_2 t
  refine Eq.trans (b := (V m c main_v12 : Vec Ideal S1x2048 .f32) (ix2 z k)) ?_ ?_
  · show (V m c main_v12 : Vec Ideal S1x2048 .f32) (((cfg0.win 2).blk t).view.emb (ix2 z k)) = _
    refine congrArg (V m c main_v12 : Vec Ideal S1x2048 .f32) (funext fun a => Fin.ext ?_)
    match a with
    | ⟨0, _⟩ => show win0_2.index t (0 : Fin 2) * 1 + 1 * z.val = z.val; omega
    | ⟨1, _⟩ => show win0_2.index t (1 : Fin 2) * 2048 + 1 * k.val = k.val; omega
  · obtain rfl : z = 0 := Subsingleton.elim _ _
    rw [V_v12]; exact norm_apply _ k

theorem blk3_apply (c : Dev nD) (t : Fin cfg0.N) (k : Fin 2048) (l : Fin 1024) :
    (iblk m c 3 t : Vec Ideal S2048x1024 .bf16) (ix2 k l) = argW m c (ix2 k (colOf t l)) := by
  obtain ⟨e0, e1⟩ := index_3 t
  refine Eq.trans (b := (V m c main_arg3 : Vec Ideal S2048x8192 .bf16) (ix2 k (colOf t l))) ?_ ?_
  · show (V m c main_arg3 : Vec Ideal S2048x8192 .bf16) (((cfg0.win 3).blk t).view.emb (ix2 k l)) = _
    refine congrArg (V m c main_arg3 : Vec Ideal S2048x8192 .bf16) (funext fun a => Fin.ext ?_)
    match a with
    | ⟨0, _⟩ => show win0_3.index t (0 : Fin 2) * 2048 + 1 * k.val = k.val; omega
    | ⟨1, _⟩ => show win0_3.index t (1 : Fin 2) * 1024 + 1 * l.val = t.val % 8 * 1024 + l.val; omega
  · rw [V_main_arg3]

theorem blk4_apply (c : Dev nD) (t : Fin cfg0.N) (l : Fin 256) (k : Fin 2048) :
    (iblk m c 4 t : Vec Ideal S256x2048 .bf16) (ix2 l k) = rope (fun j => argK m c (ix2 j k)) l := by
  obtain ⟨e0, e1⟩ := index_4 t
  refine Eq.trans (b := (V m c main_v3 : Vec Ideal S256x2048 .bf16) (ix2 l k)) ?_ ?_
  · show (V m c main_v3 : Vec Ideal S256x2048 .bf16) (((cfg0.win 4).blk t).view.emb (ix2 l k)) = _
    refine congrArg (V m c main_v3 : Vec Ideal S256x2048 .bf16) (funext fun a => Fin.ext ?_)
    match a with
    | ⟨0, _⟩ => show win0_4.index t (0 : Fin 2) * 256 + 1 * l.val = l.val; omega
    | ⟨1, _⟩ => show win0_4.index t (1 : Fin 2) * 2048 + 1 * k.val = k.val; omega
  · exact (congrFun (V_v3 m c) _).trans (swapped_apply _ l k)

theorem blk5_apply (c : Dev nD) (t : Fin cfg0.N) (r : Fin 16) (k : Fin 2048) :
    (iblk m c 5 t : Vec Ideal S16x2048 .f32) (ix2 r k) = arg5 m c (ix3 0 (row5 t r) k) := by
  obtain ⟨e0, e1⟩ := index_5 t
  refine Eq.trans (b := (V m c main_v4 : Vec Ideal S1024x2048 .f32) (ix2 (row5 t r) k)) ?_ ?_
  · show (V m c main_v4 : Vec Ideal S1024x2048 .f32) (((cfg0.win 5).blk t).view.emb (ix2 r k)) = _
    refine congrArg (V m c main_v4 : Vec Ideal S1024x2048 .f32) (funext fun a => Fin.ext ?_)
    match a with
    | ⟨0, _⟩ => show win0_5.index t (0 : Fin 2) * 16 + 1 * r.val = t.val / 2 * 16 + r.val; omega
    | ⟨1, _⟩ => show win0_5.index t (1 : Fin 2) * 2048 + 1 * k.val = k.val; omega
  · rw [V_v4]; exact side_apply_1024_2048 _ _ k

theorem blk6_apply (c : Dev nD) (t : Fin cfg0.N) (r : Fin 16) (k : Fin 2048) :
    (iblk m c 6 t : Vec Ideal S16x2048 .f32) (ix2 r k) = arg6 m c (ix3 0 (row6 t r) k) := by
  obtain ⟨e0, e1⟩ := index_6 t
  refine Eq.trans (b := (V m c main_v5 : Vec Ideal S1024x2048 .f32) (ix2 (row6 t r) k)) ?_ ?_
  · show (V m c main_v5 : Vec Ideal S1024x2048 .f32) (((cfg0.win 6).blk t).view.emb (ix2 r k)) = _
    refine congrArg (V m c main_v5 : Vec Ideal S1024x2048 .f32) (funext fun a => Fin.ext ?_)
    match a with
    | ⟨0, _⟩ => show win0_6.index t (0 : Fin 2) * 16 + 1 * r.val = t.val / 2 * 16 + r.val; omega
    | ⟨1, _⟩ => show win0_6.index t (1 : Fin 2) * 2048 + 1 * k.val = k.val; omega
  · rw [V_v5]; exact side_apply_1024_2048 _ _ k

theorem blk7_apply (c : Dev nD) (t : Fin cfg0.N) (r : Fin 16) (k : Fin 2048) :
    (iblk m c 7 t : Vec Ideal S16x2048 .f32) (ix2 r k) = arg7 m c (ix3 0 (row7 t r) k) := by
  obtain ⟨e0, e1⟩ := index_7 t
  refine Eq.trans (b := (V m c main_v6 : Vec Ideal S2048x2048 .f32) (ix2 (row7 t r) k)) ?_ ?_
  · show (V m c main_v6 : Vec Ideal S2048x2048 .f32) (((cfg0.win 7).blk t).view.emb (ix2 r k)) = _
    refine congrArg (V m c main_v6 : Vec Ideal S2048x2048 .f32) (funext fun a => Fin.ext ?_)
    match a with
    | ⟨0, _⟩ => show win0_7.index t (0 : Fin 2) * 16 + 1 * r.val = t.val * 16 + r.val; omega
    | ⟨1, _⟩ => show win0_7.index t (1 : Fin 2) * 2048 + 1 * k.val = k.val; omega
  · rw [V_v6]; exact side_apply_2048_2048 _ _ k

theorem blk8_apply (c : Dev nD) (t : Fin cfg0.N) (r : Fin 16) (k : Fin 11264) :
    (iblk m c 8 t : Vec Ideal S16x11264 .f32) (ix2 r k) = arg8 m c (ix3 0 (row8 t r) k) := by
  obtain ⟨e0, e1⟩ := index_8 t
  refine Eq.trans (b := (V m c main_v7 : Vec Ideal S2048x11264 .f32) (ix2 (row8 t r) k)) ?_ ?_
  · show (V m c main_v7 : Vec Ideal S2048x11264 .f32) (((cfg0.win 8).blk t).view.emb (ix2 r k)) = _
    refine congrArg (V m c main_v7 : Vec Ideal S2048x11264 .f32) (funext fun a => Fin.ext ?_)
    match a with
    | ⟨0, _⟩ => show win0_8.index t (0 : Fin 2) * 16 + 1 * r.val = t.val * 16 + r.val; omega
    | ⟨1, _⟩ => show win0_8.index t (1 : Fin 2) * 11264 + 1 * k.val = k.val; omega
  · rw [V_v7]; exact side_apply_2048_11264 _ _ k

theorem blk9_apply (c : Dev nD) (t : Fin cfg0.N) (r : Fin 176) (k : Fin 2048) :
    (iblk m c 9 t : Vec Ideal S176x2048 .f32) (ix2 r k) = arg9 m c (ix3 0 (row9 t r) k) := by
  obtain ⟨e0, e1⟩ := index_9 t
  refine Eq.trans (b := (V m c main_v8 : Vec Ideal S5632x2048 .f32) (ix2 (row9 t r) k)) ?_ ?_
  · show (V m c main_v8 : Vec Ideal S5632x2048 .f32) (((cfg0.win 9).blk t).view.emb (ix2 r k)) = _
    refine congrArg (V m c main_v8 : Vec Ideal S5632x2048 .f32) (funext fun a => Fin.ext ?_)
    match a with
    | ⟨0, _⟩ => show win0_9.index t (0 : Fin 2) * 176 + 1 * r.val = t.val / 4 * 176 + r.val; omega
    | ⟨1, _⟩ => show win0_9.index t (1 : Fin 2) * 2048 + 1 * k.val = k.val; omega
  · rw [V_v8]; exact side_apply_5632_2048 _ _ k

theorem blk1_apply (c : Dev nD) (t : Fin cfg0.N) (r : Fin 1024) (j : Fin 6) (k : Fin 2048) :
    (iblk m c 1 t : Vec Ideal S1x6x2048 .f32) (ix3 0 j k) = argM m c (ix2 (batchOf (rowOf t r)) ⟨j.val * 2048 + k.val, by omega⟩) := by
  obtain ⟨e0, e1, e2⟩ := index_1 t
  refine Eq.trans (b := (V m c main_v10 : Vec Ideal S4x6x2048 .f32) (ix3 (batchOf (rowOf t r)) j k)) ?_ ?_
  · show (V m c main_v10 : Vec Ideal S4x6x2048 .f32) (((cfg0.win 1).blk t).view.emb (ix3 0 j k)) = _
    refine congrArg (V m c main_v10 : Vec Ideal S4x6x2048 .f32) (funext fun a => Fin.ext ?_)
    match a with
    | ⟨0, _⟩ => show win0_1.index t (0 : Fin 3) * 1 + 1 * 0 = (t.val / 8 * 1024 + r.val) / 4096; omega
    | ⟨1, _⟩ => show win0_1.index t (1 : Fin 3) * 6 + 1 * j.val = j.val; omega
    | ⟨2, _⟩ => show win0_1.index t (2 : Fin 3) * 2048 + 1 * k.val = k.val; omega
  · rw [V_v10]; exact mods_apply _ _ j k

/-- The shift row of the modulations, -/
theorem shift_row (x : Vec Ideal S1x6x2048 .f32) (k : Fin 2048) :
    (View.ld x (Rect.unit (s := S1x6x2048) ![0, 0, 0] S1x1x2048.size inb_S1x6x2048_S1x1x2048_0_0_0) : Vec Ideal S1x1x2048 .f32) (ix3 0 0 k) = x (ix3 0 0 k) := by
  refine congrArg x (funext fun a => Fin.ext ?_)
  match a with
  | ⟨0, _⟩ => rfl
  | ⟨1, _⟩ => rfl
  | ⟨2, _⟩ => show 0 + 1 * k.val = k.val; omega

/-- and the scale row. -/
theorem scale_row (x : Vec Ideal S1x6x2048 .f32) (k : Fin 2048) :
    (View.ld x (Rect.unit (s := S1x6x2048) ![0, 1, 0] S1x1x2048.size inb_S1x6x2048_S1x1x2048_0_1_0) : Vec Ideal S1x1x2048 .f32) (ix3 0 0 k) = x (ix3 0 1 k) := by
  refine congrArg x (funext fun a => Fin.ext ?_)
  match a with
  | ⟨0, _⟩ => rfl
  | ⟨1, _⟩ => rfl
  | ⟨2, _⟩ => show 0 + 1 * k.val = k.val; omega

/-- Row `R` of the stream, normalised and modulated. -/
def nrm (c : Dev nD) (R : Fin 16384) (k : Fin 2048) : EReal :=
  hid (fun k => argX m c (ix3 (batchOf R) (tokOf R) k)) (fun k => argG m c (ix2 0 k)) (fun k => argM m c (ix2 (batchOf R) ⟨2048 + k.val, by omega⟩))
    (fun k => argM m c (ix2 (batchOf R) ⟨k.val, by omega⟩)) k

theorem rowsAt_apply (c : Dev nD) (t : Fin cfg0.N) (r : Fin 1024) (k : Fin 2048) :
    (rowsAt m c t : Vec Ideal S1024x2048 .bf16) (ix2 r k) = nrm m c (rowOf t r) k := by
  unfold rowsAt Proj.hidden nrm
  rw [pay2_apply]
  congr 1
  · funext k; exact blk0_apply m c t r k
  · funext k; exact blk2_apply m c t 0 k
  · funext k; exact (scale_row _ k).trans (blk1_apply m c t r 1 k)
  · funext k
    refine ((shift_row _ k).trans (blk1_apply m c t r 0 k)).trans (congrArg (fun q : Fin 12288 => argM m c (ix2 (batchOf (rowOf t r)) q)) (Fin.ext ?_))
    show 0 * 2048 + k.val = k.val
    omega

/-! ## The seven arrays after the region -/

/-- The projected rows, -/
def G10 (c : Dev nD) : Vec Ideal S16384x8192 .bf16 := fun i => ∑ k : Fin 2048, nrm m c (i 0) k * argW m c (ix2 k (i 1))
/-- their rotary columns, -/
def G11 (c : Dev nD) : Vec Ideal S16384x256 .f32 := fun i => rope (fun j => ∑ k : Fin 2048, nrm m c (i 0) k * argK m c (ix2 j k)) (i 1)
/-! and the five weights. -/
def G12 (c : Dev nD) : Vec Ideal S1024x2048 .bf16 := fun i => arg5 m c (ix3 0 (i 0) (i 1))
def G13 (c : Dev nD) : Vec Ideal S1024x2048 .bf16 := fun i => arg6 m c (ix3 0 (i 0) (i 1))
def G14 (c : Dev nD) : Vec Ideal S2048x2048 .bf16 := fun i => arg7 m c (ix3 0 (i 0) (i 1))
def G15 (c : Dev nD) : Vec Ideal S2048x11264 .bf16 := fun i => arg8 m c (ix3 0 (i 0) (i 1))
def G16 (c : Dev nD) : Vec Ideal S5632x2048 .bf16 := fun i => arg9 m c (ix3 0 (i 0) (i 1))

theorem flushed10 (c : Dev nD) (t : Fin cfg0.N) :
    (dats m 0 c).flushed 10 t = ((cfg0.win 10).blk t).view.read (Elt Ideal) (G10 m c) := by
  obtain ⟨e0, e1⟩ := index_10 t
  show (cfg0.win 10).cut (grid0.coords t) ((dats m 0 c).after 10 t) = _
  rw [after_10]
  funext (y : S1024x1024.Idx)
  show k0_pay4 (rowsAt m c t) (iblk m c 3 t) y = G10 m c (((cfg0.win 10).blk t).view.emb y)
  obtain ⟨r, l, rfl⟩ : ∃ (r : Fin 1024) (l : Fin 1024), y = ix2 r l := ⟨y 0, y 1, by funext a; match a with | ⟨0, _⟩ => rfl | ⟨1, _⟩ => rfl⟩
  rw [show ((cfg0.win 10).blk t).view.emb (ix2 r l) = (ix2 (rowOf t r) (colOf t l) : S16384x8192.Idx) from
    funext fun a => Fin.ext (by
      match a with
      | ⟨0, _⟩ => show win0_10.index t (0 : Fin 2) * 1024 + 1 * r.val = t.val / 8 * 1024 + r.val; omega
      | ⟨1, _⟩ => show win0_10.index t (1 : Fin 2) * 1024 + 1 * l.val = t.val % 8 * 1024 + l.val; omega)]
  rw [pay4_apply]
  exact Finset.sum_congr rfl fun k _ => congrArg₂ (· * ·) (rowsAt_apply m c t r k) (blk3_apply m c t k l)

theorem mem10 (t : Fin cfg0.N) (i : S16384x8192.Idx) : i ∈ ((cfg0.win 10).blk t).view.set
    ↔ ∀ a : Fin 2, win0_10.index t a * S1024x1024.size a ≤ (i a).val ∧ (i a).val < win0_10.index t a * S1024x1024.size a + S1024x1024.size a := by
  show i ∈ ((View.whole main_v13_0).slice (win0_10.rect t)).set ↔ _
  rw [View.set_slice_whole, Rect.mem_set_unit]; exact Iff.rfl

theorem flushed11 (c : Dev nD) (t : Fin cfg0.N) :
    (dats m 0 c).flushed 11 t = ((cfg0.win 11).blk t).view.read (Elt Ideal) (G11 m c) := by
  obtain ⟨e0, e1⟩ := index_11 t
  show (cfg0.win 11).cut (grid0.coords t) ((dats m 0 c).after 11 t) = _
  rw [after_11]
  funext (y : S1024x256.Idx)
  show k0_pay3 (rowsAt m c t) (iblk m c 4 t) y = G11 m c (((cfg0.win 11).blk t).view.emb y)
  obtain ⟨r, l, rfl⟩ : ∃ (r : Fin 1024) (l : Fin 256), y = ix2 r l := ⟨y 0, y 1, by funext a; match a with | ⟨0, _⟩ => rfl | ⟨1, _⟩ => rfl⟩
  rw [show ((cfg0.win 11).blk t).view.emb (ix2 r l) = (ix2 (rowOf t r) l : S16384x256.Idx) from
    funext fun a => Fin.ext (by
      match a with
      | ⟨0, _⟩ => show win0_11.index t (0 : Fin 2) * 1024 + 1 * r.val = t.val / 8 * 1024 + r.val; omega
      | ⟨1, _⟩ => show win0_11.index t (1 : Fin 2) * 256 + 1 * l.val = l.val; omega)]
  rw [pay3_apply]
  refine Eq.trans (Finset.sum_congr rfl fun k _ => congrArg₂ (· * ·) (rowsAt_apply m c t r k) (blk4_apply m c t l k)) ?_
  exact sum_rope _ (fun j k => argK m c (ix2 j k)) l

theorem mem11 (t : Fin cfg0.N) (i : S16384x256.Idx) : i ∈ ((cfg0.win 11).blk t).view.set
    ↔ ∀ a : Fin 2, win0_11.index t a * S1024x256.size a ≤ (i a).val ∧ (i a).val < win0_11.index t a * S1024x256.size a + S1024x256.size a := by
  show i ∈ ((View.whole main_v13_1).slice (win0_11.rect t)).set ↔ _
  rw [View.set_slice_whole, Rect.mem_set_unit]; exact Iff.rfl

theorem flushed12 (c : Dev nD) (t : Fin cfg0.N) :
    (dats m 0 c).flushed 12 t = ((cfg0.win 12).blk t).view.read (Elt Ideal) (G12 m c) := by
  obtain ⟨e0, e1⟩ := index_12 t
  show (cfg0.win 12).cut (grid0.coords t) ((dats m 0 c).after 12 t) = _
  rw [after_12]
  funext (y : S16x2048.Idx)
  show k0_pay5 (iblk m c 5 t) y = G12 m c (((cfg0.win 12).blk t).view.emb y)
  obtain ⟨r, l, rfl⟩ : ∃ (r : Fin 16) (l : Fin 2048), y = ix2 r l := ⟨y 0, y 1, by funext a; match a with | ⟨0, _⟩ => rfl | ⟨1, _⟩ => rfl⟩
  rw [show ((cfg0.win 12).blk t).view.emb (ix2 r l) = (ix2 (row5 t r) l : S1024x2048.Idx) from
    funext fun a => Fin.ext (by
      match a with
      | ⟨0, _⟩ => show win0_12.index t (0 : Fin 2) * 16 + 1 * r.val = t.val / 2 * 16 + r.val; omega
      | ⟨1, _⟩ => show win0_12.index t (1 : Fin 2) * 2048 + 1 * l.val = l.val; omega)]
  exact (pay5_apply _ r l).trans (blk5_apply m c t r l)

theorem mem12 (t : Fin cfg0.N) (i : S1024x2048.Idx) : i ∈ ((cfg0.win 12).blk t).view.set
    ↔ ∀ a : Fin 2, win0_12.index t a * S16x2048.size a ≤ (i a).val ∧ (i a).val < win0_12.index t a * S16x2048.size a + S16x2048.size a := by
  show i ∈ ((View.whole main_v13_2).slice (win0_12.rect t)).set ↔ _
  rw [View.set_slice_whole, Rect.mem_set_unit]; exact Iff.rfl

theorem flushed13 (c : Dev nD) (t : Fin cfg0.N) :
    (dats m 0 c).flushed 13 t = ((cfg0.win 13).blk t).view.read (Elt Ideal) (G13 m c) := by
  obtain ⟨e0, e1⟩ := index_13 t
  show (cfg0.win 13).cut (grid0.coords t) ((dats m 0 c).after 13 t) = _
  rw [after_13]
  funext (y : S16x2048.Idx)
  show k0_pay6 (iblk m c 6 t) y = G13 m c (((cfg0.win 13).blk t).view.emb y)
  obtain ⟨r, l, rfl⟩ : ∃ (r : Fin 16) (l : Fin 2048), y = ix2 r l := ⟨y 0, y 1, by funext a; match a with | ⟨0, _⟩ => rfl | ⟨1, _⟩ => rfl⟩
  rw [show ((cfg0.win 13).blk t).view.emb (ix2 r l) = (ix2 (row6 t r) l : S1024x2048.Idx) from
    funext fun a => Fin.ext (by
      match a with
      | ⟨0, _⟩ => show win0_13.index t (0 : Fin 2) * 16 + 1 * r.val = t.val / 2 * 16 + r.val; omega
      | ⟨1, _⟩ => show win0_13.index t (1 : Fin 2) * 2048 + 1 * l.val = l.val; omega)]
  exact (pay6_apply _ r l).trans (blk6_apply m c t r l)

theorem mem13 (t : Fin cfg0.N) (i : S1024x2048.Idx) : i ∈ ((cfg0.win 13).blk t).view.set
    ↔ ∀ a : Fin 2, win0_13.index t a * S16x2048.size a ≤ (i a).val ∧ (i a).val < win0_13.index t a * S16x2048.size a + S16x2048.size a := by
  show i ∈ ((View.whole main_v13_3).slice (win0_13.rect t)).set ↔ _
  rw [View.set_slice_whole, Rect.mem_set_unit]; exact Iff.rfl

theorem flushed14 (c : Dev nD) (t : Fin cfg0.N) :
    (dats m 0 c).flushed 14 t = ((cfg0.win 14).blk t).view.read (Elt Ideal) (G14 m c) := by
  obtain ⟨e0, e1⟩ := index_14 t
  show (cfg0.win 14).cut (grid0.coords t) ((dats m 0 c).after 14 t) = _
  rw [after_14]
  funext (y : S16x2048.Idx)
  show k0_pay7 (iblk m c 7 t) y = G14 m c (((cfg0.win 14).blk t).view.emb y)
  obtain ⟨r, l, rfl⟩ : ∃ (r : Fin 16) (l : Fin 2048), y = ix2 r l := ⟨y 0, y 1, by funext a; match a with | ⟨0, _⟩ => rfl | ⟨1, _⟩ => rfl⟩
  rw [show ((cfg0.win 14).blk t).view.emb (ix2 r l) = (ix2 (row7 t r) l : S2048x2048.Idx) from
    funext fun a => Fin.ext (by
      match a with
      | ⟨0, _⟩ => show win0_14.index t (0 : Fin 2) * 16 + 1 * r.val = t.val * 16 + r.val; omega
      | ⟨1, _⟩ => show win0_14.index t (1 : Fin 2) * 2048 + 1 * l.val = l.val; omega)]
  exact (pay7_apply _ r l).trans (blk7_apply m c t r l)

theorem mem14 (t : Fin cfg0.N) (i : S2048x2048.Idx) : i ∈ ((cfg0.win 14).blk t).view.set
    ↔ ∀ a : Fin 2, win0_14.index t a * S16x2048.size a ≤ (i a).val ∧ (i a).val < win0_14.index t a * S16x2048.size a + S16x2048.size a := by
  show i ∈ ((View.whole main_v13_4).slice (win0_14.rect t)).set ↔ _
  rw [View.set_slice_whole, Rect.mem_set_unit]; exact Iff.rfl

theorem flushed15 (c : Dev nD) (t : Fin cfg0.N) :
    (dats m 0 c).flushed 15 t = ((cfg0.win 15).blk t).view.read (Elt Ideal) (G15 m c) := by
  obtain ⟨e0, e1⟩ := index_15 t
  show (cfg0.win 15).cut (grid0.coords t) ((dats m 0 c).after 15 t) = _
  rw [after_15]
  funext (y : S16x11264.Idx)
  show k0_pay8 (iblk m c 8 t) y = G15 m c (((cfg0.win 15).blk t).view.emb y)
  obtain ⟨r, l, rfl⟩ : ∃ (r : Fin 16) (l : Fin 11264), y = ix2 r l := ⟨y 0, y 1, by funext a; match a with | ⟨0, _⟩ => rfl | ⟨1, _⟩ => rfl⟩
  rw [show ((cfg0.win 15).blk t).view.emb (ix2 r l) = (ix2 (row8 t r) l : S2048x11264.Idx) from
    funext fun a => Fin.ext (by
      match a with
      | ⟨0, _⟩ => show win0_15.index t (0 : Fin 2) * 16 + 1 * r.val = t.val * 16 + r.val; omega
      | ⟨1, _⟩ => show win0_15.index t (1 : Fin 2) * 11264 + 1 * l.val = l.val; omega)]
  exact (pay8_apply _ r l).trans (blk8_apply m c t r l)

theorem mem15 (t : Fin cfg0.N) (i : S2048x11264.Idx) : i ∈ ((cfg0.win 15).blk t).view.set
    ↔ ∀ a : Fin 2, win0_15.index t a * S16x11264.size a ≤ (i a).val ∧ (i a).val < win0_15.index t a * S16x11264.size a + S16x11264.size a := by
  show i ∈ ((View.whole main_v13_5).slice (win0_15.rect t)).set ↔ _
  rw [View.set_slice_whole, Rect.mem_set_unit]; exact Iff.rfl

theorem flushed16 (c : Dev nD) (t : Fin cfg0.N) :
    (dats m 0 c).flushed 16 t = ((cfg0.win 16).blk t).view.read (Elt Ideal) (G16 m c) := by
  obtain ⟨e0, e1⟩ := index_16 t
  show (cfg0.win 16).cut (grid0.coords t) ((dats m 0 c).after 16 t) = _
  rw [after_16]
  funext (y : S176x2048.Idx)
  show k0_pay1 (iblk m c 9 t) y = G16 m c (((cfg0.win 16).blk t).view.emb y)
  obtain ⟨r, l, rfl⟩ : ∃ (r : Fin 176) (l : Fin 2048), y = ix2 r l := ⟨y 0, y 1, by funext a; match a with | ⟨0, _⟩ => rfl | ⟨1, _⟩ => rfl⟩
  rw [show ((cfg0.win 16).blk t).view.emb (ix2 r l) = (ix2 (row9 t r) l : S5632x2048.Idx) from
    funext fun a => Fin.ext (by
      match a with
      | ⟨0, _⟩ => show win0_16.index t (0 : Fin 2) * 176 + 1 * r.val = t.val / 4 * 176 + r.val; omega
      | ⟨1, _⟩ => show win0_16.index t (1 : Fin 2) * 2048 + 1 * l.val = l.val; omega)]
  exact (pay1_apply _ r l).trans (blk9_apply m c t r l)

theorem mem16 (t : Fin cfg0.N) (i : S5632x2048.Idx) : i ∈ ((cfg0.win 16).blk t).view.set
    ↔ ∀ a : Fin 2, win0_16.index t a * S176x2048.size a ≤ (i a).val ∧ (i a).val < win0_16.index t a * S176x2048.size a + S176x2048.size a := by
  show i ∈ ((View.whole main_v13_6).slice (win0_16.rect t)).set ↔ _
  rw [View.set_slice_whole, Rect.mem_set_unit]; exact Iff.rfl

theorem final10 (c : Dev nD) : (dats m 0 c).arrAt 10 cfg0.N = G10 m c :=
  (dats m 0 c).arrAt_eq_of_cover 10 _ (fun t _ => flushed10 m c t) (fun (i : S16384x8192.Idx) => by
    have h0 : (i 0).val < 16384 := (i 0).isLt
    have h1 : (i 1).val < 8192 := (i 1).isLt
    have ht : (i 0).val / 1024 * 8 + (i 1).val / 1024 < cfg0.N := lt_of_lt_of_eq (by omega) (show 128 = cfg0.N from N_0.symm)
    refine ⟨⟨(i 0).val / 1024 * 8 + (i 1).val / 1024, ht⟩, flush0_10 _, (mem10 _ i).mpr fun a => ?_⟩
    obtain ⟨e0, e1⟩ := index_10 ⟨(i 0).val / 1024 * 8 + (i 1).val / 1024, ht⟩
    dsimp only at e0 e1
    match a with
    | ⟨0, _⟩ => show win0_10.index _ (0 : Fin 2) * 1024 ≤ (i 0).val ∧ (i 0).val < win0_10.index _ (0 : Fin 2) * 1024 + 1024; omega
    | ⟨1, _⟩ => show win0_10.index _ (1 : Fin 2) * 1024 ≤ (i 1).val ∧ (i 1).val < win0_10.index _ (1 : Fin 2) * 1024 + 1024; omega)

theorem final11 (c : Dev nD) : (dats m 0 c).arrAt 11 cfg0.N = G11 m c :=
  (dats m 0 c).arrAt_eq_of_cover 11 _ (fun t _ => flushed11 m c t) (fun (i : S16384x256.Idx) => by
    have h0 : (i 0).val < 16384 := (i 0).isLt
    have h1 : (i 1).val < 256 := (i 1).isLt
    have ht : (i 0).val / 1024 * 8 + 7 < cfg0.N := lt_of_lt_of_eq (by omega) (show 128 = cfg0.N from N_0.symm)
    refine ⟨⟨(i 0).val / 1024 * 8 + 7, ht⟩, (flush0_11 _).mpr (by dsimp only; omega), (mem11 _ i).mpr fun a => ?_⟩
    obtain ⟨e0, e1⟩ := index_11 ⟨(i 0).val / 1024 * 8 + 7, ht⟩
    dsimp only at e0 e1
    match a with
    | ⟨0, _⟩ => show win0_11.index _ (0 : Fin 2) * 1024 ≤ (i 0).val ∧ (i 0).val < win0_11.index _ (0 : Fin 2) * 1024 + 1024; omega
    | ⟨1, _⟩ => show win0_11.index _ (1 : Fin 2) * 256 ≤ (i 1).val ∧ (i 1).val < win0_11.index _ (1 : Fin 2) * 256 + 256; omega)

theorem final12 (c : Dev nD) : (dats m 0 c).arrAt 12 cfg0.N = G12 m c :=
  (dats m 0 c).arrAt_eq_of_cover 12 _ (fun t _ => flushed12 m c t) (fun (i : S1024x2048.Idx) => by
    have h0 : (i 0).val < 1024 := (i 0).isLt
    have h1 : (i 1).val < 2048 := (i 1).isLt
    have ht : (i 0).val / 16 * 2 + 1 < cfg0.N := lt_of_lt_of_eq (by omega) (show 128 = cfg0.N from N_0.symm)
    refine ⟨⟨(i 0).val / 16 * 2 + 1, ht⟩, (flush0_12 _).mpr (by dsimp only; omega), (mem12 _ i).mpr fun a => ?_⟩
    obtain ⟨e0, e1⟩ := index_12 ⟨(i 0).val / 16 * 2 + 1, ht⟩
    dsimp only at e0 e1
    match a with
    | ⟨0, _⟩ => show win0_12.index _ (0 : Fin 2) * 16 ≤ (i 0).val ∧ (i 0).val < win0_12.index _ (0 : Fin 2) * 16 + 16; omega
    | ⟨1, _⟩ => show win0_12.index _ (1 : Fin 2) * 2048 ≤ (i 1).val ∧ (i 1).val < win0_12.index _ (1 : Fin 2) * 2048 + 2048; omega)

theorem final13 (c : Dev nD) : (dats m 0 c).arrAt 13 cfg0.N = G13 m c :=
  (dats m 0 c).arrAt_eq_of_cover 13 _ (fun t _ => flushed13 m c t) (fun (i : S1024x2048.Idx) => by
    have h0 : (i 0).val < 1024 := (i 0).isLt
    have h1 : (i 1).val < 2048 := (i 1).isLt
    have ht : (i 0).val / 16 * 2 + 1 < cfg0.N := lt_of_lt_of_eq (by omega) (show 128 = cfg0.N from N_0.symm)
    refine ⟨⟨(i 0).val / 16 * 2 + 1, ht⟩, (flush0_13 _).mpr (by dsimp only; omega), (mem13 _ i).mpr fun a => ?_⟩
    obtain ⟨e0, e1⟩ := index_13 ⟨(i 0).val / 16 * 2 + 1, ht⟩
    dsimp only at e0 e1
    match a with
    | ⟨0, _⟩ => show win0_13.index _ (0 : Fin 2) * 16 ≤ (i 0).val ∧ (i 0).val < win0_13.index _ (0 : Fin 2) * 16 + 16; omega
    | ⟨1, _⟩ => show win0_13.index _ (1 : Fin 2) * 2048 ≤ (i 1).val ∧ (i 1).val < win0_13.index _ (1 : Fin 2) * 2048 + 2048; omega)

theorem final14 (c : Dev nD) : (dats m 0 c).arrAt 14 cfg0.N = G14 m c :=
  (dats m 0 c).arrAt_eq_of_cover 14 _ (fun t _ => flushed14 m c t) (fun (i : S2048x2048.Idx) => by
    have h0 : (i 0).val < 2048 := (i 0).isLt
    have h1 : (i 1).val < 2048 := (i 1).isLt
    have ht : (i 0).val / 16 < cfg0.N := lt_of_lt_of_eq (by omega) (show 128 = cfg0.N from N_0.symm)
    refine ⟨⟨(i 0).val / 16, ht⟩, flush0_14 _, (mem14 _ i).mpr fun a => ?_⟩
    obtain ⟨e0, e1⟩ := index_14 ⟨(i 0).val / 16, ht⟩
    dsimp only at e0 e1
    match a with
    | ⟨0, _⟩ => show win0_14.index _ (0 : Fin 2) * 16 ≤ (i 0).val ∧ (i 0).val < win0_14.index _ (0 : Fin 2) * 16 + 16; omega
    | ⟨1, _⟩ => show win0_14.index _ (1 : Fin 2) * 2048 ≤ (i 1).val ∧ (i 1).val < win0_14.index _ (1 : Fin 2) * 2048 + 2048; omega)

theorem final15 (c : Dev nD) : (dats m 0 c).arrAt 15 cfg0.N = G15 m c :=
  (dats m 0 c).arrAt_eq_of_cover 15 _ (fun t _ => flushed15 m c t) (fun (i : S2048x11264.Idx) => by
    have h0 : (i 0).val < 2048 := (i 0).isLt
    have h1 : (i 1).val < 11264 := (i 1).isLt
    have ht : (i 0).val / 16 < cfg0.N := lt_of_lt_of_eq (by omega) (show 128 = cfg0.N from N_0.symm)
    refine ⟨⟨(i 0).val / 16, ht⟩, flush0_15 _, (mem15 _ i).mpr fun a => ?_⟩
    obtain ⟨e0, e1⟩ := index_15 ⟨(i 0).val / 16, ht⟩
    dsimp only at e0 e1
    match a with
    | ⟨0, _⟩ => show win0_15.index _ (0 : Fin 2) * 16 ≤ (i 0).val ∧ (i 0).val < win0_15.index _ (0 : Fin 2) * 16 + 16; omega
    | ⟨1, _⟩ => show win0_15.index _ (1 : Fin 2) * 11264 ≤ (i 1).val ∧ (i 1).val < win0_15.index _ (1 : Fin 2) * 11264 + 11264; omega)

theorem final16 (c : Dev nD) : (dats m 0 c).arrAt 16 cfg0.N = G16 m c :=
  (dats m 0 c).arrAt_eq_of_cover 16 _ (fun t _ => flushed16 m c t) (fun (i : S5632x2048.Idx) => by
    have h0 : (i 0).val < 5632 := (i 0).isLt
    have h1 : (i 1).val < 2048 := (i 1).isLt
    have ht : (i 0).val / 176 * 4 + 3 < cfg0.N := lt_of_lt_of_eq (by omega) (show 128 = cfg0.N from N_0.symm)
    refine ⟨⟨(i 0).val / 176 * 4 + 3, ht⟩, (flush0_16 _).mpr (by dsimp only; omega), (mem16 _ i).mpr fun a => ?_⟩
    obtain ⟨e0, e1⟩ := index_16 ⟨(i 0).val / 176 * 4 + 3, ht⟩
    dsimp only at e0 e1
    match a with
    | ⟨0, _⟩ => show win0_16.index _ (0 : Fin 2) * 176 ≤ (i 0).val ∧ (i 0).val < win0_16.index _ (0 : Fin 2) * 176 + 176; omega
    | ⟨1, _⟩ => show win0_16.index _ (1 : Fin 2) * 2048 ≤ (i 1).val ∧ (i 1).val < win0_16.index _ (1 : Fin 2) * 2048 + 2048; omega)

/-- The run with its seven results as functions of the arguments. -/
theorem run (ρ : Dev nD → PrngReg) : θ_run defs (onTc (τ := τ) (main (F := Ideal))) ⟨m, fun _ => 0, ρ⟩ fun r => ∀ c : Dev nD,
      r.2.mem ((c.tc : Thread nD τ).loc main_v13_0) = G10 m c ∧ r.2.mem ((c.tc : Thread nD τ).loc main_v13_1) = G11 m c ∧ r.2.mem ((c.tc : Thread nD τ).loc main_v13_2) = G12 m c ∧ r.2.mem ((c.tc : Thread nD τ).loc main_v13_3) = G13 m c ∧ r.2.mem ((c.tc : Thread nD τ).loc main_v13_4) = G14 m c ∧ r.2.mem ((c.tc : Thread nD τ).loc main_v13_5) = G15 m c ∧ r.2.mem ((c.tc : Thread nD τ).loc main_v13_6) = G16 m c :=
  (θ_run defs _ _).mono (fun r h c => ⟨((h.1 c).1 10).trans (final10 m c), ((h.1 c).1 11).trans (final11 m c), ((h.1 c).1 12).trans (final12 m c), ((h.1 c).1 13).trans (final13 m c), ((h.1 c).1 14).trans (final14 m c), ((h.1 c).1 15).trans (final15 m c), ((h.1 c).1 16).trans (final16 m c)⟩) (run_quiescent m ρ)

/-! ## Against the reference -/

open Cert.ProjRefIdeal.Read (val_main_v37 val_main_v36 val_main_v39 val_main_v41 val_main_v43 val_main_v45 val_main_v47)

theorem eq10 (c : Dev nD) : G10 m c = val_main_v37 (F := Ideal) (m ((c : Thread nD τ).loc main_arg0)) (m ((c : Thread nD τ).loc main_arg1)) (m ((c : Thread nD τ).loc main_arg2)) (m ((c : Thread nD τ).loc main_arg3)) := by
  funext (y : S16384x8192.Idx)
  obtain ⟨r, l, rfl⟩ : ∃ (r : Fin 16384) (l : Fin 8192), y = ix2 r l := ⟨y 0, y 1, by funext a; match a with | ⟨0, _⟩ => rfl | ⟨1, _⟩ => rfl⟩
  exact (ref37_apply _ _ _ _ r l).symm

theorem eq11 (c : Dev nD) : G11 m c = val_main_v36 (F := Ideal) (m ((c : Thread nD τ).loc main_arg0)) (m ((c : Thread nD τ).loc main_arg1)) (m ((c : Thread nD τ).loc main_arg2)) (m ((c : Thread nD τ).loc main_arg4)) := by
  funext (y : S16384x256.Idx)
  obtain ⟨r, l, rfl⟩ : ∃ (r : Fin 16384) (l : Fin 256), y = ix2 r l := ⟨y 0, y 1, by funext a; match a with | ⟨0, _⟩ => rfl | ⟨1, _⟩ => rfl⟩
  exact (ref36_apply _ _ _ _ r l).symm

theorem eq12 (c : Dev nD) : G12 m c = val_main_v39 (F := Ideal) (m ((c : Thread nD τ).loc main_arg5)) := by
  funext (y : S1024x2048.Idx)
  obtain ⟨r, l, rfl⟩ : ∃ (r : Fin 1024) (l : Fin 2048), y = ix2 r l := ⟨y 0, y 1, by funext a; match a with | ⟨0, _⟩ => rfl | ⟨1, _⟩ => rfl⟩
  exact (ref39_apply _ r l).symm

theorem eq13 (c : Dev nD) : G13 m c = val_main_v41 (F := Ideal) (m ((c : Thread nD τ).loc main_arg6)) := by
  funext (y : S1024x2048.Idx)
  obtain ⟨r, l, rfl⟩ : ∃ (r : Fin 1024) (l : Fin 2048), y = ix2 r l := ⟨y 0, y 1, by funext a; match a with | ⟨0, _⟩ => rfl | ⟨1, _⟩ => rfl⟩
  exact (ref41_apply _ r l).symm

theorem eq14 (c : Dev nD) : G14 m c = val_main_v43 (F := Ideal) (m ((c : Thread nD τ).loc main_arg7)) := by
  funext (y : S2048x2048.Idx)
  obtain ⟨r, l, rfl⟩ : ∃ (r : Fin 2048) (l : Fin 2048), y = ix2 r l := ⟨y 0, y 1, by funext a; match a with | ⟨0, _⟩ => rfl | ⟨1, _⟩ => rfl⟩
  exact (ref43_apply _ r l).symm

theorem eq15 (c : Dev nD) : G15 m c = val_main_v45 (F := Ideal) (m ((c : Thread nD τ).loc main_arg8)) := by
  funext (y : S2048x11264.Idx)
  obtain ⟨r, l, rfl⟩ : ∃ (r : Fin 2048) (l : Fin 11264), y = ix2 r l := ⟨y 0, y 1, by funext a; match a with | ⟨0, _⟩ => rfl | ⟨1, _⟩ => rfl⟩
  exact (ref45_apply _ r l).symm

theorem eq16 (c : Dev nD) : G16 m c = val_main_v47 (F := Ideal) (m ((c : Thread nD τ).loc main_arg9)) := by
  funext (y : S5632x2048.Idx)
  obtain ⟨r, l, rfl⟩ : ∃ (r : Fin 5632) (l : Fin 2048), y = ix2 r l := ⟨y 0, y 1, by funext a; match a with | ⟨0, _⟩ => rfl | ⟨1, _⟩ => rfl⟩
  exact (ref47_apply _ r l).symm

/-- The claim: from the same arguments the kernel's seven results are the reference's. -/
theorem algebraic : Cert.algebraic_ProjIdeal_ProjRefIdeal := by
  intro m g m' g' _ hargs
  refine ⟨fun c => G10 m c, fun c => G11 m c, fun c => G12 m c, fun c => G13 m c, fun c => G14 m c, fun c => G15 m c, fun c => G16 m c, ?_, ?_⟩
  · refine (θ_run defs _ _).mono (fun r h c => ?_) (θ_run_and (run m g) (Proj.frame m g))
    obtain ⟨h10, h11, h12, h13, h14, h15, h16⟩ := h.1 c
    exact ⟨h10, h11, h12, h13, h14, h15, h16, h.2.1 c⟩
  · refine (θ_run Cert.ProjRefIdeal.defs _ _).mono (fun r h c => ?_) (Cert.ProjRefIdeal.Value.run m' g')
    obtain ⟨e0, e1, e2, e3, e4, e5, e6, e7, e8, e9⟩ := hargs c
    obtain ⟨h37, h36, h39, h41, h43, h45, h47, hk⟩ := h c
    refine ⟨h37.trans ((Cert.ProjRefIdeal.Read.val_main_v37_eq _ _ _ _).trans ?_), h36.trans ((Cert.ProjRefIdeal.Read.val_main_v36_eq _ _).trans ?_),
      h39.trans ((Cert.ProjRefIdeal.Read.val_main_v39_eq _).trans ?_), h41.trans ((Cert.ProjRefIdeal.Read.val_main_v41_eq _).trans ?_), h43.trans ((Cert.ProjRefIdeal.Read.val_main_v43_eq _).trans ?_), h45.trans ((Cert.ProjRefIdeal.Read.val_main_v45_eq _).trans ?_), h47.trans ((Cert.ProjRefIdeal.Read.val_main_v47_eq _).trans ?_), hk⟩
    · rw [e0, e1, e2, e3]; exact (eq10 m c).symm
    · rw [e0, e1, e2, e4]; exact (eq11 m c).symm
    · rw [e5]; exact (eq12 m c).symm
    · rw [e6]; exact (eq13 m c).symm
    · rw [e7]; exact (eq14 m c).symm
    · rw [e8]; exact (eq15 m c).symm
    · rw [e9]; exact (eq16 m c).symm

end Cert.ProjIdeal.ProjValue

end
-- ==== Proof.Merge.Pure.lean ====
/- The merge's computations, element by element over the reals: the kernel's stored block and the reference's result. -/
module

public import proofs.«01_k».proof.Proof.Gen.MergeIdeal.Skeleton
public import proofs.«01_k».proof.Proof.Gen.MergeRefIdeal.Read
public import Idealize.ShloMosaic.Lib.Pointwise

@[expose] public section

set_option maxRecDepth 16384

noncomputable section

namespace Cert.MergeIdeal.MergePure

open Idealize.ShloMosaic Cert.MergeIdeal Cert.MergeIdeal.Gen

/-- The gate of one element. -/
def sg (x : EReal) : EReal := Ideal.div 1 (1 + Ideal.exp (-x))

/-- One element of a merged row: the two branches' outputs projected, each through its gate. -/
def mix (ga gb : EReal) (ya yb wa wb : Fin 1024 → EReal) : EReal := sg ga * (∑ k, ya k * wa k) + sg gb * ∑ k, yb k * wb k

theorem pay_apply (x0 : Vec Ideal S256x1024 .bf16) (x1 : Vec Ideal S256x1024 .bf16) (x2 : Vec Ideal S256x2048 .bf16) (x3 : Vec Ideal S256x2048 .bf16) (x4 : Vec Ideal S256x2048 .f32)
    (x5 : Vec Ideal S1x1x2048 .f32) (x6 : Vec Ideal S1024x2048 .bf16) (x7 : Vec Ideal S1024x2048 .bf16) (x8 : Vec Ideal S2048x2048 .bf16) (r : Fin 256) (l : Fin 2048) :
    k0_pay1 (k0_pay2 x4) (k0_pay3 x5) (k0_pay4 x2 x0 x6 x3 x1 x7) x8 (ix2 r l)
      = x4 (ix2 r l) + x5 (ix3 0 0 l) * ∑ d : Fin 2048, mix (x2 (ix2 r d)) (x3 (ix2 r d)) (fun k => x0 (ix2 r k)) (fun k => x1 (ix2 r k))
          (fun k => x6 (ix2 k d)) (fun k => x7 (ix2 k d)) * x8 (ix2 d l) := by
  pointwise [k0_pay1, k0_pay2, k0_pay3, k0_pay4]
  simp only [mix, sg, zero_sub]

/-- The batch and the token of a row. -/
abbrev batchOf (r : Fin 16384) : Fin 4 := ⟨r.val / 4096, by omega⟩
abbrev tokOf (r : Fin 16384) : Fin 4096 := ⟨r.val % 4096, Nat.mod_lt _ (by decide)⟩

open Cert.MergeRefIdeal.Read in
/-- The reference's result. -/
theorem ref_apply (x0 x1 : Vec Ideal Cert.MergeRefIdeal.S16384x1024 .bf16) (x2 : Vec Ideal Cert.MergeRefIdeal.S16384x8192 .bf16) (x3 : Vec Ideal Cert.MergeRefIdeal.S4x4096x2048 .f32)
    (x4 : Vec Ideal Cert.MergeRefIdeal.S4x12288 .f32) (x5 x6 : Vec Ideal Cert.MergeRefIdeal.S1x1024x2048 .f32) (x7 : Vec Ideal Cert.MergeRefIdeal.S1x2048x2048 .f32)
    (r : Fin 16384) (l : Fin 2048) :
    val_main_v41 (F := Ideal) x0 x1 x2 x3 x4 x5 x6 x7 (ix2 r l)
      = x3 (ix3 (batchOf r) (tokOf r) l) + x4 (ix2 (batchOf r) ⟨4096 + l.val, by omega⟩)
          * ∑ d : Fin 2048, mix (x2 (ix2 r ⟨4096 + d.val, by omega⟩)) (x2 (ix2 r ⟨6144 + d.val, by omega⟩)) (fun k => x0 (ix2 r k)) (fun k => x1 (ix2 r k))
              (fun k => x5 (ix3 0 k d)) (fun k => x6 (ix3 0 k d)) * x7 (ix3 0 d l) := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18,
    val_main_cst, val_main_v19, val_main_v20, val_main_cst_0, val_main_v21, val_main_v22, val_main_v23, val_main_v24, val_main_v25,
    val_main_v26, val_main_v27, val_main_cst_1, val_main_v28, val_main_v29, val_main_cst_2, val_main_v30, val_main_v31, val_main_v32,
    val_main_v33, val_main_v34, val_main_v35, val_main_v36, val_main_v37, val_main_v38, val_main_v39, val_main_v40, val_main_v41]
  simp only [mix, sg]

/-! ## The host's lines before the kernel -/

theorem rows_apply (x : Vec Ideal S4x4096x2048 .f32) (r : Fin 16384) (k : Fin 2048) :
    shapeCast S16384x2048 x shapeCasts_S4x4096x2048_S16384x2048 (ix2 r k) = x (ix3 (batchOf r) (tokOf r) k) := by
  pointwise

theorem mods_apply (x : Vec Ideal S4x12288 .f32) (b : Fin 4) (j : Fin 6) (k : Fin 2048) :
    shapeCast S4x6x2048 x shapeCasts_S4x12288_S4x6x2048 (ix3 b j k) = x (ix2 b ⟨j.val * 2048 + k.val, by omega⟩) := by
  pointwise

theorem branch_apply (x : FVec Ideal S1x1024x2048 .f32) (k : Fin 1024) (d : Fin 2048) :
    (truncf .bf16 (shapeCast S1024x2048 x shapeCasts_S1x1024x2048_S1024x2048) bitsLt_bf16_f32 : FVec Ideal S1024x2048 .bf16) (ix2 k d) = x (ix3 0 k d) := by
  pointwise

theorem out_apply (x : FVec Ideal S1x2048x2048 .f32) (d : Fin 2048) (l : Fin 2048) :
    (truncf .bf16 (shapeCast S2048x2048 x shapeCasts_S1x2048x2048_S2048x2048) bitsLt_bf16_f32 : FVec Ideal S2048x2048 .bf16) (ix2 d l) = x (ix3 0 d l) := by
  pointwise

end Cert.MergeIdeal.MergePure

end
-- ==== Proof.Merge.Value.lean ====
/- The merge kernel: what its result array holds after the run, over the reals, and the claim against the reference. -/
module

public import proofs.«01_k».proof.Proof.Gen.MergeIdeal.Value
public import proofs.«01_k».proof.Proof.Merge.Pure
public import proofs.«01_k».proof.Defs

@[expose] public section

set_option maxRecDepth 16384

noncomputable section

namespace Cert.MergeIdeal.MergeValue

open Idealize.ShloMosaic Idealize.ShloMosaic.TcCoe Idealize.SL.Sem Cert.MergeIdeal Cert.MergeIdeal.Gen
open Cert.MergeIdeal.MergePure
open Idealize.ShloMosaic.Pipeline (Dat)

section Host

variable {F : FTy → Type} [FloatOps F]
variable (m : (ℓ : Loc nD τ sig) → Buf (Elt F) ℓ)

/-! ## The arrays the region finds -/

theorem V_v0 (c : Dev nD) : (V m c main_v0 : Vec F S16384x2048 .f32)
    = shapeCast S16384x2048 (m ((c : Thread nD τ).loc main_arg3)) shapeCasts_S4x4096x2048_S16384x2048 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v1 (c : Dev nD) : (V m c main_v1 : Vec F S4x6x2048 .f32)
    = shapeCast S4x6x2048 (m ((c : Thread nD τ).loc main_arg4)) shapeCasts_S4x12288_S4x6x2048 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v3 (c : Dev nD) : (V m c main_v3 : FVec F S1024x2048 .bf16)
    = truncf .bf16 (shapeCast S1024x2048 (m ((c : Thread nD τ).loc main_arg5) : FVec F S1x1024x2048 .f32) shapeCasts_S1x1024x2048_S1024x2048) bitsLt_bf16_f32 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v5 (c : Dev nD) : (V m c main_v5 : FVec F S1024x2048 .bf16)
    = truncf .bf16 (shapeCast S1024x2048 (m ((c : Thread nD τ).loc main_arg6) : FVec F S1x1024x2048 .f32) shapeCasts_S1x1024x2048_S1024x2048) bitsLt_bf16_f32 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

theorem V_v7 (c : Dev nD) : (V m c main_v7 : FVec F S2048x2048 .bf16)
    = truncf .bf16 (shapeCast S2048x2048 (m ((c : Thread nD τ).loc main_arg7) : FVec F S1x2048x2048 .f32) shapeCasts_S1x2048x2048_S2048x2048) bitsLt_bf16_f32 := by
  dsimp only [V]
  simp only [hostOps0, List.flatten_cons, List.flatten_nil, List.append_nil, List.cons_append, List.nil_append, StableHlo.TRef.unary, StableHlo.TRef.toBuf, StableHlo.TRef.ofBuf, cast_eq]
  after_results <;> rfl

end Host

variable (m : (ℓ : Loc nD τ sig) → Buf (Elt Ideal) ℓ) (ρ : Dev nD → PrngReg)

/-- The eight arguments. -/
abbrev argYA (c : Dev nD) : Vec Ideal S16384x1024 .bf16 := m ((c : Thread nD τ).loc main_arg0)
abbrev argYB (c : Dev nD) : Vec Ideal S16384x1024 .bf16 := m ((c : Thread nD τ).loc main_arg1)
abbrev argP (c : Dev nD) : Vec Ideal S16384x8192 .bf16 := m ((c : Thread nD τ).loc main_arg2)
abbrev argX (c : Dev nD) : Vec Ideal S4x4096x2048 .f32 := m ((c : Thread nD τ).loc main_arg3)
abbrev argM (c : Dev nD) : Vec Ideal S4x12288 .f32 := m ((c : Thread nD τ).loc main_arg4)
abbrev argWA (c : Dev nD) : Vec Ideal S1x1024x2048 .f32 := m ((c : Thread nD τ).loc main_arg5)
abbrev argWB (c : Dev nD) : Vec Ideal S1x1024x2048 .f32 := m ((c : Thread nD τ).loc main_arg6)
abbrev argO (c : Dev nD) : Vec Ideal S1x2048x2048 .f32 := m ((c : Thread nD τ).loc main_arg7)

/-! ## Where a window's block lies -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 2 :=
  (by decide +kernel : ∀ t : Fin grid0.N, _)
theorem index_3 : ∀ t : Fin cfg0.N, win0_3.index t (0 : Fin 2) = t.val ∧ win0_3.index t (1 : Fin 2) = 3 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_5 : ∀ t : Fin cfg0.N, win0_5.index t (0 : Fin 3) = t.val / 16 ∧ win0_5.index t (1 : Fin 3) = 0 ∧ win0_5.index t (2 : Fin 3) = 0 :=
  (by decide +kernel : ∀ t : Fin grid0.N, _)

theorem lt64 (t : Fin cfg0.N) : t.val < 64 := lt_of_lt_of_eq t.isLt (show cfg0.N = 64 from N_0)

/-- The row of the whole array that is row `r` of point `t`'s block. -/
def rowOf (t : Fin cfg0.N) (r : Fin 256) : Fin 16384 := ⟨t.val * 256 + r.val, by have := lt64 t; omega⟩

theorem blk0_apply (c : Dev nD) (t : Fin cfg0.N) (r : Fin 256) (k : Fin 1024) :
    (iblk m c 0 t : Vec Ideal S256x1024 .bf16) (ix2 r k) = argYA m c (ix2 (rowOf t r) k) := by
  obtain ⟨e0, e1⟩ := index_0 t
  refine Eq.trans (b := (V m c main_arg0 : Vec Ideal S16384x1024 .bf16) (ix2 (rowOf t r) k)) ?_ ?_
  · show (V m c main_arg0 : Vec Ideal S16384x1024 .bf16) (((cfg0.win 0).blk t).view.emb (ix2 r k)) = _
    refine congrArg (V m c main_arg0 : Vec Ideal S16384x1024 .bf16) (funext fun a => Fin.ext ?_)
    match a with
    | ⟨0, _⟩ => show win0_0.index t (0 : Fin 2) * 256 + 1 * r.val = t.val * 256 + r.val; omega
    | ⟨1, _⟩ => show win0_0.index t (1 : Fin 2) * 1024 + 1 * k.val = k.val; omega
  · rw [V_main_arg0]

theorem blk1_apply (c : Dev nD) (t : Fin cfg0.N) (r : Fin 256) (k : Fin 1024) :
    (iblk m c 1 t : Vec Ideal S256x1024 .bf16) (ix2 r k) = argYB m c (ix2 (rowOf t r) k) := by
  obtain ⟨e0, e1⟩ := index_1 t
  refine Eq.trans (b := (V m c main_arg1 : Vec Ideal S16384x1024 .bf16) (ix2 (rowOf t r) k)) ?_ ?_
  · show (V m c main_arg1 : Vec Ideal S16384x1024 .bf16) (((cfg0.win 1).blk t).view.emb (ix2 r k)) = _
    refine congrArg (V m c main_arg1 : Vec Ideal S16384x1024 .bf16) (funext fun a => Fin.ext ?_)
    match a with
    | ⟨0, _⟩ => show win0_1.index t (0 : Fin 2) * 256 + 1 * r.val = t.val * 256 + r.val; omega
    | ⟨1, _⟩ => show win0_1.index t (1 : Fin 2) * 1024 + 1 * k.val = k.val; omega
  · rw [V_main_arg1]

theorem blk2_apply (c : Dev nD) (t : Fin cfg0.N) (r : Fin 256) (d : Fin 2048) :
    (iblk m c 2 t : Vec Ideal S256x2048 .bf16) (ix2 r d) = argP m c (ix2 (rowOf t r) ⟨4096 + d.val, by omega⟩) := by
  obtain ⟨e0, e1⟩ := index_2 t
  refine Eq.trans (b := (V m c main_arg2 : Vec Ideal S16384x8192 .bf16) (ix2 (rowOf t r) ⟨4096 + d.val, by omega⟩)) ?_ ?_
  · show (V m c main_arg2 : Vec Ideal S16384x8192 .bf16) (((cfg0.win 2).blk t).view.emb (ix2 r d)) = _
    refine congrArg (V m c main_arg2 : Vec Ideal S16384x8192 .bf16) (funext fun a => Fin.ext ?_)
    match a with
    | ⟨0, _⟩ => show win0_2.index t (0 : Fin 2) * 256 + 1 * r.val = t.val * 256 + r.val; omega
    | ⟨1, _⟩ => show win0_2.index t (1 : Fin 2) * 2048 + 1 * d.val = 4096 + d.val; omega
  · rw [V_main_arg2]

theorem blk3_apply (c : Dev nD) (t : Fin cfg0.N) (r : Fin 256) (d : Fin 2048) :
    (iblk m c 3 t : Vec Ideal S256x2048 .bf16) (ix2 r d) = argP m c (ix2 (rowOf t r) ⟨6144 + d.val, by omega⟩) := by
  obtain ⟨e0, e1⟩ := index_3 t
  refine Eq.trans (b := (V m c main_arg2 : Vec Ideal S16384x8192 .bf16) (ix2 (rowOf t r) ⟨6144 + d.val, by omega⟩)) ?_ ?_
  · show (V m c main_arg2 : Vec Ideal S16384x8192 .bf16) (((cfg0.win 3).blk t).view.emb (ix2 r d)) = _
    refine congrArg (V m c main_arg2 : Vec Ideal S16384x8192 .bf16) (funext fun a => Fin.ext ?_)
    match a with
    | ⟨0, _⟩ => show win0_3.index t (0 : Fin 2) * 256 + 1 * r.val = t.val * 256 + r.val; omega
    | ⟨1, _⟩ => show win0_3.index t (1 : Fin 2) * 2048 + 1 * d.val = 6144 + d.val; omega
  · rw [V_main_arg2]

theorem blk4_apply (c : Dev nD) (t : Fin cfg0.N) (r : Fin 256) (l : Fin 2048) :
    (iblk m c 4 t : Vec Ideal S256x2048 .f32) (ix2 r l) = argX m c (ix3 (batchOf (rowOf t r)) (tokOf (rowOf t r)) l) := by
  obtain ⟨e0, e1⟩ := index_4 t
  refine Eq.trans (b := (V m c main_v0 : Vec Ideal S16384x2048 .f32) (ix2 (rowOf t r) l)) ?_ ?_
  · show (V m c main_v0 : Vec Ideal S16384x2048 .f32) (((cfg0.win 4).blk t).view.emb (ix2 r l)) = _
    refine congrArg (V m c main_v0 : Vec Ideal S16384x2048 .f32) (funext fun a => Fin.ext ?_)
    match a with
    | ⟨0, _⟩ => show win0_4.index t (0 : Fin 2) * 256 + 1 * r.val = t.val * 256 + r.val; omega
    | ⟨1, _⟩ => show win0_4.index t (1 : Fin 2) * 2048 + 1 * l.val = l.val; omega
  · rw [V_v0]; exact rows_apply _ _ l

theorem blk6_apply (c : Dev nD) (t : Fin cfg0.N) (k : Fin 1024) (d : Fin 2048) :
    (iblk m c 6 t : Vec Ideal S1024x2048 .bf16) (ix2 k d) = argWA m c (ix3 0 k d) := by
  obtain ⟨e0, e1⟩ := index_6 t
  refine Eq.trans (b := (V m c main_v3 : Vec Ideal S1024x2048 .bf16) (ix2 k d)) ?_ ?_
  · show (V m c main_v3 : Vec Ideal S1024x2048 .bf16) (((cfg0.win 6).blk t).view.emb (ix2 k d)) = _
    refine congrArg (V m c main_v3 : Vec Ideal S1024x2048 .bf16) (funext fun a => Fin.ext ?_)
    match a with
    | ⟨0, _⟩ => show win0_6.index t (0 : Fin 2) * 1024 + 1 * k.val = k.val; omega
    | ⟨1, _⟩ => show win0_6.index t (1 : Fin 2) * 2048 + 1 * d.val = d.val; omega
  · exact (congrFun (V_v3 m c) _).trans (branch_apply _ k d)

theorem blk7_apply (c : Dev nD) (t : Fin cfg0.N) (k : Fin 1024) (d : Fin 2048) :
    (iblk m c 7 t : Vec Ideal S1024x2048 .bf16) (ix2 k d) = argWB m c (ix3 0 k d) := by
  obtain ⟨e0, e1⟩ := index_7 t
  refine Eq.trans (b := (V m c main_v5 : Vec Ideal S1024x2048 .bf16) (ix2 k d)) ?_ ?_
  · show (V m c main_v5 : Vec Ideal S1024x2048 .bf16) (((cfg0.win 7).blk t).view.emb (ix2 k d)) = _
    refine congrArg (V m c main_v5 : Vec Ideal S1024x2048 .bf16) (funext fun a => Fin.ext ?_)
    match a with
    | ⟨0, _⟩ => show win0_7.index t (0 : Fin 2) * 1024 + 1 * k.val = k.val; omega
    | ⟨1, _⟩ => show win0_7.index t (1 : Fin 2) * 2048 + 1 * d.val = d.val; omega
  · exact (congrFun (V_v5 m c) _).trans (branch_apply _ k d)

theorem blk8_apply (c : Dev nD) (t : Fin cfg0.N) (d l : Fin 2048) :
    (iblk m c 8 t : Vec Ideal S2048x2048 .bf16) (ix2 d l) = argO m c (ix3 0 d l) := by
  obtain ⟨e0, e1⟩ := index_8 t
  refine Eq.trans (b := (V m c main_v7 : Vec Ideal S2048x2048 .bf16) (ix2 d l)) ?_ ?_
  · show (V m c main_v7 : Vec Ideal S2048x2048 .bf16) (((cfg0.win 8).blk t).view.emb (ix2 d l)) = _
    refine congrArg (V m c main_v7 : Vec Ideal S2048x2048 .bf16) (funext fun a => Fin.ext ?_)
    match a with
    | ⟨0, _⟩ => show win0_8.index t (0 : Fin 2) * 2048 + 1 * d.val = d.val; omega
    | ⟨1, _⟩ => show win0_8.index t (1 : Fin 2) * 2048 + 1 * l.val = l.val; omega
  · exact (congrFun (V_v7 m c) _).trans (out_apply _ d l)

theorem blk5_apply (c : Dev nD) (t : Fin cfg0.N) (r : Fin 256) (j : Fin 6) (k : Fin 2048) :
    (iblk m c 5 t : Vec Ideal S1x6x2048 .f32) (ix3 0 j k) = argM m c (ix2 (batchOf (rowOf t r)) ⟨j.val * 2048 + k.val, by omega⟩) := by
  obtain ⟨e0, e1, e2⟩ := index_5 t
  refine Eq.trans (b := (V m c main_v1 : Vec Ideal S4x6x2048 .f32) (ix3 (batchOf (rowOf t r)) j k)) ?_ ?_
  · show (V m c main_v1 : Vec Ideal S4x6x2048 .f32) (((cfg0.win 5).blk t).view.emb (ix3 0 j k)) = _
    refine congrArg (V m c main_v1 : Vec Ideal S4x6x2048 .f32) (funext fun a => Fin.ext ?_)
    match a with
    | ⟨0, _⟩ => show win0_5.index t (0 : Fin 3) * 1 + 1 * 0 = (t.val * 256 + r.val) / 4096; omega
    | ⟨1, _⟩ => show win0_5.index t (1 : Fin 3) * 6 + 1 * j.val = j.val; omega
    | ⟨2, _⟩ => show win0_5.index t (2 : Fin 3) * 2048 + 1 * k.val = k.val; omega
  · rw [V_v1]; exact mods_apply _ _ j k

theorem gate_row (x : Vec Ideal S1x6x2048 .f32) (k : Fin 2048) : (View.ld x r0_3 : Vec Ideal S1x1x2048 .f32) (ix3 0 0 k) = x (ix3 0 2 k) := by
  refine congrArg x (funext fun a => Fin.ext ?_)
  match a with
  | ⟨0, _⟩ => rfl
  | ⟨1, _⟩ => rfl
  | ⟨2, _⟩ => show 0 + 1 * k.val = k.val; omega

/-! ## The array after the region -/

/-- The row's result. -/
def result (c : Dev nD) (R : Fin 16384) (l : Fin 2048) : EReal :=
  argX m c (ix3 (batchOf R) (tokOf R) l) + argM m c (ix2 (batchOf R) ⟨4096 + l.val, by omega⟩)
    * ∑ d : Fin 2048, mix (argP m c (ix2 R ⟨4096 + d.val, by omega⟩)) (argP m c (ix2 R ⟨6144 + d.val, by omega⟩)) (fun k => argYA m c (ix2 R k)) (fun k => argYB m c (ix2 R k))
        (fun k => argWA m c (ix3 0 k d)) (fun k => argWB m c (ix3 0 k d)) * argO m c (ix3 0 d l)

def G9 (c : Dev nD) : Buf (Elt Ideal) ((c : Thread nD τ).loc main_v8) := fun (i : S16384x2048.Idx) => result m c (i 0) (i 1)

theorem hz : (![0, 0] : Fin 2 → Nat) = fun _ => 0 := funext fun a => by fin_cases a <;> rfl

/-- The stored block, over the blocks as they stand. -/
theorem out_eq (x0 x1 : Vec Ideal S256x1024 .bf16) (x2 x3 : Vec Ideal S256x2048 .bf16) (x4 : Vec Ideal S256x2048 .f32) (x5 : Vec Ideal S1x6x2048 .f32)
    (x6 x7 : Vec Ideal S1024x2048 .bf16) (x8 : Vec Ideal S2048x2048 .bf16) :
    out0_9 x0 x1 x2 x3 x4 x5 x6 x7 x8 = k0_pay1 (k0_pay2 x4) (k0_pay3 (View.ld x5 r0_3)) (k0_pay4 x2 x0 x6 x3 x1 x7) x8 := by
  unfold out0_9
  rw [View.canon_unit_zero hz]
  simp only [View.ld_unit_zero (S := S256x2048) hz, View.ld_unit_zero (S := S256x1024) hz, View.ld_unit_zero (S := S1024x2048) hz, View.ld_unit_zero (S := S2048x2048) hz]

theorem flushed (c : Dev nD) (t : Fin cfg0.N) :
    (dats m 0 c).flushed 9 t = ((cfg0.win 9).blk t).view.read (Elt Ideal) (G9 m c) := by
  obtain ⟨e0, e1⟩ := index_9 t
  rw [Value.flushed9, out_eq]
  funext (y : S256x2048.Idx)
  show k0_pay1 (k0_pay2 (iblk m c 4 t)) (k0_pay3 (View.ld (iblk m c 5 t : Vec Ideal S1x6x2048 .f32) r0_3))
      (k0_pay4 (iblk m c 2 t) (iblk m c 0 t) (iblk m c 6 t) (iblk m c 3 t) (iblk m c 1 t) (iblk m c 7 t)) (iblk m c 8 t) y = G9 m c (((cfg0.win 9).blk t).view.emb y)
  obtain ⟨r, l, rfl⟩ : ∃ (r : Fin 256) (l : Fin 2048), y = ix2 r l := ⟨y 0, y 1, by funext a; match a with | ⟨0, _⟩ => rfl | ⟨1, _⟩ => rfl⟩
  rw [show ((cfg0.win 9).blk t).view.emb (ix2 r l) = (ix2 (rowOf t r) l : S16384x2048.Idx) from
    funext fun a => Fin.ext (by
      match a with
      | ⟨0, _⟩ => show win0_9.index t (0 : Fin 2) * 256 + 1 * r.val = t.val * 256 + r.val; omega
      | ⟨1, _⟩ => show win0_9.index t (1 : Fin 2) * 2048 + 1 * l.val = l.val; omega)]
  rw [pay_apply]
  refine congrArg₂ (· + ·) (blk4_apply m c t r l) (congrArg₂ (· * ·) ((gate_row _ l).trans (blk5_apply m c t r 2 l)) (Finset.sum_congr rfl fun d _ => congrArg₂ (· * ·) ?_ (blk8_apply m c t d l)))
  congr 1
  · exact blk2_apply m c t r d
  · exact blk3_apply m c t r d
  · funext k; exact blk0_apply m c t r k
  · funext k; exact blk1_apply m c t r k
  · funext k; exact blk6_apply m c t k d
  · funext k; exact blk7_apply m c t k d

theorem mem9 (t : Fin cfg0.N) (i : S16384x2048.Idx) : i ∈ ((cfg0.win 9).blk t).view.set
    ↔ ∀ a : Fin 2, win0_9.index t a * S256x2048.size a ≤ (i a).val ∧ (i a).val < win0_9.index t a * S256x2048.size a + S256x2048.size a := by
  show i ∈ ((View.whole main_v8).slice (win0_9.rect t)).set ↔ _
  rw [View.set_slice_whole, Rect.mem_set_unit]; exact Iff.rfl

theorem final (c : Dev nD) : (dats m 0 c).arrAt 9 cfg0.N = G9 m c :=
  (dats m 0 c).arrAt_eq_of_cover 9 _ (fun t _ => flushed m c t) (fun (i : S16384x2048.Idx) => by
    have h0 : (i 0).val < 16384 := (i 0).isLt
    have h1 : (i 1).val < 2048 := (i 1).isLt
    have ht : (i 0).val / 256 < cfg0.N := lt_of_lt_of_eq (by omega) (show 64 = cfg0.N from N_0.symm)
    refine ⟨⟨(i 0).val / 256, ht⟩, flush0_9 _, (mem9 _ i).mpr fun a => ?_⟩
    obtain ⟨e0, e1⟩ := index_9 ⟨(i 0).val / 256, ht⟩
    dsimp only at e0
    match a with
    | ⟨0, _⟩ => show win0_9.index _ (0 : Fin 2) * 256 ≤ (i 0).val ∧ (i 0).val < win0_9.index _ (0 : Fin 2) * 256 + 256; omega
    | ⟨1, _⟩ => show win0_9.index _ (1 : Fin 2) * 2048 ≤ (i 1).val ∧ (i 1).val < win0_9.index _ (1 : Fin 2) * 2048 + 2048; omega)

/-! ## Against the reference -/

open Cert.MergeRefIdeal.Read (val_main_v41)

theorem result_eq (c : Dev nD) :
    (dats m 0 c).arrAt 9 cfg0.N = val_main_v41 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  rw [final]
  funext (y : S16384x2048.Idx)
  obtain ⟨R, l, rfl⟩ : ∃ (r : Fin 16384) (l : Fin 2048), y = ix2 r l := ⟨y 0, y 1, by funext a; match a with | ⟨0, _⟩ => rfl | ⟨1, _⟩ => rfl⟩
  exact (ref_apply _ _ _ _ _ _ _ _ R l).symm

/-- The claim: from the same arguments the kernel's result is the reference's. -/
theorem algebraic : Cert.algebraic_MergeIdeal_MergeRefIdeal := by
  intro m g m' g' _ hargs
  refine ⟨fun c => (dats m 0 c).arrAt 9 cfg0.N, ?_, ?_⟩
  · exact Value.run_blocks m g
  · refine (θ_run Cert.MergeRefIdeal.defs _ _).mono (fun r h c => ?_) (Cert.MergeRefIdeal.Value.run m' g')
    obtain ⟨e0, e1, e2, e3, e4, e5, e6, e7⟩ := hargs c
    obtain ⟨h41, hk⟩ := h c
    refine ⟨h41.trans ((Cert.MergeRefIdeal.Read.val_main_v41_eq _ _ _ _ _ _ _ _).trans ?_), hk⟩
    rw [e0, e1, e2, e3, e4, e5, e6, e7]; exact (result_eq m c).symm

end Cert.MergeIdeal.MergeValue

end
-- ==== Proof.Latent.Pure.lean ====
/- The latent up-projection's computations, element by element over the reals: what the kernel stores for one head. -/
module

public import proofs.«01_k».proof.Proof.Gen.LatentIdeal.Skeleton
public import Idealize.ShloMosaic.Lib.Pointwise

@[expose] public section

set_option maxRecDepth 16384

noncomputable section

namespace Cert.LatentIdeal.LatentPure

open Idealize.ShloMosaic Cert.LatentIdeal Cert.LatentIdeal.Gen

/-- One element of the normalised latent row `X`, scaled by `g`. -/
def lat (X g : Fin 512 → EReal) (k : Fin 512) : EReal :=
  X k * Ideal.rsqrt (Ideal.div (∑ j, X j * X j) (Ideal.ofBits .f32 0x44000000#32) + Ideal.ofBits .f32 0x358637BD#32) * g k

/-- The reciprocal root of a head row's mean square, from the sum of its 192 squares. -/
def rs (s : EReal) : EReal := Ideal.rsqrt (s * ((1 / 192 : ℝ) : EReal) + Ideal.ofBits .f32 0x358637BD#32)

/-- The named constant is 1/192. -/
theorem inv_dim : Named.named (F := Ideal) κ "inv_dim" (φ := .f32) 0x3BAAAAAB#32 = ((1 / 192 : ℝ) : EReal) := rfl

theorem pay12_apply (x : Vec Ideal S512x512 .bf16) (g : Vec Ideal S1x512 .f32) (r l : Fin 512) :
    k0_pay12 x g (ix2 r l) = lat (fun k => x (ix2 r k)) (fun k => g (ix2 0 k)) l := by
  pointwise [k0_pay12, lat]

theorem pay13_apply (x : Vec Ideal S512x512 .bf16) (g : Vec Ideal S1x512 .f32) (r l : Fin 512) :
    k0_pay13 x g (ix2 r l) = lat (fun k => x (ix2 r k)) (fun k => g (ix2 0 k)) l := by
  pointwise [k0_pay13, lat]

theorem pay15_apply (p : Vec Ideal S512x1 .i32) (f : Vec Ideal S1x128 .f32) (r : Fin 512) (l : Fin 128) :
    k0_pay15 p f (ix2 r l) = Ideal.cos ((FloatOps.sitofp (F := Ideal) FTy.f32 (p (ix2 r 0)) : EReal) * f (ix2 0 l)) := by
  pointwise [k0_pay14, k0_pay15]

theorem pay16_apply (p : Vec Ideal S512x1 .i32) (f : Vec Ideal S1x128 .f32) (r : Fin 512) (l : Fin 128) :
    k0_pay16 p f (ix2 r l) = Ideal.sin ((FloatOps.sitofp (F := Ideal) FTy.f32 (p (ix2 r 0)) : EReal) * f (ix2 0 l)) := by
  pointwise [k0_pay14, k0_pay16]

theorem pay17_apply (x : Vec Ideal S512x128 .f32) (r : Fin 512) (l : Fin 128) :
    k0_pay17 (F := Ideal) x (ix2 r l) = ∑ j, x (ix2 r j) * x (ix2 r j) := by
  pointwise [k0_pay17]

theorem pay18_apply (g : Vec Ideal S1x384 .f32) (l : Fin 384) :
    k0_pay18 g (ix2 0 l) = g (ix2 0 l) * Ideal.ofBits .f32 0x3DD53B95#32 := by
  pointwise [k0_pay18]

theorem pay19_apply (g : Vec Ideal S1x384 .f32) (l : Fin 384) : k0_pay19 g (ix2 0 l) = g (ix2 0 l) := by
  pointwise [k0_pay19]

theorem pay1_apply (a : Vec Ideal S512x512 .bf16) (w : Vec Ideal S1x512x384 .bf16) (r : Fin 512) (e : Fin 384) :
    k0_pay1 a w (ix2 r e) = ∑ k : Fin 512, a (ix2 r k) * w (ix3 0 k e) := by
  pointwise [k0_pay1]

theorem pay2_apply (a : Vec Ideal S512x512 .bf16) (w : Vec Ideal S1x512x384 .bf16) (r : Fin 512) (l : Fin 128) :
    k0_pay2 a w (ix2 r l) = rs (∑ j : Fin 256, k0_pay1 a w (ix2 r ⟨j.val, by omega⟩) * k0_pay1 a w (ix2 r ⟨j.val, by omega⟩)) := by
  pointwise [k0_pay2, rs]
  rw [inv_dim]

theorem pay3_apply (g : FVec Ideal S1x384 .f32) (a : Vec Ideal S512x512 .bf16) (w : Vec Ideal S1x512x384 .bf16) (r : Fin 512) (l : Fin 128) :
    k0_pay3 g a w (ix4 0 0 r l) = k0_pay1 a w (ix2 r ⟨l.val, by omega⟩) * k0_pay2 a w (ix2 r l) * g (ix2 0 ⟨l.val, by omega⟩) := by
  pointwise [k0_pay3]

theorem pay5_apply (g : FVec Ideal S1x384 .f32) (C S : Vec Ideal S512x128 .f32) (a : Vec Ideal S512x512 .bf16) (w : Vec Ideal S1x512x384 .bf16)
    (p : Vec Ideal S1x128 .f32) (r : Fin 512) (l : Fin 128) :
    k0_pay5 (k0_pay4 g C S a w) p (ix4 0 0 r l)
      = k0_pay1 a w (ix2 r ⟨128 + l.val, by omega⟩) * k0_pay2 a w (ix2 r l) * g (ix2 0 ⟨128 + l.val, by omega⟩) * C (ix2 r l)
        + k0_pay1 a w (ix2 r ⟨256 + l.val, by omega⟩) * k0_pay2 a w (ix2 r l) * g (ix2 0 ⟨256 + l.val, by omega⟩) * S (ix2 r l) + p (ix2 0 l) := by
  pointwise [k0_pay4, k0_pay5]

theorem pay6_apply (a : Vec Ideal S512x512 .bf16) (w : Vec Ideal S1x512x256 .bf16) (r : Fin 512) (e : Fin 256) :
    k0_pay6 a w (ix2 r e) = ∑ k : Fin 512, a (ix2 r k) * w (ix3 0 k e) := by
  pointwise [k0_pay6]

theorem pay8_apply (a : Vec Ideal S512x512 .bf16) (w : Vec Ideal S1x512x256 .bf16) (s : Vec Ideal S512x128 .f32) (r : Fin 512) (l : Fin 128) :
    k0_pay8 a w s (ix2 r l)
      = rs ((∑ j : Fin 128, k0_pay6 a w (ix2 r ⟨j.val, by omega⟩) * k0_pay6 a w (ix2 r ⟨j.val, by omega⟩)) + s (ix2 r l)) := by
  pointwise [k0_pay7, k0_pay8, rs]
  rw [inv_dim]

theorem pay9_apply (g : FVec Ideal S1x384 .f32) (a : Vec Ideal S512x512 .bf16) (w : Vec Ideal S1x512x256 .bf16) (s : Vec Ideal S512x128 .f32) (r : Fin 512) (l : Fin 128) :
    k0_pay9 g a w s (ix4 0 0 r l) = k0_pay6 a w (ix2 r ⟨l.val, by omega⟩) * k0_pay8 a w s (ix2 r l) * g (ix2 0 ⟨l.val, by omega⟩) := by
  pointwise [k0_pay7, k0_pay9]

theorem pay20_apply (g : Vec Ideal S1x384 .f32) (C S : Vec Ideal S512x128 .f32) (a : Vec Ideal S512x512 .bf16) (w : Vec Ideal S1x512x256 .bf16)
    (s x y : Vec Ideal S512x128 .f32) (p : Vec Ideal S1x128 .f32) (r : Fin 512) (l : Fin 128) :
    k0_pay20 g C S (k0_pay8 a w s) (k0_pay10 a w s x) (k0_pay11 (k0_pay19 g)) y p (ix4 0 0 r l)
      = x (ix2 r l) * k0_pay8 a w s (ix2 r l) * g (ix2 0 ⟨128 + l.val, by omega⟩) * C (ix2 r l)
        + y (ix2 r l) * k0_pay8 a w s (ix2 r l) * g (ix2 0 ⟨256 + l.val, by omega⟩) * S (ix2 r l) + p (ix2 0 l) := by
  pointwise [k0_pay10, k0_pay11, k0_pay20, k0_pay19]

theorem pay21_apply (v : FVec Ideal S512x256 .f32) (d : Fin 128) (r : Fin 512) :
    k0_pay21 v (ix4 0 0 d r) = v (ix2 r ⟨128 + d.val, by omega⟩) := by
  pointwise [k0_pay21]

end Cert.LatentIdeal.LatentPure

end
-- ==== Proof.Latent.Ref.lean ====
/- The reference's latent up-projection, element by element over the reals. -/
module

public import proofs.«01_k».proof.Proof.Gen.LatentRefIdeal.Read
public import proofs.«01_k».proof.Proof.Latent.Pure
public import Idealize.ShloMosaic.Lib.Pointwise

@[expose] public section

set_option maxRecDepth 16384

noncomputable section

namespace Cert.LatentIdeal.LatentRef

open Idealize.ShloMosaic Cert.LatentRefIdeal
open Cert.LatentIdeal.LatentPure
open Cert.LatentRefIdeal.Read

/-- The row of batch `b`'s token `s`. -/
abbrev row (b : Fin 4) (s : Fin 4096) : Fin 16384 := ⟨b.val * 4096 + s.val, by omega⟩

/-- A normalised row. -/
def normed (D g : Fin 192 → EReal) (e : Fin 192) : EReal := D e * rs (∑ j, D j * D j) * g e

/-- A row with its last 64 columns turned. -/
def rope (N : Fin 192 → EReal) (C S : Fin 32 → EReal) (e : Fin 192) : EReal :=
  if h : e.val < 128 then N e
  else if h' : e.val - 128 < 32 then N ⟨128 + (e.val - 128), by omega⟩ * C ⟨e.val - 128, h'⟩ - N ⟨128 + (32 + (e.val - 128)), by omega⟩ * S ⟨e.val - 128, h'⟩
  else N ⟨128 + (e.val - 128 - 32), by omega⟩ * S ⟨e.val - 128 - 32, by omega⟩ + N ⟨128 + (32 + (e.val - 128 - 32)), by omega⟩ * C ⟨e.val - 128 - 32, by omega⟩

/-- One column of the angle's rates. -/
def rate (l : Fin 32) : EReal := val_main_v81 (F := Ideal) (ix1 l)

variable (x0 : Vec Ideal S16384x8192 .bf16) (x1 : Vec Ideal S16384x64 .f32) (x2 : Vec Ideal S4x4096 .i32) (x3 x4 : Vec Ideal S1x512 .f32)
  (x5 : Vec Ideal S1x512x1536 .f32) (x6 : Vec Ideal S1x512x2048 .f32) (x7 x8 : Vec Ideal S1x192 .f32)

/-- A head's query row before its norm, -/
def qrow (R : Fin 16384) (h : Fin 8) (e : Fin 192) : EReal :=
  ∑ k : Fin 512, lat (fun j => x0 (ix2 R ⟨j.val, by omega⟩)) (fun j => x3 (ix2 0 j)) k * x5 (ix3 0 k ⟨h.val * 192 + e.val, by omega⟩)

/-- its keys and values, -/
def kvrow (R : Fin 16384) (h : Fin 8) (e : Fin 256) : EReal :=
  ∑ k : Fin 512, lat (fun j => x0 (ix2 R ⟨512 + j.val, by omega⟩)) (fun j => x4 (ix2 0 j)) k * x6 (ix3 0 k ⟨h.val * 256 + e.val, by omega⟩)

/-- and its key row. -/
def krow (R : Fin 16384) (h : Fin 8) (e : Fin 192) : EReal :=
  if he : e.val < 128 then kvrow x0 x4 x6 R h ⟨e.val, by omega⟩ else x1 (ix2 R ⟨e.val - 128, by omega⟩)

theorem v20_apply (b : Fin 4) (s : Fin 4096) (k : Fin 512) :
    val_main_v20 (F := Ideal) x0 x3 (ix3 b s k) = lat (fun j => x0 (ix2 (row b s) ⟨j.val, by omega⟩)) (fun j => x3 (ix2 0 j)) k := by
  pointwise [val_main_v0, val_main_v1, val_main_v2, val_main_v7, val_main_v8, val_main_cst, val_main_v9, val_main_v10, val_main_cst_0, val_main_v11, val_main_v12, val_main_cst_1,
    val_main_v13, val_main_v14, val_main_v15, val_main_v16, val_main_v17, val_main_v18, val_main_v19, val_main_v20, lat]

theorem v37_apply (b : Fin 4) (s : Fin 4096) (k : Fin 512) :
    val_main_v37 (F := Ideal) x0 x4 (ix3 b s k) = lat (fun j => x0 (ix2 (row b s) ⟨512 + j.val, by omega⟩)) (fun j => x4 (ix2 0 j)) k := by
  pointwise [val_main_v3, val_main_v4, val_main_v5, val_main_v24, val_main_v25, val_main_cst_2, val_main_v26, val_main_v27, val_main_cst_3, val_main_v28, val_main_v29, val_main_cst_4,
    val_main_v30, val_main_v31, val_main_v32, val_main_v33, val_main_v34, val_main_v35, val_main_v36, val_main_v37, lat]

theorem v23_apply (b : Fin 4) (s : Fin 4096) (h : Fin 8) (e : Fin 192) : val_main_v23 (F := Ideal) x0 x3 x5 (ix4 b s h e) = qrow x0 x3 x5 (row b s) h e := by
  pointwise [val_main_v21, val_main_v22, val_main_v23]
  simp only [v20_apply]
  rfl

theorem v40_apply (b : Fin 4) (s : Fin 4096) (h : Fin 8) (e : Fin 256) : val_main_v40 (F := Ideal) x0 x4 x6 (ix4 b s h e) = kvrow x0 x4 x6 (row b s) h e := by
  pointwise [val_main_v38, val_main_v39, val_main_v40]
  simp only [v37_apply]
  rfl

theorem v45_apply (b : Fin 4) (s : Fin 4096) (h : Fin 8) (e : Fin 192) : val_main_v45 (F := Ideal) x0 x1 x4 x6 (ix4 b s h e) = krow x0 x1 x4 x6 (row b s) h e := by
  pointwise [val_main_v6, val_main_v41, val_main_v43, val_main_v44, val_main_v45]
  simp only [v40_apply]
  rfl

theorem mean192 (x : EReal) : Ideal.div x (Ideal.ofBits .f32 0x43400000#32) = x * ((1 / 192 : ℝ) : EReal) := by
  have h1 : Ideal.ofBits .f32 0x43400000#32 = ((192 : ℝ) : EReal) := by simp [Ideal.ofBits, Ideal.ieee, -EReal.coe_mul]; norm_num
  have h3 : ((192 : ℝ) : EReal) ≠ 0 := by exact_mod_cast (by norm_num : (192 : ℝ) ≠ 0)
  rw [h1, Ideal.div, if_neg h3, one_div, EReal.coe_inv]

theorem v59_apply (b : Fin 4) (s : Fin 4096) (h : Fin 8) (e : Fin 192) :
    val_main_v59 (F := Ideal) x0 x3 x5 x7 (ix4 b s h e) = normed (qrow x0 x3 x5 (row b s) h) (fun e => x7 (ix2 0 e)) e := by
  pointwise [val_main_v46, val_main_v47, val_main_cst_5, val_main_v48, val_main_v49, val_main_cst_6, val_main_v50, val_main_v51, val_main_cst_7, val_main_v52, val_main_v53, val_main_v54,
    val_main_v55, val_main_v56, val_main_v57, val_main_v58, val_main_v59]
  simp only [v23_apply, mean192]
  rfl

theorem v73_apply (b : Fin 4) (s : Fin 4096) (h : Fin 8) (e : Fin 192) :
    val_main_v73 (F := Ideal) x0 x1 x4 x6 x8 (ix4 b s h e) = normed (krow x0 x1 x4 x6 (row b s) h) (fun e => x8 (ix2 0 e)) e := by
  pointwise [val_main_v60, val_main_v61, val_main_cst_8, val_main_v62, val_main_v63, val_main_cst_9, val_main_v64, val_main_v65, val_main_cst_10, val_main_v66, val_main_v67, val_main_v68,
    val_main_v69, val_main_v70, val_main_v71, val_main_v72, val_main_v73]
  simp only [v45_apply, mean192]
  rfl

/-- The angle of a token's column. -/
def angle (b : Fin 4) (s : Fin 4096) (l : Fin 32) : EReal := (FloatOps.sitofp (F := Ideal) FTy.f32 (x2 (ix2 b s)) : EReal) * rate l

theorem v141_apply (b : Fin 4) (s : Fin 4096) (h : Fin 8) (e : Fin 192) :
    val_main_v141 (F := Ideal) x0 x2 x3 x5 x7 (ix4 b h s e)
      = rope (normed (qrow x0 x3 x5 (row b s) h) (fun e => x7 (ix2 0 e))) (fun l => Ideal.cos (angle x2 b s l)) (fun l => Ideal.sin (angle x2 b s l)) e * Ideal.ofBits .f32 0x3DD53B95#32 := by
  pointwise [val_main_v74, val_main_v75, val_main_v82, val_main_v83, val_main_v84, val_main_v85, val_main_v86, val_main_v87, val_main_v88, val_main_v89, val_main_v90, val_main_v91, val_main_v92,
    val_main_v93, val_main_v94, val_main_v95, val_main_v96, val_main_v97, val_main_v98, val_main_v99, val_main_v100, val_main_v101, val_main_v102, val_main_v103, val_main_v104, val_main_v105,
    val_main_cst_15, val_main_v138, val_main_v139, val_main_v140, val_main_v141]
  simp only [v59_apply]
  rfl

theorem rate_eq (l : Fin 32) : val_main_v113 (F := Ideal) (ix1 l) = rate l := rfl

theorem v143_apply (b : Fin 4) (s : Fin 4096) (h : Fin 8) (e : Fin 192) :
    val_main_v143 (F := Ideal) x0 x1 x2 x4 x6 x8 (ix4 b h s e)
      = rope (normed (krow x0 x1 x4 x6 (row b s) h) (fun e => x8 (ix2 0 e))) (fun l => Ideal.cos (angle x2 b s l)) (fun l => Ideal.sin (angle x2 b s l)) e := by
  pointwise [val_main_v106, val_main_v107, val_main_v114, val_main_v115, val_main_v116, val_main_v117, val_main_v118, val_main_v119, val_main_v120, val_main_v121, val_main_v122, val_main_v123, val_main_v124,
    val_main_v125, val_main_v126, val_main_v127, val_main_v128, val_main_v129, val_main_v130, val_main_v131, val_main_v132, val_main_v133, val_main_v134, val_main_v135, val_main_v136, val_main_v137,
    val_main_v142, val_main_v143]
  simp only [v73_apply, rate_eq]
  rfl

theorem v145_apply (b : Fin 4) (s : Fin 4096) (h : Fin 8) (d : Fin 128) :
    val_main_v145 (F := Ideal) x0 x4 x6 (ix4 b h d s) = kvrow x0 x4 x6 (row b s) h ⟨128 + d.val, by omega⟩ := by
  pointwise [val_main_v42, val_main_v144, val_main_v145]
  simp only [v40_apply]

end Cert.LatentIdeal.LatentRef

end
-- ==== Proof.Latent.Host.lean ====
/- The lines before the latent up-projection's kernel: the arrays they leave, element by element over the reals. -/
module

public import proofs.«01_k».proof.Proof.Gen.LatentIdeal.Frame
public import proofs.«01_k».proof.Proof.Latent.Ref
public import Idealize.ShloMosaic.Lib.Pointwise

@[expose] public section

set_option maxRecDepth 16384

noncomputable section

namespace Cert.LatentIdeal.LatentHost

open Idealize.ShloMosaic Idealize.ShloMosaic.TcCoe Idealize.SL.Sem Cert.LatentIdeal Cert.LatentIdeal.Gen

section Lines

variable {F : FTy → Type} [FloatOps F]

/-- The query weights by heads. -/
def heads (x : Vec F S1x512x1536 .f32) : Vec F S8x512x192 .f32 :=
  transpose S8x512x192 [1, 0, 2] (shapeCast S512x8x192 (shapeCast S512x1536 x shapeCasts_S1x512x1536_S512x1536) shapeCasts_S512x1536_S512x8x192) transposes_S512x8x192_S8x512x192_1_0_2

/-- Their rotary columns, -/
def turned (x : Vec F S1x512x1536 .f32) : Vec F S8x512x64 .f32 := extractStridedSlice S8x512x64 ![0, 0, 128] (heads x) slices_S8x512x192_S8x512x64_0_0_128

/-- the first half of these -/
def turnedA (x : Vec F S1x512x1536 .f32) : Vec F S8x512x32 .f32 := extractStridedSlice S8x512x32 ![0, 0, 0] (turned x) slices_S8x512x64_S8x512x32_0_0_0

/-- and the second. -/
def turnedB (x : Vec F S1x512x1536 .f32) : Vec F S8x512x32 .f32 := extractStridedSlice S8x512x32 ![0, 0, 32] (turned x) slices_S8x512x64_S8x512x32_0_0_32

def noW : Vec F S8x512x64 .f32 := broadcastInDim S8x512x64 ![] bcast_S_S8x512x64 (constant S_ .f32 0x00000000#32)

/-- The query weights as the kernel takes them. -/
def wq (x : Vec F S1x512x1536 .f32) : Vec F S8x512x384 .bf16 :=
  truncf .bf16 (concatenate S8x512x384 2 [⟨S8x512x128, (extractStridedSlice S8x512x128 ![0, 0, 0] (heads x) slices_S8x512x192_S8x512x128_0_0_0 : Vec F S8x512x128 .f32)⟩,
    ⟨S8x512x256, (concatenate S8x512x256 2 [⟨S8x512x32, turnedA x⟩, ⟨S8x512x32, turnedB x⟩, ⟨S8x512x64, noW⟩, ⟨S8x512x32, turnedB x⟩, ⟨S8x512x32, turnedA x⟩, ⟨S8x512x64, noW⟩]
      concatenates_S8x512x32_S8x512x32_S8x512x64_S8x512x32_S8x512x32_S8x512x64_S8x512x256_d2 : Vec F S8x512x256 .f32)⟩] concatenates_S8x512x128_S8x512x256_S8x512x384_d2 : FVec F S8x512x384 .f32) bitsLt_bf16_f32

/-- The keys' and values' weights as it takes them. -/
def wkv (x : Vec F S1x512x2048 .f32) : Vec F S8x512x256 .bf16 :=
  truncf .bf16 (transpose S8x512x256 [1, 0, 2] (shapeCast S512x8x256 (shapeCast S512x2048 x shapeCasts_S1x512x2048_S512x2048) shapeCasts_S512x2048_S512x8x256) transposes_S512x8x256_S8x512x256_1_0_2 : FVec F S8x512x256 .f32) bitsLt_bf16_f32

def flat (g : Vec F S1x192 .f32) : Vec F S192 .f32 := shapeCast S192 g shapeCasts_S1x192_S192
def gainA (g : Vec F S1x192 .f32) : Vec F S32 .f32 := extractStridedSlice S32 ![128] (flat g) slices_S192_S32_128
def gainB (g : Vec F S1x192 .f32) : Vec F S32 .f32 := extractStridedSlice S32 ![160] (flat g) slices_S192_S32_160
def noG : Vec F S64 .f32 := broadcastInDim S64 ![] bcast_S_S64 (constant S_ .f32 0x00000000#32)

/-- A norm's scales as it takes them. -/
def gain (g : Vec F S1x192 .f32) : Vec F S1x384 .f32 :=
  broadcastInDim S1x384 ![1] bcast_S384_S1x384_1 (concatenate S384 0 [⟨S128, (extractStridedSlice S128 ![0] (flat g) slices_S192_S128_0 : Vec F S128 .f32)⟩, ⟨S32, gainA g⟩, ⟨S32, gainB g⟩, ⟨S64, noG⟩,
    ⟨S32, (Host.negf (gainB g : FVec F S32 .f32) : Vec F S32 .f32)⟩, ⟨S32, gainA g⟩, ⟨S64, noG⟩] concatenates_S128_S32_S32_S64_S32_S32_S64_S384_d0 : Vec F S384 .f32)

def noK : Vec F S16384x64 .f32 := broadcastInDim S16384x64 ![] bcast_S_S16384x64 (constant S_ .f32 0x00000000#32)
def kA (x : Vec F S16384x64 .f32) : Vec F S16384x32 .f32 := extractStridedSlice S16384x32 ![0, 0] x slices_S16384x64_S16384x32_0_0
def kB (x : Vec F S16384x64 .f32) : Vec F S16384x32 .f32 := extractStridedSlice S16384x32 ![0, 32] x slices_S16384x64_S16384x32_0_32

/-- The rotary keys as it takes them. -/
def kpe (x : Vec F S16384x64 .f32) : Vec F S16384x256 .f32 :=
  concatenate S16384x256 1 [⟨S16384x32, kA x⟩, ⟨S16384x32, kB x⟩, ⟨S16384x64, noK⟩, ⟨S16384x32, kB x⟩, ⟨S16384x32, kA x⟩, ⟨S16384x64, noK⟩]
    concatenates_S16384x32_S16384x32_S16384x64_S16384x32_S16384x32_S16384x64_S16384x256_d1

/-- The latents' scales. -/
def lscale (g : Vec F S1x512 .f32) : Vec F S1x512 .f32 := broadcastInDim S1x512 ![1] bcast_S512_S1x512_1 (shapeCast S512 g shapeCasts_S1x512_S512 : Vec F S512 .f32)

/-- The angles' rates. -/
def rates : Vec F S1x128 .f32 :=
  broadcastInDim S1x128 ![1] bcast_S128_S1x128_1 (select (fun i => lit1 (S128.rowMajor i))
    (Host.powf (broadcastInDim S128 ![] bcast_S_S128 (constant S_ .f32 0x461C4000#32) : FVec F S128 .f32)
      (Host.divf (Host.negf (fun i => FloatOps.ofBits .f32 (lit0 (S128.rowMajor i)) : FVec F S128 .f32)) (broadcastInDim S128 ![] bcast_S_S128 (constant S_ .f32 0x42000000#32) : FVec F S128 .f32)))
    (broadcastInDim S128 ![] bcast_S_S128 (id (constant S_ .f32 0x00000000#32)) : Vec F S128 .f32) : Vec F S128 .f32)

/-- A row that is nothing but in its column 64. -/
def only (s : Vec F S_ .f32) : Vec F S1x128 .f32 :=
  mulf (broadcastInDim S1x128 ![1] bcast_S128_S1x128_1 (fun i => FloatOps.ofBits .f32 (lit2 (S128.rowMajor i)) : FVec F S128 .f32) : FVec F S1x128 .f32) (broadcastInDim S1x128 ![] bcast_S_S1x128 s)

end Lines

/-! ## Element by element -/

theorem wq_same (x : Vec Ideal S1x512x1536 .f32) (h : Fin 8) (k : Fin 512) (e : Fin 192) : wq x (ix3 h k ⟨e.val, by omega⟩) = x (ix3 0 k ⟨h.val * 192 + (e.val), by omega⟩) := by
  pointwise [wq, heads, turned, turnedA, turnedB, noW]
  repeat' split
  all_goals first | rfl | (exfalso; omega) | exact congrArg (fun j => x (ix3 0 k j)) (Fin.ext (by dsimp only; omega))

theorem wq_none (x : Vec Ideal S1x512x1536 .f32) (h : Fin 8) (k : Fin 512) (e : Fin 64) : wq x (ix3 h k ⟨192 + e.val, by omega⟩) = 0 := by
  pointwise [wq, heads, turned, turnedA, turnedB, noW]
  repeat' split
  all_goals first | rfl | (exfalso; omega) | exact congrArg (fun j => x (ix3 0 k j)) (Fin.ext (by dsimp only; omega))

theorem wq_a (x : Vec Ideal S1x512x1536 .f32) (h : Fin 8) (k : Fin 512) (e : Fin 32) : wq x (ix3 h k ⟨256 + e.val, by omega⟩) = x (ix3 0 k ⟨h.val * 192 + (160 + e.val), by omega⟩) := by
  pointwise [wq, heads, turned, turnedA, turnedB, noW]
  repeat' split
  all_goals first | rfl | (exfalso; omega) | exact congrArg (fun j => x (ix3 0 k j)) (Fin.ext (by dsimp only; omega))

theorem wq_b (x : Vec Ideal S1x512x1536 .f32) (h : Fin 8) (k : Fin 512) (e : Fin 32) : wq x (ix3 h k ⟨288 + e.val, by omega⟩) = x (ix3 0 k ⟨h.val * 192 + (128 + e.val), by omega⟩) := by
  pointwise [wq, heads, turned, turnedA, turnedB, noW]
  repeat' split
  all_goals first | rfl | (exfalso; omega) | exact congrArg (fun j => x (ix3 0 k j)) (Fin.ext (by dsimp only; omega))

theorem wkv_apply (x : Vec Ideal S1x512x2048 .f32) (h : Fin 8) (k : Fin 512) (e : Fin 256) : wkv x (ix3 h k e) = x (ix3 0 k ⟨h.val * 256 + e.val, by omega⟩) := by
  pointwise [wkv]

theorem gain_same (g : Vec Ideal S1x192 .f32) (e : Fin 192) : gain g (ix2 0 ⟨e.val, by omega⟩) = g (ix2 0 e) := by
  pointwise [gain, flat, gainA, gainB, noG]
  repeat' split
  all_goals first | rfl | (exfalso; omega) | exact congrArg (fun j => g (ix2 0 j)) (Fin.ext (by dsimp only; omega))

theorem gain_a (g : Vec Ideal S1x192 .f32) (e : Fin 32) : gain g (ix2 0 ⟨256 + e.val, by omega⟩) = -g (ix2 0 ⟨160 + e.val, by omega⟩) := by
  pointwise [gain, flat, gainA, gainB, noG]
  repeat' split
  all_goals first | rfl | (exfalso; omega) | exact congrArg (fun j => -g (ix2 0 j)) (Fin.ext (by dsimp only; omega))

theorem gain_b (g : Vec Ideal S1x192 .f32) (e : Fin 32) : gain g (ix2 0 ⟨288 + e.val, by omega⟩) = g (ix2 0 ⟨128 + e.val, by omega⟩) := by
  pointwise [gain, flat, gainA, gainB, noG]
  repeat' split
  all_goals first | rfl | (exfalso; omega) | exact congrArg (fun j => g (ix2 0 j)) (Fin.ext (by dsimp only; omega))

theorem kpe_same (x : Vec Ideal S16384x64 .f32) (R : Fin 16384) (e : Fin 64) : kpe x (ix2 R ⟨e.val, by omega⟩) = x (ix2 R e) := by
  pointwise [kpe, kA, kB, noK]
  repeat' split
  all_goals first | rfl | (exfalso; omega) | exact congrArg (fun j => x (ix2 R j)) (Fin.ext (by dsimp only; omega))

theorem kpe_none (x : Vec Ideal S16384x64 .f32) (R : Fin 16384) (e : Fin 64) : kpe x (ix2 R ⟨64 + e.val, by omega⟩) = 0 := by
  pointwise [kpe, kA, kB, noK]
  repeat' split
  all_goals first | rfl | (exfalso; omega) | exact congrArg (fun j => x (ix2 R j)) (Fin.ext (by dsimp only; omega))

theorem kpe_a (x : Vec Ideal S16384x64 .f32) (R : Fin 16384) (e : Fin 32) : kpe x (ix2 R ⟨128 + e.val, by omega⟩) = x (ix2 R ⟨32 + e.val, by omega⟩) := by
  pointwise [kpe, kA, kB, noK]
  repeat' split
  all_goals first | rfl | (exfalso; omega) | exact congrArg (fun j => x (ix2 R j)) (Fin.ext (by dsimp only; omega))

theorem kpe_b (x : Vec Ideal S16384x64 .f32) (R : Fin 16384) (e : Fin 32) : kpe x (ix2 R ⟨160 + e.val, by omega⟩) = x (ix2 R ⟨e.val, by omega⟩) := by
  pointwise [kpe, kA, kB, noK]
  repeat' split
  all_goals first | rfl | (exfalso; omega) | exact congrArg (fun j => x (ix2 R j)) (Fin.ext (by dsimp only; omega))

theorem lscale_apply (g : Vec Ideal S1x512 .f32) (k : Fin 512) : lscale g (ix2 0 k) = g (ix2 0 k) := by
  pointwise [lscale]

theorem pos_apply (x : Vec Ideal S4x4096 .i32) (R : Fin 16384) : shapeCast S16384x1 x shapeCasts_S4x4096_S16384x1 (ix2 R 0) = x (ix2 ⟨R.val / 4096, by omega⟩ ⟨R.val % 4096, by omega⟩) := by
  pointwise

theorem place (l : Fin 128) : (S128.rowMajor (ix1 l) : Fin 128) = l :=
  Fin.ext ((by decide +kernel : ∀ l : Fin 128, (S128.rowMajor (ix1 l)).val = l.val) l)

theorem first_half : ∀ l : Fin 128, l.val < 64 → lit1 l = 1#1 := by decide +kernel

theorem none_there : ∀ l : Fin 128, l.val < 64 → lit2 l = 0#32 := by decide +kernel

theorem lit0_mod : ∀ l : Fin 128, lit0 l = lit0 ⟨l.val % 32, by omega⟩ := by decide +kernel

theorem lit0_val (l : Fin 32) : Ideal.ofBits .f32 (lit0 ⟨l.val, by omega⟩) = (FloatOps.sitofp (F := Ideal) FTy.f32 (BitVec.ofNat 32 l.val) : EReal) := by
  fin_cases l
  all_goals (simp [Ideal.ofBits, Ideal.ieee, lit0, FloatOps.sitofp, -EReal.coe_mul]; try norm_num)

open Cert.LatentRefIdeal.Read in
theorem rates_apply (l : Fin 128) (hl : l.val < 64) : rates (F := Ideal) (ix2 0 l) = LatentRef.rate ⟨l.val % 32, by omega⟩ := by
  pointwise [rates, LatentRef.rate, val_main_v76, val_main_v77, val_main_v78, val_main_v79, val_main_v80, val_main_v81, val_main_cst_11, val_main_cst_12]
  rw [place, first_half l hl, lit0_mod, lit0_val ⟨l.val % 32, by omega⟩]
  rfl

theorem only_apply (s : Vec Ideal S_ .f32) (l : Fin 128) (hl : l.val < 64) : only s (ix2 0 l) = 0 := by
  pointwise [only]
  rw [place, none_there l hl, show Ideal.ofBits .f32 0#32 = 0 from by simp [Ideal.ofBits, Ideal.ieee], zero_mul]

end Cert.LatentIdeal.LatentHost

end
-- ==== Proof.Latent.Lines.lean ====
/- The arrays the latent up-projection's region finds. -/
module

public import proofs.«01_k».proof.Proof.Latent.Host

@[expose] public section

set_option maxRecDepth 16384

noncomputable section

namespace Cert.LatentIdeal.LatentHost

open Idealize.ShloMosaic Idealize.ShloMosaic.TcCoe Idealize.SL.Sem Cert.LatentIdeal Cert.LatentIdeal.Gen

variable {F : FTy → Type} [FloatOps F] [Named F]
/-- The bound on a score that the two gains give, -/
def bound (g q : Vec F S1x192 .f32) : Vec F S_ .f32 :=
  mulf (mulf (constant S_ .f32 0x41A31F80#32 : FVec F S_ .f32) (Host.reduce FloatOps.maximumf (Host.absf (flat g : FVec F S192 .f32)) (constant S_ .f32 0xFF800000#32 : FVec F S_ .f32) reducesTo_S192_S_d0 h_S_ : FVec F S_ .f32) : FVec F S_ .f32)
    (Host.reduce FloatOps.maximumf (Host.absf (flat q : FVec F S192 .f32)) (constant S_ .f32 0xFF800000#32 : FVec F S_ .f32) reducesTo_S192_S_d0 h_S_ : FVec F S_ .f32)

/-- and whether it is small. -/
def small (g q : Vec F S1x192 .f32) : Vec F S_ .i1 := cmpf .ole (bound g q : FVec F S_ .f32) (constant S_ .f32 0x42700000#32 : FVec F S_ .f32)

variable (m : (ℓ : Loc nD τ sig) → Buf (Elt F) ℓ)

theorem V_v1 (c : Dev nD) : (V m c main_v1 : Vec F S16384x1 .i32) = shapeCast S16384x1 (m ((c : Thread nD τ).loc main_arg2)) shapeCasts_S4x4096_S16384x1 := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

theorem V_v8 (c : Dev nD) : (V m c main_v8 : Vec F S1x128 .f32) = rates := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

theorem V_v22 (c : Dev nD) : (V m c main_v22 : Vec F S8x512x384 .bf16) = wq (m ((c : Thread nD τ).loc main_arg5)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results_simp <;> (try dsimp only [Matrix.cons_val]) <;> (try after_results_simp) <;> rfl

theorem V_v25 (c : Dev nD) : (V m c main_v25 : Vec F S8x512x256 .bf16) = wkv (m ((c : Thread nD τ).loc main_arg6)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

theorem V_v32 (c : Dev nD) : (V m c main_v32 : Vec F S1x384 .f32) = gain (m ((c : Thread nD τ).loc main_arg7)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results_simp <;> (try dsimp only [Matrix.cons_val]) <;> (try after_results_simp) <;> rfl

theorem V_v39 (c : Dev nD) : (V m c main_v39 : Vec F S1x384 .f32) = gain (m ((c : Thread nD τ).loc main_arg8)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results_simp <;> (try dsimp only [Matrix.cons_val]) <;> (try after_results_simp) <;> rfl

theorem V_v51 (c : Dev nD) : (V m c main_v51 : Vec F S1x128 .f32)
    = only (uitofp .f32 (small (m ((c : Thread nD τ).loc main_arg7)) (m ((c : Thread nD τ).loc main_arg8)))) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

theorem V_v55 (c : Dev nD) : (V m c main_v55 : Vec F S1x128 .f32)
    = only (select (small (m ((c : Thread nD τ).loc main_arg7)) (m ((c : Thread nD τ).loc main_arg8)))
        (Host.negf (bound (m ((c : Thread nD τ).loc main_arg7)) (m ((c : Thread nD τ).loc main_arg8)) : FVec F S_ .f32) : Vec F S_ .f32) (id (constant S_ .f32 0x00000000#32 : Vec F S_ .f32))) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

theorem V_v59 (c : Dev nD) : (V m c main_v59 : Vec F S16384x256 .f32) = kpe (m ((c : Thread nD τ).loc main_arg1)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results_simp <;> (try dsimp only [Matrix.cons_val]) <;> (try after_results_simp) <;> rfl

theorem V_v61 (c : Dev nD) : (V m c main_v61 : Vec F S1x512 .f32) = lscale (m ((c : Thread nD τ).loc main_arg3)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

theorem V_v63 (c : Dev nD) : (V m c main_v63 : Vec F S1x512 .f32) = lscale (m ((c : Thread nD τ).loc main_arg4)) := by
  dsimp only [V, V0]
  simp only [hostOps0, hostOps0_1, hostOps0_2, hostOps0_3, hostOps0_4, List.flatten_cons, List.flatten_nil, List.append_nil, List.cons_append, List.nil_append, StableHlo.TRef.unary,
    StableHlo.TRef.nullary, StableHlo.TRef.ternary, StableHlo.TRef.toBuf, StableHlo.TRef.ofBuf, cast_eq]
  after_results <;> rfl

end Cert.LatentIdeal.LatentHost

end
-- ==== Proof.Latent.Heads.lean ====
/- What one grid point of the latent up-projection leaves in its three result blocks, over its input blocks as they stand: the trip
   through the heads piece by piece, and the pieces put together. -/
module

public import proofs.«01_k».proof.Proof.Gen.LatentIdeal.Frame
public import proofs.«01_k».proof.Proof.Latent.Pure
public import proofs.«01_k».proof.Proof.Whole
public import Idealize.ShloMosaic.Lib.Pipeline.CanonAppend

@[expose] public section

set_option maxRecDepth 16384

noncomputable section

namespace Cert.LatentIdeal.LatentRun

open Idealize.ShloMosaic Idealize.ShloMosaic.TcCoe Idealize.SL.Sem Cert.LatentIdeal Cert.LatentIdeal.Gen
open Cert.LatentIdeal.LatentPure

/-! ## The values of one head -/

/-- One element of a normalised row times a head's weights. -/
def dot {n : Nat} (A : Fin 512 → EReal) (W : Fin 512 → Fin n → EReal) (e : Fin n) : EReal := ∑ k, A k * W k e

/-- A query row's element: the first 128 columns scaled, the rotary ones turned. -/
def qval (D G : Fin 384 → EReal) (C S P : Fin 128 → EReal) (l : Fin 256) : EReal :=
  if h : l.val < 128 then D ⟨l.val, by omega⟩ * rs (∑ j : Fin 256, D ⟨j.val, by omega⟩ * D ⟨j.val, by omega⟩) * G ⟨l.val, by omega⟩
  else D ⟨128 + (l.val - 128), by omega⟩ * rs (∑ j : Fin 256, D ⟨j.val, by omega⟩ * D ⟨j.val, by omega⟩) * G ⟨128 + (l.val - 128), by omega⟩ * C ⟨l.val - 128, by omega⟩
    + D ⟨256 + (l.val - 128), by omega⟩ * rs (∑ j : Fin 256, D ⟨j.val, by omega⟩ * D ⟨j.val, by omega⟩) * G ⟨256 + (l.val - 128), by omega⟩ * S ⟨l.val - 128, by omega⟩
    + P ⟨l.val - 128, by omega⟩

/-- A key row's, the rotary columns coming from outside the head. -/
def kval (D : Fin 256 → EReal) (G : Fin 384 → EReal) (X Y K C S P : Fin 128 → EReal) (l : Fin 256) : EReal :=
  if h : l.val < 128 then D ⟨l.val, by omega⟩ * rs ((∑ j : Fin 128, D ⟨j.val, by omega⟩ * D ⟨j.val, by omega⟩) + K ⟨l.val, by omega⟩) * G ⟨l.val, by omega⟩
  else X ⟨l.val - 128, by omega⟩ * rs ((∑ j : Fin 128, D ⟨j.val, by omega⟩ * D ⟨j.val, by omega⟩) + K ⟨l.val - 128, by omega⟩) * G ⟨128 + (l.val - 128), by omega⟩ * C ⟨l.val - 128, by omega⟩
    + Y ⟨l.val - 128, by omega⟩ * rs ((∑ j : Fin 128, D ⟨j.val, by omega⟩ * D ⟨j.val, by omega⟩) + K ⟨l.val - 128, by omega⟩) * G ⟨256 + (l.val - 128), by omega⟩ * S ⟨l.val - 128, by omega⟩
    + P ⟨l.val - 128, by omega⟩

/-! ## Where a trip's pieces lie -/

theorem off1 : ∀ k : Fin k0_t1_loop.trips, k0_off1 k 0 = k.val ∧ k0_off1 k 1 = 0 ∧ k0_off1 k 2 = 0 := by decide +kernel
theorem off2 : ∀ k : Fin k0_t1_loop.trips, k0_off2 k 0 = 0 ∧ k0_off2 k 1 = k.val ∧ k0_off2 k 2 = 0 ∧ k0_off2 k 3 = 0 := by decide +kernel
theorem off3 : ∀ k : Fin k0_t1_loop.trips, k0_off3 k 0 = 0 ∧ k0_off3 k 1 = k.val ∧ k0_off3 k 2 = 0 ∧ k0_off3 k 3 = 128 := by decide +kernel
theorem off4 : ∀ k : Fin k0_t1_loop.trips, k0_off4 k 0 = k.val ∧ k0_off4 k 1 = 0 ∧ k0_off4 k 2 = 0 := by decide +kernel
theorem off5 : ∀ k : Fin k0_t1_loop.trips, k0_off5 k 0 = 0 ∧ k0_off5 k 1 = k.val ∧ k0_off5 k 2 = 0 ∧ k0_off5 k 3 = 0 := by decide +kernel

theorem trips8 : k0_t1_loop.trips = 8 := by decide +kernel

/-- The trip's head. -/
abbrev hd (k : Fin k0_t1_loop.trips) : Fin 8 := ⟨k.val, trips8 ▸ k.isLt⟩

theorem emb2 (k : Fin k0_t1_loop.trips) (r : Fin 512) (l : Fin 128) :
    (Rect.unit (s := S1x8x512x256) (k0_off2 k) S1x1x512x128.size (k0_off2_inb k)).emb (ix4 0 0 r l) = ix4 0 (hd k) r ⟨l.val, by omega⟩ := by
  obtain ⟨e0, e1, e2, e3⟩ := off2 k
  funext a; refine Fin.ext ?_
  match a with
  | ⟨0, _⟩ => show k0_off2 k 0 + 1 * 0 = 0; omega
  | ⟨1, _⟩ => show k0_off2 k 1 + 1 * 0 = k.val; omega
  | ⟨2, _⟩ => show k0_off2 k 2 + 1 * r.val = r.val; omega
  | ⟨3, _⟩ => show k0_off2 k 3 + 1 * l.val = l.val; omega

theorem emb3 (k : Fin k0_t1_loop.trips) (r : Fin 512) (l : Fin 128) :
    (Rect.unit (s := S1x8x512x256) (k0_off3 k) S1x1x512x128.size (k0_off3_inb k)).emb (ix4 0 0 r l) = ix4 0 (hd k) r ⟨128 + l.val, by omega⟩ := by
  obtain ⟨e0, e1, e2, e3⟩ := off3 k
  funext a; refine Fin.ext ?_
  match a with
  | ⟨0, _⟩ => show k0_off3 k 0 + 1 * 0 = 0; omega
  | ⟨1, _⟩ => show k0_off3 k 1 + 1 * 0 = k.val; omega
  | ⟨2, _⟩ => show k0_off3 k 2 + 1 * r.val = r.val; omega
  | ⟨3, _⟩ => show k0_off3 k 3 + 1 * l.val = 128 + l.val; omega

theorem emb5 (k : Fin k0_t1_loop.trips) (d : Fin 128) (r : Fin 512) :
    (Rect.unit (s := S1x8x128x512) (k0_off5 k) S1x1x128x512.size (k0_off5_inb k)).emb (ix4 0 0 d r) = ix4 0 (hd k) d r := by
  obtain ⟨e0, e1, e2, e3⟩ := off5 k
  funext a; refine Fin.ext ?_
  match a with
  | ⟨0, _⟩ => show k0_off5 k 0 + 1 * 0 = 0; omega
  | ⟨1, _⟩ => show k0_off5 k 1 + 1 * 0 = k.val; omega
  | ⟨2, _⟩ => show k0_off5 k 2 + 1 * d.val = d.val; omega
  | ⟨3, _⟩ => show k0_off5 k 3 + 1 * r.val = r.val; omega

theorem ld1 (W : Vec Ideal S8x512x384 .bf16) (k : Fin k0_t1_loop.trips) (j : Fin 512) (e : Fin 384) :
    (View.ld W (Rect.unit (s := S8x512x384) (k0_off1 k) S1x512x384.size (k0_off1_inb k)) : Vec Ideal S1x512x384 .bf16) (ix3 0 j e) = W (ix3 (hd k) j e) := by
  obtain ⟨e0, e1, e2⟩ := off1 k
  refine congrArg W (funext fun a => Fin.ext ?_)
  match a with
  | ⟨0, _⟩ => show k0_off1 k 0 + 1 * 0 = k.val; omega
  | ⟨1, _⟩ => show k0_off1 k 1 + 1 * j.val = j.val; omega
  | ⟨2, _⟩ => show k0_off1 k 2 + 1 * e.val = e.val; omega

theorem ld4 (W : Vec Ideal S8x512x256 .bf16) (k : Fin k0_t1_loop.trips) (j : Fin 512) (e : Fin 256) :
    (View.ld W (Rect.unit (s := S8x512x256) (k0_off4 k) S1x512x256.size (k0_off4_inb k)) : Vec Ideal S1x512x256 .bf16) (ix3 0 j e) = W (ix3 (hd k) j e) := by
  obtain ⟨e0, e1, e2⟩ := off4 k
  refine congrArg W (funext fun a => Fin.ext ?_)
  match a with
  | ⟨0, _⟩ => show k0_off4 k 0 + 1 * 0 = k.val; omega
  | ⟨1, _⟩ => show k0_off4 k 1 + 1 * j.val = j.val; omega
  | ⟨2, _⟩ => show k0_off4 k 2 + 1 * e.val = e.val; omega

/-! ## The payloads as the heads' values -/

theorem pay_dotq (A : Vec Ideal S512x512 .bf16) (W : Vec Ideal S8x512x384 .bf16) (k : Fin k0_t1_loop.trips) (r : Fin 512) (e : Fin 384) :
    k0_pay1 A (View.ld W (Rect.unit (s := S8x512x384) (k0_off1 k) S1x512x384.size (k0_off1_inb k))) (ix2 r e)
      = dot (fun j => A (ix2 r j)) (fun j e => W (ix3 (hd k) j e)) e := by
  rw [pay1_apply]
  exact Finset.sum_congr rfl fun j _ => congrArg (A (ix2 r j) * ·) (ld1 W k j e)

theorem pay_dotk (A : Vec Ideal S512x512 .bf16) (W : Vec Ideal S8x512x256 .bf16) (k : Fin k0_t1_loop.trips) (r : Fin 512) (e : Fin 256) :
    k0_pay6 A (View.ld W (Rect.unit (s := S8x512x256) (k0_off4 k) S1x512x256.size (k0_off4_inb k))) (ix2 r e)
      = dot (fun j => A (ix2 r j)) (fun j e => W (ix3 (hd k) j e)) e := by
  rw [pay6_apply]
  exact Finset.sum_congr rfl fun j _ => congrArg (A (ix2 r j) * ·) (ld4 W k j e)

/-- The query block, -/
def blkQ (A : Vec Ideal S512x512 .bf16) (W : Vec Ideal S8x512x384 .bf16) (G : Vec Ideal S1x384 .f32) (C S : Vec Ideal S512x128 .f32) (P : Vec Ideal S1x128 .f32) :
    Vec Ideal S1x8x512x256 .bf16 := fun i =>
  qval (dot (fun j => A (ix2 (i 2) j)) (fun j e => W (ix3 (i 1) j e))) (fun e => G (ix2 0 e) * Ideal.ofBits .f32 0x3DD53B95#32)
    (fun l => C (ix2 (i 2) l)) (fun l => S (ix2 (i 2) l)) (fun l => P (ix2 0 l)) (i 3)

/-- the key block -/
def blkK (A : Vec Ideal S512x512 .bf16) (W : Vec Ideal S8x512x256 .bf16) (G : Vec Ideal S1x384 .f32) (X Y K C S : Vec Ideal S512x128 .f32) (P : Vec Ideal S1x128 .f32) :
    Vec Ideal S1x8x512x256 .bf16 := fun i =>
  kval (dot (fun j => A (ix2 (i 2) j)) (fun j e => W (ix3 (i 1) j e))) (fun e => G (ix2 0 e))
    (fun l => X (ix2 (i 2) l)) (fun l => Y (ix2 (i 2) l)) (fun l => K (ix2 (i 2) l)) (fun l => C (ix2 (i 2) l)) (fun l => S (ix2 (i 2) l)) (fun l => P (ix2 0 l)) (i 3)

/-- and the value block. -/
def blkV (A : Vec Ideal S512x512 .bf16) (W : Vec Ideal S8x512x256 .bf16) : Vec Ideal S1x8x128x512 .bf16 := fun i =>
  dot (fun j => A (ix2 (i 3) j)) (fun j e => W (ix3 (i 1) j e)) ⟨128 + (i 2).val, Nat.add_lt_add_left (i 2).isLt 128⟩

theorem q_nope (A : Vec Ideal S512x512 .bf16) (W : Vec Ideal S8x512x384 .bf16) (G : Vec Ideal S1x384 .f32) (C S : Vec Ideal S512x128 .f32) (P : Vec Ideal S1x128 .f32)
    (k : Fin k0_t1_loop.trips) (x : S1x1x512x128.Idx) :
    k0_pay3 (k0_pay18 G) A (View.ld W (Rect.unit (s := S8x512x384) (k0_off1 k) S1x512x384.size (k0_off1_inb k))) x
      = blkQ A W G C S P ((Rect.unit (s := S1x8x512x256) (k0_off2 k) S1x1x512x128.size (k0_off2_inb k)).emb x) := by
  obtain ⟨r, l, rfl⟩ : ∃ (r : Fin 512) (l : Fin 128), x = ix4 0 0 r l := ⟨x 2, x 3, by
    funext a; match a with | ⟨0, _⟩ => exact Subsingleton.elim (α := Fin 1) _ _ | ⟨1, _⟩ => exact Subsingleton.elim (α := Fin 1) _ _ | ⟨2, _⟩ => rfl | ⟨3, _⟩ => rfl⟩
  rw [emb2, pay3_apply, pay2_apply, pay18_apply]
  simp only [pay_dotq]
  refine Eq.trans ?_ (dif_pos (show l.val < 128 from l.isLt)).symm
  rfl

theorem q_rope (A : Vec Ideal S512x512 .bf16) (W : Vec Ideal S8x512x384 .bf16) (G : Vec Ideal S1x384 .f32) (C S : Vec Ideal S512x128 .f32) (P : Vec Ideal S1x128 .f32)
    (k : Fin k0_t1_loop.trips) (x : S1x1x512x128.Idx) :
    k0_pay5 (k0_pay4 (k0_pay18 G) C S A (View.ld W (Rect.unit (s := S8x512x384) (k0_off1 k) S1x512x384.size (k0_off1_inb k)))) P x
      = blkQ A W G C S P ((Rect.unit (s := S1x8x512x256) (k0_off3 k) S1x1x512x128.size (k0_off3_inb k)).emb x) := by
  obtain ⟨r, l, rfl⟩ : ∃ (r : Fin 512) (l : Fin 128), x = ix4 0 0 r l := ⟨x 2, x 3, by
    funext a; match a with | ⟨0, _⟩ => exact Subsingleton.elim (α := Fin 1) _ _ | ⟨1, _⟩ => exact Subsingleton.elim (α := Fin 1) _ _ | ⟨2, _⟩ => rfl | ⟨3, _⟩ => rfl⟩
  have hl : (⟨128 + l.val - 128, by omega⟩ : Fin 128) = l := Fin.ext (Nat.add_sub_cancel_left 128 l.val)
  rw [emb3, pay5_apply, pay2_apply, pay18_apply, pay18_apply]
  simp only [pay_dotq]
  refine Eq.trans ?_ (dif_neg (show ¬ 128 + l.val < 128 by omega)).symm
  simp only [ix4, Nat.add_sub_cancel_left]

theorem k_nope (A : Vec Ideal S512x512 .bf16) (W : Vec Ideal S8x512x256 .bf16) (G : Vec Ideal S1x384 .f32) (X Y K C S : Vec Ideal S512x128 .f32) (P : Vec Ideal S1x128 .f32)
    (k : Fin k0_t1_loop.trips) (x : S1x1x512x128.Idx) :
    k0_pay9 (k0_pay19 G) A (View.ld W (Rect.unit (s := S8x512x256) (k0_off4 k) S1x512x256.size (k0_off4_inb k))) K x
      = blkK A W G X Y K C S P ((Rect.unit (s := S1x8x512x256) (k0_off2 k) S1x1x512x128.size (k0_off2_inb k)).emb x) := by
  obtain ⟨r, l, rfl⟩ : ∃ (r : Fin 512) (l : Fin 128), x = ix4 0 0 r l := ⟨x 2, x 3, by
    funext a; match a with | ⟨0, _⟩ => exact Subsingleton.elim (α := Fin 1) _ _ | ⟨1, _⟩ => exact Subsingleton.elim (α := Fin 1) _ _ | ⟨2, _⟩ => rfl | ⟨3, _⟩ => rfl⟩
  rw [emb2, pay9_apply, pay8_apply, pay19_apply]
  simp only [pay_dotk]
  refine Eq.trans ?_ (dif_pos (show l.val < 128 from l.isLt)).symm
  rfl

theorem k_rope (A : Vec Ideal S512x512 .bf16) (W : Vec Ideal S8x512x256 .bf16) (G : Vec Ideal S1x384 .f32) (X Y K C S : Vec Ideal S512x128 .f32) (P : Vec Ideal S1x128 .f32)
    (k : Fin k0_t1_loop.trips) (x : S1x1x512x128.Idx) :
    k0_pay20 G C S (k0_pay8 A (View.ld W (Rect.unit (s := S8x512x256) (k0_off4 k) S1x512x256.size (k0_off4_inb k))) K)
        (k0_pay10 A (View.ld W (Rect.unit (s := S8x512x256) (k0_off4 k) S1x512x256.size (k0_off4_inb k))) K X) (k0_pay11 (k0_pay19 G)) Y P x
      = blkK A W G X Y K C S P ((Rect.unit (s := S1x8x512x256) (k0_off3 k) S1x1x512x128.size (k0_off3_inb k)).emb x) := by
  obtain ⟨r, l, rfl⟩ : ∃ (r : Fin 512) (l : Fin 128), x = ix4 0 0 r l := ⟨x 2, x 3, by
    funext a; match a with | ⟨0, _⟩ => exact Subsingleton.elim (α := Fin 1) _ _ | ⟨1, _⟩ => exact Subsingleton.elim (α := Fin 1) _ _ | ⟨2, _⟩ => rfl | ⟨3, _⟩ => rfl⟩
  rw [emb3, pay20_apply, pay8_apply]
  simp only [pay_dotk]
  refine Eq.trans ?_ (dif_neg (show ¬ 128 + l.val < 128 by omega)).symm
  simp only [ix4, Nat.add_sub_cancel_left]

theorem v_all (A : Vec Ideal S512x512 .bf16) (W : Vec Ideal S8x512x256 .bf16) (k : Fin k0_t1_loop.trips) (x : S1x1x128x512.Idx) :
    k0_pay21 (k0_pay6 A (View.ld W (Rect.unit (s := S8x512x256) (k0_off4 k) S1x512x256.size (k0_off4_inb k)))) x
      = blkV A W ((Rect.unit (s := S1x8x128x512) (k0_off5 k) S1x1x128x512.size (k0_off5_inb k)).emb x) := by
  obtain ⟨d, r, rfl⟩ : ∃ (d : Fin 128) (r : Fin 512), x = ix4 0 0 d r := ⟨x 2, x 3, by
    funext a; match a with | ⟨0, _⟩ => exact Subsingleton.elim (α := Fin 1) _ _ | ⟨1, _⟩ => exact Subsingleton.elim (α := Fin 1) _ _ | ⟨2, _⟩ => rfl | ⟨3, _⟩ => rfl⟩
  rw [emb5, pay21_apply, pay_dotk]
  rfl

end Cert.LatentIdeal.LatentRun

end
-- ==== Proof.Latent.Trips.lean ====
/- The pieces each trip through the heads writes, and those of all the trips together. -/
module

public import proofs.«01_k».proof.Proof.Latent.Heads

@[expose] public section

set_option maxRecDepth 16384

noncomputable section

namespace Cert.LatentIdeal.LatentRun

open Idealize.ShloMosaic Idealize.ShloMosaic.TcCoe Idealize.SL.Sem Cert.LatentIdeal Cert.LatentIdeal.Gen
open Cert.LatentIdeal.LatentPure

/-! ## A trip's pieces, and all the trips' -/

section Trips

variable (𝒱 : Variants) (c : Dev nD) (bd : Option 𝒱.V) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S512x256 .f32) (harg3 : arg3.IsWhole)
  (arg4 : Memref sig .tc .vmem S512x1 .i32) (harg4 : arg4.IsWhole)
  (arg5 : Memref sig .tc .vmem S1x128 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x512x384 .bf16) (harg8 : arg8.IsWhole)
  (arg9 : Memref sig .tc .vmem S8x512x256 .bf16) (harg9 : arg9.IsWhole)
  (arg10 : Memref sig .tc .vmem S1x384 .f32) (harg10 : arg10.IsWhole)
  (arg11 : Memref sig .tc .vmem S1x384 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S1x8x512x256 .bf16) (harg14 : arg14.IsWhole)
  (arg15 : Memref sig .tc .vmem S1x8x512x256 .bf16) (harg15 : arg15.IsWhole)
  (arg16 : Memref sig .tc .vmem S1x8x128x512 .bf16) (harg16 : arg16.IsWhole)
  (arg17 : Memref sig .tc .vmem S512x512 .bf16) (harg17 : arg17.IsWhole)
  (arg18 : Memref sig .tc .vmem S512x512 .bf16) (harg18 : arg18.IsWhole)
  (arg19 : Memref sig .tc .vmem S512x128 .f32) (harg19 : arg19.IsWhole)
  (arg20 : Memref sig .tc .vmem S512x128 .f32) (harg20 : arg20.IsWhole)
  (arg21 : Memref sig .tc .vmem S512x128 .f32) (harg21 : arg21.IsWhole)
  (v39 : FVec Ideal S512x512 .bf16) (v65 : Vec Ideal S1x384 .f32) (v69 : Vec Ideal S1x384 .f32)
  (X_arg3 : BufTy.Contents (Elt Ideal) arg3.view.ty) (X_arg8 : BufTy.Contents (Elt Ideal) arg8.view.ty) (X_arg9 : BufTy.Contents (Elt Ideal) arg9.view.ty) (X_arg12 : BufTy.Contents (Elt Ideal) arg12.view.ty) (X_arg13 : BufTy.Contents (Elt Ideal) arg13.view.ty) (X_arg17 : BufTy.Contents (Elt Ideal) arg17.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty)
variable (A B : Vec Ideal S512x512 .bf16) (C S K X Y : Vec Ideal S512x128 .f32) (P R : Vec Ideal S1x128 .f32) (WQ : Vec Ideal S8x512x384 .bf16) (WK : Vec Ideal S8x512x256 .bf16)

/-- What the loop's loads read. -/
structure Loads : Prop where
  hA : arg17.view.readAt (Elt Ideal) (Rect.unit (s := S512x512) ![0, 0] S512x512.size inb_S512x512_S512x512_0_0).toLoadRect X_arg17 = A
  hB : arg18.view.readAt (Elt Ideal) (Rect.unit (s := S512x512) ![0, 0] S512x512.size inb_S512x512_S512x512_0_0).toLoadRect X_arg18 = B
  hC : arg19.view.readAt (Elt Ideal) (Rect.unit (s := S512x128) ![0, 0] S512x128.size inb_S512x128_S512x128_0_0).toLoadRect X_arg19 = C
  hS : arg20.view.readAt (Elt Ideal) (Rect.unit (s := S512x128) ![0, 0] S512x128.size inb_S512x128_S512x128_0_0).toLoadRect X_arg20 = S
  hK : arg21.view.readAt (Elt Ideal) (Rect.unit (s := S512x128) ![0, 0] S512x128.size inb_S512x128_S512x128_0_0).toLoadRect X_arg21 = K
  hX : arg3.view.readAt (Elt Ideal) (Rect.unit (s := S512x256) ![0, 0] S512x128.size inb_S512x256_S512x128_0_0).toLoadRect X_arg3 = X
  hY : arg3.view.readAt (Elt Ideal) (Rect.unit (s := S512x256) ![0, 128] S512x128.size inb_S512x256_S512x128_0_128).toLoadRect X_arg3 = Y
  hP : arg12.view.readAt (Elt Ideal) (Rect.unit (s := S1x128) ![0, 0] S1x128.size inb_S1x128_S1x128_0_0).toLoadRect X_arg12 = P
  hR : arg13.view.readAt (Elt Ideal) (Rect.unit (s := S1x128) ![0, 0] S1x128.size inb_S1x128_S1x128_0_0).toLoadRect X_arg13 = R
  hQ : ∀ k, arg8.view.readAt (Elt Ideal) (Rect.unit (s := S8x512x384) (k0_off1 k) S1x512x384.size (k0_off1_inb k)).toLoadRect X_arg8
    = View.ld WQ (Rect.unit (s := S8x512x384) (k0_off1 k) S1x512x384.size (k0_off1_inb k))
  hW : ∀ k, arg9.view.readAt (Elt Ideal) (Rect.unit (s := S8x512x256) (k0_off4 k) S1x512x256.size (k0_off4_inb k)).toLoadRect X_arg9
    = View.ld WK (Rect.unit (s := S8x512x256) (k0_off4 k) S1x512x256.size (k0_off4_inb k))

variable (h : Loads arg3 arg8 arg9 arg12 arg13 arg17 arg18 arg19 arg20 arg21 X_arg3 X_arg8 X_arg9 X_arg12 X_arg13 X_arg17 X_arg18 X_arg19 X_arg20 X_arg21 A B C S K X Y P R WQ WK)
include h

theorem trip_q (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 k).1, ∀ x, p.2 x = blkQ A WQ v65 C S P (p.1.emb x) := by
  have e : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 k).1
      = [⟨Rect.unit (s := S1x8x512x256) (k0_off3 k) S1x1x512x128.size (k0_off3_inb k), k0_pay5 (k0_pay4 (k0_pay18 v65) C S A (View.ld WQ (Rect.unit (s := S8x512x384) (k0_off1 k) S1x512x384.size (k0_off1_inb k)))) P⟩,
         ⟨Rect.unit (s := S1x8x512x256) (k0_off2 k) S1x1x512x128.size (k0_off2_inb k), k0_pay3 (k0_pay18 v65) A (View.ld WQ (Rect.unit (s := S8x512x384) (k0_off1 k) S1x512x384.size (k0_off1_inb k)))⟩] := by
    rw [← h.hA, ← h.hC, ← h.hS, ← h.hP, ← h.hQ]
    dsimp only [tripL_k0_t1]; unfold trip_k0_t1
    dsimp only [trip_k0_t1.sl.r, trip_k0_t1.sl.r_1, trip_k0_t1.sl.r_2, trip_k0_t1.sl.r_3, trip_k0_t1.sl.r_4, trip_k0_t1.sl.r_5, trip_k0_t1.sl.r_6]
  rw [e]
  intro p hp
  rcases List.mem_cons.mp hp with rfl | hp
  · exact q_rope A WQ v65 C S P k
  · rcases List.mem_singleton.mp hp with rfl
    exact q_nope A WQ v65 C S P k

theorem trip_k (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 k).2.1, ∀ x, p.2 x = blkK B WK v69 X Y K C S R (p.1.emb x) := by
  have e : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 k).2.1
      = [⟨Rect.unit (s := S1x8x512x256) (k0_off3 k) S1x1x512x128.size (k0_off3_inb k), k0_pay20 v69 C S (k0_pay8 B (View.ld WK (Rect.unit (s := S8x512x256) (k0_off4 k) S1x512x256.size (k0_off4_inb k))) K)
            (k0_pay10 B (View.ld WK (Rect.unit (s := S8x512x256) (k0_off4 k) S1x512x256.size (k0_off4_inb k))) K X) (k0_pay11 (k0_pay19 v69)) Y R⟩,
         ⟨Rect.unit (s := S1x8x512x256) (k0_off2 k) S1x1x512x128.size (k0_off2_inb k), k0_pay9 (k0_pay19 v69) B (View.ld WK (Rect.unit (s := S8x512x256) (k0_off4 k) S1x512x256.size (k0_off4_inb k))) K⟩] := by
    rw [← h.hB, ← h.hC, ← h.hS, ← h.hR, ← h.hK, ← h.hX, ← h.hY, ← h.hW]
    dsimp only [tripL_k0_t1]; unfold trip_k0_t1
    dsimp only [trip_k0_t1.sl.r, trip_k0_t1.sl.r_1, trip_k0_t1.sl.r_2, trip_k0_t1.sl.r_3, trip_k0_t1.sl.r_4, trip_k0_t1.sl.r_5, trip_k0_t1.sl.r_6]
  rw [e]
  intro p hp
  rcases List.mem_cons.mp hp with rfl | hp
  · exact k_rope B WK v69 X Y K C S R k
  · rcases List.mem_singleton.mp hp with rfl
    exact k_nope B WK v69 X Y K C S R k

theorem trip_v (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 k).2.2, ∀ x, p.2 x = blkV B WK (p.1.emb x) := by
  have e : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 k).2.2
      = [⟨Rect.unit (s := S1x8x128x512) (k0_off5 k) S1x1x128x512.size (k0_off5_inb k), k0_pay21 (k0_pay6 B (View.ld WK (Rect.unit (s := S8x512x256) (k0_off4 k) S1x512x256.size (k0_off4_inb k))))⟩] := by
    rw [← h.hB, ← h.hW]
    dsimp only [tripL_k0_t1]; unfold trip_k0_t1
    dsimp only [trip_k0_t1.sl.r, trip_k0_t1.sl.r_1, trip_k0_t1.sl.r_2, trip_k0_t1.sl.r_3, trip_k0_t1.sl.r_4, trip_k0_t1.sl.r_5, trip_k0_t1.sl.r_6]
  rw [e]
  intro p hp
  rcases List.mem_singleton.mp hp with rfl
  exact v_all B WK k

/-- Every piece of every trip is a part of the block. -/
theorem all_trips : ∀ n ≤ k0_t1_loop.trips,
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 n).1, ∀ x, p.2 x = blkQ A WQ v65 C S P (p.1.emb x))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 n).2.1, ∀ x, p.2 x = blkK B WK v69 X Y K C S R (p.1.emb x))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 n).2.2, ∀ x, p.2 x = blkV B WK (p.1.emb x))
  | 0, _ => ⟨fun _ hp => absurd hp List.not_mem_nil, fun _ hp => absurd hp List.not_mem_nil, fun _ hp => absurd hp List.not_mem_nil⟩
  | n + 1, hn => by
    obtain ⟨i1, i2, i3⟩ := all_trips n (Nat.le_of_succ_le hn)
    rw [show n + 1 = (⟨n, hn⟩ : Fin k0_t1_loop.trips).val + 1 from rfl, pb_k0_t1_succ]
    refine ⟨fun p hp => ?_, fun p hp => ?_, fun p hp => ?_⟩
    · rcases List.mem_append.mp hp with hp | hp
      · exact trip_q 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 A B C S K X Y P R WQ WK h ⟨n, hn⟩ p hp
      · exact i1 p hp
    · rcases List.mem_append.mp hp with hp | hp
      · exact trip_k 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 A B C S K X Y P R WQ WK h ⟨n, hn⟩ p hp
      · exact i2 p hp
    · rcases List.mem_append.mp hp with hp | hp
      · exact trip_v 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v65 v69 X_arg3 X_arg8 X_arg9 X_arg12 X_arg13 X_arg17 X_arg18 X_arg19 X_arg20 X_arg21 A B C S K X Y P R WQ WK h ⟨n, hn⟩ p hp
      · exact i3 p hp

end Trips

end Cert.LatentIdeal.LatentRun

end
-- ==== Proof.Latent.Run.lean ====
/- What one grid point of the latent up-projection leaves in its three result blocks, over its input blocks as they stand. -/
module

public import proofs.«01_k».proof.Proof.Latent.Trips
public import proofs.«01_k».proof.Proof.Whole
public import Idealize.ShloMosaic.Lib.Pipeline.CanonAppend

@[expose] public section

set_option maxRecDepth 16384

noncomputable section

namespace Cert.LatentIdeal.LatentRun

open Idealize.ShloMosaic Idealize.ShloMosaic.TcCoe Idealize.SL.Sem Cert.LatentIdeal Cert.LatentIdeal.Gen
open Cert.LatentIdeal.LatentPure

/-! ## The blocks the point leaves -/

section Out

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x256 .f32) (harg3 : arg3.IsWhole) (arg4 : Memref sig .tc .vmem S512x1 .i32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S8x512x384 .bf16) (harg8 : arg8.IsWhole) (arg9 : Memref sig .tc .vmem S8x512x256 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x8x512x256 .bf16) (harg14 : arg14.IsWhole) (arg15 : Memref sig .tc .vmem S1x8x512x256 .bf16) (harg15 : arg15.IsWhole) (arg16 : Memref sig .tc .vmem S1x8x128x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole)
    (x0 : Vec Ideal S512x512 .bf16) (x1 : Vec Ideal S512x512 .bf16) (x2 : Vec Ideal S512x256 .f32) (x3 : Vec Ideal S512x1 .i32) (x4 : Vec Ideal S1x128 .f32) (x5 : Vec Ideal S1x512 .f32) (x6 : Vec Ideal S1x512 .f32) (x7 : Vec Ideal S8x512x384 .bf16) (x8 : Vec Ideal S8x512x256 .bf16) (x9 : Vec Ideal S1x384 .f32) (x10 : Vec Ideal S1x384 .f32) (x11 : Vec Ideal S1x128 .f32) (x12 : Vec Ideal S1x128 .f32)

/-- The two halves of the rotary key block. -/
abbrev xpart (x2 : Vec Ideal S512x256 .f32) : Vec Ideal S512x128 .f32 := View.ld x2 (Rect.unit (s := S512x256) ![0, 0] S512x128.size inb_S512x256_S512x128_0_0)
abbrev ypart (x2 : Vec Ideal S512x256 .f32) : Vec Ideal S512x128 .f32 := View.ld x2 (Rect.unit (s := S512x256) ![0, 128] S512x128.size inb_S512x256_S512x128_0_128)

theorem pieces :
    (∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).1, ∀ x, p.2 x = blkQ (k0_pay12 x0 x5) x7 x9 (k0_pay15 x3 x4) (k0_pay16 x3 x4) x11 (p.1.emb x))
    ∧ (∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.1, ∀ x,
        p.2 x = blkK (k0_pay13 x1 x6) x8 x10 (xpart x2) (ypart x2) (k0_pay17 (xpart x2)) (k0_pay15 x3 x4) (k0_pay16 x3 x4) x12 (p.1.emb x))
    ∧ (∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.1, ∀ x, p.2 x = blkV (k0_pay13 x1 x6) x8 (p.1.emb x)) := by
  unfold kernelRun0_A
  dsimp only
  rw [Cert.Whole.loaded harg10 Cert.Whole.two_zero, Cert.Whole.loaded harg11 Cert.Whole.two_zero]
  refine all_trips _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ _ (le_of_eq rfl)
  dsimp only [kernelRun0_A.sl.HS0_1, kernelRun0_A.sl.HS1_1, kernelRun0_A.sl.HS2_1, kernelRun0_A.sl.HS3_1, kernelRun0_A.sl.HS4_1]
  constructor
  case hA => rw [Cert.Whole.loaded_stored _ _ Cert.Whole.two_zero Cert.Whole.two_zero, Cert.Whole.loaded harg1 Cert.Whole.two_zero, Cert.Whole.loaded harg6 Cert.Whole.two_zero]
  case hB => rw [Cert.Whole.loaded_stored _ _ Cert.Whole.two_zero Cert.Whole.two_zero, kernelRun0_A.sl.r, Cert.Whole.loaded harg2 Cert.Whole.two_zero, Cert.Whole.loaded harg7 Cert.Whole.two_zero]
  case hC => rw [Cert.Whole.loaded_stored _ _ Cert.Whole.two_zero Cert.Whole.two_zero, Cert.Whole.loaded harg4 Cert.Whole.two_zero, Cert.Whole.loaded harg5 Cert.Whole.two_zero]
  case hS => rw [Cert.Whole.loaded_stored _ _ Cert.Whole.two_zero Cert.Whole.two_zero, Cert.Whole.loaded harg4 Cert.Whole.two_zero, Cert.Whole.loaded harg5 Cert.Whole.two_zero]
  case hK => rw [Cert.Whole.loaded_stored _ _ Cert.Whole.two_zero Cert.Whole.two_zero, Cert.Whole.loaded_part harg3]
  case hX => exact Cert.Whole.loaded_part harg3 _ x2
  case hY => exact Cert.Whole.loaded_part harg3 _ x2
  case hP => exact Cert.Whole.loaded harg12 Cert.Whole.two_zero _ x11
  case hR => exact Cert.Whole.loaded harg13 Cert.Whole.two_zero _ x12
  case hQ => exact fun k => Cert.Whole.loaded_part harg8 _ x7
  case hW => exact fun k => Cert.Whole.loaded_part harg9 _ x8

theorem out13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 = blkQ (k0_pay12 x0 x5) x7 x9 (k0_pay15 x3 x4) (k0_pay16 x3 x4) x11 := by
  funext y
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y
  have hp := (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).1
  unfold out0_A_13
  rw [View.read_writes_junk_eq_canon]
  exact (congrArg (fun L => View.canon L y) (List.append_nil _).symm).trans (View.canon_append_of_pieces _ [] _ hp y hc)

theorem out14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12
    = blkK (k0_pay13 x1 x6) x8 x10 (xpart x2) (ypart x2) (k0_pay17 (xpart x2)) (k0_pay15 x3 x4) (k0_pay16 x3 x4) x12 := by
  funext y
  have hc := cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y
  have hp := (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.1
  unfold out0_A_14
  rw [View.read_writes_junk_eq_canon]
  exact (congrArg (fun L => View.canon L y) (List.append_nil _).symm).trans (View.canon_append_of_pieces _ [] _ hp y hc)

theorem out15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 = blkV (k0_pay13 x1 x6) x8 := by
  funext y
  have hc := cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y
  have hp := (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2
  unfold out0_A_15
  rw [View.read_writes_junk_eq_canon]
  exact (congrArg (fun L => View.canon L y) (List.append_nil _).symm).trans (View.canon_append_of_pieces _ [] _ hp y hc)

end Out

end Cert.LatentIdeal.LatentRun

end
-- ==== Proof.Latent.Join.lean ====
/- The kernel's rows of a head, with the rotary columns laid out in two groups of 128, are the reference's rows of 192 columns. -/
module

public import proofs.«01_k».proof.Proof.Latent.Heads
public import proofs.«01_k».proof.Proof.Latent.Ref

@[expose] public section

set_option maxRecDepth 16384

noncomputable section

namespace Cert.LatentIdeal.LatentJoin

open Idealize.ShloMosaic Cert.LatentIdeal.LatentPure Cert.LatentIdeal.LatentRun Cert.LatentIdeal.LatentRef

/-! ## The rows by their columns -/

theorem qval_lo (D G : Fin 384 → EReal) (C S P : Fin 128 → EReal) (e : Fin 128) :
    qval D G C S P ⟨e.val, by omega⟩ = D ⟨e.val, by omega⟩ * rs (∑ j : Fin 256, D ⟨j.val, by omega⟩ * D ⟨j.val, by omega⟩) * G ⟨e.val, by omega⟩ :=
  dif_pos (show e.val < 128 from e.isLt)

theorem qval_hi (D G : Fin 384 → EReal) (C S P : Fin 128 → EReal) (l : Fin 128) :
    qval D G C S P ⟨128 + l.val, by omega⟩
      = D ⟨128 + l.val, by omega⟩ * rs (∑ j : Fin 256, D ⟨j.val, by omega⟩ * D ⟨j.val, by omega⟩) * G ⟨128 + l.val, by omega⟩ * C l
        + D ⟨256 + l.val, by omega⟩ * rs (∑ j : Fin 256, D ⟨j.val, by omega⟩ * D ⟨j.val, by omega⟩) * G ⟨256 + l.val, by omega⟩ * S l + P l := by
  refine (dif_neg (show ¬ 128 + l.val < 128 by omega)).trans ?_
  simp only [Nat.add_sub_cancel_left]

theorem kval_lo (D : Fin 256 → EReal) (G : Fin 384 → EReal) (X Y K C S P : Fin 128 → EReal) (e : Fin 128) :
    kval D G X Y K C S P ⟨e.val, by omega⟩ = D ⟨e.val, by omega⟩ * rs ((∑ j : Fin 128, D ⟨j.val, by omega⟩ * D ⟨j.val, by omega⟩) + K e) * G ⟨e.val, by omega⟩ :=
  dif_pos (show e.val < 128 from e.isLt)

theorem kval_hi (D : Fin 256 → EReal) (G : Fin 384 → EReal) (X Y K C S P : Fin 128 → EReal) (l : Fin 128) :
    kval D G X Y K C S P ⟨128 + l.val, by omega⟩
      = X l * rs ((∑ j : Fin 128, D ⟨j.val, by omega⟩ * D ⟨j.val, by omega⟩) + K l) * G ⟨128 + l.val, by omega⟩ * C l
        + Y l * rs ((∑ j : Fin 128, D ⟨j.val, by omega⟩ * D ⟨j.val, by omega⟩) + K l) * G ⟨256 + l.val, by omega⟩ * S l + P l := by
  refine (dif_neg (show ¬ 128 + l.val < 128 by omega)).trans ?_
  simp only [Nat.add_sub_cancel_left]

theorem rope_lo (N : Fin 192 → EReal) (C S : Fin 32 → EReal) (e : Fin 128) : rope N C S ⟨e.val, by omega⟩ = N ⟨e.val, by omega⟩ :=
  dif_pos (show e.val < 128 from e.isLt)

theorem rope_mid (N : Fin 192 → EReal) (C S : Fin 32 → EReal) (l : Fin 32) :
    rope N C S ⟨128 + l.val, by omega⟩ = N ⟨128 + l.val, by omega⟩ * C l - N ⟨160 + l.val, by omega⟩ * S l := by
  refine (dif_neg (show ¬ 128 + l.val < 128 by omega)).trans ((dif_pos (show 128 + l.val - 128 < 32 by omega)).trans ?_)
  simp only [Nat.add_sub_cancel_left, show 128 + (32 + l.val) = 160 + l.val by omega]

theorem rope_hi (N : Fin 192 → EReal) (C S : Fin 32 → EReal) (l : Fin 32) :
    rope N C S ⟨160 + l.val, by omega⟩ = N ⟨128 + l.val, by omega⟩ * S l + N ⟨160 + l.val, by omega⟩ * C l := by
  refine (dif_neg (show ¬ 160 + l.val < 128 by omega)).trans ((dif_neg (show ¬ 160 + l.val - 128 < 32 by omega)).trans ?_)
  simp only [show 160 + l.val - 128 - 32 = l.val by omega, show 128 + (32 + l.val) = 160 + l.val by omega]

/-- A column of a 192-column row is one of the first 128, of the next 32 or of the last 32. -/
theorem column (e : Fin 192) : (∃ l : Fin 128, e = ⟨l.val, by omega⟩) ∨ (∃ l : Fin 32, e = ⟨128 + l.val, by omega⟩) ∨ (∃ l : Fin 32, e = ⟨160 + l.val, by omega⟩) := by
  by_cases h : e.val < 128
  · exact Or.inl ⟨⟨e.val, h⟩, rfl⟩
  · by_cases h' : e.val < 160
    · exact Or.inr (Or.inl ⟨⟨e.val - 128, by omega⟩, Fin.ext (by dsimp only; omega)⟩)
    · exact Or.inr (Or.inr ⟨⟨e.val - 160, by omega⟩, Fin.ext (by dsimp only; omega)⟩)

/-! ## The sums of squares -/

theorem sum_parts {a b : Nat} (f : Fin (a + b) → EReal) : ∑ j, f j = (∑ j : Fin a, f ⟨j.val, by omega⟩) + ∑ j : Fin b, f ⟨a + j.val, by omega⟩ :=
  Fin.sum_univ_add f

theorem sum_q (D : Fin 384 → EReal) (Q : Fin 192 → EReal) (h1 : ∀ e : Fin 192, D ⟨e.val, by omega⟩ = Q e) (h2 : ∀ e : Fin 64, D ⟨192 + e.val, by omega⟩ = 0) :
    ∑ j : Fin 256, D ⟨j.val, by omega⟩ * D ⟨j.val, by omega⟩ = ∑ j, Q j * Q j := by
  rw [sum_parts (a := 192) (b := 64) (fun j : Fin 256 => D ⟨j.val, by omega⟩ * D ⟨j.val, by omega⟩)]
  simp only [h1, h2, mul_zero, Finset.sum_const_zero, add_zero]

theorem sum_k (D : Fin 256 → EReal) (X : Fin 128 → EReal) (Q : Fin 192 → EReal) (h1 : ∀ e : Fin 128, D ⟨e.val, by omega⟩ = Q ⟨e.val, by omega⟩)
    (h2 : ∀ e : Fin 64, X ⟨e.val, by omega⟩ = Q ⟨128 + e.val, by omega⟩) (h3 : ∀ e : Fin 64, X ⟨64 + e.val, by omega⟩ = 0) :
    (∑ j : Fin 128, D ⟨j.val, by omega⟩ * D ⟨j.val, by omega⟩) + (∑ j : Fin 128, X j * X j) = ∑ j, Q j * Q j := by
  rw [sum_parts (a := 64) (b := 64) (fun j : Fin 128 => X j * X j), sum_parts (a := 128) (b := 64) (fun j : Fin 192 => Q j * Q j)]
  simp only [h1, h2, h3, mul_zero, Finset.sum_const_zero, add_zero]

/-- The softmax's scale, a nonnegative real. -/
theorem scale_real : ∃ c : ℝ, 0 ≤ c ∧ Ideal.ofBits .f32 0x3DD53B95#32 = (c : EReal) :=
  ⟨(13974421 : ℝ) / 134217728, by norm_num, by simp [Ideal.ofBits, Ideal.ieee, -EReal.coe_mul]; norm_num⟩

theorem add_scaled (a b : EReal) : (a + b) * Ideal.ofBits .f32 0x3DD53B95#32 = a * Ideal.ofBits .f32 0x3DD53B95#32 + b * Ideal.ofBits .f32 0x3DD53B95#32 := by
  obtain ⟨c, hc, e⟩ := scale_real
  rw [e]
  exact EReal.right_distrib_of_nonneg_of_ne_top (EReal.coe_nonneg.mpr hc) (EReal.coe_ne_top c) a b

/-! ## The rows -/

/-- The query row, -/
theorem query (D G : Fin 384 → EReal) (C S P : Fin 128 → EReal) (Q g : Fin 192 → EReal) (co si : Fin 32 → EReal)
    (hD : ∀ e : Fin 192, D ⟨e.val, by omega⟩ = Q e) (hD0 : ∀ e : Fin 64, D ⟨192 + e.val, by omega⟩ = 0)
    (hDa : ∀ l : Fin 32, D ⟨256 + l.val, by omega⟩ = Q ⟨160 + l.val, by omega⟩) (hDb : ∀ l : Fin 32, D ⟨288 + l.val, by omega⟩ = Q ⟨128 + l.val, by omega⟩)
    (hG : ∀ e : Fin 192, G ⟨e.val, by omega⟩ = g e) (hGa : ∀ l : Fin 32, G ⟨256 + l.val, by omega⟩ = -g ⟨160 + l.val, by omega⟩)
    (hGb : ∀ l : Fin 32, G ⟨288 + l.val, by omega⟩ = g ⟨128 + l.val, by omega⟩)
    (hC : ∀ l : Fin 128, l.val < 64 → C l = co ⟨l.val % 32, by omega⟩) (hS : ∀ l : Fin 128, l.val < 64 → S l = si ⟨l.val % 32, by omega⟩)
    (hP : ∀ l : Fin 128, l.val < 64 → P l = 0) (e : Fin 192) :
    qval D (fun i => G i * Ideal.ofBits .f32 0x3DD53B95#32) C S P ⟨e.val, by omega⟩ = rope (normed Q g) co si e * Ideal.ofBits .f32 0x3DD53B95#32 := by
  rcases column e with ⟨l, rfl⟩ | ⟨l, rfl⟩ | ⟨l, rfl⟩
  · rw [rope_lo, qval_lo, sum_q D Q hD hD0, hD ⟨l.val, by omega⟩, hG ⟨l.val, by omega⟩]
    unfold normed
    ac_rfl
  · rw [rope_mid, qval_hi D _ C S P ⟨l.val, by omega⟩, sum_q D Q hD hD0, hP _ (by dsimp only; omega), hC _ (by dsimp only; omega), hS _ (by dsimp only; omega), add_zero,
      hD ⟨128 + l.val, by omega⟩, hG ⟨128 + l.val, by omega⟩, hDa, hGa, sub_eq_add_neg, add_scaled]
    simp only [Nat.mod_eq_of_lt l.isLt, Fin.eta, normed, neg_mul, mul_neg]
    congr 1
    · ac_rfl
    · refine congrArg _ ?_; ac_rfl
  · rw [rope_hi, show (⟨160 + l.val, by omega⟩ : Fin 256) = ⟨128 + (32 + l.val), by omega⟩ from Fin.ext (by dsimp only; omega),
      qval_hi D _ C S P ⟨32 + l.val, by omega⟩, sum_q D Q hD hD0, hP _ (by dsimp only; omega), hC _ (by dsimp only; omega), hS _ (by dsimp only; omega), add_zero]
    simp only [show 128 + (32 + l.val) = 160 + l.val by omega, show 256 + (32 + l.val) = 288 + l.val by omega, show (32 + l.val) % 32 = l.val by omega, Fin.eta]
    rw [hD ⟨160 + l.val, by omega⟩, hG ⟨160 + l.val, by omega⟩, hDb, hGb, add_scaled, add_comm]
    unfold normed
    congr 1 <;> ac_rfl

/-- and the key row. -/
theorem key (D : Fin 256 → EReal) (G : Fin 384 → EReal) (X Y K C S P : Fin 128 → EReal) (Q g : Fin 192 → EReal) (co si : Fin 32 → EReal)
    (hD : ∀ e : Fin 128, D ⟨e.val, by omega⟩ = Q ⟨e.val, by omega⟩) (hX : ∀ e : Fin 64, X ⟨e.val, by omega⟩ = Q ⟨128 + e.val, by omega⟩)
    (hX0 : ∀ e : Fin 64, X ⟨64 + e.val, by omega⟩ = 0) (hYa : ∀ l : Fin 32, Y ⟨l.val, by omega⟩ = Q ⟨160 + l.val, by omega⟩)
    (hYb : ∀ l : Fin 32, Y ⟨32 + l.val, by omega⟩ = Q ⟨128 + l.val, by omega⟩) (hK : ∀ l, K l = ∑ j, X j * X j)
    (hG : ∀ e : Fin 192, G ⟨e.val, by omega⟩ = g e) (hGa : ∀ l : Fin 32, G ⟨256 + l.val, by omega⟩ = -g ⟨160 + l.val, by omega⟩)
    (hGb : ∀ l : Fin 32, G ⟨288 + l.val, by omega⟩ = g ⟨128 + l.val, by omega⟩)
    (hC : ∀ l : Fin 128, l.val < 64 → C l = co ⟨l.val % 32, by omega⟩) (hS : ∀ l : Fin 128, l.val < 64 → S l = si ⟨l.val % 32, by omega⟩)
    (hP : ∀ l : Fin 128, l.val < 64 → P l = 0) (e : Fin 192) :
    kval D G X Y K C S P ⟨e.val, by omega⟩ = rope (normed Q g) co si e := by
  rcases column e with ⟨l, rfl⟩ | ⟨l, rfl⟩ | ⟨l, rfl⟩
  · rw [rope_lo, kval_lo, hK, sum_k D X Q hD hX hX0, hD, hG ⟨l.val, by omega⟩]
    rfl
  · rw [rope_mid, kval_hi D G X Y K C S P ⟨l.val, by omega⟩, hK, sum_k D X Q hD hX hX0, hP _ (by dsimp only; omega), hC _ (by dsimp only; omega), hS _ (by dsimp only; omega), add_zero,
      hX ⟨l.val, by omega⟩, hG ⟨128 + l.val, by omega⟩, hYa, hGa, sub_eq_add_neg]
    simp only [Nat.mod_eq_of_lt l.isLt, Fin.eta, normed, neg_mul, mul_neg]
  · rw [rope_hi, show (⟨160 + l.val, by omega⟩ : Fin 256) = ⟨128 + (32 + l.val), by omega⟩ from Fin.ext (by dsimp only; omega),
      kval_hi D G X Y K C S P ⟨32 + l.val, by omega⟩, hK, sum_k D X Q hD hX hX0, hP _ (by dsimp only; omega), hC _ (by dsimp only; omega), hS _ (by dsimp only; omega), add_zero,
      hX ⟨32 + l.val, by omega⟩, hYb]
    simp only [show 128 + (32 + l.val) = 160 + l.val by omega, show 256 + (32 + l.val) = 288 + l.val by omega, show (32 + l.val) % 32 = l.val by omega, Fin.eta]
    rw [hG ⟨160 + l.val, by omega⟩, hGb, add_comm]
    rfl

end Cert.LatentIdeal.LatentJoin

end
-- ==== Proof.Latent.Value.lean ====
/- The latent up-projection's kernel: what its three result arrays hold after the run, over the reals, and the claim against the reference. -/
module

public import proofs.«01_k».proof.Proof.Latent.Lines
public import proofs.«01_k».proof.Proof.Latent.Run
public import proofs.«01_k».proof.Proof.Latent.Join
public import proofs.«01_k».proof.Proof.Gen.LatentRefIdeal.Run
public import Idealize.ShloMosaic.Lib.Pipeline.Value
public import proofs.«01_k».proof.Defs

@[expose] public section

set_option maxRecDepth 16384

noncomputable section

namespace Cert.LatentIdeal.LatentValue

open Idealize.ShloMosaic Idealize.ShloMosaic.TcCoe Idealize.SL.Sem Cert.LatentIdeal Cert.LatentIdeal.Gen
open Cert.LatentIdeal.LatentPure Cert.LatentIdeal.LatentRun Cert.LatentIdeal.LatentHost
open Cert.LatentIdeal.LatentRef (row rope normed qrow kvrow krow rate angle)
open Idealize.ShloMosaic.Pipeline (Dat)

variable (m : (ℓ : Loc nD τ sig) → Buf (Elt Ideal) ℓ)

/-! ## The nine arguments: projected rows, rotary keys, positions, the latents' scales, the two weights, the norms' scales -/

abbrev argL (c : Dev nD) : Vec Ideal S16384x8192 .bf16 := m ((c : Thread nD τ).loc main_arg0)
abbrev argK (c : Dev nD) : Vec Ideal S16384x64 .f32 := m ((c : Thread nD τ).loc main_arg1)
abbrev argP (c : Dev nD) : Vec Ideal S4x4096 .i32 := m ((c : Thread nD τ).loc main_arg2)
abbrev argA (c : Dev nD) : Vec Ideal S1x512 .f32 := m ((c : Thread nD τ).loc main_arg3)
abbrev argB (c : Dev nD) : Vec Ideal S1x512 .f32 := m ((c : Thread nD τ).loc main_arg4)
abbrev argQ (c : Dev nD) : Vec Ideal S1x512x1536 .f32 := m ((c : Thread nD τ).loc main_arg5)
abbrev argW (c : Dev nD) : Vec Ideal S1x512x2048 .f32 := m ((c : Thread nD τ).loc main_arg6)
abbrev argG (c : Dev nD) : Vec Ideal S1x192 .f32 := m ((c : Thread nD τ).loc main_arg7)
abbrev argH (c : Dev nD) : Vec Ideal S1x192 .f32 := m ((c : Thread nD τ).loc main_arg8)

/-! ## Where a window's block lies -/

theorem lt32 (t : Fin cfg0.N) : t.val < 32 := lt_of_lt_of_eq t.isLt (show cfg0.N = 32 from N_0)

/-- The row of the whole array that is row `r` of point `t`'s block, with its batch and its token. -/
abbrev rowOf (t : Fin cfg0.N) (r : Fin 512) : Fin 16384 := ⟨t.val * 512 + r.val, by have := lt32 t; omega⟩
abbrev batch (t : Fin cfg0.N) : Fin 4 := ⟨t.val / 8, by have := lt32 t; omega⟩
abbrev token (t : Fin cfg0.N) (r : Fin 512) : Fin 4096 := ⟨t.val % 8 * 512 + r.val, by have := lt32 t; omega⟩

theorem row_of (t : Fin cfg0.N) (r : Fin 512) : row (batch t) (token t r) = rowOf t r :=
  Fin.ext (by show t.val / 8 * 4096 + (t.val % 8 * 512 + r.val) = t.val * 512 + r.val; omega)

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 1 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 3) = 0 ∧ win0_7.index t (1 : Fin 3) = 0 ∧ win0_7.index t (2 : Fin 3) = 0 :=
  (by decide +kernel : ∀ t : Fin grid0.N, _)
theorem index_8 : ∀ t : Fin cfg0.N, win0_8.index t (0 : Fin 3) = 0 ∧ win0_8.index t (1 : Fin 3) = 0 ∧ win0_8.index t (2 : Fin 3) = 0 :=
  (by decide +kernel : ∀ t : Fin grid0.N, _)
theorem index_9 : ∀ t : Fin cfg0.N, win0_9.index t (0 : Fin 2) = 0 ∧ win0_9.index t (1 : Fin 2) = 0 :=
  (by decide +kernel : ∀ t : Fin grid0.N, _)
theorem index_10 : ∀ t : Fin cfg0.N, win0_10.index t (0 : Fin 2) = 0 ∧ win0_10.index t (1 : Fin 2) = 0 :=
  (by decide +kernel : ∀ t : Fin grid0.N, _)
theorem index_11 : ∀ t : Fin cfg0.N, win0_11.index t (0 : Fin 2) = 0 ∧ win0_11.index t (1 : Fin 2) = 0 :=
  (by decide +kernel : ∀ t : Fin grid0.N, _)
theorem index_12 : ∀ t : Fin cfg0.N, win0_12.index t (0 : Fin 2) = 0 ∧ win0_12.index t (1 : Fin 2) = 0 :=
  (by decide +kernel : ∀ t : Fin grid0.N, _)
theorem index_13 : ∀ t : Fin cfg0.N, win0_13.index t (0 : Fin 4) = t.val / 8 ∧ win0_13.index t (1 : Fin 4) = 0 ∧ win0_13.index t (2 : Fin 4) = t.val % 8 ∧ win0_13.index t (3 : Fin 4) = 0 :=
  (by decide +kernel : ∀ t : Fin grid0.N, _)
theorem index_14 : ∀ t : Fin cfg0.N, win0_14.index t (0 : Fin 4) = t.val / 8 ∧ win0_14.index t (1 : Fin 4) = 0 ∧ win0_14.index t (2 : Fin 4) = t.val % 8 ∧ win0_14.index t (3 : Fin 4) = 0 :=
  (by decide +kernel : ∀ t : Fin grid0.N, _)
theorem index_15 : ∀ t : Fin cfg0.N, win0_15.index t (0 : Fin 4) = t.val / 8 ∧ win0_15.index t (1 : Fin 4) = 0 ∧ win0_15.index t (2 : Fin 4) = 0 ∧ win0_15.index t (3 : Fin 4) = t.val % 8 :=
  (by decide +kernel : ∀ t : Fin grid0.N, _)

theorem blk0_apply (c : Dev nD) (t : Fin cfg0.N) (r : Fin 512) (l : Fin 512) :
    (iblk m c 0 t : Vec Ideal S512x512 .bf16) (ix2 r l) = argL m c (ix2 (rowOf t r) ⟨l.val, by omega⟩) := by
  obtain ⟨e0, e1⟩ := index_0 t
  refine Eq.trans (b := (V m c main_arg0 : Vec Ideal S16384x8192 .bf16) (ix2 (rowOf t r) ⟨l.val, by omega⟩)) ?_ ?_
  · show (V m c main_arg0 : Vec Ideal S16384x8192 .bf16) (((cfg0.win 0).blk t).view.emb (ix2 r l)) = _
    refine congrArg (V m c main_arg0 : Vec Ideal S16384x8192 .bf16) (funext fun a => Fin.ext ?_)
    match a with
    | ⟨0, _⟩ => show win0_0.index t (0 : Fin 2) * 512 + 1 * r.val = t.val * 512 + r.val; omega
    | ⟨1, _⟩ => show win0_0.index t (1 : Fin 2) * 512 + 1 * l.val = l.val; omega
  · rw [V_main_arg0]

theorem blk1_apply (c : Dev nD) (t : Fin cfg0.N) (r : Fin 512) (l : Fin 512) :
    (iblk m c 1 t : Vec Ideal S512x512 .bf16) (ix2 r l) = argL m c (ix2 (rowOf t r) ⟨512 + l.val, by omega⟩) := by
  obtain ⟨e0, e1⟩ := index_1 t
  refine Eq.trans (b := (V m c main_arg0 : Vec Ideal S16384x8192 .bf16) (ix2 (rowOf t r) ⟨512 + l.val, by omega⟩)) ?_ ?_
  · show (V m c main_arg0 : Vec Ideal S16384x8192 .bf16) (((cfg0.win 1).blk t).view.emb (ix2 r l)) = _
    refine congrArg (V m c main_arg0 : Vec Ideal S16384x8192 .bf16) (funext fun a => Fin.ext ?_)
    match a with
    | ⟨0, _⟩ => show win0_1.index t (0 : Fin 2) * 512 + 1 * r.val = t.val * 512 + r.val; omega
    | ⟨1, _⟩ => show win0_1.index t (1 : Fin 2) * 512 + 1 * l.val = 512 + l.val; omega
  · rw [V_main_arg0]

theorem blk2_apply (c : Dev nD) (t : Fin cfg0.N) (r : Fin 512) (l : Fin 256) :
    (iblk m c 2 t : Vec Ideal S512x256 .f32) (ix2 r l) = kpe (argK m c) (ix2 (rowOf t r) l) := by
  obtain ⟨e0, e1⟩ := index_2 t
  refine Eq.trans (b := (V m c main_v59 : Vec Ideal S16384x256 .f32) (ix2 (rowOf t r) l)) ?_ ?_
  · show (V m c main_v59 : Vec Ideal S16384x256 .f32) (((cfg0.win 2).blk t).view.emb (ix2 r l)) = _
    refine congrArg (V m c main_v59 : Vec Ideal S16384x256 .f32) (funext fun a => Fin.ext ?_)
    match a with
    | ⟨0, _⟩ => show win0_2.index t (0 : Fin 2) * 512 + 1 * r.val = t.val * 512 + r.val; omega
    | ⟨1, _⟩ => show win0_2.index t (1 : Fin 2) * 256 + 1 * l.val = l.val; omega
  · rw [V_v59]

theorem blk3_apply (c : Dev nD) (t : Fin cfg0.N) (r : Fin 512) :
    (iblk m c 3 t : Vec Ideal S512x1 .i32) (ix2 r 0) = argP m c (ix2 (batch t) (token t r)) := by
  obtain ⟨e0, e1⟩ := index_3 t
  refine Eq.trans (b := (V m c main_v1 : Vec Ideal S16384x1 .i32) (ix2 (rowOf t r) 0)) ?_ ?_
  · show (V m c main_v1 : Vec Ideal S16384x1 .i32) (((cfg0.win 3).blk t).view.emb (ix2 r 0)) = _
    refine congrArg (V m c main_v1 : Vec Ideal S16384x1 .i32) (funext fun a => Fin.ext ?_)
    match a with
    | ⟨0, _⟩ => show win0_3.index t (0 : Fin 2) * 512 + 1 * r.val = t.val * 512 + r.val; omega
    | ⟨1, _⟩ => show win0_3.index t (1 : Fin 2) * 1 + 1 * 0 = 0; omega
  · rw [V_v1]
    refine (pos_apply _ _).trans (congrArg₂ (fun (b : Fin 4) (s : Fin 4096) => argP m c (ix2 b s)) (Fin.ext ?_) (Fin.ext ?_))
    · show (t.val * 512 + r.val) / 4096 = t.val / 8; omega
    · show (t.val * 512 + r.val) % 4096 = t.val % 8 * 512 + r.val; omega

theorem blk4_apply (c : Dev nD) (t : Fin cfg0.N) (l : Fin 128) :
    (iblk m c 4 t : Vec Ideal S1x128 .f32) (ix2 0 l) = rates (F := Ideal) (ix2 0 l) := by
  obtain ⟨e0, e1⟩ := index_4 t
  refine Eq.trans (b := (V m c main_v8 : Vec Ideal S1x128 .f32) (ix2 0 l)) ?_ ?_
  · show (V m c main_v8 : Vec Ideal S1x128 .f32) (((cfg0.win 4).blk t).view.emb (ix2 0 l)) = _
    refine congrArg (V m c main_v8 : Vec Ideal S1x128 .f32) (funext fun a => Fin.ext ?_)
    match a with
    | ⟨0, _⟩ => show win0_4.index t (0 : Fin 2) * 1 + 1 * 0 = 0; omega
    | ⟨1, _⟩ => show win0_4.index t (1 : Fin 2) * 128 + 1 * l.val = l.val; omega
  · rw [V_v8]

theorem blk5_apply (c : Dev nD) (t : Fin cfg0.N) (l : Fin 512) :
    (iblk m c 5 t : Vec Ideal S1x512 .f32) (ix2 0 l) = argA m c (ix2 0 l) := by
  obtain ⟨e0, e1⟩ := index_5 t
  refine Eq.trans (b := (V m c main_v61 : Vec Ideal S1x512 .f32) (ix2 0 l)) ?_ ?_
  · show (V m c main_v61 : Vec Ideal S1x512 .f32) (((cfg0.win 5).blk t).view.emb (ix2 0 l)) = _
    refine congrArg (V m c main_v61 : Vec Ideal S1x512 .f32) (funext fun a => Fin.ext ?_)
    match a with
    | ⟨0, _⟩ => show win0_5.index t (0 : Fin 2) * 1 + 1 * 0 = 0; omega
    | ⟨1, _⟩ => show win0_5.index t (1 : Fin 2) * 512 + 1 * l.val = l.val; omega
  · rw [V_v61]; exact lscale_apply _ l

theorem blk6_apply (c : Dev nD) (t : Fin cfg0.N) (l : Fin 512) :
    (iblk m c 6 t : Vec Ideal S1x512 .f32) (ix2 0 l) = argB m c (ix2 0 l) := by
  obtain ⟨e0, e1⟩ := index_6 t
  refine Eq.trans (b := (V m c main_v63 : Vec Ideal S1x512 .f32) (ix2 0 l)) ?_ ?_
  · show (V m c main_v63 : Vec Ideal S1x512 .f32) (((cfg0.win 6).blk t).view.emb (ix2 0 l)) = _
    refine congrArg (V m c main_v63 : Vec Ideal S1x512 .f32) (funext fun a => Fin.ext ?_)
    match a with
    | ⟨0, _⟩ => show win0_6.index t (0 : Fin 2) * 1 + 1 * 0 = 0; omega
    | ⟨1, _⟩ => show win0_6.index t (1 : Fin 2) * 512 + 1 * l.val = l.val; omega
  · rw [V_v63]; exact lscale_apply _ l

theorem blk7_apply (c : Dev nD) (t : Fin cfg0.N) (r : Fin 8) (k : Fin 512) (l : Fin 384) :
    (iblk m c 7 t : Vec Ideal S8x512x384 .bf16) (ix3 r k l) = wq (argQ m c) (ix3 r k l) := by
  obtain ⟨e0, e1, e2⟩ := index_7 t
  refine Eq.trans (b := (V m c main_v22 : Vec Ideal S8x512x384 .bf16) (ix3 r k l)) ?_ ?_
  · show (V m c main_v22 : Vec Ideal S8x512x384 .bf16) (((cfg0.win 7).blk t).view.emb (ix3 r k l)) = _
    refine congrArg (V m c main_v22 : Vec Ideal S8x512x384 .bf16) (funext fun a => Fin.ext ?_)
    match a with
    | ⟨0, _⟩ => show win0_7.index t (0 : Fin 3) * 8 + 1 * r.val = r.val; omega
    | ⟨1, _⟩ => show win0_7.index t (1 : Fin 3) * 512 + 1 * k.val = k.val; omega
    | ⟨2, _⟩ => show win0_7.index t (2 : Fin 3) * 384 + 1 * l.val = l.val; omega
  · rw [V_v22]

theorem blk8_apply (c : Dev nD) (t : Fin cfg0.N) (r : Fin 8) (k : Fin 512) (l : Fin 256) :
    (iblk m c 8 t : Vec Ideal S8x512x256 .bf16) (ix3 r k l) = wkv (argW m c) (ix3 r k l) := by
  obtain ⟨e0, e1, e2⟩ := index_8 t
  refine Eq.trans (b := (V m c main_v25 : Vec Ideal S8x512x256 .bf16) (ix3 r k l)) ?_ ?_
  · show (V m c main_v25 : Vec Ideal S8x512x256 .bf16) (((cfg0.win 8).blk t).view.emb (ix3 r k l)) = _
    refine congrArg (V m c main_v25 : Vec Ideal S8x512x256 .bf16) (funext fun a => Fin.ext ?_)
    match a with
    | ⟨0, _⟩ => show win0_8.index t (0 : Fin 3) * 8 + 1 * r.val = r.val; omega
    | ⟨1, _⟩ => show win0_8.index t (1 : Fin 3) * 512 + 1 * k.val = k.val; omega
    | ⟨2, _⟩ => show win0_8.index t (2 : Fin 3) * 256 + 1 * l.val = l.val; omega
  · rw [V_v25]

theorem blk9_apply (c : Dev nD) (t : Fin cfg0.N) (l : Fin 384) :
    (iblk m c 9 t : Vec Ideal S1x384 .f32) (ix2 0 l) = gain (argG m c) (ix2 0 l) := by
  obtain ⟨e0, e1⟩ := index_9 t
  refine Eq.trans (b := (V m c main_v32 : Vec Ideal S1x384 .f32) (ix2 0 l)) ?_ ?_
  · show (V m c main_v32 : Vec Ideal S1x384 .f32) (((cfg0.win 9).blk t).view.emb (ix2 0 l)) = _
    refine congrArg (V m c main_v32 : Vec Ideal S1x384 .f32) (funext fun a => Fin.ext ?_)
    match a with
    | ⟨0, _⟩ => show win0_9.index t (0 : Fin 2) * 1 + 1 * 0 = 0; omega
    | ⟨1, _⟩ => show win0_9.index t (1 : Fin 2) * 384 + 1 * l.val = l.val; omega
  · rw [V_v32]

theorem blk10_apply (c : Dev nD) (t : Fin cfg0.N) (l : Fin 384) :
    (iblk m c 10 t : Vec Ideal S1x384 .f32) (ix2 0 l) = gain (argH m c) (ix2 0 l) := by
  obtain ⟨e0, e1⟩ := index_10 t
  refine Eq.trans (b := (V m c main_v39 : Vec Ideal S1x384 .f32) (ix2 0 l)) ?_ ?_
  · show (V m c main_v39 : Vec Ideal S1x384 .f32) (((cfg0.win 10).blk t).view.emb (ix2 0 l)) = _
    refine congrArg (V m c main_v39 : Vec Ideal S1x384 .f32) (funext fun a => Fin.ext ?_)
    match a with
    | ⟨0, _⟩ => show win0_10.index t (0 : Fin 2) * 1 + 1 * 0 = 0; omega
    | ⟨1, _⟩ => show win0_10.index t (1 : Fin 2) * 384 + 1 * l.val = l.val; omega
  · rw [V_v39]

theorem blk11_apply (c : Dev nD) (t : Fin cfg0.N) (l : Fin 128) :
    (iblk m c 11 t : Vec Ideal S1x128 .f32) (ix2 0 l) = (V m c main_v51 : Vec Ideal S1x128 .f32) (ix2 0 l) := by
  obtain ⟨e0, e1⟩ := index_11 t
  refine Eq.trans (b := (V m c main_v51 : Vec Ideal S1x128 .f32) (ix2 0 l)) ?_ ?_
  · show (V m c main_v51 : Vec Ideal S1x128 .f32) (((cfg0.win 11).blk t).view.emb (ix2 0 l)) = _
    refine congrArg (V m c main_v51 : Vec Ideal S1x128 .f32) (funext fun a => Fin.ext ?_)
    match a with
    | ⟨0, _⟩ => show win0_11.index t (0 : Fin 2) * 1 + 1 * 0 = 0; omega
    | ⟨1, _⟩ => show win0_11.index t (1 : Fin 2) * 128 + 1 * l.val = l.val; omega
  · rfl

theorem blk12_apply (c : Dev nD) (t : Fin cfg0.N) (l : Fin 128) :
    (iblk m c 12 t : Vec Ideal S1x128 .f32) (ix2 0 l) = (V m c main_v55 : Vec Ideal S1x128 .f32) (ix2 0 l) := by
  obtain ⟨e0, e1⟩ := index_12 t
  refine Eq.trans (b := (V m c main_v55 : Vec Ideal S1x128 .f32) (ix2 0 l)) ?_ ?_
  · show (V m c main_v55 : Vec Ideal S1x128 .f32) (((cfg0.win 12).blk t).view.emb (ix2 0 l)) = _
    refine congrArg (V m c main_v55 : Vec Ideal S1x128 .f32) (funext fun a => Fin.ext ?_)
    match a with
    | ⟨0, _⟩ => show win0_12.index t (0 : Fin 2) * 1 + 1 * 0 = 0; omega
    | ⟨1, _⟩ => show win0_12.index t (1 : Fin 2) * 128 + 1 * l.val = l.val; omega
  · rfl

/-! ## The three arrays after the region -/

/-- A head's query row before its norm, as the kernel lays it out, -/
def qD (c : Dev nD) (R : Fin 16384) (h : Fin 8) : Fin 384 → EReal :=
  dot (lat (fun j => argL m c (ix2 R ⟨j.val, by omega⟩)) (fun j => argA m c (ix2 0 j))) (fun k e => wq (argQ m c) (ix3 h k e))

/-- its keys and values, -/
def kD (c : Dev nD) (R : Fin 16384) (h : Fin 8) : Fin 256 → EReal :=
  dot (lat (fun j => argL m c (ix2 R ⟨512 + j.val, by omega⟩)) (fun j => argB m c (ix2 0 j))) (fun k e => wkv (argW m c) (ix3 h k e))

/-- and a token's angles. -/
def ang (c : Dev nD) (b : Fin 4) (s : Fin 4096) (l : Fin 128) : EReal :=
  (FloatOps.sitofp (F := Ideal) FTy.f32 (argP m c (ix2 b s)) : EReal) * rates (F := Ideal) (ix2 0 l)

/-- The queries, -/
def G13 (c : Dev nD) : Vec Ideal S4x8x4096x256 .bf16 := fun i =>
  qval (qD m c (row (i 0) (i 2)) (i 1)) (fun e => gain (argG m c) (ix2 0 e) * Ideal.ofBits .f32 0x3DD53B95#32)
    (fun l => Ideal.cos (ang m c (i 0) (i 2) l)) (fun l => Ideal.sin (ang m c (i 0) (i 2) l)) (fun l => (V m c main_v51 : Vec Ideal S1x128 .f32) (ix2 0 l)) (i 3)

/-- the keys -/
def G14 (c : Dev nD) : Vec Ideal S4x8x4096x256 .bf16 := fun i =>
  kval (kD m c (row (i 0) (i 2)) (i 1)) (fun e => gain (argH m c) (ix2 0 e))
    (fun l => kpe (argK m c) (ix2 (row (i 0) (i 2)) ⟨l.val, by omega⟩)) (fun l => kpe (argK m c) (ix2 (row (i 0) (i 2)) ⟨128 + l.val, by omega⟩))
    (fun _ => ∑ j : Fin 128, kpe (argK m c) (ix2 (row (i 0) (i 2)) ⟨j.val, by omega⟩) * kpe (argK m c) (ix2 (row (i 0) (i 2)) ⟨j.val, by omega⟩))
    (fun l => Ideal.cos (ang m c (i 0) (i 2) l)) (fun l => Ideal.sin (ang m c (i 0) (i 2) l)) (fun l => (V m c main_v55 : Vec Ideal S1x128 .f32) (ix2 0 l)) (i 3)

/-- and the values. -/
def G15 (c : Dev nD) : Vec Ideal S4x8x128x4096 .bf16 := fun i => kD m c (row (i 0) (i 3)) (i 1) ⟨128 + (i 2).val, by have : (i 2).val < 128 := (i 2).isLt; omega⟩

/-! ## A point's blocks -/

theorem latA (c : Dev nD) (t : Fin cfg0.N) (r k : Fin 512) :
    k0_pay12 (F := Ideal) (iblk m c 0 t) (iblk m c 5 t) (ix2 r k) = lat (fun j => argL m c (ix2 (rowOf t r) ⟨j.val, by omega⟩)) (fun j => argA m c (ix2 0 j)) k := by
  rw [pay12_apply]
  exact congrArg₂ (fun x g => lat x g k) (funext fun j => blk0_apply m c t r j) (funext fun j => blk5_apply m c t j)

theorem latB (c : Dev nD) (t : Fin cfg0.N) (r k : Fin 512) :
    k0_pay13 (F := Ideal) (iblk m c 1 t) (iblk m c 6 t) (ix2 r k) = lat (fun j => argL m c (ix2 (rowOf t r) ⟨512 + j.val, by omega⟩)) (fun j => argB m c (ix2 0 j)) k := by
  rw [pay13_apply]
  exact congrArg₂ (fun x g => lat x g k) (funext fun j => blk1_apply m c t r j) (funext fun j => blk6_apply m c t j)

theorem cos_at (c : Dev nD) (t : Fin cfg0.N) (r : Fin 512) (l : Fin 128) :
    k0_pay15 (F := Ideal) (iblk m c 3 t) (iblk m c 4 t) (ix2 r l) = Ideal.cos (ang m c (batch t) (token t r) l) := by
  rw [pay15_apply, blk3_apply, blk4_apply]
  rfl

theorem sin_at (c : Dev nD) (t : Fin cfg0.N) (r : Fin 512) (l : Fin 128) :
    k0_pay16 (F := Ideal) (iblk m c 3 t) (iblk m c 4 t) (ix2 r l) = Ideal.sin (ang m c (batch t) (token t r) l) := by
  rw [pay16_apply, blk3_apply, blk4_apply]
  rfl

theorem x_at (c : Dev nD) (t : Fin cfg0.N) (r : Fin 512) (l : Fin 128) : xpart (iblk m c 2 t) (ix2 r l) = kpe (argK m c) (ix2 (rowOf t r) ⟨l.val, by omega⟩) := by
  refine Eq.trans (congrArg (iblk m c 2 t : Vec Ideal S512x256 .f32) (funext fun a => Fin.ext ?_)) (blk2_apply m c t r ⟨l.val, by omega⟩)
  match a with
  | ⟨0, _⟩ => show 0 + 1 * r.val = r.val; omega
  | ⟨1, _⟩ => show 0 + 1 * l.val = l.val; omega

theorem y_at (c : Dev nD) (t : Fin cfg0.N) (r : Fin 512) (l : Fin 128) : ypart (iblk m c 2 t) (ix2 r l) = kpe (argK m c) (ix2 (rowOf t r) ⟨128 + l.val, by omega⟩) := by
  refine Eq.trans (congrArg (iblk m c 2 t : Vec Ideal S512x256 .f32) (funext fun a => Fin.ext ?_)) (blk2_apply m c t r ⟨128 + l.val, by omega⟩)
  match a with
  | ⟨0, _⟩ => show 0 + 1 * r.val = r.val; omega
  | ⟨1, _⟩ => show 128 + 1 * l.val = 128 + l.val; omega

theorem qD_at (c : Dev nD) (t : Fin cfg0.N) (r : Fin 512) (h : Fin 8) :
    dot (fun j => k0_pay12 (F := Ideal) (iblk m c 0 t) (iblk m c 5 t) (ix2 r j)) (fun j e => (iblk m c 7 t : Vec Ideal S8x512x384 .bf16) (ix3 h j e)) = qD m c (rowOf t r) h :=
  congrArg₂ dot (funext fun j => latA m c t r j) (funext fun j => funext fun e => blk7_apply m c t h j e)

theorem kD_at (c : Dev nD) (t : Fin cfg0.N) (r : Fin 512) (h : Fin 8) :
    dot (fun j => k0_pay13 (F := Ideal) (iblk m c 1 t) (iblk m c 6 t) (ix2 r j)) (fun j e => (iblk m c 8 t : Vec Ideal S8x512x256 .bf16) (ix3 h j e)) = kD m c (rowOf t r) h :=
  congrArg₂ dot (funext fun j => latB m c t r j) (funext fun j => funext fun e => blk8_apply m c t h j e)

theorem blkQ_eq (A : Vec Ideal S512x512 .bf16) (W : Vec Ideal S8x512x384 .bf16) (G : Vec Ideal S1x384 .f32) (C S : Vec Ideal S512x128 .f32) (P : Vec Ideal S1x128 .f32)
    (D g : Fin 384 → EReal) (co si p : Fin 128 → EReal) (z : Fin 1) (h : Fin 8) (r : Fin 512) (l : Fin 256)
    (hD : dot (fun j => A (ix2 r j)) (fun j e => W (ix3 h j e)) = D) (hG : (fun e => G (ix2 0 e)) = g)
    (hC : (fun l => C (ix2 r l)) = co) (hS : (fun l => S (ix2 r l)) = si) (hP : (fun l => P (ix2 0 l)) = p) :
    blkQ A W G C S P (ix4 z h r l) = qval D (fun e => g e * Ideal.ofBits .f32 0x3DD53B95#32) co si p l := by
  subst hD hG hC hS hP; rfl

theorem blkK_eq (A : Vec Ideal S512x512 .bf16) (W : Vec Ideal S8x512x256 .bf16) (G : Vec Ideal S1x384 .f32) (X Y K C S : Vec Ideal S512x128 .f32) (P : Vec Ideal S1x128 .f32)
    (D : Fin 256 → EReal) (g : Fin 384 → EReal) (x y k co si p : Fin 128 → EReal) (z : Fin 1) (h : Fin 8) (r : Fin 512) (l : Fin 256)
    (hD : dot (fun j => A (ix2 r j)) (fun j e => W (ix3 h j e)) = D) (hG : (fun e => G (ix2 0 e)) = g)
    (hX : (fun l => X (ix2 r l)) = x) (hY : (fun l => Y (ix2 r l)) = y) (hK : (fun l => K (ix2 r l)) = k)
    (hC : (fun l => C (ix2 r l)) = co) (hS : (fun l => S (ix2 r l)) = si) (hP : (fun l => P (ix2 0 l)) = p) :
    blkK A W G X Y K C S P (ix4 z h r l) = kval D g x y k co si p l := by
  subst hD hG hX hY hK hC hS hP; rfl

theorem G13_at (c : Dev nD) (t : Fin cfg0.N) (h : Fin 8) (r : Fin 512) (l : Fin 256) : G13 m c (ix4 (batch t) h (token t r) l)
    = qval (qD m c (rowOf t r) h) (fun e => gain (argG m c) (ix2 0 e) * Ideal.ofBits .f32 0x3DD53B95#32)
      (fun l => Ideal.cos (ang m c (batch t) (token t r) l)) (fun l => Ideal.sin (ang m c (batch t) (token t r) l)) (fun l => (V m c main_v51 : Vec Ideal S1x128 .f32) (ix2 0 l)) l := by
  rw [← row_of]; rfl

theorem G14_at (c : Dev nD) (t : Fin cfg0.N) (h : Fin 8) (r : Fin 512) (l : Fin 256) : G14 m c (ix4 (batch t) h (token t r) l)
    = kval (kD m c (rowOf t r) h) (fun e => gain (argH m c) (ix2 0 e))
      (fun l => kpe (argK m c) (ix2 (rowOf t r) ⟨l.val, by omega⟩)) (fun l => kpe (argK m c) (ix2 (rowOf t r) ⟨128 + l.val, by omega⟩))
      (fun _ => ∑ j : Fin 128, kpe (argK m c) (ix2 (rowOf t r) ⟨j.val, by omega⟩) * kpe (argK m c) (ix2 (rowOf t r) ⟨j.val, by omega⟩))
      (fun l => Ideal.cos (ang m c (batch t) (token t r) l)) (fun l => Ideal.sin (ang m c (batch t) (token t r) l)) (fun l => (V m c main_v55 : Vec Ideal S1x128 .f32) (ix2 0 l)) l := by
  rw [← row_of]; rfl

theorem outs13 (c : Dev nD) (t : Fin cfg0.N) : (outsAt0 m c t).1 = blkQ (k0_pay12 (iblk m c 0 t) (iblk m c 5 t)) (iblk m c 7 t) (iblk m c 9 t)
    (k0_pay15 (iblk m c 3 t) (iblk m c 4 t)) (k0_pay16 (iblk m c 3 t) (iblk m c 4 t)) (iblk m c 11 t) :=
  out13 _ _ _ _ _ _ _ _ _ _ _ _ _ _ _ _ _ _ _ _ _ _ _ _ _ _ _ _ _ _ _ _ _ _ _ _ _ _ _ _ _ _ _ _ _ _ _ _ _ _ _ _ _ _ _ _ _

theorem outs14 (c : Dev nD) (t : Fin cfg0.N) : (outsAt0 m c t).2.1 = blkK (k0_pay13 (iblk m c 1 t) (iblk m c 6 t)) (iblk m c 8 t) (iblk m c 10 t)
    (xpart (iblk m c 2 t)) (ypart (iblk m c 2 t)) (k0_pay17 (xpart (iblk m c 2 t))) (k0_pay15 (iblk m c 3 t) (iblk m c 4 t)) (k0_pay16 (iblk m c 3 t) (iblk m c 4 t)) (iblk m c 12 t) :=
  out14 _ _ _ _ _ _ _ _ _ _ _ _ _ _ _ _ _ _ _ _ _ _ _ _ _ _ _ _ _ _ _ _ _ _ _ _ _ _ _ _ _ _ _ _ _ _ _ _ _ _ _ _ _ _ _ _ _

theorem outs15 (c : Dev nD) (t : Fin cfg0.N) : (outsAt0 m c t).2.2 = blkV (k0_pay13 (iblk m c 1 t) (iblk m c 6 t)) (iblk m c 8 t) :=
  out15 _ _ _ _ _ _ _ _ _ _ _ _ _ _ _ _ _ _ _ _ _ _ _ _ _ _ _ _ _ _ _ _ _ _ _ _ _ _ _ _ _ _ _ _ _ _ _ _ _ _ _ _ _ _ _ _ _

theorem flushed13 (c : Dev nD) (t : Fin cfg0.N) :
    (dats m 0 c).flushed 13 t = ((cfg0.win 13).blk t).view.read (Elt Ideal) (G13 m c) := by
  obtain ⟨e0, e1, e2, e3⟩ := index_13 t
  show (cfg0.win 13).cut (grid0.coords t) ((dats m 0 c).after 13 t) = _
  rw [after0_13, outs13]
  funext (y : S1x8x512x256.Idx)
  show blkQ _ _ _ _ _ _ y = G13 m c (((cfg0.win 13).blk t).view.emb y)
  obtain ⟨z, h, r, l, rfl⟩ : ∃ (z : Fin 1) (h : Fin 8) (r : Fin 512) (l : Fin 256), y = ix4 z h r l := ⟨y 0, y 1, y 2, y 3, by funext a; match a with | ⟨0, _⟩ => rfl | ⟨1, _⟩ => rfl | ⟨2, _⟩ => rfl | ⟨3, _⟩ => rfl⟩
  rw [show ((cfg0.win 13).blk t).view.emb (ix4 z h r l) = (ix4 (batch t) h (token t r) l : S4x8x4096x256.Idx) from
    funext fun a => Fin.ext (by
      match a with
      | ⟨0, _⟩ => show win0_13.index t (0 : Fin 4) * 1 + 1 * z.val = t.val / 8; omega
      | ⟨1, _⟩ => show win0_13.index t (1 : Fin 4) * 8 + 1 * h.val = h.val; omega
      | ⟨2, _⟩ => show win0_13.index t (2 : Fin 4) * 512 + 1 * r.val = t.val % 8 * 512 + r.val; omega
      | ⟨3, _⟩ => show win0_13.index t (3 : Fin 4) * 256 + 1 * l.val = l.val; omega)]
  rw [G13_at]
  exact blkQ_eq _ _ _ _ _ _ _ _ _ _ _ z h r l (qD_at m c t r h) (funext fun e => blk9_apply m c t e) (funext fun l => cos_at m c t r l) (funext fun l => sin_at m c t r l)
    (funext fun l => blk11_apply m c t l)

theorem flushed14 (c : Dev nD) (t : Fin cfg0.N) :
    (dats m 0 c).flushed 14 t = ((cfg0.win 14).blk t).view.read (Elt Ideal) (G14 m c) := by
  obtain ⟨e0, e1, e2, e3⟩ := index_14 t
  show (cfg0.win 14).cut (grid0.coords t) ((dats m 0 c).after 14 t) = _
  rw [after0_14, outs14]
  funext (y : S1x8x512x256.Idx)
  show blkK _ _ _ _ _ _ _ _ _ y = G14 m c (((cfg0.win 14).blk t).view.emb y)
  obtain ⟨z, h, r, l, rfl⟩ : ∃ (z : Fin 1) (h : Fin 8) (r : Fin 512) (l : Fin 256), y = ix4 z h r l := ⟨y 0, y 1, y 2, y 3, by funext a; match a with | ⟨0, _⟩ => rfl | ⟨1, _⟩ => rfl | ⟨2, _⟩ => rfl | ⟨3, _⟩ => rfl⟩
  rw [show ((cfg0.win 14).blk t).view.emb (ix4 z h r l) = (ix4 (batch t) h (token t r) l : S4x8x4096x256.Idx) from
    funext fun a => Fin.ext (by
      match a with
      | ⟨0, _⟩ => show win0_14.index t (0 : Fin 4) * 1 + 1 * z.val = t.val / 8; omega
      | ⟨1, _⟩ => show win0_14.index t (1 : Fin 4) * 8 + 1 * h.val = h.val; omega
      | ⟨2, _⟩ => show win0_14.index t (2 : Fin 4) * 512 + 1 * r.val = t.val % 8 * 512 + r.val; omega
      | ⟨3, _⟩ => show win0_14.index t (3 : Fin 4) * 256 + 1 * l.val = l.val; omega)]
  rw [G14_at]
  exact blkK_eq _ _ _ _ _ _ _ _ _ _ _ _ _ _ _ _ _ z h r l (kD_at m c t r h) (funext fun e => blk10_apply m c t e) (funext fun l => x_at m c t r l) (funext fun l => y_at m c t r l)
    (funext fun l => (pay17_apply _ r l).trans (Finset.sum_congr rfl fun j _ => congrArg₂ (· * ·) (x_at m c t r j) (x_at m c t r j)))
    (funext fun l => cos_at m c t r l) (funext fun l => sin_at m c t r l) (funext fun l => blk12_apply m c t l)

theorem flushed15 (c : Dev nD) (t : Fin cfg0.N) :
    (dats m 0 c).flushed 15 t = ((cfg0.win 15).blk t).view.read (Elt Ideal) (G15 m c) := by
  obtain ⟨e0, e1, e2, e3⟩ := index_15 t
  show (cfg0.win 15).cut (grid0.coords t) ((dats m 0 c).after 15 t) = _
  rw [after0_15, outs15]
  funext (y : S1x8x128x512.Idx)
  show blkV _ _ y = G15 m c (((cfg0.win 15).blk t).view.emb y)
  obtain ⟨z, h, d, r, rfl⟩ : ∃ (z : Fin 1) (h : Fin 8) (d : Fin 128) (r : Fin 512), y = ix4 z h d r := ⟨y 0, y 1, y 2, y 3, by funext a; match a with | ⟨0, _⟩ => rfl | ⟨1, _⟩ => rfl | ⟨2, _⟩ => rfl | ⟨3, _⟩ => rfl⟩
  rw [show ((cfg0.win 15).blk t).view.emb (ix4 z h d r) = (ix4 (batch t) h d (token t r) : S4x8x128x4096.Idx) from
    funext fun a => Fin.ext (by
      match a with
      | ⟨0, _⟩ => show win0_15.index t (0 : Fin 4) * 1 + 1 * z.val = t.val / 8; omega
      | ⟨1, _⟩ => show win0_15.index t (1 : Fin 4) * 8 + 1 * h.val = h.val; omega
      | ⟨2, _⟩ => show win0_15.index t (2 : Fin 4) * 128 + 1 * d.val = d.val; omega
      | ⟨3, _⟩ => show win0_15.index t (3 : Fin 4) * 512 + 1 * r.val = t.val % 8 * 512 + r.val; omega)]
  refine Eq.trans (b := kD m c (rowOf t r) h ⟨128 + d.val, by omega⟩) ?_ ?_
  · exact congrFun (kD_at m c t r h) _
  · rw [← row_of]; rfl

theorem mem13 (t : Fin cfg0.N) (i : S4x8x4096x256.Idx) : i ∈ ((cfg0.win 13).blk t).view.set
    ↔ ∀ a : Fin 4, win0_13.index t a * S1x8x512x256.size a ≤ (i a).val ∧ (i a).val < win0_13.index t a * S1x8x512x256.size a + S1x8x512x256.size a := by
  show i ∈ ((View.whole main_v64_0).slice (win0_13.rect t)).set ↔ _
  rw [View.set_slice_whole, Rect.mem_set_unit]; exact Iff.rfl

theorem final13 (c : Dev nD) : (dats m 0 c).arrAt 13 cfg0.N = G13 m c :=
  (dats m 0 c).arrAt_eq_of_cover 13 _ (fun t _ => flushed13 m c t) (fun (i : S4x8x4096x256.Idx) => by
    have h0 : (i 0).val < 4 := (i 0).isLt
    have h1 : (i 1).val < 8 := (i 1).isLt
    have h2 : (i 2).val < 4096 := (i 2).isLt
    have h3 : (i 3).val < 256 := (i 3).isLt
    have ht : (i 0).val * 8 + (i 2).val / 512 < cfg0.N := lt_of_lt_of_eq (by omega) (show 32 = cfg0.N from N_0.symm)
    refine ⟨⟨(i 0).val * 8 + (i 2).val / 512, ht⟩, flush0_13 _, (mem13 _ i).mpr fun a => ?_⟩
    obtain ⟨e0, e1, e2, e3⟩ := index_13 ⟨(i 0).val * 8 + (i 2).val / 512, ht⟩
    dsimp only at e0 e1 e2 e3
    match a with
    | ⟨0, _⟩ => show win0_13.index _ (0 : Fin 4) * 1 ≤ (i 0).val ∧ (i 0).val < win0_13.index _ (0 : Fin 4) * 1 + 1; omega
    | ⟨1, _⟩ => show win0_13.index _ (1 : Fin 4) * 8 ≤ (i 1).val ∧ (i 1).val < win0_13.index _ (1 : Fin 4) * 8 + 8; omega
    | ⟨2, _⟩ => show win0_13.index _ (2 : Fin 4) * 512 ≤ (i 2).val ∧ (i 2).val < win0_13.index _ (2 : Fin 4) * 512 + 512; omega
    | ⟨3, _⟩ => show win0_13.index _ (3 : Fin 4) * 256 ≤ (i 3).val ∧ (i 3).val < win0_13.index _ (3 : Fin 4) * 256 + 256; omega)

theorem mem14 (t : Fin cfg0.N) (i : S4x8x4096x256.Idx) : i ∈ ((cfg0.win 14).blk t).view.set
    ↔ ∀ a : Fin 4, win0_14.index t a * S1x8x512x256.size a ≤ (i a).val ∧ (i a).val < win0_14.index t a * S1x8x512x256.size a + S1x8x512x256.size a := by
  show i ∈ ((View.whole main_v64_1).slice (win0_14.rect t)).set ↔ _
  rw [View.set_slice_whole, Rect.mem_set_unit]; exact Iff.rfl

theorem final14 (c : Dev nD) : (dats m 0 c).arrAt 14 cfg0.N = G14 m c :=
  (dats m 0 c).arrAt_eq_of_cover 14 _ (fun t _ => flushed14 m c t) (fun (i : S4x8x4096x256.Idx) => by
    have h0 : (i 0).val < 4 := (i 0).isLt
    have h1 : (i 1).val < 8 := (i 1).isLt
    have h2 : (i 2).val < 4096 := (i 2).isLt
    have h3 : (i 3).val < 256 := (i 3).isLt
    have ht : (i 0).val * 8 + (i 2).val / 512 < cfg0.N := lt_of_lt_of_eq (by omega) (show 32 = cfg0.N from N_0.symm)
    refine ⟨⟨(i 0).val * 8 + (i 2).val / 512, ht⟩, flush0_14 _, (mem14 _ i).mpr fun a => ?_⟩
    obtain ⟨e0, e1, e2, e3⟩ := index_14 ⟨(i 0).val * 8 + (i 2).val / 512, ht⟩
    dsimp only at e0 e1 e2 e3
    match a with
    | ⟨0, _⟩ => show win0_14.index _ (0 : Fin 4) * 1 ≤ (i 0).val ∧ (i 0).val < win0_14.index _ (0 : Fin 4) * 1 + 1; omega
    | ⟨1, _⟩ => show win0_14.index _ (1 : Fin 4) * 8 ≤ (i 1).val ∧ (i 1).val < win0_14.index _ (1 : Fin 4) * 8 + 8; omega
    | ⟨2, _⟩ => show win0_14.index _ (2 : Fin 4) * 512 ≤ (i 2).val ∧ (i 2).val < win0_14.index _ (2 : Fin 4) * 512 + 512; omega
    | ⟨3, _⟩ => show win0_14.index _ (3 : Fin 4) * 256 ≤ (i 3).val ∧ (i 3).val < win0_14.index _ (3 : Fin 4) * 256 + 256; omega)

theorem mem15 (t : Fin cfg0.N) (i : S4x8x128x4096.Idx) : i ∈ ((cfg0.win 15).blk t).view.set
    ↔ ∀ a : Fin 4, win0_15.index t a * S1x8x128x512.size a ≤ (i a).val ∧ (i a).val < win0_15.index t a * S1x8x128x512.size a + S1x8x128x512.size a := by
  show i ∈ ((View.whole main_v64_2).slice (win0_15.rect t)).set ↔ _
  rw [View.set_slice_whole, Rect.mem_set_unit]; exact Iff.rfl

theorem final15 (c : Dev nD) : (dats m 0 c).arrAt 15 cfg0.N = G15 m c :=
  (dats m 0 c).arrAt_eq_of_cover 15 _ (fun t _ => flushed15 m c t) (fun (i : S4x8x128x4096.Idx) => by
    have h0 : (i 0).val < 4 := (i 0).isLt
    have h1 : (i 1).val < 8 := (i 1).isLt
    have h2 : (i 2).val < 128 := (i 2).isLt
    have h3 : (i 3).val < 4096 := (i 3).isLt
    have ht : (i 0).val * 8 + (i 3).val / 512 < cfg0.N := lt_of_lt_of_eq (by omega) (show 32 = cfg0.N from N_0.symm)
    refine ⟨⟨(i 0).val * 8 + (i 3).val / 512, ht⟩, flush0_15 _, (mem15 _ i).mpr fun a => ?_⟩
    obtain ⟨e0, e1, e2, e3⟩ := index_15 ⟨(i 0).val * 8 + (i 3).val / 512, ht⟩
    dsimp only at e0 e1 e2 e3
    match a with
    | ⟨0, _⟩ => show win0_15.index _ (0 : Fin 4) * 1 ≤ (i 0).val ∧ (i 0).val < win0_15.index _ (0 : Fin 4) * 1 + 1; omega
    | ⟨1, _⟩ => show win0_15.index _ (1 : Fin 4) * 8 ≤ (i 1).val ∧ (i 1).val < win0_15.index _ (1 : Fin 4) * 8 + 8; omega
    | ⟨2, _⟩ => show win0_15.index _ (2 : Fin 4) * 128 ≤ (i 2).val ∧ (i 2).val < win0_15.index _ (2 : Fin 4) * 128 + 128; omega
    | ⟨3, _⟩ => show win0_15.index _ (3 : Fin 4) * 512 ≤ (i 3).val ∧ (i 3).val < win0_15.index _ (3 : Fin 4) * 512 + 512; omega)

/-! ## The results -/

/-- The columns of a padded array that a result takes. -/
abbrev cut (x : Vec Ideal S4x8x4096x256 .bf16) : Vec Ideal S4x8x4096x192 .bf16 :=
  extractStridedSlice S4x8x4096x192 ![0, 0, 0, 0] x slices_S4x8x4096x256_S4x8x4096x192_0_0_0_0

theorem cut_apply (x : Vec Ideal S4x8x4096x256 .bf16) (b : Fin 4) (h : Fin 8) (s : Fin 4096) (e : Fin 192) : cut x (ix4 b h s e) = x (ix4 b h s ⟨e.val, by omega⟩) := by
  pointwise [cut]

theorem tail_v65 (c : Dev nD) :
    (Pipeline.afterTail₀ cfgs (dats m) 0 (V0 m) [hostOps1] c main_v65 : Vec Ideal S4x8x4096x192 .bf16) = cut (G13 m c) := by
  rw [← final13]
  rw [← (dats m 0 c).withArrays_arrAt sharedIn0 (V0 m c) (A_eq m c) 13]
  unfold Pipeline.afterTail₀
  simp only [hostOps1, List.flatten_cons, List.flatten_nil, List.append_nil]
  after_results <;> rfl

theorem tail_v66 (c : Dev nD) :
    (Pipeline.afterTail₀ cfgs (dats m) 0 (V0 m) [hostOps1] c main_v66 : Vec Ideal S4x8x4096x192 .bf16) = cut (G14 m c) := by
  rw [← final14]
  rw [← (dats m 0 c).withArrays_arrAt sharedIn0 (V0 m c) (A_eq m c) 14]
  unfold Pipeline.afterTail₀
  simp only [hostOps1, List.flatten_cons, List.flatten_nil, List.append_nil]
  after_results <;> rfl

/-- The run with its three results as functions of the arguments. -/
theorem run (ρ : Dev nD → PrngReg) : θ_run defs (onTc (τ := τ) (main (F := Ideal))) ⟨m, fun _ => 0, ρ⟩ fun r => ∀ c : Dev nD,
      (r.2.mem ((c.tc : Thread nD τ).loc main_v65) : Vec Ideal S4x8x4096x192 .bf16) = cut (G13 m c)
      ∧ (r.2.mem ((c.tc : Thread nD τ).loc main_v66) : Vec Ideal S4x8x4096x192 .bf16) = cut (G14 m c)
      ∧ r.2.mem ((c.tc : Thread nD τ).loc main_v64_2) = G15 m c :=
  (θ_run defs _ _).mono (fun r h c => ⟨((h c).2 main_v65 (Pipeline.mem_restRefs_of main_v65 (by decide) (by decide))).trans (tail_v65 m c),
    ((h c).2 main_v66 (Pipeline.mem_restRefs_of main_v66 (by decide) (by decide))).trans (tail_v66 m c), ((h c).1 15).trans (final15 m c)⟩) (run_main m ρ)

/-! ## Against the reference -/

open Cert.LatentRefIdeal.Read (val_main_v141 val_main_v143 val_main_v145)

theorem kD_eq (c : Dev nD) (R : Fin 16384) (h : Fin 8) (e : Fin 256) : kD m c R h e = kvrow (argL m c) (argB m c) (argW m c) R h e := by
  unfold kD dot kvrow
  exact Finset.sum_congr rfl fun k _ => by dsimp only; rw [wkv_apply]

theorem qD_same (c : Dev nD) (R : Fin 16384) (h : Fin 8) (e : Fin 192) : qD m c R h ⟨e.val, by omega⟩ = qrow (argL m c) (argA m c) (argQ m c) R h e := by
  unfold qD dot qrow
  exact Finset.sum_congr rfl fun k _ => by dsimp only; rw [wq_same]

theorem qD_a (c : Dev nD) (R : Fin 16384) (h : Fin 8) (e : Fin 32) : qD m c R h ⟨256 + e.val, by omega⟩ = qrow (argL m c) (argA m c) (argQ m c) R h ⟨160 + e.val, by omega⟩ := by
  unfold qD dot qrow
  exact Finset.sum_congr rfl fun k _ => by dsimp only; rw [wq_a]

theorem qD_b (c : Dev nD) (R : Fin 16384) (h : Fin 8) (e : Fin 32) : qD m c R h ⟨288 + e.val, by omega⟩ = qrow (argL m c) (argA m c) (argQ m c) R h ⟨128 + e.val, by omega⟩ := by
  unfold qD dot qrow
  exact Finset.sum_congr rfl fun k _ => by dsimp only; rw [wq_b]

theorem qD_none (c : Dev nD) (R : Fin 16384) (h : Fin 8) (e : Fin 64) : qD m c R h ⟨192 + e.val, by omega⟩ = 0 := by
  unfold qD dot
  exact Finset.sum_eq_zero fun k _ => by dsimp only; rw [wq_none, mul_zero]

theorem krow_lo (c : Dev nD) (R : Fin 16384) (h : Fin 8) (e : Fin 128) :
    kD m c R h ⟨e.val, by omega⟩ = krow (argL m c) (argK m c) (argB m c) (argW m c) R h ⟨e.val, by omega⟩ := by
  rw [kD_eq]; unfold krow
  rw [dif_pos (show (⟨e.val, by omega⟩ : Fin 192).val < 128 from e.isLt)]

theorem ang_eq (c : Dev nD) (b : Fin 4) (s : Fin 4096) (l : Fin 128) (hl : l.val < 64) : ang m c b s l = angle (argP m c) b s ⟨l.val % 32, by omega⟩ :=
  congrArg (_ * ·) (rates_apply l hl)

theorem eq13 (c : Dev nD) : cut (G13 m c) = val_main_v141 (F := Ideal) (argL m c) (argP m c) (argA m c) (argQ m c) (argG m c) := by
  funext (y : S4x8x4096x192.Idx)
  obtain ⟨b, h, s, e, rfl⟩ : ∃ (b : Fin 4) (h : Fin 8) (s : Fin 4096) (e : Fin 192), y = ix4 b h s e := ⟨y 0, y 1, y 2, y 3, by funext a; match a with | ⟨0, _⟩ => rfl | ⟨1, _⟩ => rfl | ⟨2, _⟩ => rfl | ⟨3, _⟩ => rfl⟩
  refine (cut_apply _ b h s e).trans (Eq.trans ?_ (LatentRef.v141_apply _ _ _ _ _ b s h e).symm)
  exact LatentJoin.query (qD m c (row b s) h) (fun e => gain (argG m c) (ix2 0 e)) _ _ _ (qrow (argL m c) (argA m c) (argQ m c) (row b s) h) _ _ _
    (fun e => qD_same m c _ h e) (fun e => qD_none m c _ h e) (fun l => qD_a m c _ h l) (fun l => qD_b m c _ h l)
    (fun e => gain_same _ e) (fun l => gain_a _ l) (fun l => gain_b _ l)
    (fun l hl => congrArg Ideal.cos (ang_eq m c b s l hl)) (fun l hl => congrArg Ideal.sin (ang_eq m c b s l hl))
    (fun l hl => (congrFun (V_v51 m c) _).trans (only_apply _ l hl)) e

theorem eq14 (c : Dev nD) : cut (G14 m c) = val_main_v143 (F := Ideal) (argL m c) (argK m c) (argP m c) (argB m c) (argW m c) (argH m c) := by
  funext (y : S4x8x4096x192.Idx)
  obtain ⟨b, h, s, e, rfl⟩ : ∃ (b : Fin 4) (h : Fin 8) (s : Fin 4096) (e : Fin 192), y = ix4 b h s e := ⟨y 0, y 1, y 2, y 3, by funext a; match a with | ⟨0, _⟩ => rfl | ⟨1, _⟩ => rfl | ⟨2, _⟩ => rfl | ⟨3, _⟩ => rfl⟩
  refine (cut_apply _ b h s e).trans (Eq.trans ?_ (LatentRef.v143_apply _ _ _ _ _ _ b s h e).symm)
  have low (l : Fin 64) : krow (argL m c) (argK m c) (argB m c) (argW m c) (row b s) h ⟨128 + l.val, by omega⟩ = argK m c (ix2 (row b s) l) :=
    (dif_neg (show ¬ 128 + l.val < 128 by omega)).trans (congrArg (fun j => argK m c (ix2 (row b s) j)) (Fin.ext (show 128 + l.val - 128 = l.val by omega)))
  exact LatentJoin.key (kD m c (row b s) h) (fun e => gain (argH m c) (ix2 0 e)) _ _ _ _ _ _ (krow (argL m c) (argK m c) (argB m c) (argW m c) (row b s) h) _ _ _
    (fun e => krow_lo m c _ h e)
    (fun l => (kpe_same _ _ l).trans (low l).symm) (fun l => kpe_none _ _ l)
    (fun l => (kpe_a _ _ l).trans ((low ⟨32 + l.val, by omega⟩).symm.trans (congrArg _ (Fin.ext (show 128 + (32 + l.val) = 160 + l.val by omega)))))
    (fun l => (congrArg (fun j => kpe (argK m c) (ix2 (row b s) j)) (Fin.ext (show 128 + (32 + l.val) = 160 + l.val by omega))).trans
      ((kpe_b _ _ l).trans (low ⟨l.val, by omega⟩).symm))
    (fun _ => rfl) (fun e => gain_same _ e) (fun l => gain_a _ l) (fun l => gain_b _ l)
    (fun l hl => congrArg Ideal.cos (ang_eq m c b s l hl)) (fun l hl => congrArg Ideal.sin (ang_eq m c b s l hl))
    (fun l hl => (congrFun (V_v55 m c) _).trans (only_apply _ l hl)) e

theorem eq15 (c : Dev nD) : G15 m c = val_main_v145 (F := Ideal) (argL m c) (argB m c) (argW m c) := by
  funext (y : S4x8x128x4096.Idx)
  obtain ⟨b, h, d, s, rfl⟩ : ∃ (b : Fin 4) (h : Fin 8) (d : Fin 128) (s : Fin 4096), y = ix4 b h d s := ⟨y 0, y 1, y 2, y 3, by funext a; match a with | ⟨0, _⟩ => rfl | ⟨1, _⟩ => rfl | ⟨2, _⟩ => rfl | ⟨3, _⟩ => rfl⟩
  exact (kD_eq m c _ h _).trans (LatentRef.v145_apply _ _ _ b s h d).symm

/-- The claim: from the same arguments the kernel's three results are the reference's. -/
theorem algebraic : Cert.algebraic_LatentIdeal_LatentRefIdeal := by
  intro m g m' g' _ hargs
  refine ⟨fun c => cut (G13 m c), fun c => cut (G14 m c), fun c => G15 m c, ?_, ?_⟩
  · refine (θ_run defs _ _).mono (fun r h c => ?_) (θ_run_and (run m g) (Gen.frame m g))
    obtain ⟨h13, h14, h15⟩ := h.1 c
    exact ⟨h13, h14, h15, h.2.1 c⟩
  · refine (θ_run Cert.LatentRefIdeal.defs _ _).mono (fun r h c => ?_) (Cert.LatentRefIdeal.Value.run m' g')
    obtain ⟨e0, e1, e2, e3, e4, e5, e6, e7, e8⟩ := hargs c
    obtain ⟨h141, h143, h145, hk⟩ := h c
    refine ⟨h141.trans ((Cert.LatentRefIdeal.Read.val_main_v141_eq _ _).trans ?_), h143.trans ((Cert.LatentRefIdeal.Read.val_main_v143_eq _ _).trans ?_),
      h145.trans ((Cert.LatentRefIdeal.Read.val_main_v145_eq _ _ _).trans ?_), hk⟩
    · rw [e0, e2, e3, e5, e7]; exact (eq13 m c).symm
    · rw [e0, e1, e2, e4, e6, e8]; exact (eq14 m c).symm
    · rw [e0, e4, e6]; exact (eq15 m c).symm

end Cert.LatentIdeal.LatentValue

end
-- ==== Proof.Mla.Pure.lean ====
module

public import proofs.«01_k».proof.Proof.Gen.MlaIdeal.Skeleton
public import Idealize.ShloMosaic.Lib.Pointwise
public import Idealize.ShloMosaic.Lib.WordCmp

@[expose] public section

set_option maxRecDepth 16384

noncomputable section

namespace Cert.MlaIdeal.MlaPure

open Idealize.ShloMosaic Idealize.ShloMosaic.TcCoe Idealize.SL.Sem Cert.MlaIdeal Cert.MlaIdeal.Gen

/-- The named constant is minus infinity. -/
theorem mask : Named.named (F := Ideal) κ "mask" (φ := .f32) 0xF149F2CA#32 = (⊥ : EReal) := rfl

/-- Two small indices compared as words. -/
theorem le_bit {m n : Nat} (hm : m < 4096) (hn : n < 4096) :
    IntOp.cmpi .sle (BitVec.ofNat 32 m) (BitVec.ofNat 32 n) = BitVec.ofBool (decide (m ≤ n)) := by
  have em : (BitVec.ofNat 32 m).toNat = m := by rw [BitVec.toNat_ofNat]; omega
  have en : (BitVec.ofNat 32 n).toNat = n := by rw [BitVec.toNat_ofNat]; omega
  rw [WordCmp.cmpi_sle_of_lt (by rw [em]; omega) (by rw [en]; omega), em, en]

theorem pay4_apply (kt qt : Vec Ideal S1x1x512x256 .bf16) (a b : Fin 512) :
    k0_pay4 kt qt (ix2 a b) = ∑ e : Fin 256, kt (ix4 0 0 a e) * qt (ix4 0 0 b e) := by
  pointwise [k0_pay4]

theorem pay9_apply (s : FVec Ideal S512x512 .f32) (acc : Vec Ideal S1x128x512 .f32) (v : Vec Ideal S1x1x128x512 .bf16) (d : Fin 128) (b : Fin 512) :
    k0_pay9 s acc v (ix3 0 d b) = acc (ix3 0 d b) + ∑ a : Fin 512, v (ix4 0 0 d a) * Ideal.exp2 (s (ix2 a b)) := by
  pointwise [k0_pay9, k0_pay8]
  rfl

theorem pay10_apply (l : FVec Ideal S1x512 .f32) (s : FVec Ideal S512x512 .f32) (b : Fin 512) :
    k0_pay10 l s (ix2 0 b) = l (ix2 0 b) + ∑ a : Fin 512, Ideal.exp2 (s (ix2 a b)) := by
  pointwise [k0_pay10, k0_pay8]
  rfl

theorem pay49_apply (s : FVec Ideal S512x512 .f32) (a b : Fin 512) :
    k0_pay49 s (ix2 a b) = if a ≤ b then Ideal.exp2 (s (ix2 a b)) else 0 := by
  pointwise [k0_pay49]
  rw [le_bit (by have := a.isLt; omega) (by have := b.isLt; omega)]
  by_cases h : a ≤ b
  · rw [if_pos h, decide_eq_true (Fin.le_def.mp h)]
    rfl
  · rw [if_neg h, decide_eq_false (fun h' => h (Fin.le_def.mpr h'))]
    exact (congrArg Ideal.exp2 mask).trans Ideal.exp2_bot

theorem pay50_apply (s : FVec Ideal S512x512 .f32) (acc : Vec Ideal S1x128x512 .f32) (v : Vec Ideal S1x1x128x512 .bf16) (d : Fin 128) (b : Fin 512) :
    k0_pay50 s acc v (ix3 0 d b) = acc (ix3 0 d b) + ∑ a : Fin 512, v (ix4 0 0 d a) * k0_pay49 s (ix2 a b) := by
  pointwise [k0_pay50]

theorem pay51_apply (l : FVec Ideal S1x512 .f32) (s : FVec Ideal S512x512 .f32) (b : Fin 512) :
    k0_pay51 l s (ix2 0 b) = l (ix2 0 b) + ∑ a : Fin 512, s (ix2 a b) := by
  pointwise [k0_pay51]

theorem pay62_apply (l : FVec Ideal S1x512 .f32) (acc : Vec Ideal S1x128x512 .f32) (b : Fin 512) (d : Fin 128) :
    k0_pay62 l acc (ix2 b d) = Ideal.div (acc (ix3 0 d b)) (l (ix2 0 b)) := by
  pointwise [k0_pay62]

theorem pay28_apply (h : Fin 4) (d : Fin 128) (b : Fin 512) : k0_pay28 (F := Ideal) (ix3 h d b) = 0 := by
  pointwise [k0_pay28]

theorem pay29_apply (b : Fin 512) : k0_pay29 (F := Ideal) (ix2 0 b) = 0 := by
  pointwise [k0_pay29]

/-! The other heads' computations are the first's. -/

theorem pay46_eq (k q : Vec Ideal S1x1x512x256 .bf16) : k0_pay46 (k0_pay44 k) (k0_pay45 q) = k0_pay4 k q := rfl
theorem pay57_eq (s : FVec Ideal S512x512 .f32) (acc : Vec Ideal S1x128x512 .f32) (v : Vec Ideal S1x1x128x512 .bf16) :
    k0_pay57 (k0_pay56 s acc v) = k0_pay50 s acc v := rfl
theorem pay54_eq (l : FVec Ideal S1x512 .f32) (s : FVec Ideal S512x512 .f32) : k0_pay54 l s = k0_pay51 l (k0_pay49 s) := rfl
theorem pay58_eq (l : FVec Ideal S1x512 .f32) (s : FVec Ideal S512x512 .f32) : k0_pay58 l (k0_pay55 s) = k0_pay51 l (k0_pay49 s) := rfl
theorem pay61_eq (l : FVec Ideal S1x512 .f32) (s : FVec Ideal S512x512 .f32) : k0_pay61 l s = k0_pay51 l (k0_pay49 s) := rfl
theorem pay1_eq (l : FVec Ideal S1x512 .f32) (acc : Vec Ideal S1x128x512 .f32) : k0_pay1 l (k0_pay63 acc) = k0_pay62 l acc := rfl

end Cert.MlaIdeal.MlaPure

end
-- ==== Proof.Mla.Heads.lean ====
/- The latent attention's sums for one block of queries: what a trip over the keys adds for one head. -/
module

public import proofs.«01_k».proof.Proof.Gen.MlaIdeal.Frame
public import proofs.«01_k».proof.Proof.Mla.Pure
public import proofs.«01_k».proof.Proof.Whole
public import Idealize.ShloMosaic.Lib.Pipeline.CanonAppend

@[expose] public section

set_option maxRecDepth 16384

noncomputable section

namespace Cert.MlaIdeal.MlaRun

open Idealize.ShloMosaic Idealize.ShloMosaic.TcCoe Idealize.SL.Sem Cert.MlaIdeal Cert.MlaIdeal.Gen
open Cert.MlaIdeal.MlaPure

/-! ## The sums -/

/-- Key `a` of tile `j`. -/
def key (j : Nat) (a : Fin 512) : Fin 4096 := ⟨(512 * j + a.val) % 4096, Nat.mod_lt _ (by omega)⟩

/-- The weight of key `t` for query `b`, in head `h`. -/
def wt (Q : Vec Ideal S1x4x512x256 .bf16) (K : Vec Ideal S1x4x4096x256 .bf16) (h : Fin 4) (t : Fin 4096) (b : Fin 512) : EReal :=
  Ideal.exp2 (∑ e : Fin 256, K (ix4 0 h t e) * Q (ix4 0 h b e))

variable (Q : Vec Ideal S1x4x512x256 .bf16) (K : Vec Ideal S1x4x4096x256 .bf16) (V : Vec Ideal S1x4x128x4096 .bf16)

/-- The weights of the first `n` tiles' keys, -/
def lsum (h : Fin 4) (b : Fin 512) (n : Nat) : EReal := ∑ j ∈ Finset.range n, ∑ a : Fin 512, wt Q K h (key j a) b

/-- and their values by their weights; -/
def asum (h : Fin 4) (d : Fin 128) (b : Fin 512) (n : Nat) : EReal :=
  ∑ j ∈ Finset.range n, ∑ a : Fin 512, V (ix4 0 h d (key j a)) * wt Q K h (key j a) b

/-- the same with the keys of tile `n` up to the query. -/
def lfin (h : Fin 4) (b : Fin 512) (n : Nat) : EReal := lsum Q K h b n + ∑ a : Fin 512, if a ≤ b then wt Q K h (key n a) b else 0

def afin (h : Fin 4) (d : Fin 128) (b : Fin 512) (n : Nat) : EReal :=
  asum Q K V h d b n + ∑ a : Fin 512, V (ix4 0 h d (key n a)) * if a ≤ b then wt Q K h (key n a) b else 0

/-- The accumulator's contents after `n` tiles, -/
def accB (n : Nat) : Vec Ideal S4x128x512 .f32 := fun y => asum Q K V (y 0) (y 1) (y 2) n

/-- the carried sums, -/
def carry (h : Fin 4) (n : Nat) : FVec Ideal S1x512 .f32 := fun y => lsum Q K h (y 1) n

/-- the accumulator's after the last tile, -/
def accF (n : Nat) : Vec Ideal S4x128x512 .f32 := fun y => afin Q K V (y 0) (y 1) (y 2) n

/-- the sums after it, -/
def carryF (h : Fin 4) (n : Nat) : FVec Ideal S1x512 .f32 := fun y => lfin Q K h (y 1) n

/-- and the block of the result. -/
def outB (n : Nat) : Vec Ideal S512x512 .bf16 := fun y =>
  Ideal.div (afin Q K V ⟨(y 1).val / 128, by have : (y 1).val < 512 := (y 1).isLt; omega⟩ ⟨(y 1).val % 128, Nat.mod_lt _ (by omega)⟩ (y 0) n)
    (lfin Q K ⟨(y 1).val / 128, by have : (y 1).val < 512 := (y 1).isLt; omega⟩ (y 0) n)

/-! ## Where the loads read -/

theorem ld_q (h : Fin 4) (off : Fin 4 → Nat) (inb : ∀ a, off a + S1x1x512x256.size a ≤ S1x4x512x256.size a)
    (e : off 0 = 0 ∧ off 1 = h.val ∧ off 2 = 0 ∧ off 3 = 0) (b : Fin 512) (x : Fin 256) :
    View.ld Q (Rect.unit (s := S1x4x512x256) off S1x1x512x256.size inb) (ix4 0 0 b x) = Q (ix4 0 h b x) := by
  obtain ⟨e0, e1, e2, e3⟩ := e
  refine congrArg Q (funext fun a => Fin.ext ?_)
  match a with
  | ⟨0, _⟩ => show off 0 + 1 * 0 = 0; omega
  | ⟨1, _⟩ => show off 1 + 1 * 0 = h.val; omega
  | ⟨2, _⟩ => show off 2 + 1 * b.val = b.val; omega
  | ⟨3, _⟩ => show off 3 + 1 * x.val = x.val; omega

theorem ld_k (h : Fin 4) (n : Nat) (hn : n < 8) (off : Fin 4 → Nat) (inb : ∀ a, off a + S1x1x512x256.size a ≤ S1x4x4096x256.size a)
    (e : off 0 = 0 ∧ off 1 = h.val ∧ off 2 = 512 * n ∧ off 3 = 0) (t : Fin 512) (x : Fin 256) :
    View.ld K (Rect.unit (s := S1x4x4096x256) off S1x1x512x256.size inb) (ix4 0 0 t x) = K (ix4 0 h (key n t) x) := by
  obtain ⟨e0, e1, e2, e3⟩ := e
  have := t.isLt
  refine congrArg K (funext fun a => Fin.ext ?_)
  match a with
  | ⟨0, _⟩ => show off 0 + 1 * 0 = 0; omega
  | ⟨1, _⟩ => show off 1 + 1 * 0 = h.val; omega
  | ⟨2, _⟩ => show off 2 + 1 * t.val = (512 * n + t.val) % 4096; omega
  | ⟨3, _⟩ => show off 3 + 1 * x.val = x.val; omega

theorem ld_v (h : Fin 4) (n : Nat) (hn : n < 8) (off : Fin 4 → Nat) (inb : ∀ a, off a + S1x1x128x512.size a ≤ S1x4x128x4096.size a)
    (e : off 0 = 0 ∧ off 1 = h.val ∧ off 2 = 0 ∧ off 3 = 512 * n) (d : Fin 128) (t : Fin 512) :
    View.ld V (Rect.unit (s := S1x4x128x4096) off S1x1x128x512.size inb) (ix4 0 0 d t) = V (ix4 0 h d (key n t)) := by
  obtain ⟨e0, e1, e2, e3⟩ := e
  have := t.isLt
  refine congrArg V (funext fun a => Fin.ext ?_)
  match a with
  | ⟨0, _⟩ => show off 0 + 1 * 0 = 0; omega
  | ⟨1, _⟩ => show off 1 + 1 * 0 = h.val; omega
  | ⟨2, _⟩ => show off 2 + 1 * d.val = d.val; omega
  | ⟨3, _⟩ => show off 3 + 1 * t.val = (512 * n + t.val) % 4096; omega

/-- A head's part of the accumulator. -/
theorem emb7 (h : Fin 4) (off : Fin 3 → Nat) (inb : ∀ a, off a + S1x128x512.size a ≤ S4x128x512.size a)
    (e : off 0 = h.val ∧ off 1 = 0 ∧ off 2 = 0) (d : Fin 128) (b : Fin 512) :
    (Rect.unit (s := S4x128x512) off S1x128x512.size inb).emb (ix3 0 d b) = ix3 h d b := by
  obtain ⟨e0, e1, e2⟩ := e
  refine funext fun a => Fin.ext ?_
  match a with
  | ⟨0, _⟩ => show off 0 + 1 * 0 = h.val; omega
  | ⟨1, _⟩ => show off 1 + 1 * d.val = d.val; omega
  | ⟨2, _⟩ => show off 2 + 1 * b.val = b.val; omega

theorem idx7 (x : S1x128x512.Idx) : ∃ (d : Fin 128) (b : Fin 512), x = ix3 0 d b := ⟨x 1, x 2, by
  funext a; match a with | ⟨0, _⟩ => exact Subsingleton.elim (α := Fin 1) _ _ | ⟨1, _⟩ => rfl | ⟨2, _⟩ => rfl⟩

theorem idxl (x : S1x512.Idx) : ∃ b : Fin 512, x = ix2 0 b := ⟨x 1, by
  funext a; match a with | ⟨0, _⟩ => exact Subsingleton.elim (α := Fin 1) _ _ | ⟨1, _⟩ => rfl⟩

/-! ## A head's tile -/

section Head

variable (h : Fin 4) (n : Nat) (kt qt : Vec Ideal S1x1x512x256 .bf16) (vt : Vec Ideal S1x1x128x512 .bf16)
  (hk : ∀ t x, kt (ix4 0 0 t x) = K (ix4 0 h (key n t) x)) (hq : ∀ b x, qt (ix4 0 0 b x) = Q (ix4 0 h b x))

include hk hq

theorem score (a b : Fin 512) : Ideal.exp2 (k0_pay4 kt qt (ix2 a b)) = wt Q K h (key n a) b := by
  rw [pay4_apply, wt]
  exact congrArg Ideal.exp2 (Finset.sum_congr rfl fun e _ => by rw [hk, hq])

theorem tile_l (l : FVec Ideal S1x512 .f32) (hl : l = carry Q K h n) : k0_pay10 l (k0_pay4 kt qt) = carry Q K h (n + 1) := by
  subst hl
  funext x
  obtain ⟨b, rfl⟩ := idxl x
  rw [pay10_apply]
  simp only [score Q K h n kt qt hk hq]
  exact (Finset.sum_range_succ _ _).symm

theorem last_l (l : FVec Ideal S1x512 .f32) (hl : l = carry Q K h n) : k0_pay51 l (k0_pay49 (k0_pay4 kt qt)) = carryF Q K h n := by
  subst hl
  funext x
  obtain ⟨b, rfl⟩ := idxl x
  rw [pay51_apply]
  simp only [pay49_apply, score Q K h n kt qt hk hq]
  rfl

variable (hv : ∀ d t, vt (ix4 0 0 d t) = V (ix4 0 h d (key n t)))
  (off : Fin 3 → Nat) (inb : ∀ a, off a + S1x128x512.size a ≤ S4x128x512.size a) (e : off 0 = h.val ∧ off 1 = 0 ∧ off 2 = 0)
include hv e

theorem tile_a (acc : Vec Ideal S1x128x512 .f32) (ha : acc = View.ld (accB Q K V n) (Rect.unit (s := S4x128x512) off S1x128x512.size inb))
    (x : S1x128x512.Idx) :
    k0_pay9 (k0_pay4 kt qt) acc vt x = accB Q K V (n + 1) ((Rect.unit (s := S4x128x512) off S1x128x512.size inb).emb x) := by
  subst ha
  obtain ⟨d, b, rfl⟩ := idx7 x
  rw [pay9_apply, emb7 h off inb e]
  simp only [score Q K h n kt qt hk hq, hv]
  refine Eq.trans ?_ (Finset.sum_range_succ _ _).symm
  exact congrArg (· + _) (congrArg (accB Q K V n) (emb7 h off inb e d b))

theorem last_a (acc : Vec Ideal S1x128x512 .f32) (ha : acc = View.ld (accB Q K V n) (Rect.unit (s := S4x128x512) off S1x128x512.size inb))
    (x : S1x128x512.Idx) :
    k0_pay50 (k0_pay4 kt qt) acc vt x = accF Q K V n ((Rect.unit (s := S4x128x512) off S1x128x512.size inb).emb x) := by
  subst ha
  obtain ⟨d, b, rfl⟩ := idx7 x
  rw [pay50_apply, emb7 h off inb e]
  simp only [pay49_apply, score Q K h n kt qt hk hq, hv]
  exact congrArg (· + _) (congrArg (accB Q K V n) (emb7 h off inb e d b))

end Head

theorem outB_apply (n : Nat) (b c : Fin 512) (h : Fin 4) (d : Fin 128) (e : c.val = 128 * h.val + d.val) :
    outB Q K V n (ix2 b c) = Ideal.div (afin Q K V h d b n) (lfin Q K h b n) := by
  have hd := d.isLt
  have hc := c.isLt
  have key : ∀ (h' : Fin 4) (d' : Fin 128), h' = h → d' = d →
      Ideal.div (afin Q K V h' d' b n) (lfin Q K h' b n) = Ideal.div (afin Q K V h d b n) (lfin Q K h b n) := by
    rintro _ _ rfl rfl; rfl
  exact key ⟨c.val / 128, by omega⟩ ⟨c.val % 128, Nat.mod_lt _ (by omega)⟩ (Fin.ext (by show c.val / 128 = h.val; omega)) (Fin.ext (by show c.val % 128 = d.val; omega))

/-- A head's columns of the result. -/
theorem out_h (h : Fin 4) (n : Nat) (off : Fin 2 → Nat) (inb : ∀ a, off a + S512x128.size a ≤ S512x512.size a) (e : off 0 = 0 ∧ off 1 = 128 * h.val)
    (off' : Fin 3 → Nat) (inb' : ∀ a, off' a + S1x128x512.size a ≤ S4x128x512.size a) (e' : off' 0 = h.val ∧ off' 1 = 0 ∧ off' 2 = 0)
    (l : FVec Ideal S1x512 .f32) (hl : l = carryF Q K h n) (acc : Vec Ideal S1x128x512 .f32)
    (ha : acc = View.ld (accF Q K V n) (Rect.unit (s := S4x128x512) off' S1x128x512.size inb')) (x : S512x128.Idx) :
    k0_pay62 l acc x = outB Q K V n ((Rect.unit (s := S512x512) off S512x128.size inb).emb x) := by
  rw [hl, ha]
  obtain ⟨b, d, rfl⟩ : ∃ (b : Fin 512) (d : Fin 128), x = ix2 b d := ⟨x 0, x 1, by
    funext a; match a with | ⟨0, _⟩ => rfl | ⟨1, _⟩ => rfl⟩
  have hh := h.isLt
  have hd := d.isLt
  obtain ⟨e0, e1⟩ := e
  have ee : (Rect.unit (s := S512x512) off S512x128.size inb).emb (ix2 b d) = ix2 b ⟨128 * h.val + d.val, by omega⟩ := by
    refine funext fun a => Fin.ext ?_
    match a with
    | ⟨0, _⟩ => show off 0 + 1 * b.val = b.val; omega
    | ⟨1, _⟩ => show off 1 + 1 * d.val = 128 * h.val + d.val; omega
  have ea : View.ld (accF Q K V n) (Rect.unit (s := S4x128x512) off' S1x128x512.size inb') (ix3 0 d b) = accF Q K V n (ix3 h d b) := by
    show accF Q K V n ((Rect.unit (s := S4x128x512) off' S1x128x512.size inb').emb (ix3 0 d b)) = _
    rw [emb7 h off' inb' e']
  have eb : accF Q K V n (ix3 h d b) = afin Q K V h d b n := rfl
  have el : carryF Q K h n (ix2 0 b) = lfin Q K h b n := rfl
  have eo := (congrArg (outB Q K V n) ee).trans (outB_apply Q K V n b ⟨128 * h.val + d.val, by omega⟩ h d rfl)
  refine (pay62_apply _ _ b d).trans (Eq.trans ?_ eo.symm)
  rw [ea, eb, el]

end Cert.MlaIdeal.MlaRun

end
-- ==== Proof.Mla.Trips.lean ====
/- A trip over the keys, and all of them, for one block of queries of the latent attention. -/
module

public import proofs.«01_k».proof.Proof.Mla.Heads
public import Idealize.ShloMosaic.Lib.LoopRemainder

@[expose] public section

set_option maxRecDepth 16384

noncomputable section

namespace Cert.MlaIdeal.MlaRun

open Idealize.ShloMosaic Idealize.ShloMosaic.TcCoe Idealize.SL.Sem Cert.MlaIdeal Cert.MlaIdeal.Gen
open Cert.MlaIdeal.MlaPure

/-! ## Which tiles the trips load -/

theorem trips_qi : ∀ i : grid0.Coords, (k0_t1_loop i).trips = (i 2).val := by decide +kernel
theorem trips_none : ∀ i : grid0.Coords, (k0_t2_loop i).trips = 0 := by decide +kernel

theorem off1 : ∀ (i : grid0.Coords) (k : Fin (k0_t1_loop i).trips), k0_off1 i k 0 = 0 ∧ k0_off1 i k 1 = 0 ∧ k0_off1 i k 2 = 512 * k.val ∧ k0_off1 i k 3 = 0 := by decide +kernel
theorem off2 : ∀ (i : grid0.Coords) (k : Fin (k0_t1_loop i).trips), k0_off2 i k 0 = 0 ∧ k0_off2 i k 1 = 1 ∧ k0_off2 i k 2 = 512 * k.val ∧ k0_off2 i k 3 = 0 := by decide +kernel
theorem off3 : ∀ (i : grid0.Coords) (k : Fin (k0_t1_loop i).trips), k0_off3 i k 0 = 0 ∧ k0_off3 i k 1 = 2 ∧ k0_off3 i k 2 = 512 * k.val ∧ k0_off3 i k 3 = 0 := by decide +kernel
theorem off4 : ∀ (i : grid0.Coords) (k : Fin (k0_t1_loop i).trips), k0_off4 i k 0 = 0 ∧ k0_off4 i k 1 = 3 ∧ k0_off4 i k 2 = 512 * k.val ∧ k0_off4 i k 3 = 0 := by decide +kernel
theorem off5 : ∀ (i : grid0.Coords) (k : Fin (k0_t1_loop i).trips), k0_off5 i k 0 = 0 ∧ k0_off5 i k 1 = 0 ∧ k0_off5 i k 2 = 0 ∧ k0_off5 i k 3 = 512 * k.val := by decide +kernel
theorem off6 : ∀ (i : grid0.Coords) (k : Fin (k0_t1_loop i).trips), k0_off6 i k 0 = 0 ∧ k0_off6 i k 1 = 1 ∧ k0_off6 i k 2 = 0 ∧ k0_off6 i k 3 = 512 * k.val := by decide +kernel
theorem off7 : ∀ (i : grid0.Coords) (k : Fin (k0_t1_loop i).trips), k0_off7 i k 0 = 0 ∧ k0_off7 i k 1 = 2 ∧ k0_off7 i k 2 = 0 ∧ k0_off7 i k 3 = 512 * k.val := by decide +kernel
theorem off8 : ∀ (i : grid0.Coords) (k : Fin (k0_t1_loop i).trips), k0_off8 i k 0 = 0 ∧ k0_off8 i k 1 = 3 ∧ k0_off8 i k 2 = 0 ∧ k0_off8 i k 3 = 512 * k.val := by decide +kernel
theorem off17 : ∀ i : grid0.Coords, k0_off17 i 0 = 0 ∧ k0_off17 i 1 = 0 ∧ k0_off17 i 2 = 512 * (i 2).val ∧ k0_off17 i 3 = 0 := by decide +kernel
theorem off18 : ∀ i : grid0.Coords, k0_off18 i 0 = 0 ∧ k0_off18 i 1 = 1 ∧ k0_off18 i 2 = 512 * (i 2).val ∧ k0_off18 i 3 = 0 := by decide +kernel
theorem off19 : ∀ i : grid0.Coords, k0_off19 i 0 = 0 ∧ k0_off19 i 1 = 2 ∧ k0_off19 i 2 = 512 * (i 2).val ∧ k0_off19 i 3 = 0 := by decide +kernel
theorem off20 : ∀ i : grid0.Coords, k0_off20 i 0 = 0 ∧ k0_off20 i 1 = 3 ∧ k0_off20 i 2 = 512 * (i 2).val ∧ k0_off20 i 3 = 0 := by decide +kernel
theorem off21 : ∀ i : grid0.Coords, k0_off21 i 0 = 0 ∧ k0_off21 i 1 = 0 ∧ k0_off21 i 2 = 0 ∧ k0_off21 i 3 = 512 * (i 2).val := by decide +kernel
theorem off22 : ∀ i : grid0.Coords, k0_off22 i 0 = 0 ∧ k0_off22 i 1 = 1 ∧ k0_off22 i 2 = 0 ∧ k0_off22 i 3 = 512 * (i 2).val := by decide +kernel
theorem off23 : ∀ i : grid0.Coords, k0_off23 i 0 = 0 ∧ k0_off23 i 1 = 2 ∧ k0_off23 i 2 = 0 ∧ k0_off23 i 3 = 512 * (i 2).val := by decide +kernel
theorem off24 : ∀ i : grid0.Coords, k0_off24 i 0 = 0 ∧ k0_off24 i 1 = 3 ∧ k0_off24 i 2 = 0 ∧ k0_off24 i 3 = 512 * (i 2).val := by decide +kernel

theorem qi_lt (i : grid0.Coords) : (i 2).val < 8 := (i 2).isLt
theorem trip_lt (i : grid0.Coords) (k : Fin (k0_t1_loop i).trips) : k.val < 8 :=
  lt_trans (lt_of_lt_of_eq k.isLt (trips_qi i)) (qi_lt i)

/-- Stores that tile a buffer leave it at what they agree with. -/
theorem read_tiled {sp : Space} {S : Shape} {e : EltTy} {κ : Kind} (v : View sig κ sp S e) (f : v.ty.Contents (Elt Ideal))
    (L : List (View.Piece (Elt Ideal) S e)) (A : S.Idx → Elt Ideal e) (hL : ∀ p ∈ L, ∀ x, p.2 x = A (p.1.emb x)) (hc : ∀ y, ∃ p ∈ L, y ∈ p.1.set) :
    v.read (Elt Ideal) (v.writes (Elt Ideal) f L) = A := by
  rw [View.read_writes_eq_canon _ _ _ hc]
  funext y
  exact (congrArg (fun L => View.canon L y) (List.append_nil _).symm).trans (View.canon_append_of_pieces A [] L hL y (hc y))

/-! ## A trip -/

section Trips

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x128x4096 .bf16) (harg5 : arg5.IsWhole) (arg6 : Memref sig .tc .vmem S512x512 .bf16) (harg6 : arg6.IsWhole) (arg7 : Memref sig .tc .vmem S4x128x512 .f32) (harg7 : arg7.IsWhole)
  (x0 : Vec Ideal S1x4x512x256 .bf16) (x1 : Vec Ideal S1x4x4096x256 .bf16) (x2 : Vec Ideal S1x4x128x4096 .bf16)

/-- A load of queries, of keys, of values and of the accumulator. -/
abbrev lq (off : Fin 4 → Nat) (inb : ∀ a, off a + S1x1x512x256.size a ≤ S1x4x512x256.size a) : Vec Ideal S1x1x512x256 .bf16 :=
  arg3.view.readAt (Elt Ideal) (Rect.unit (s := S1x4x512x256) off S1x1x512x256.size inb).toLoadRect (harg3.unread x0)
abbrev lk (off : Fin 4 → Nat) (inb : ∀ a, off a + S1x1x512x256.size a ≤ S1x4x4096x256.size a) : Vec Ideal S1x1x512x256 .bf16 :=
  arg4.view.readAt (Elt Ideal) (Rect.unit (s := S1x4x4096x256) off S1x1x512x256.size inb).toLoadRect (harg4.unread x1)
abbrev lv (off : Fin 4 → Nat) (inb : ∀ a, off a + S1x1x128x512.size a ≤ S1x4x128x4096.size a) : Vec Ideal S1x1x128x512 .bf16 :=
  arg5.view.readAt (Elt Ideal) (Rect.unit (s := S1x4x128x4096) off S1x1x128x512.size inb).toLoadRect (harg5.unread x2)
abbrev la (f : BufTy.Contents (Elt Ideal) arg7.view.ty) (off : Fin 3 → Nat) (inb : ∀ a, off a + S1x128x512.size a ≤ S4x128x512.size a) : Vec Ideal S1x128x512 .f32 :=
  arg7.view.readAt (Elt Ideal) (Rect.unit (s := S4x128x512) off S1x128x512.size inb).toLoadRect f

theorem lq_at (h : Fin 4) (off : Fin 4 → Nat) (inb) (e : off 0 = 0 ∧ off 1 = h.val ∧ off 2 = 0 ∧ off 3 = 0) (b : Fin 512) (x : Fin 256) :
    lq arg3 harg3 x0 off inb (ix4 0 0 b x) = x0 (ix4 0 h b x) :=
  (congrFun (Cert.Whole.loaded_part harg3 _ x0) _).trans (ld_q x0 h off inb e b x)

theorem lk_at (h : Fin 4) (n : Nat) (hn : n < 8) (off : Fin 4 → Nat) (inb) (e : off 0 = 0 ∧ off 1 = h.val ∧ off 2 = 512 * n ∧ off 3 = 0) (t : Fin 512) (x : Fin 256) :
    lk arg4 harg4 x1 off inb (ix4 0 0 t x) = x1 (ix4 0 h (key n t) x) :=
  (congrFun (Cert.Whole.loaded_part harg4 _ x1) _).trans (ld_k x1 h n hn off inb e t x)

theorem lv_at (h : Fin 4) (n : Nat) (hn : n < 8) (off : Fin 4 → Nat) (inb) (e : off 0 = 0 ∧ off 1 = h.val ∧ off 2 = 0 ∧ off 3 = 512 * n) (d : Fin 128) (t : Fin 512) :
    lv arg5 harg5 x2 off inb (ix4 0 0 d t) = x2 (ix4 0 h d (key n t)) :=
  (congrFun (Cert.Whole.loaded_part harg5 _ x2) _).trans (ld_v x2 h n hn off inb e d t)

theorem la_eq (f : BufTy.Contents (Elt Ideal) arg7.view.ty) (B : Vec Ideal S4x128x512 .f32) (hf : arg7.view.read (Elt Ideal) f = B) (off : Fin 3 → Nat) (inb) :
    la arg7 f off inb = View.ld B (Rect.unit (s := S4x128x512) off S1x128x512.size inb) := by
  subst hf; rfl

/-- The sums carried into trip `n`. -/
abbrev carries (n : Nat) : FVec Ideal S1x512 .f32 × FVec Ideal S1x512 .f32 × FVec Ideal S1x512 .f32 × FVec Ideal S1x512 .f32 :=
  (carry x0 x1 0 n, carry x0 x1 1 n, carry x0 x1 2 n, carry x0 x1 3 n)

theorem offq (h : Fin 4) : (![0, h.val, 0, 0] : Fin 4 → Nat) 0 = 0 ∧ (![0, h.val, 0, 0] : Fin 4 → Nat) 1 = h.val ∧ (![0, h.val, 0, 0] : Fin 4 → Nat) 2 = 0 ∧ (![0, h.val, 0, 0] : Fin 4 → Nat) 3 = 0 :=
  ⟨rfl, rfl, rfl, rfl⟩

variable (k : Fin (k0_t1_loop i).trips) (f7 : BufTy.Contents (Elt Ideal) arg7.view.ty)

theorem trip_carry : tripR_k0_t1 (F := Ideal) Variants.none c none i arg3 harg3 arg4 harg4 arg5 harg5 arg6 harg6 arg7 harg7 (harg3.unread x0) (harg4.unread x1) (harg5.unread x2) k (carries x0 x1 k.val) f7 = carries x0 x1 (k.val + 1) := by
  have e : tripR_k0_t1 (F := Ideal) Variants.none c none i arg3 harg3 arg4 harg4 arg5 harg5 arg6 harg6 arg7 harg7 (harg3.unread x0) (harg4.unread x1) (harg5.unread x2) k (carries x0 x1 k.val) f7
      = (k0_pay10 (carry x0 x1 0 k.val) (k0_pay4 (lk arg4 harg4 x1 (k0_off1 i k) (k0_off1_inb i k)) (lq arg3 harg3 x0 ![0, 0, 0, 0] inb_S1x4x512x256_S1x1x512x256_0_0_0_0)),
         k0_pay10 (carry x0 x1 1 k.val) (k0_pay4 (lk arg4 harg4 x1 (k0_off2 i k) (k0_off2_inb i k)) (lq arg3 harg3 x0 ![0, 1, 0, 0] inb_S1x4x512x256_S1x1x512x256_0_1_0_0)),
         k0_pay10 (carry x0 x1 2 k.val) (k0_pay4 (lk arg4 harg4 x1 (k0_off3 i k) (k0_off3_inb i k)) (lq arg3 harg3 x0 ![0, 2, 0, 0] inb_S1x4x512x256_S1x1x512x256_0_2_0_0)),
         k0_pay10 (carry x0 x1 3 k.val) (k0_pay4 (lk arg4 harg4 x1 (k0_off4 i k) (k0_off4_inb i k)) (lq arg3 harg3 x0 ![0, 3, 0, 0] inb_S1x4x512x256_S1x1x512x256_0_3_0_0))) := by
    dsimp only [tripR_k0_t1]; unfold trip_k0_t1
    rfl
  exact e.trans (congrArg₂ Prod.mk (tile_l x0 x1 0 k.val _ _ (lk_at arg4 harg4 x1 0 k.val (trip_lt i k) _ _ (off1 i k)) (lq_at arg3 harg3 x0 0 _ _ (offq 0)) _ rfl)
    (congrArg₂ Prod.mk (tile_l x0 x1 1 k.val _ _ (lk_at arg4 harg4 x1 1 k.val (trip_lt i k) _ _ (off2 i k)) (lq_at arg3 harg3 x0 1 _ _ (offq 1)) _ rfl)
    (congrArg₂ Prod.mk (tile_l x0 x1 2 k.val _ _ (lk_at arg4 harg4 x1 2 k.val (trip_lt i k) _ _ (off3 i k)) (lq_at arg3 harg3 x0 2 _ _ (offq 2)) _ rfl)
      (tile_l x0 x1 3 k.val _ _ (lk_at arg4 harg4 x1 3 k.val (trip_lt i k) _ _ (off4 i k)) (lq_at arg3 harg3 x0 3 _ _ (offq 3)) _ rfl))))

theorem trip_acc (acc : FVec Ideal S1x512 .f32 × FVec Ideal S1x512 .f32 × FVec Ideal S1x512 .f32 × FVec Ideal S1x512 .f32)
    (hf : arg7.view.read (Elt Ideal) f7 = accB x0 x1 x2 k.val) (f : BufTy.Contents (Elt Ideal) arg7.view.ty) :
    arg7.view.read (Elt Ideal) (arg7.view.writes (Elt Ideal) f (tripL_k0_t1 (F := Ideal) Variants.none c none i arg3 harg3 arg4 harg4 arg5 harg5 arg6 harg6 arg7 harg7 (harg3.unread x0) (harg4.unread x1) (harg5.unread x2) k acc f7)) = accB x0 x1 x2 (k.val + 1) := by
  have e : tripL_k0_t1 (F := Ideal) Variants.none c none i arg3 harg3 arg4 harg4 arg5 harg5 arg6 harg6 arg7 harg7 (harg3.unread x0) (harg4.unread x1) (harg5.unread x2) k acc f7
      = [⟨Rect.unit ![3, 0, 0] S1x128x512.size inb_S4x128x512_S1x128x512_3_0_0, k0_pay9 (k0_pay4 (lk arg4 harg4 x1 (k0_off4 i k) (k0_off4_inb i k)) (lq arg3 harg3 x0 ![0, 3, 0, 0] inb_S1x4x512x256_S1x1x512x256_0_3_0_0)) (la arg7 f7 ![3, 0, 0] inb_S4x128x512_S1x128x512_3_0_0) (lv arg5 harg5 x2 (k0_off8 i k) (k0_off8_inb i k))⟩,
         ⟨Rect.unit ![2, 0, 0] S1x128x512.size inb_S4x128x512_S1x128x512_2_0_0, k0_pay9 (k0_pay4 (lk arg4 harg4 x1 (k0_off3 i k) (k0_off3_inb i k)) (lq arg3 harg3 x0 ![0, 2, 0, 0] inb_S1x4x512x256_S1x1x512x256_0_2_0_0)) (la arg7 f7 ![2, 0, 0] inb_S4x128x512_S1x128x512_2_0_0) (lv arg5 harg5 x2 (k0_off7 i k) (k0_off7_inb i k))⟩,
         ⟨Rect.unit ![1, 0, 0] S1x128x512.size inb_S4x128x512_S1x128x512_1_0_0, k0_pay9 (k0_pay4 (lk arg4 harg4 x1 (k0_off2 i k) (k0_off2_inb i k)) (lq arg3 harg3 x0 ![0, 1, 0, 0] inb_S1x4x512x256_S1x1x512x256_0_1_0_0)) (la arg7 f7 ![1, 0, 0] inb_S4x128x512_S1x128x512_1_0_0) (lv arg5 harg5 x2 (k0_off6 i k) (k0_off6_inb i k))⟩,
         ⟨Rect.unit ![0, 0, 0] S1x128x512.size inb_S4x128x512_S1x128x512_0_0_0, k0_pay9 (k0_pay4 (lk arg4 harg4 x1 (k0_off1 i k) (k0_off1_inb i k)) (lq arg3 harg3 x0 ![0, 0, 0, 0] inb_S1x4x512x256_S1x1x512x256_0_0_0_0)) (la arg7 f7 ![0, 0, 0] inb_S4x128x512_S1x128x512_0_0_0) (lv arg5 harg5 x2 (k0_off5 i k) (k0_off5_inb i k))⟩] := by
    dsimp only [tripL_k0_t1]; unfold trip_k0_t1
    rfl
  rw [e]
  refine read_tiled _ _ _ _ ?_ (View.cover_of_tiledL _ S1x128x512.size (by sl_kernel_rfl))
  intro p hp
  rcases List.mem_cons.mp hp with rfl | hp
  · exact tile_a x0 x1 x2 3 k.val _ _ _ (lk_at arg4 harg4 x1 3 k.val (trip_lt i k) _ _ (off4 i k)) (lq_at arg3 harg3 x0 3 _ _ (offq 3))
      (lv_at arg5 harg5 x2 3 k.val (trip_lt i k) _ _ (off8 i k)) ![3, 0, 0] _ ⟨rfl, rfl, rfl⟩ _ (la_eq arg7 f7 _ hf _ _)
  rcases List.mem_cons.mp hp with rfl | hp
  · exact tile_a x0 x1 x2 2 k.val _ _ _ (lk_at arg4 harg4 x1 2 k.val (trip_lt i k) _ _ (off3 i k)) (lq_at arg3 harg3 x0 2 _ _ (offq 2))
      (lv_at arg5 harg5 x2 2 k.val (trip_lt i k) _ _ (off7 i k)) ![2, 0, 0] _ ⟨rfl, rfl, rfl⟩ _ (la_eq arg7 f7 _ hf _ _)
  rcases List.mem_cons.mp hp with rfl | hp
  · exact tile_a x0 x1 x2 1 k.val _ _ _ (lk_at arg4 harg4 x1 1 k.val (trip_lt i k) _ _ (off2 i k)) (lq_at arg3 harg3 x0 1 _ _ (offq 1))
      (lv_at arg5 harg5 x2 1 k.val (trip_lt i k) _ _ (off6 i k)) ![1, 0, 0] _ ⟨rfl, rfl, rfl⟩ _ (la_eq arg7 f7 _ hf _ _)
  rcases List.mem_singleton.mp hp with rfl
  exact tile_a x0 x1 x2 0 k.val _ _ _ (lk_at arg4 harg4 x1 0 k.val (trip_lt i k) _ _ (off1 i k)) (lq_at arg3 harg3 x0 0 _ _ (offq 0))
    (lv_at arg5 harg5 x2 0 k.val (trip_lt i k) _ _ (off5 i k)) ![0, 0, 0] _ ⟨rfl, rfl, rfl⟩ _ (la_eq arg7 f7 _ hf _ _)

/-- The state before each trip. -/
theorem state (G : BufTy.Contents (Elt Ideal) arg7.view.ty) (hG : arg7.view.read (Elt Ideal) G = accB x0 x1 x2 0) : ∀ n ≤ (k0_t1_loop i).trips,
    (st_k0_t1 (F := Ideal) Variants.none c none i arg3 harg3 arg4 harg4 arg5 harg5 arg6 harg6 arg7 harg7 (harg3.unread x0) (harg4.unread x1) (harg5.unread x2) G (carries x0 x1 0) n).1 = carries x0 x1 n
    ∧ arg7.view.read (Elt Ideal) (arg7.view.writes (Elt Ideal) G (st_k0_t1 (F := Ideal) Variants.none c none i arg3 harg3 arg4 harg4 arg5 harg5 arg6 harg6 arg7 harg7 (harg3.unread x0) (harg4.unread x1) (harg5.unread x2) G (carries x0 x1 0) n).2) = accB x0 x1 x2 n
  | 0, _ => ⟨rfl, hG⟩
  | n + 1, hn => by
    obtain ⟨i1, i2⟩ := state G hG n (Nat.le_of_succ_le hn)
    rw [show n + 1 = (⟨n, hn⟩ : Fin (k0_t1_loop i).trips).val + 1 from rfl, st_k0_t1_succ]
    refine ⟨?_, ?_⟩
    · dsimp only
      rw [i1]
      exact trip_carry c i arg3 harg3 arg4 harg4 arg5 harg5 arg6 harg6 arg7 harg7 x0 x1 x2 ⟨n, hn⟩ _
    · dsimp only
      rw [View.writes_append]
      exact trip_acc c i arg3 harg3 arg4 harg4 arg5 harg5 arg6 harg6 arg7 harg7 x0 x1 x2 ⟨n, hn⟩ _ _ i2 _

end Trips

end Cert.MlaIdeal.MlaRun

end
-- ==== Proof.Mla.Run.lean ====
/- What one grid point of the latent attention leaves in its block of the result. -/
module

public import proofs.«01_k».proof.Proof.Mla.Trips

@[expose] public section

set_option maxRecDepth 16384

noncomputable section

namespace Cert.MlaIdeal.MlaRun

open Idealize.ShloMosaic Idealize.ShloMosaic.TcCoe Idealize.SL.Sem Cert.MlaIdeal Cert.MlaIdeal.Gen
open Cert.MlaIdeal.MlaPure

section Out

variable (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x128x4096 .bf16) (harg5 : arg5.IsWhole) (arg6 : Memref sig .tc .vmem S512x512 .bf16) (harg6 : arg6.IsWhole) (arg7 : Memref sig .tc .vmem S4x128x512 .f32) (harg7 : arg7.IsWhole)
  (x0 : Vec Ideal S1x4x512x256 .bf16) (x1 : Vec Ideal S1x4x4096x256 .bf16) (x2 : Vec Ideal S1x4x128x4096 .bf16)

/-- The accumulator starts at zero, -/
theorem zero_acc : arg7.view.read (Elt Ideal) (arg7.view.writes (Elt Ideal) arg7.view.junk (kernelRun0_A.sl.HS0_1 (F := Ideal))) = accB x0 x1 x2 0 := by
  refine read_tiled _ _ _ _ ?_ (View.cover_of_tiledL _ S4x128x512.size (by sl_kernel_rfl))
  intro p hp
  rcases List.mem_singleton.mp hp with rfl
  intro x
  obtain ⟨h, d, b, rfl⟩ : ∃ (h : Fin 4) (d : Fin 128) (b : Fin 512), x = ix3 h d b := ⟨x 0, x 1, x 2, by
    funext a; match a with | ⟨0, _⟩ => rfl | ⟨1, _⟩ => rfl | ⟨2, _⟩ => rfl⟩
  exact pay28_apply h d b

/-- and the sums too. -/
theorem zero_carry (h : Fin 4) : k0_pay29 (F := Ideal) = carry x0 x1 h 0 := by
  funext x
  obtain ⟨b, rfl⟩ := idxl x
  exact pay29_apply b

theorem zero_carries : (k0_pay29 (F := Ideal), k0_pay30 (F := Ideal), k0_pay31 (F := Ideal), k0_pay32 (F := Ideal)) = carries x0 x1 0 :=
  congrArg₂ Prod.mk (zero_carry x0 x1 0) (congrArg₂ Prod.mk (zero_carry x0 x1 1) (congrArg₂ Prod.mk (zero_carry x0 x1 2) (zero_carry x0 x1 3)))

/-- The state the first loop leaves. -/
abbrev st1 := st_k0_t1 (F := Ideal) Variants.none c none i arg3 harg3 arg4 harg4 arg5 harg5 arg6 harg6 arg7 harg7 (harg3.unread x0) (harg4.unread x1) (harg5.unread x2) (arg7.view.writes (Elt Ideal) arg7.view.junk (kernelRun0_A.sl.HS0_1 (F := Ideal))) (k0_pay29, k0_pay30, k0_pay31, k0_pay32) (Scf.trips (k0_t1_loop i).lb (k0_t1_loop i).ub (k0_t1_loop i).st)

theorem st1_eq : (st1 c i arg3 harg3 arg4 harg4 arg5 harg5 arg6 harg6 arg7 harg7 x0 x1 x2).1 = carries x0 x1 (i 2).val
    ∧ arg7.view.read (Elt Ideal) (arg7.view.writes (Elt Ideal) arg7.view.junk ((st1 c i arg3 harg3 arg4 harg4 arg5 harg5 arg6 harg6 arg7 harg7 x0 x1 x2).2 ++ kernelRun0_A.sl.HS0_1 (F := Ideal))) = accB x0 x1 x2 (i 2).val := by
  have h := state c i arg3 harg3 arg4 harg4 arg5 harg5 arg6 harg6 arg7 harg7 x0 x1 x2 _ (zero_acc arg7 x0 x1 x2) _ (le_refl (k0_t1_loop i).trips)
  rw [← zero_carries x0 x1] at h
  rw [View.writes_append]
  refine ⟨h.1.trans ?_, h.2.trans ?_⟩
  · rw [trips_qi i]
  · rw [trips_qi i]

/-- The state the second loop leaves: it makes no trip. -/
abbrev st2 := st_k0_t2 (F := Ideal) Variants.none c none i arg3 harg3 arg4 harg4 arg5 harg5 arg6 harg6 arg7 harg7 (kernelRun0_A.sl.v12 i) (harg3.unread x0) (harg4.unread x1) (harg5.unread x2)
  (arg7.view.writes (Elt Ideal) arg7.view.junk ((st1 c i arg3 harg3 arg4 harg4 arg5 harg5 arg6 harg6 arg7 harg7 x0 x1 x2).2 ++ kernelRun0_A.sl.HS0_1 (F := Ideal)))
  ((st1 c i arg3 harg3 arg4 harg4 arg5 harg5 arg6 harg6 arg7 harg7 x0 x1 x2).1.1, (st1 c i arg3 harg3 arg4 harg4 arg5 harg5 arg6 harg6 arg7 harg7 x0 x1 x2).1.2.1, (st1 c i arg3 harg3 arg4 harg4 arg5 harg5 arg6 harg6 arg7 harg7 x0 x1 x2).1.2.2.1, (st1 c i arg3 harg3 arg4 harg4 arg5 harg5 arg6 harg6 arg7 harg7 x0 x1 x2).1.2.2.2)
  (Scf.trips (k0_t2_loop i).lb (k0_t2_loop i).ub (k0_t2_loop i).st)

theorem st2_eq : st2 c i arg3 harg3 arg4 harg4 arg5 harg5 arg6 harg6 arg7 harg7 x0 x1 x2 = (carries x0 x1 (i 2).val, []) := by
  unfold st2
  rw [show Scf.trips (k0_t2_loop i).lb (k0_t2_loop i).ub (k0_t2_loop i).st = 0 from trips_none i, (st1_eq c i arg3 harg3 arg4 harg4 arg5 harg5 arg6 harg6 arg7 harg7 x0 x1 x2).1]
  rfl

/-- The accumulator after both loops. -/
abbrev L0 : List (View.Piece (Elt Ideal) S4x128x512 .f32) := (st2 c i arg3 harg3 arg4 harg4 arg5 harg5 arg6 harg6 arg7 harg7 x0 x1 x2).2 ++ ((st1 c i arg3 harg3 arg4 harg4 arg5 harg5 arg6 harg6 arg7 harg7 x0 x1 x2).2 ++ kernelRun0_A.sl.HS0_1 (F := Ideal))
abbrev F0 := arg7.view.writes (Elt Ideal) arg7.view.junk (L0 c i arg3 harg3 arg4 harg4 arg5 harg5 arg6 harg6 arg7 harg7 x0 x1 x2)

theorem F0_eq : arg7.view.read (Elt Ideal) (F0 c i arg3 harg3 arg4 harg4 arg5 harg5 arg6 harg6 arg7 harg7 x0 x1 x2) = accB x0 x1 x2 (i 2).val := by
  unfold F0 L0
  rw [st2_eq]
  exact (st1_eq c i arg3 harg3 arg4 harg4 arg5 harg5 arg6 harg6 arg7 harg7 x0 x1 x2).2

/-- A load of one head's part does not see a store of another's. -/
theorem skip (f : BufTy.Contents (Elt Ideal) arg7.view.ty) (L : List (View.Piece (Elt Ideal) S4x128x512 .f32)) (m h : Nat) (hm : m ≠ h)
    (inb : ∀ a, (![m, 0, 0] : Fin 3 → Nat) a + S1x128x512.size a ≤ S4x128x512.size a) (inb' : ∀ a, (![h, 0, 0] : Fin 3 → Nat) a + S1x128x512.size a ≤ S4x128x512.size a)
    (w : (Rect.unit (s := S4x128x512) ![m, 0, 0] S1x128x512.size inb).shape.Idx → Elt Ideal .f32) :
    la arg7 (arg7.view.writes (Elt Ideal) f ((⟨Rect.unit (s := S4x128x512) ![m, 0, 0] S1x128x512.size inb, w⟩ : View.Piece (Elt Ideal) S4x128x512 .f32) :: L)) ![h, 0, 0] inb'
      = la arg7 (arg7.view.writes (Elt Ideal) f L) ![h, 0, 0] inb' := by
  refine View.readAt_writes_of_forall_not_mem arg7.view (arg7.view.writes (Elt Ideal) f L) [⟨Rect.unit (s := S4x128x512) ![m, 0, 0] S1x128x512.size inb, w⟩] _ ?_
  intro j p hp hj
  rcases List.mem_singleton.mp hp with rfl
  have hj' : (Rect.unit (s := S4x128x512) ![h, 0, 0] S1x128x512.size inb').idx j ∈ (Rect.unit (s := S4x128x512) ![m, 0, 0] S1x128x512.size inb).set := hj
  have h0 := (Rect.mem_set_unit (s := S4x128x512) (inb := inb)).mp hj' 0
  have hj0 : (j 0).val < 1 := (j 0).isLt
  have h1 : m ≤ h + 1 * (j 0).val ∧ h + 1 * (j 0).val < m + 1 := h0
  omega

theorem v67_eq : kernelRun0_A.sl.v67 (F := Ideal) c i arg3 harg3 arg4 harg4 arg5 harg5 arg6 harg6 arg7 harg7 x0 x1 x2 = la arg7 (F0 c i arg3 harg3 arg4 harg4 arg5 harg5 arg6 harg6 arg7 harg7 x0 x1 x2) ![1, 0, 0] inb_S4x128x512_S1x128x512_1_0_0 :=
  skip arg7 arg7.view.junk (L0 c i arg3 harg3 arg4 harg4 arg5 harg5 arg6 harg6 arg7 harg7 x0 x1 x2) 0 1 (by omega) _ _ _
theorem v87_eq : kernelRun0_A.sl.v87 (F := Ideal) c i arg3 harg3 arg4 harg4 arg5 harg5 arg6 harg6 arg7 harg7 x0 x1 x2 = la arg7 (F0 c i arg3 harg3 arg4 harg4 arg5 harg5 arg6 harg6 arg7 harg7 x0 x1 x2) ![2, 0, 0] inb_S4x128x512_S1x128x512_2_0_0 :=
  (skip arg7 arg7.view.junk (kernelRun0_A.sl.HS0_1_1 (F := Ideal) c i arg3 harg3 arg4 harg4 arg5 harg5 arg6 harg6 arg7 harg7 x0 x1 x2) 1 2 (by omega) _ _ _).trans
    (skip arg7 arg7.view.junk (L0 c i arg3 harg3 arg4 harg4 arg5 harg5 arg6 harg6 arg7 harg7 x0 x1 x2) 0 2 (by omega) _ _ _)
theorem v107_eq : kernelRun0_A.sl.v107 (F := Ideal) c i arg3 harg3 arg4 harg4 arg5 harg5 arg6 harg6 arg7 harg7 x0 x1 x2 = la arg7 (F0 c i arg3 harg3 arg4 harg4 arg5 harg5 arg6 harg6 arg7 harg7 x0 x1 x2) ![3, 0, 0] inb_S4x128x512_S1x128x512_3_0_0 :=
  (skip arg7 arg7.view.junk (kernelRun0_A.sl.HS0_2 (F := Ideal) c i arg3 harg3 arg4 harg4 arg5 harg5 arg6 harg6 arg7 harg7 x0 x1 x2) 2 3 (by omega) _ _ _).trans
    ((skip arg7 arg7.view.junk (kernelRun0_A.sl.HS0_1_1 (F := Ideal) c i arg3 harg3 arg4 harg4 arg5 harg5 arg6 harg6 arg7 harg7 x0 x1 x2) 1 3 (by omega) _ _ _).trans
      (skip arg7 arg7.view.junk (L0 c i arg3 harg3 arg4 harg4 arg5 harg5 arg6 harg6 arg7 harg7 x0 x1 x2) 0 3 (by omega) _ _ _))

/-- The accumulator after the last tile. -/
theorem HS4_eq : kernelRun0_A.sl.HS0_4 (F := Ideal) c i arg3 harg3 arg4 harg4 arg5 harg5 arg6 harg6 arg7 harg7 x0 x1 x2
    = [⟨Rect.unit ![3, 0, 0] S1x128x512.size inb_S4x128x512_S1x128x512_3_0_0, k0_pay50 (k0_pay4 (lk arg4 harg4 x1 (k0_off20 i) (k0_off20_inb i)) (lq arg3 harg3 x0 ![0, 3, 0, 0] inb_S1x4x512x256_S1x1x512x256_0_3_0_0)) (la arg7 (F0 c i arg3 harg3 arg4 harg4 arg5 harg5 arg6 harg6 arg7 harg7 x0 x1 x2) ![3, 0, 0] inb_S4x128x512_S1x128x512_3_0_0) (lv arg5 harg5 x2 (k0_off24 i) (k0_off24_inb i))⟩,
      ⟨Rect.unit ![2, 0, 0] S1x128x512.size inb_S4x128x512_S1x128x512_2_0_0, k0_pay50 (k0_pay4 (lk arg4 harg4 x1 (k0_off19 i) (k0_off19_inb i)) (lq arg3 harg3 x0 ![0, 2, 0, 0] inb_S1x4x512x256_S1x1x512x256_0_2_0_0)) (la arg7 (F0 c i arg3 harg3 arg4 harg4 arg5 harg5 arg6 harg6 arg7 harg7 x0 x1 x2) ![2, 0, 0] inb_S4x128x512_S1x128x512_2_0_0) (lv arg5 harg5 x2 (k0_off23 i) (k0_off23_inb i))⟩,
      ⟨Rect.unit ![1, 0, 0] S1x128x512.size inb_S4x128x512_S1x128x512_1_0_0, k0_pay50 (k0_pay4 (lk arg4 harg4 x1 (k0_off18 i) (k0_off18_inb i)) (lq arg3 harg3 x0 ![0, 1, 0, 0] inb_S1x4x512x256_S1x1x512x256_0_1_0_0)) (la arg7 (F0 c i arg3 harg3 arg4 harg4 arg5 harg5 arg6 harg6 arg7 harg7 x0 x1 x2) ![1, 0, 0] inb_S4x128x512_S1x128x512_1_0_0) (lv arg5 harg5 x2 (k0_off22 i) (k0_off22_inb i))⟩,
      ⟨Rect.unit ![0, 0, 0] S1x128x512.size inb_S4x128x512_S1x128x512_0_0_0, k0_pay50 (k0_pay4 (lk arg4 harg4 x1 (k0_off17 i) (k0_off17_inb i)) (lq arg3 harg3 x0 ![0, 0, 0, 0] inb_S1x4x512x256_S1x1x512x256_0_0_0_0)) (la arg7 (F0 c i arg3 harg3 arg4 harg4 arg5 harg5 arg6 harg6 arg7 harg7 x0 x1 x2) ![0, 0, 0] inb_S4x128x512_S1x128x512_0_0_0) (lv arg5 harg5 x2 (k0_off21 i) (k0_off21_inb i))⟩] ++ L0 c i arg3 harg3 arg4 harg4 arg5 harg5 arg6 harg6 arg7 harg7 x0 x1 x2 := by
  have e : kernelRun0_A.sl.HS0_4 (F := Ideal) c i arg3 harg3 arg4 harg4 arg5 harg5 arg6 harg6 arg7 harg7 x0 x1 x2
    = [⟨Rect.unit ![3, 0, 0] S1x128x512.size inb_S4x128x512_S1x128x512_3_0_0, k0_pay50 (k0_pay4 (lk arg4 harg4 x1 (k0_off20 i) (k0_off20_inb i)) (lq arg3 harg3 x0 ![0, 3, 0, 0] inb_S1x4x512x256_S1x1x512x256_0_3_0_0)) (kernelRun0_A.sl.v107 (F := Ideal) c i arg3 harg3 arg4 harg4 arg5 harg5 arg6 harg6 arg7 harg7 x0 x1 x2) (lv arg5 harg5 x2 (k0_off24 i) (k0_off24_inb i))⟩,
      ⟨Rect.unit ![2, 0, 0] S1x128x512.size inb_S4x128x512_S1x128x512_2_0_0, k0_pay50 (k0_pay4 (lk arg4 harg4 x1 (k0_off19 i) (k0_off19_inb i)) (lq arg3 harg3 x0 ![0, 2, 0, 0] inb_S1x4x512x256_S1x1x512x256_0_2_0_0)) (kernelRun0_A.sl.v87 (F := Ideal) c i arg3 harg3 arg4 harg4 arg5 harg5 arg6 harg6 arg7 harg7 x0 x1 x2) (lv arg5 harg5 x2 (k0_off23 i) (k0_off23_inb i))⟩,
      ⟨Rect.unit ![1, 0, 0] S1x128x512.size inb_S4x128x512_S1x128x512_1_0_0, k0_pay50 (k0_pay4 (lk arg4 harg4 x1 (k0_off18 i) (k0_off18_inb i)) (lq arg3 harg3 x0 ![0, 1, 0, 0] inb_S1x4x512x256_S1x1x512x256_0_1_0_0)) (kernelRun0_A.sl.v67 (F := Ideal) c i arg3 harg3 arg4 harg4 arg5 harg5 arg6 harg6 arg7 harg7 x0 x1 x2) (lv arg5 harg5 x2 (k0_off22 i) (k0_off22_inb i))⟩,
      ⟨Rect.unit ![0, 0, 0] S1x128x512.size inb_S4x128x512_S1x128x512_0_0_0, k0_pay50 (k0_pay4 (lk arg4 harg4 x1 (k0_off17 i) (k0_off17_inb i)) (lq arg3 harg3 x0 ![0, 0, 0, 0] inb_S1x4x512x256_S1x1x512x256_0_0_0_0)) (kernelRun0_A.sl.v47 (F := Ideal) c i arg3 harg3 arg4 harg4 arg5 harg5 arg6 harg6 arg7 harg7 x0 x1 x2) (lv arg5 harg5 x2 (k0_off21 i) (k0_off21_inb i))⟩] ++ L0 c i arg3 harg3 arg4 harg4 arg5 harg5 arg6 harg6 arg7 harg7 x0 x1 x2 := rfl
  rw [e, v67_eq, v87_eq, v107_eq]
  rfl

theorem last_acc : arg7.view.read (Elt Ideal) (arg7.view.writes (Elt Ideal) arg7.view.junk (kernelRun0_A.sl.HS0_4 (F := Ideal) c i arg3 harg3 arg4 harg4 arg5 harg5 arg6 harg6 arg7 harg7 x0 x1 x2)) = accF x0 x1 x2 (i 2).val := by
  rw [HS4_eq, View.writes_append]
  refine read_tiled _ _ _ _ ?_ (View.cover_of_tiledL _ S1x128x512.size (by sl_kernel_rfl))
  have hF := F0_eq c i arg3 harg3 arg4 harg4 arg5 harg5 arg6 harg6 arg7 harg7 x0 x1 x2
  intro p hp
  rcases List.mem_cons.mp hp with rfl | hp
  · exact last_a x0 x1 x2 3 (i 2).val _ _ _ (lk_at arg4 harg4 x1 3 (i 2).val (qi_lt i) _ _ (off20 i)) (lq_at arg3 harg3 x0 3 _ _ (offq 3)) (lv_at arg5 harg5 x2 3 (i 2).val (qi_lt i) _ _ (off24 i)) ![3, 0, 0] _ ⟨rfl, rfl, rfl⟩ _ (la_eq arg7 _ _ hF _ _)
  rcases List.mem_cons.mp hp with rfl | hp
  · exact last_a x0 x1 x2 2 (i 2).val _ _ _ (lk_at arg4 harg4 x1 2 (i 2).val (qi_lt i) _ _ (off19 i)) (lq_at arg3 harg3 x0 2 _ _ (offq 2)) (lv_at arg5 harg5 x2 2 (i 2).val (qi_lt i) _ _ (off23 i)) ![2, 0, 0] _ ⟨rfl, rfl, rfl⟩ _ (la_eq arg7 _ _ hF _ _)
  rcases List.mem_cons.mp hp with rfl | hp
  · exact last_a x0 x1 x2 1 (i 2).val _ _ _ (lk_at arg4 harg4 x1 1 (i 2).val (qi_lt i) _ _ (off18 i)) (lq_at arg3 harg3 x0 1 _ _ (offq 1)) (lv_at arg5 harg5 x2 1 (i 2).val (qi_lt i) _ _ (off22 i)) ![1, 0, 0] _ ⟨rfl, rfl, rfl⟩ _ (la_eq arg7 _ _ hF _ _)
  rcases List.mem_singleton.mp hp with rfl
  exact last_a x0 x1 x2 0 (i 2).val _ _ _ (lk_at arg4 harg4 x1 0 (i 2).val (qi_lt i) _ _ (off17 i)) (lq_at arg3 harg3 x0 0 _ _ (offq 0)) (lv_at arg5 harg5 x2 0 (i 2).val (qi_lt i) _ _ (off21 i)) ![0, 0, 0] _ ⟨rfl, rfl, rfl⟩ _ (la_eq arg7 _ _ hF _ _)

/-! ## The last sums, and the result -/

theorem sum0 : k0_pay51 ((st2 c i arg3 harg3 arg4 harg4 arg5 harg5 arg6 harg6 arg7 harg7 x0 x1 x2).1.1) (k0_pay49 (k0_pay4 (lk arg4 harg4 x1 (k0_off17 i) (k0_off17_inb i)) (lq arg3 harg3 x0 ![0, 0, 0, 0] inb_S1x4x512x256_S1x1x512x256_0_0_0_0))) = carryF x0 x1 0 (i 2).val :=
  last_l x0 x1 0 (i 2).val _ _ (lk_at arg4 harg4 x1 0 (i 2).val (qi_lt i) _ _ (off17 i)) (lq_at arg3 harg3 x0 0 _ _ (offq 0)) _ (by rw [st2_eq])

theorem sum1 : k0_pay51 ((st2 c i arg3 harg3 arg4 harg4 arg5 harg5 arg6 harg6 arg7 harg7 x0 x1 x2).1.2.1) (k0_pay49 (k0_pay4 (lk arg4 harg4 x1 (k0_off18 i) (k0_off18_inb i)) (lq arg3 harg3 x0 ![0, 1, 0, 0] inb_S1x4x512x256_S1x1x512x256_0_1_0_0))) = carryF x0 x1 1 (i 2).val :=
  last_l x0 x1 1 (i 2).val _ _ (lk_at arg4 harg4 x1 1 (i 2).val (qi_lt i) _ _ (off18 i)) (lq_at arg3 harg3 x0 1 _ _ (offq 1)) _ (by rw [st2_eq])

theorem sum2 : k0_pay51 ((st2 c i arg3 harg3 arg4 harg4 arg5 harg5 arg6 harg6 arg7 harg7 x0 x1 x2).1.2.2.1) (k0_pay49 (k0_pay4 (lk arg4 harg4 x1 (k0_off19 i) (k0_off19_inb i)) (lq arg3 harg3 x0 ![0, 2, 0, 0] inb_S1x4x512x256_S1x1x512x256_0_2_0_0))) = carryF x0 x1 2 (i 2).val :=
  last_l x0 x1 2 (i 2).val _ _ (lk_at arg4 harg4 x1 2 (i 2).val (qi_lt i) _ _ (off19 i)) (lq_at arg3 harg3 x0 2 _ _ (offq 2)) _ (by rw [st2_eq])

theorem sum3 : k0_pay51 ((st2 c i arg3 harg3 arg4 harg4 arg5 harg5 arg6 harg6 arg7 harg7 x0 x1 x2).1.2.2.2) (k0_pay49 (k0_pay4 (lk arg4 harg4 x1 (k0_off20 i) (k0_off20_inb i)) (lq arg3 harg3 x0 ![0, 3, 0, 0] inb_S1x4x512x256_S1x1x512x256_0_3_0_0))) = carryF x0 x1 3 (i 2).val :=
  last_l x0 x1 3 (i 2).val _ _ (lk_at arg4 harg4 x1 3 (i 2).val (qi_lt i) _ _ (off20 i)) (lq_at arg3 harg3 x0 3 _ _ (offq 3)) _ (by rw [st2_eq])

theorem out_eq : out0_A_3 (F := Ideal) c i arg3 harg3 arg4 harg4 arg5 harg5 arg6 harg6 arg7 harg7 x0 x1 x2 = outB x0 x1 x2 (i 2).val := by
  have e : (kernelRun0_A (F := Ideal) c i arg3 harg3 arg4 harg4 arg5 harg5 arg6 harg6 arg7 harg7 x0 x1 x2).1
    = [⟨Rect.unit ![0, 384] S512x128.size inb_S512x512_S512x128_0_384, k0_pay62 (k0_pay51 ((st2 c i arg3 harg3 arg4 harg4 arg5 harg5 arg6 harg6 arg7 harg7 x0 x1 x2).1.2.2.2) (k0_pay49 (k0_pay4 (lk arg4 harg4 x1 (k0_off20 i) (k0_off20_inb i)) (lq arg3 harg3 x0 ![0, 3, 0, 0] inb_S1x4x512x256_S1x1x512x256_0_3_0_0)))) (la arg7 (arg7.view.writes (Elt Ideal) arg7.view.junk (kernelRun0_A.sl.HS0_4 (F := Ideal) c i arg3 harg3 arg4 harg4 arg5 harg5 arg6 harg6 arg7 harg7 x0 x1 x2)) ![3, 0, 0] inb_S4x128x512_S1x128x512_3_0_0)⟩,
      ⟨Rect.unit ![0, 256] S512x128.size inb_S512x512_S512x128_0_256, k0_pay62 (k0_pay51 ((st2 c i arg3 harg3 arg4 harg4 arg5 harg5 arg6 harg6 arg7 harg7 x0 x1 x2).1.2.2.1) (k0_pay49 (k0_pay4 (lk arg4 harg4 x1 (k0_off19 i) (k0_off19_inb i)) (lq arg3 harg3 x0 ![0, 2, 0, 0] inb_S1x4x512x256_S1x1x512x256_0_2_0_0)))) (la arg7 (arg7.view.writes (Elt Ideal) arg7.view.junk (kernelRun0_A.sl.HS0_4 (F := Ideal) c i arg3 harg3 arg4 harg4 arg5 harg5 arg6 harg6 arg7 harg7 x0 x1 x2)) ![2, 0, 0] inb_S4x128x512_S1x128x512_2_0_0)⟩,
      ⟨Rect.unit ![0, 128] S512x128.size inb_S512x512_S512x128_0_128, k0_pay62 (k0_pay51 ((st2 c i arg3 harg3 arg4 harg4 arg5 harg5 arg6 harg6 arg7 harg7 x0 x1 x2).1.2.1) (k0_pay49 (k0_pay4 (lk arg4 harg4 x1 (k0_off18 i) (k0_off18_inb i)) (lq arg3 harg3 x0 ![0, 1, 0, 0] inb_S1x4x512x256_S1x1x512x256_0_1_0_0)))) (la arg7 (arg7.view.writes (Elt Ideal) arg7.view.junk (kernelRun0_A.sl.HS0_4 (F := Ideal) c i arg3 harg3 arg4 harg4 arg5 harg5 arg6 harg6 arg7 harg7 x0 x1 x2)) ![1, 0, 0] inb_S4x128x512_S1x128x512_1_0_0)⟩,
      ⟨Rect.unit ![0, 0] S512x128.size inb_S512x512_S512x128_0_0, k0_pay62 (k0_pay51 ((st2 c i arg3 harg3 arg4 harg4 arg5 harg5 arg6 harg6 arg7 harg7 x0 x1 x2).1.1) (k0_pay49 (k0_pay4 (lk arg4 harg4 x1 (k0_off17 i) (k0_off17_inb i)) (lq arg3 harg3 x0 ![0, 0, 0, 0] inb_S1x4x512x256_S1x1x512x256_0_0_0_0)))) (la arg7 (arg7.view.writes (Elt Ideal) arg7.view.junk (kernelRun0_A.sl.HS0_4 (F := Ideal) c i arg3 harg3 arg4 harg4 arg5 harg5 arg6 harg6 arg7 harg7 x0 x1 x2)) ![0, 0, 0] inb_S4x128x512_S1x128x512_0_0_0)⟩] := by
    unfold kernelRun0_A
    rfl
  have hc := cover0_A_3 (F := Ideal) c i arg3 harg3 arg4 harg4 arg5 harg5 arg6 harg6 arg7 harg7 x0 x1 x2
  have hF := last_acc c i arg3 harg3 arg4 harg4 arg5 harg5 arg6 harg6 arg7 harg7 x0 x1 x2
  unfold out0_A_3
  refine read_tiled _ _ _ _ ?_ hc
  rw [e]
  intro p hp
  rcases List.mem_cons.mp hp with rfl | hp
  · intro x; exact out_h x0 x1 x2 3 (i 2).val ![0, 384] inb_S512x512_S512x128_0_384 ⟨rfl, rfl⟩ ![3, 0, 0] inb_S4x128x512_S1x128x512_3_0_0 ⟨rfl, rfl, rfl⟩ _ (sum3 c i arg3 harg3 arg4 harg4 arg5 harg5 arg6 harg6 arg7 harg7 x0 x1 x2) _ (la_eq arg7 _ _ hF _ _) x
  rcases List.mem_cons.mp hp with rfl | hp
  · intro x; exact out_h x0 x1 x2 2 (i 2).val ![0, 256] inb_S512x512_S512x128_0_256 ⟨rfl, rfl⟩ ![2, 0, 0] inb_S4x128x512_S1x128x512_2_0_0 ⟨rfl, rfl, rfl⟩ _ (sum2 c i arg3 harg3 arg4 harg4 arg5 harg5 arg6 harg6 arg7 harg7 x0 x1 x2) _ (la_eq arg7 _ _ hF _ _) x
  rcases List.mem_cons.mp hp with rfl | hp
  · intro x; exact out_h x0 x1 x2 1 (i 2).val ![0, 128] inb_S512x512_S512x128_0_128 ⟨rfl, rfl⟩ ![1, 0, 0] inb_S4x128x512_S1x128x512_1_0_0 ⟨rfl, rfl, rfl⟩ _ (sum1 c i arg3 harg3 arg4 harg4 arg5 harg5 arg6 harg6 arg7 harg7 x0 x1 x2) _ (la_eq arg7 _ _ hF _ _) x
  rcases List.mem_singleton.mp hp with rfl
  intro x; exact out_h x0 x1 x2 0 (i 2).val ![0, 0] inb_S512x512_S512x128_0_0 ⟨rfl, rfl⟩ ![0, 0, 0] inb_S4x128x512_S1x128x512_0_0_0 ⟨rfl, rfl, rfl⟩ _ (sum0 c i arg3 harg3 arg4 harg4 arg5 harg5 arg6 harg6 arg7 harg7 x0 x1 x2) _ (la_eq arg7 _ _ hF _ _) x

end Out

end Cert.MlaIdeal.MlaRun

end
-- ==== Proof.Mla.Soft.lean ====
/- The softmax over the extended reals: what a shift of the scores leaves, and the sums over the tiles of keys as sums over the keys. -/
module

public import proofs.«01_k».proof.Proof.Mla.Heads

@[expose] public section

set_option maxRecDepth 16384

noncomputable section

namespace Cert.MlaIdeal.MlaSoft

open Idealize.ShloMosaic Cert.MlaIdeal.MlaRun

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real distributes over any sum. -/
theorem sum_scaled {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih]
    exact (EReal.right_distrib_of_nonneg_of_ne_top (EReal.coe_nonneg.mpr hc) (EReal.coe_ne_top c) _ _).symm

theorem div_real (x : EReal) {y : ℝ} (hy : y ≠ 0) : Ideal.div x (y : EReal) = x * ((y⁻¹ : ℝ) : EReal) := by
  have h : ((y : ℝ) : EReal) ≠ 0 := by exact_mod_cast hy
  rw [Ideal.div, if_neg h, EReal.coe_inv]

/-- Weights scaled by a positive real and divided by their sum are the weights divided by theirs; the division goes before or after the sum over the values. -/
theorem weights {ι : Type} [Fintype ι] (w : ι → ℝ) (v : ι → EReal) (c : ℝ) (hc : 0 < c) (hs : 0 < ∑ t, w t) :
    ∑ t, Ideal.div ((w t * c : ℝ) : EReal) (∑ t', ((w t' * c : ℝ) : EReal)) * v t = Ideal.div (∑ t, v t * (w t : EReal)) (∑ t, (w t : EReal)) := by
  have e : ∑ t', w t' * c = (∑ t', w t') * c := (Finset.sum_mul _ _ _).symm
  rw [coe_sum, coe_sum, e, div_real _ hs.ne', ← sum_scaled _ _ _ (inv_nonneg.mpr hs.le)]
  refine Finset.sum_congr rfl fun t _ => ?_
  rw [div_real _ (mul_pos hs hc).ne', ← EReal.coe_mul, mul_assoc (v t), ← EReal.coe_mul, mul_comm]
  refine congrArg (fun x : ℝ => v t * (x : EReal)) ?_
  have h1 := hs.ne'
  have h2 := hc.ne'
  field_simp

/-- A row of scores with the keys after the query masked, -/
def masked (s : Fin 4096 → EReal) (q t : Fin 4096) : EReal := if t ≤ q then s t else ⊥

/-- its largest, -/
def top (s : Fin 4096 → EReal) (q : Fin 4096) : EReal := max ⊥ (Finset.univ.fold max ⊥ (masked s q))

/-- and the exponentials of what the shift leaves. -/
def shifted (s : Fin 4096 → EReal) (q t : Fin 4096) : EReal := Ideal.exp (masked s q t - top s q)

/-- The softmax's mean of the values, as the reference takes it. -/
def soft (s v : Fin 4096 → EReal) (q : Fin 4096) : EReal := ∑ t, Ideal.div (shifted s q t) (∑ t', shifted s q t') * v t

theorem top_real (s : Fin 4096 → ℝ) (q : Fin 4096) : ∃ r : ℝ, top (fun t => (s t : EReal)) q = (r : EReal) := by
  have h1 : top (fun t => (s t : EReal)) q ≠ ⊤ := by
    refine ne_of_lt (max_lt bot_lt_top ((Finset.fold_max_lt _).mpr ⟨bot_lt_top, fun t _ => ?_⟩))
    unfold masked
    split
    · exact EReal.coe_lt_top _
    · exact bot_lt_top
  have h2 : top (fun t => (s t : EReal)) q ≠ ⊥ := by
    refine ne_of_gt (lt_max_of_lt_right ((Finset.lt_fold_max _).mpr (Or.inr ⟨q, Finset.mem_univ _, ?_⟩)))
    unfold masked
    rw [if_pos (le_refl q)]
    exact EReal.bot_lt_coe _
  exact ⟨_, (EReal.coe_toReal h1 h2).symm⟩

/-- On real scores the reference's mean, of scores in the base e and shifted by the largest, is the mean with the weights in the base 2, unshifted. -/
theorem soft_eq (s : Fin 4096 → ℝ) (v : Fin 4096 → EReal) (q : Fin 4096) :
    soft (fun t => ((s t * Real.log 2 : ℝ) : EReal)) v q
      = Ideal.div (∑ t : Fin 4096, if t ≤ q then v t * Ideal.exp2 (s t) else 0) (∑ t : Fin 4096, if t ≤ q then Ideal.exp2 (s t) else 0) := by
  obtain ⟨r, hr⟩ := top_real (fun t => s t * Real.log 2) q
  let w : Fin 4096 → ℝ := fun t => if t ≤ q then Real.rpow 2 (s t) else 0
  have hw : ∀ t, shifted (fun t => ((s t * Real.log 2 : ℝ) : EReal)) q t = ((w t * Real.exp (-r) : ℝ) : EReal) := fun t => by
    unfold shifted
    rw [hr]
    by_cases h : t ≤ q
    · have e : masked (fun t => ((s t * Real.log 2 : ℝ) : EReal)) q t = ((s t * Real.log 2 : ℝ) : EReal) := if_pos h
      have ew : w t = Real.exp (Real.log 2 * s t) := (if_pos h).trans (Real.rpow_def_of_pos (by norm_num) _)
      rw [e, ew, ← EReal.coe_sub, Ideal.exp_coe, ← Real.exp_add]
      exact congrArg (fun x : ℝ => ((Real.exp x : ℝ) : EReal)) (by ring)
    · have e : masked (fun t => ((s t * Real.log 2 : ℝ) : EReal)) q t = ⊥ := if_neg h
      have ew : w t = 0 := if_neg h
      rw [e, ew, EReal.bot_sub, Ideal.exp_bot, zero_mul, EReal.coe_zero]
  have h0 : ∀ t, 0 ≤ w t := fun t => by
    show 0 ≤ if t ≤ q then Real.rpow 2 (s t) else 0
    split
    · exact (Real.rpow_pos_of_pos (by norm_num) _).le
    · exact le_refl 0
  have hq : 0 < w q := by
    show 0 < if q ≤ q then Real.rpow 2 (s q) else 0
    rw [if_pos (le_refl q)]
    exact Real.rpow_pos_of_pos (by norm_num) _
  have hs : 0 < ∑ t, w t := Finset.sum_pos' (fun t _ => h0 t) ⟨q, Finset.mem_univ _, hq⟩
  have e1 : ∀ t, (if t ≤ q then Ideal.exp2 (s t) else 0) = (w t : EReal) := fun t => by
    show _ = ((if t ≤ q then Real.rpow 2 (s t) else 0 : ℝ) : EReal)
    split
    · rfl
    · rfl
  have e2 : ∀ t, (if t ≤ q then v t * Ideal.exp2 (s t) else 0) = v t * (w t : EReal) := fun t => by
    rw [← e1]
    split
    · rfl
    · rw [mul_zero]
  unfold soft
  simp only [hw, e1, e2]
  exact weights w v _ (Real.exp_pos _) hs

/-- The tiles before the query's own and the own one up to the query are the keys up to the query. -/
theorem tiles (f : Fin 4096 → EReal) (n : Nat) (hn : n < 8) (b : Fin 512) :
    (∑ j ∈ Finset.range n, ∑ a : Fin 512, f (key j a)) + (∑ a : Fin 512, if a ≤ b then f (key n a) else 0)
      = ∑ t : Fin 4096, if t.val ≤ 512 * n + b.val then f t else 0 := by
  have hb := b.isLt
  have kv : ∀ j, j < 8 → ∀ a : Fin 512, (key j a).val = 512 * j + a.val := fun j hj a => by
    have := a.isLt
    show (512 * j + a.val) % 4096 = _
    omega
  have e : (∑ t : Fin 4096, if t.val ≤ 512 * n + b.val then f t else 0)
      = ∑ j ∈ Finset.range 8, ∑ a : Fin 512, if (key j a).val ≤ 512 * n + b.val then f (key j a) else 0 := by
    refine (Fin.sum_univ_tiles 8 512 (by decide) _).trans (Eq.trans ?_ (Finset.sum_range _).symm)
    refine Finset.sum_congr rfl fun j _ => Finset.sum_congr rfl fun a _ => ?_
    refine congrArg (fun t : Fin 4096 => if t.val ≤ 512 * n + b.val then f t else 0) (Fin.ext ?_)
    rw [kv j.val j.isLt a]
    show j.val * 512 + a.val = 512 * j.val + a.val
    omega
  rw [e, ← Finset.sum_subset (Finset.range_mono (show n + 1 ≤ 8 by omega)) (fun j hj hj' => ?_), Finset.sum_range_succ]
  · refine congrArg₂ (· + ·) (Finset.sum_congr rfl fun j hj => Finset.sum_congr rfl fun a _ => ?_) (Finset.sum_congr rfl fun a _ => ?_)
    · have hj := Finset.mem_range.mp hj
      have ha := a.isLt
      rw [if_pos (by rw [kv j (by omega) a]; omega)]
    · rw [kv n hn a]
      by_cases h : a ≤ b
      · have := Fin.le_def.mp h
        rw [if_pos h, if_pos (by omega)]
      · have : ¬ a.val ≤ b.val := fun h' => h (Fin.le_def.mpr h')
        rw [if_neg h, if_neg (by omega)]
  · have h1 := Finset.mem_range.mp hj
    have h2 : ¬ j < n + 1 := fun h => hj' (Finset.mem_range.mpr h)
    refine Finset.sum_eq_zero fun a _ => ?_
    rw [if_neg (by rw [kv j h1 a]; omega)]

end Cert.MlaIdeal.MlaSoft

end
-- ==== Proof.Mla.Ref.lean ====
/- The reference's attention, element by element over the reals. -/
module

public import proofs.«01_k».proof.Proof.Gen.MlaRefIdeal.Read
public import proofs.«01_k».proof.Proof.Mla.Soft
public import Idealize.ShloMosaic.Lib.Pointwise

@[expose] public section

set_option maxRecDepth 16384

noncomputable section

namespace Cert.MlaIdeal.MlaRef

open Idealize.ShloMosaic Cert.MlaRefIdeal
open Cert.MlaIdeal.MlaSoft
open Cert.MlaRefIdeal.Read

variable (x0 x1 : Vec Ideal S4x8x4096x256 .bf16) (x2 : Vec Ideal S4x8x128x4096 .bf16)

/-- The score of key `t` for query `q`. -/
def score (b : Fin 4) (h : Fin 8) (q t : Fin 4096) : EReal := (∑ e : Fin 256, x0 (ix4 b h q e) * x1 (ix4 b h t e)) * ((Real.log 2 : ℝ) : EReal)

theorem minus_infinity : Ideal.ofBits .f32 0xFF800000#32 = ⊥ := by
  simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by simp [Ideal.ofBits, Ideal.ieee, -EReal.coe_mul]; norm_num
  rw [h, Ideal.log_coe, if_neg (by norm_num)]

theorem v7_apply (b : Fin 4) (h : Fin 8) (q t : Fin 4096) : val_main_v7 (F := Ideal) x0 x1 (ix4 b h q t) = score x0 x1 b h q t := by
  pointwise [val_main_v2, val_main_v3, val_main_v4, val_main_cst, val_main_v5, val_main_v6, val_main_v7]
  exact congrArg _ log_two

theorem select_true (x y : EReal) : Scalar.select (BitVec.ofBool true) x y = x := rfl
theorem select_false (x y : EReal) : Scalar.select (BitVec.ofBool false) x y = y := rfl

theorem v14_apply (q t : Fin 4096) : val_main_v14 (F := Ideal) (ix2 q t) = BitVec.ofBool (decide (t.val ≤ q.val)) := by
  rw [val_main_v14_apply, val_main_v12_apply, val_main_v10_apply, val_main_v9_apply, val_main_v13_apply, val_main_v11_apply, val_main_v8_apply]
  exact MlaPure.le_bit t.isLt q.isLt

theorem call_apply (b : Fin 4) (h : Fin 8) (q t : Fin 4096) : val_main_call0_v1 (F := Ideal) (ix4 b h q t) = BitVec.ofBool (decide (t.val ≤ q.val)) := by
  rw [val_main_call0_v1_apply]
  exact (congrArg (val_main_v14 (F := Ideal)) (funext fun a => match a with | ⟨0, _⟩ => rfl | ⟨1, _⟩ => rfl)).trans (v14_apply q t)

theorem v15_apply (b : Fin 4) (h : Fin 8) (q t : Fin 4096) : val_main_v15 (F := Ideal) x0 x1 (ix4 b h q t) = masked (score x0 x1 b h q) q t := by
  rw [val_main_v15_apply, v7_apply, call_apply, val_main_call0_v2_apply, val_main_call0_v0_apply, val_main_cst_0_apply]
  unfold masked
  by_cases hq : t ≤ q
  · rw [if_pos hq, decide_eq_true (Fin.le_def.mp hq)]
    exact select_true _ _
  · rw [if_neg hq, decide_eq_false (fun h' => hq (Fin.le_def.mpr h'))]
    exact (select_false _ _).trans minus_infinity

/-- A maximum over the last of four axes, read at one element. -/
theorem largest {n0 n1 n2 n3 : Nat} (v : FVec Ideal (⟨4, ![n0, n1, n2, n3]⟩ : Shape) .f32) (c : FVec Ideal (⟨0, ![]⟩ : Shape) .f32)
    (hr : (⟨4, ![n0, n1, n2, n3]⟩ : Shape).ReducesTo [3] (⟨3, ![n0, n1, n2]⟩ : Shape)) (hu : 0 < (⟨0, ![]⟩ : Shape).numel) (b : Fin n0) (h : Fin n1) (q : Fin n2) :
    Host.reduce FloatOps.maximumf v c hr hu (ix3 b h q) = Finset.univ.fold max (c (Shape.Idx.first hu)) fun t : Fin n3 => v (ix4 b h q t) := by
  simp only [pointwise]

theorem v16_apply (b : Fin 4) (h : Fin 8) (q : Fin 4096) :
    val_main_v16 (F := Ideal) x0 x1 (ix3 b h q) = Finset.univ.fold max ⊥ (masked (score x0 x1 b h q) q) := by
  have e : masked (score x0 x1 b h q) q = fun t => val_main_v15 (F := Ideal) x0 x1 (ix4 b h q t) := funext fun t => (v15_apply x0 x1 b h q t).symm
  have ec : ∀ i, val_main_cst_1 (F := Ideal) i = (⊥ : EReal) := fun _ => minus_infinity
  rw [e]
  unfold val_main_v16
  generalize val_main_v15 (F := Ideal) x0 x1 = y
  rw [← ec (Shape.Idx.first (by decide))]
  generalize val_main_cst_1 (F := Ideal) = z
  exact largest y z _ _ b h q

theorem v18_apply (b : Fin 4) (h : Fin 8) (q : Fin 4096) : val_main_v18 (F := Ideal) x0 x1 (ix3 b h q) = top (score x0 x1 b h q) q := by
  rw [val_main_v18_apply, v16_apply, val_main_v17_apply]
  exact congrArg (fun x => max x _) minus_infinity

theorem v22_apply (b : Fin 4) (h : Fin 8) (q t : Fin 4096) : val_main_v22 (F := Ideal) x0 x1 (ix4 b h q t) = shifted (score x0 x1 b h q) q t := by
  pointwise [val_main_v19, val_main_v20, val_main_v21, val_main_v22]
  simp only [v15_apply, v18_apply]
  rfl

theorem v26_apply (b : Fin 4) (h : Fin 8) (q t : Fin 4096) :
    val_main_v26 (F := Ideal) x0 x1 (ix4 b h q t) = Ideal.div (shifted (score x0 x1 b h q) q t) (∑ t', shifted (score x0 x1 b h q) q t') := by
  pointwise [val_main_cst_3, val_main_v23, val_main_v24, val_main_v25, val_main_v26]
  simp only [v22_apply]

theorem ref_apply (b : Fin 4) (h : Fin 8) (q : Fin 4096) (d : Fin 128) :
    val_main_v30 (F := Ideal) x0 x1 x2 (ix2 ⟨b.val * 4096 + q.val, by omega⟩ ⟨h.val * 128 + d.val, by omega⟩)
      = soft (score x0 x1 b h q) (fun t => x2 (ix4 b h d t)) q := by
  have hb := b.isLt
  have hh := h.isLt
  have hq := q.isLt
  have hd := d.isLt
  have e : idx_main_v29 (ix2 ⟨b.val * 4096 + q.val, by omega⟩ ⟨h.val * 128 + d.val, by omega⟩) = ix4 b q h d := funext fun a => Fin.ext (by
    match a with
    | ⟨0, _⟩ => show ((b.val * 4096 + q.val) * 1024 + (h.val * 128 + d.val)) / 4194304 = b.val; omega
    | ⟨1, _⟩ => show ((b.val * 4096 + q.val) * 1024 + (h.val * 128 + d.val)) / 1024 % 4096 = q.val; omega
    | ⟨2, _⟩ => show ((b.val * 4096 + q.val) * 1024 + (h.val * 128 + d.val)) / 128 % 8 = h.val; omega
    | ⟨3, _⟩ => show ((b.val * 4096 + q.val) * 1024 + (h.val * 128 + d.val)) % 128 = d.val; omega)
  rw [val_main_v30_apply, val_main_v29_apply, e, val_main_v28_apply]
  refine (val_main_v27_apply _ _ _ _).trans (Finset.sum_congr rfl fun t _ => congrArg₂ (· * ·) ?_ ?_)
  · exact (congrArg (val_main_v26 (F := Ideal) x0 x1) (show lidx_main_v27 (idx_main_v28 (ix4 b q h d)) t = ix4 b h q t from funext fun a => match a with | ⟨0, _⟩ => rfl | ⟨1, _⟩ => rfl | ⟨2, _⟩ => rfl | ⟨3, _⟩ => rfl)).trans (v26_apply x0 x1 b h q t)
  · rw [val_main_v1_apply, val_main_v0_apply]
    exact congrArg x2 (funext fun a => match a with | ⟨0, _⟩ => rfl | ⟨1, _⟩ => rfl | ⟨2, _⟩ => rfl | ⟨3, _⟩ => rfl)

end Cert.MlaIdeal.MlaRef

end
-- ==== Proof.Mla.Value.lean ====
/- The latent attention: what its result array holds after the run, over the reals, and the claim against the reference. -/
module

public import proofs.«01_k».proof.Proof.Gen.MlaIdeal.Value
public import proofs.«01_k».proof.Proof.Gen.MlaRefIdeal.Run
public import proofs.«01_k».proof.Proof.Mla.Run
public import proofs.«01_k».proof.Proof.Mla.Ref
public import proofs.«01_k».proof.Proof.Gen.Pre_finite_scores
public import proofs.«01_k».proof.Defs

@[expose] public section

set_option maxRecDepth 16384

noncomputable section

namespace Cert.MlaIdeal.MlaValue

open Idealize.ShloMosaic Idealize.ShloMosaic.TcCoe Idealize.SL.Sem Cert.MlaIdeal Cert.MlaIdeal.Gen
open Cert.MlaIdeal.MlaRun hiding score
open Cert.MlaIdeal.MlaSoft Cert.MlaIdeal.MlaRef
open Idealize.ShloMosaic.Pipeline (Dat)
open Cert.MlaRefIdeal.Read (val_main_v30)

/-! ## Numbers -/

theorem plus_infinity : Ideal.ofBits .f32 0x7F800000#32 = ⊤ := by
  simp [Ideal.ofBits, Ideal.ieee]

theorem number (x : EReal) (h : max x (-x) < ⊤) : ∃ r : ℝ, x = (r : EReal) := by
  induction x using EReal.rec with
  | bot => simp at h
  | coe r => exact ⟨r, rfl⟩
  | top => simp at h

theorem both (x y : EReal) (h : BitVec.ofBool (decide (max x (-x) < ⊤)) &&& BitVec.ofBool (decide (max y (-y) < ⊤)) = 1#1) :
    (∃ r : ℝ, x = (r : EReal)) ∧ ∃ r : ℝ, y = (r : EReal) := by
  by_cases hx : max x (-x) < ⊤
  · by_cases hy : max y (-y) < ⊤
    · exact ⟨number x hx, number y hy⟩
    · rw [decide_eq_true hx, decide_eq_false hy] at h; exact absurd h (by decide)
  · rw [decide_eq_false hx] at h
    by_cases hy : max y (-y) < ⊤
    · rw [decide_eq_true hy] at h; exact absurd h (by decide)
    · rw [decide_eq_false hy] at h; exact absurd h (by decide)

theorem pre_at (x0 x1 : Vec Ideal S4x8x4096x256 .bf16) (x2 : Vec Ideal S4x8x128x4096 .bf16) (b : Fin 4) (h : Fin 8) (q : Fin 4096) (e : Fin 256) :
    Cert.Pre_finite_scores.fn (F := Ideal) x0 x1 x2 (ix4 b h q e)
      = BitVec.ofBool (decide (max (x0 (ix4 b h q e)) (-x0 (ix4 b h q e)) < ⊤)) &&& BitVec.ofBool (decide (max (x1 (ix4 b h q e)) (-x1 (ix4 b h q e)) < ⊤)) := by
  rw [← plus_infinity]
  rfl

theorem numbers (x0 x1 : Vec Ideal S4x8x4096x256 .bf16) (x2 : Vec Ideal S4x8x128x4096 .bf16)
    (hp : Cert.Pre_finite_scores.fn (F := Ideal) x0 x1 x2 = fun _ => 1#1) :
    ∃ q k : Fin 4 → Fin 8 → Fin 4096 → Fin 256 → ℝ, (∀ b h t e, x0 (ix4 b h t e) = (q b h t e : EReal)) ∧ ∀ b h t e, x1 (ix4 b h t e) = (k b h t e : EReal) := by
  have hb := fun b h t e => both _ _ ((pre_at x0 x1 x2 b h t e).symm.trans (congrFun hp _))
  choose q hq using fun b h t e => (hb b h t e).1
  choose k hk using fun b h t e => (hb b h t e).2
  exact ⟨q, k, hq, hk⟩

/-! ## One entry -/

theorem score_real (x0 x1 : Vec Ideal S4x8x4096x256 .bf16) (q k : Fin 4 → Fin 8 → Fin 4096 → Fin 256 → ℝ)
    (hq : ∀ b h t e, x0 (ix4 b h t e) = (q b h t e : EReal)) (hk : ∀ b h t e, x1 (ix4 b h t e) = (k b h t e : EReal)) (b : Fin 4) (h : Fin 8) (r : Fin 4096) :
    score x0 x1 b h r = fun t => (((∑ e : Fin 256, k b h t e * q b h r e) * Real.log 2 : ℝ) : EReal) := by
  funext t
  unfold score
  rw [EReal.coe_mul, ← coe_sum]
  refine congrArg (· * ((Real.log 2 : ℝ) : EReal)) (Finset.sum_congr rfl fun e _ => ?_)
  rw [hq, hk, ← EReal.coe_mul, mul_comm]

theorem entry (x0 x1 : Vec Ideal S4x8x4096x256 .bf16) (x2 : Vec Ideal S4x8x128x4096 .bf16) (q k : Fin 4 → Fin 8 → Fin 4096 → Fin 256 → ℝ)
    (hq : ∀ b h t e, x0 (ix4 b h t e) = (q b h t e : EReal)) (hk : ∀ b h t e, x1 (ix4 b h t e) = (k b h t e : EReal))
    (Q : Vec Ideal S1x4x512x256 .bf16) (K : Vec Ideal S1x4x4096x256 .bf16) (V : Vec Ideal S1x4x128x4096 .bf16)
    (b : Fin 4) (h : Fin 8) (g : Fin 4) (n : Nat) (hn : n < 8) (r : Fin 512) (R : Fin 4096) (hR : R.val = 512 * n + r.val) (d : Fin 128)
    (hQ : ∀ e, Q (ix4 0 g r e) = x0 (ix4 b h R e)) (hK : ∀ t e, K (ix4 0 g t e) = x1 (ix4 b h t e)) (hV : ∀ t, V (ix4 0 g d t) = x2 (ix4 b h d t)) :
    Ideal.div (afin Q K V g d r n) (lfin Q K g r n) = soft (score x0 x1 b h R) (fun t => x2 (ix4 b h d t)) R := by
  have hw : ∀ t, wt Q K g t r = Ideal.exp2 (((∑ e : Fin 256, k b h t e * q b h R e : ℝ)) : EReal) := fun t => by
    unfold wt
    rw [← coe_sum]
    refine congrArg Ideal.exp2 (Finset.sum_congr rfl fun e _ => ?_)
    rw [hQ, hK, hq, hk, ← EReal.coe_mul]
  have hle : ∀ t : Fin 4096, t ≤ R ↔ t.val ≤ 512 * n + r.val := fun t => by rw [← hR]; exact Iff.rfl
  rw [score_real x0 x1 q k hq hk, soft_eq]
  refine congrArg₂ Ideal.div ?_ ?_
  · unfold afin asum
    have e1 : ∀ a : Fin 512, (V (ix4 0 g d (key n a)) * if a ≤ r then wt Q K g (key n a) r else 0)
        = if a ≤ r then V (ix4 0 g d (key n a)) * wt Q K g (key n a) r else 0 := fun a => by split <;> simp
    rw [Finset.sum_congr rfl fun a _ => e1 a, tiles (fun t => V (ix4 0 g d t) * wt Q K g t r) n hn r]
    refine Finset.sum_congr rfl fun t _ => ?_
    simp only [hle, hw, hV]
  · unfold lfin lsum
    rw [tiles (fun t => wt Q K g t r) n hn r]
    refine Finset.sum_congr rfl fun t _ => ?_
    simp only [hle, hw]

/-! ## The blocks -/

variable (m : (ℓ : Loc nD τ sig) → Buf (Elt Ideal) ℓ) (ρ : Dev nD → PrngReg)

abbrev argQ (c : Dev nD) : Vec Ideal S4x8x4096x256 .bf16 := m ((c : Thread nD τ).loc main_arg0)
abbrev argK (c : Dev nD) : Vec Ideal S4x8x4096x256 .bf16 := m ((c : Thread nD τ).loc main_arg1)
abbrev argV (c : Dev nD) : Vec Ideal S4x8x128x4096 .bf16 := m ((c : Thread nD τ).loc main_arg2)

theorem t_lt (t : Fin cfg0.N) : t.val < 64 := lt_of_lt_of_eq t.isLt N_0

/-- A grid point's batch, -/
def bat (t : Fin cfg0.N) : Fin 4 := ⟨t.val / 16, by have := t_lt t; omega⟩

/-- one of its four heads, -/
def hd (t : Fin cfg0.N) (g : Fin 4) : Fin 8 := ⟨4 * (t.val / 8 % 2) + g.val, by omega⟩

/-- and one of its queries. -/
def tok (t : Fin cfg0.N) (r : Fin 512) : Fin 4096 := ⟨512 * (t.val % 8) + r.val, by omega⟩

theorem coord_2 : ∀ t : Fin cfg0.N, (grid0.coords t 2).val = t.val % 8 := (by decide +kernel : ∀ t : Fin grid0.N, _)
theorem index_0 : ∀ t : Fin cfg0.N, win0_0.index t (0 : Fin 4) = t.val / 16 ∧ win0_0.index t (1 : Fin 4) = t.val / 8 % 2 ∧ win0_0.index t (2 : Fin 4) = t.val % 8 ∧ win0_0.index t (3 : Fin 4) = 0 :=
  (by decide +kernel : ∀ t : Fin grid0.N, _)
theorem index_1 : ∀ t : Fin cfg0.N, win0_1.index t (0 : Fin 4) = t.val / 16 ∧ win0_1.index t (1 : Fin 4) = t.val / 8 % 2 ∧ win0_1.index t (2 : Fin 4) = 0 ∧ win0_1.index t (3 : Fin 4) = 0 :=
  (by decide +kernel : ∀ t : Fin grid0.N, _)
theorem index_2 : ∀ t : Fin cfg0.N, win0_2.index t (0 : Fin 4) = t.val / 16 ∧ win0_2.index t (1 : Fin 4) = t.val / 8 % 2 ∧ win0_2.index t (2 : Fin 4) = 0 ∧ win0_2.index t (3 : Fin 4) = 0 :=
  (by decide +kernel : ∀ t : Fin grid0.N, _)
theorem index_3 : ∀ t : Fin cfg0.N, win0_3.index t (0 : Fin 2) = t.val / 16 * 8 + t.val % 8 ∧ win0_3.index t (1 : Fin 2) = t.val / 8 % 2 :=
  (by decide +kernel : ∀ t : Fin grid0.N, _)

theorem blk0_apply (c : Dev nD) (t : Fin cfg0.N) (g : Fin 4) (r : Fin 512) (e : Fin 256) :
    (iblk m c 0 t : Vec Ideal S1x4x512x256 .bf16) (ix4 0 g r e) = argQ m c (ix4 (bat t) (hd t g) (tok t r) e) := by
  obtain ⟨e0, e1, e2, e3⟩ := index_0 t
  refine Eq.trans (b := (V m c main_arg0 : Vec Ideal S4x8x4096x256 .bf16) (ix4 (bat t) (hd t g) (tok t r) e)) ?_ ?_
  · show (V m c main_arg0 : Vec Ideal S4x8x4096x256 .bf16) (((cfg0.win 0).blk t).view.emb (ix4 0 g r e)) = _
    refine congrArg (V m c main_arg0 : Vec Ideal S4x8x4096x256 .bf16) (funext fun a => Fin.ext ?_)
    match a with
    | ⟨0, _⟩ => show win0_0.index t (0 : Fin 4) * 1 + 1 * 0 = t.val / 16; omega
    | ⟨1, _⟩ => show win0_0.index t (1 : Fin 4) * 4 + 1 * g.val = 4 * (t.val / 8 % 2) + g.val; omega
    | ⟨2, _⟩ => show win0_0.index t (2 : Fin 4) * 512 + 1 * r.val = 512 * (t.val % 8) + r.val; omega
    | ⟨3, _⟩ => show win0_0.index t (3 : Fin 4) * 256 + 1 * e.val = e.val; omega
  · rw [V_main_arg0]

theorem blk1_apply (c : Dev nD) (t : Fin cfg0.N) (g : Fin 4) (s : Fin 4096) (e : Fin 256) :
    (iblk m c 1 t : Vec Ideal S1x4x4096x256 .bf16) (ix4 0 g s e) = argK m c (ix4 (bat t) (hd t g) s e) := by
  obtain ⟨e0, e1, e2, e3⟩ := index_1 t
  refine Eq.trans (b := (V m c main_arg1 : Vec Ideal S4x8x4096x256 .bf16) (ix4 (bat t) (hd t g) s e)) ?_ ?_
  · show (V m c main_arg1 : Vec Ideal S4x8x4096x256 .bf16) (((cfg0.win 1).blk t).view.emb (ix4 0 g s e)) = _
    refine congrArg (V m c main_arg1 : Vec Ideal S4x8x4096x256 .bf16) (funext fun a => Fin.ext ?_)
    match a with
    | ⟨0, _⟩ => show win0_1.index t (0 : Fin 4) * 1 + 1 * 0 = t.val / 16; omega
    | ⟨1, _⟩ => show win0_1.index t (1 : Fin 4) * 4 + 1 * g.val = 4 * (t.val / 8 % 2) + g.val; omega
    | ⟨2, _⟩ => show win0_1.index t (2 : Fin 4) * 4096 + 1 * s.val = s.val; omega
    | ⟨3, _⟩ => show win0_1.index t (3 : Fin 4) * 256 + 1 * e.val = e.val; omega
  · rw [V_main_arg1]

theorem blk2_apply (c : Dev nD) (t : Fin cfg0.N) (g : Fin 4) (d : Fin 128) (s : Fin 4096) :
    (iblk m c 2 t : Vec Ideal S1x4x128x4096 .bf16) (ix4 0 g d s) = argV m c (ix4 (bat t) (hd t g) d s) := by
  obtain ⟨e0, e1, e2, e3⟩ := index_2 t
  refine Eq.trans (b := (V m c main_arg2 : Vec Ideal S4x8x128x4096 .bf16) (ix4 (bat t) (hd t g) d s)) ?_ ?_
  · show (V m c main_arg2 : Vec Ideal S4x8x128x4096 .bf16) (((cfg0.win 2).blk t).view.emb (ix4 0 g d s)) = _
    refine congrArg (V m c main_arg2 : Vec Ideal S4x8x128x4096 .bf16) (funext fun a => Fin.ext ?_)
    match a with
    | ⟨0, _⟩ => show win0_2.index t (0 : Fin 4) * 1 + 1 * 0 = t.val / 16; omega
    | ⟨1, _⟩ => show win0_2.index t (1 : Fin 4) * 4 + 1 * g.val = 4 * (t.val / 8 % 2) + g.val; omega
    | ⟨2, _⟩ => show win0_2.index t (2 : Fin 4) * 128 + 1 * d.val = d.val; omega
    | ⟨3, _⟩ => show win0_2.index t (3 : Fin 4) * 4096 + 1 * s.val = s.val; omega
  · rw [V_main_arg2]

/-! ## The array after the region -/

/-- The query's attention, in one head and lane. -/
def attn (c : Dev nD) (R : Fin 16384) (l : Fin 1024) : EReal :=
  soft (score (argQ m c) (argK m c) ⟨R.val / 4096, by omega⟩ ⟨l.val / 128, by omega⟩ ⟨R.val % 4096, Nat.mod_lt _ (by omega)⟩)
    (fun t => argV m c (ix4 ⟨R.val / 4096, by omega⟩ ⟨l.val / 128, by omega⟩ ⟨l.val % 128, Nat.mod_lt _ (by omega)⟩ t)) ⟨R.val % 4096, Nat.mod_lt _ (by omega)⟩

def G3 (c : Dev nD) : Buf (Elt Ideal) ((c : Thread nD τ).loc main_v0) := fun (i : S16384x1024.Idx) => attn m c (i 0) (i 1)

theorem attn_at (c : Dev nD) (R : Fin 16384) (l : Fin 1024) (b : Fin 4) (h : Fin 8) (q : Fin 4096) (d : Fin 128)
    (hR : R.val = b.val * 4096 + q.val) (hl : l.val = h.val * 128 + d.val) :
    attn m c R l = soft (score (argQ m c) (argK m c) b h q) (fun t => argV m c (ix4 b h d t)) q := by
  have e0 : (⟨R.val / 4096, by omega⟩ : Fin 4) = b := Fin.ext (by show R.val / 4096 = b.val; omega)
  have e1 : (⟨l.val / 128, by omega⟩ : Fin 8) = h := Fin.ext (by show l.val / 128 = h.val; omega)
  have e2 : (⟨R.val % 4096, Nat.mod_lt _ (by omega)⟩ : Fin 4096) = q := Fin.ext (by show R.val % 4096 = q.val; omega)
  have e3 : (⟨l.val % 128, Nat.mod_lt _ (by omega)⟩ : Fin 128) = d := Fin.ext (by show l.val % 128 = d.val; omega)
  unfold attn
  rw [e0, e1, e2, e3]

variable (hp : Cert.Pre_MlaIdeal_finite_scores m)

include hp in
theorem flushed (c : Dev nD) (t : Fin cfg0.N) :
    (dats m 0 c).flushed 3 t = ((cfg0.win 3).blk t).view.read (Elt Ideal) (G3 m c) := by
  obtain ⟨e0, e1⟩ := index_3 t
  obtain ⟨q, k, hq, hk⟩ := numbers _ _ _ (hp c)
  rw [Value.flushed3_A, out_eq]
  funext (y : S512x512.Idx)
  show outB (iblk m c 0 t) (iblk m c 1 t) (iblk m c 2 t) (grid0.coords t 2).val y = G3 m c (((cfg0.win 3).blk t).view.emb y)
  obtain ⟨r, l, rfl⟩ : ∃ (r : Fin 512) (l : Fin 512), y = ix2 r l := ⟨y 0, y 1, by funext a; match a with | ⟨0, _⟩ => rfl | ⟨1, _⟩ => rfl⟩
  have ht := t_lt t
  rw [show ((cfg0.win 3).blk t).view.emb (ix2 r l) = (ix2 ⟨(t.val / 16 * 8 + t.val % 8) * 512 + r.val, by omega⟩ ⟨t.val / 8 % 2 * 512 + l.val, by omega⟩ : S16384x1024.Idx) from
    funext fun a => Fin.ext (by
      match a with
      | ⟨0, _⟩ => show win0_3.index t (0 : Fin 2) * 512 + 1 * r.val = (t.val / 16 * 8 + t.val % 8) * 512 + r.val; omega
      | ⟨1, _⟩ => show win0_3.index t (1 : Fin 2) * 512 + 1 * l.val = t.val / 8 % 2 * 512 + l.val; omega)]
  have hg : l.val / 128 < 4 := by omega
  have hd' : l.val % 128 < 128 := Nat.mod_lt _ (by omega)
  rw [outB_apply _ _ _ _ r l ⟨l.val / 128, hg⟩ ⟨l.val % 128, hd'⟩ (by show l.val = 128 * (l.val / 128) + l.val % 128; omega), coord_2]
  refine Eq.trans (entry (argQ m c) (argK m c) (argV m c) q k hq hk _ _ _ (bat t) (hd t ⟨l.val / 128, hg⟩) ⟨l.val / 128, hg⟩ (t.val % 8) (Nat.mod_lt _ (by omega)) r (tok t r) rfl ⟨l.val % 128, hd'⟩
    (fun e => blk0_apply m c t _ r e) (fun s e => blk1_apply m c t _ s e) (fun s => blk2_apply m c t _ _ s)) (attn_at m c _ _ _ _ _ _ ?_ ?_).symm
  · show (t.val / 16 * 8 + t.val % 8) * 512 + r.val = t.val / 16 * 4096 + (512 * (t.val % 8) + r.val); omega
  · show t.val / 8 % 2 * 512 + l.val = (4 * (t.val / 8 % 2) + l.val / 128) * 128 + l.val % 128; omega

theorem mem3 (t : Fin cfg0.N) (i : S16384x1024.Idx) : i ∈ ((cfg0.win 3).blk t).view.set
    ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]; exact Iff.rfl

include hp in
theorem final (c : Dev nD) : (dats m 0 c).arrAt 3 cfg0.N = G3 m c :=
  (dats m 0 c).arrAt_eq_of_cover 3 _ (fun t _ => flushed m hp c t) (fun (i : S16384x1024.Idx) => by
    have h0 : (i 0).val < 16384 := (i 0).isLt
    have h1 : (i 1).val < 1024 := (i 1).isLt
    have ht : (i 0).val / 4096 * 16 + (i 1).val / 512 * 8 + (i 0).val / 512 % 8 < cfg0.N := lt_of_lt_of_eq (by omega) (show 64 = cfg0.N from N_0.symm)
    refine ⟨⟨(i 0).val / 4096 * 16 + (i 1).val / 512 * 8 + (i 0).val / 512 % 8, ht⟩, flush0_3 _, (mem3 _ i).mpr fun a => ?_⟩
    obtain ⟨e0, e1⟩ := index_3 ⟨(i 0).val / 4096 * 16 + (i 1).val / 512 * 8 + (i 0).val / 512 % 8, ht⟩
    dsimp only at e0 e1
    match a with
    | ⟨0, _⟩ => show win0_3.index _ (0 : Fin 2) * 512 ≤ (i 0).val ∧ (i 0).val < win0_3.index _ (0 : Fin 2) * 512 + 512; omega
    | ⟨1, _⟩ => show win0_3.index _ (1 : Fin 2) * 512 ≤ (i 1).val ∧ (i 1).val < win0_3.index _ (1 : Fin 2) * 512 + 512; omega)

/-! ## Against the reference -/

include hp in
theorem result_eq (c : Dev nD) : (dats m 0 c).arrAt 3 cfg0.N = val_main_v30 (F := Ideal) (argQ m c) (argK m c) (argV m c) := by
  rw [final m hp]
  funext (y : S16384x1024.Idx)
  obtain ⟨R, l, rfl⟩ : ∃ (r : Fin 16384) (l : Fin 1024), y = ix2 r l := ⟨y 0, y 1, by funext a; match a with | ⟨0, _⟩ => rfl | ⟨1, _⟩ => rfl⟩
  have hR : R = ⟨(⟨R.val / 4096, by omega⟩ : Fin 4).val * 4096 + (⟨R.val % 4096, Nat.mod_lt _ (by omega)⟩ : Fin 4096).val, by dsimp only; omega⟩ := Fin.ext (by dsimp only; omega)
  have hl : l = ⟨(⟨l.val / 128, by omega⟩ : Fin 8).val * 128 + (⟨l.val % 128, Nat.mod_lt _ (by omega)⟩ : Fin 128).val, by dsimp only; omega⟩ := Fin.ext (by dsimp only; omega)
  refine Eq.trans ?_ ((ref_apply (argQ m c) (argK m c) (argV m c) ⟨R.val / 4096, by omega⟩ ⟨l.val / 128, by omega⟩ ⟨R.val % 4096, Nat.mod_lt _ (by omega)⟩ ⟨l.val % 128, Nat.mod_lt _ (by omega)⟩).symm.trans ?_)
  · rfl
  · exact congrArg (val_main_v30 (F := Ideal) (argQ m c) (argK m c) (argV m c)) (congrArg₂ ix2 hR.symm hl.symm)

/-- The claim: from the same arguments, the queries and keys numbers, the kernel's result is the reference's. -/
theorem algebraic : Cert.algebraic_MlaIdeal_MlaRefIdeal_pre_finite_scores := by
  intro m g m' g' hp hargs
  refine ⟨fun c => (dats m 0 c).arrAt 3 cfg0.N, ?_, ?_⟩
  · exact Value.run_blocks m g
  · refine (θ_run Cert.MlaRefIdeal.defs _ _).mono (fun r h c => ?_) (Cert.MlaRefIdeal.Value.run m' g')
    obtain ⟨e0, e1, e2⟩ := hargs c
    obtain ⟨h30, hk⟩ := h c
    refine ⟨h30.trans ((Cert.MlaRefIdeal.Read.val_main_v30_eq _ _).trans ?_), hk⟩
    rw [e0, e1, e2]; exact (result_eq m hp c).symm

end Cert.MlaIdeal.MlaValue

end
-- ==== Proof.lean ====
/- The certificate's claims, assembled. Of each of these calls of the model —
   the modulations and the laid-out projection weight; the feed-forward block; the input projection; the merge and output projection; the latent up-projections; the latent attention — the
   frame of the kernel at its own numbers and over the reals, the frame of the reference, that the two printings are one
   program up to the named constant, and, over the reals, that the kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentRefIdeal
public import proofs.«01_k».proof.Proof.Gen.LatentRefIdeal.Run
public import proofs.«01_k».proof.Proof.Gen.LatentRefIdeal.Read
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Pre_finite_scores
public import proofs.«01_k».proof.Proof.Ada.Bits
public import proofs.«01_k».proof.Proof.Ada.Value
public import proofs.«01_k».proof.Proof.Ffn.Value
public import proofs.«01_k».proof.Proof.Proj.Bits
public import proofs.«01_k».proof.Proof.Proj.Value
public import proofs.«01_k».proof.Proof.Merge.Value
public import proofs.«01_k».proof.Proof.Latent.Value
public import proofs.«01_k».proof.Proof.Mla.Value
public import Idealize.ShloMosaic.Adequacy
public import Idealize.ShloMosaic.Init
public import Idealize.ShloMosaic.Lib.Claim

@[expose] public section

noncomputable section

namespace Cert.Proof

open Idealize.ShloMosaic Idealize.SL.Sem

/-- The reference's frame: its run keeps the arguments, and it has no semaphore. -/
theorem frame_ReferenceIdeal : Cert.quiescent_ReferenceIdeal := by
  intro m ρ _
  exact (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The reference's frame: its run keeps the arguments, and it has no semaphore. -/
theorem frame_FfnRefIdeal : Cert.quiescent_FfnRefIdeal := by
  intro m ρ _
  exact (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The reference's frame: its run keeps the arguments, and it has no semaphore. -/
theorem frame_ProjRefIdeal : Cert.quiescent_ProjRefIdeal := by
  intro m ρ _
  exact (θ_run Cert.ProjRefIdeal.defs _ _).mono (fun r h => ⟨fun c => (h c).2.2.2.2.2.2.2, Idealize.ShloMosaic.sem_eq_zero_of_no_sems (by decide) r.2⟩)
    (Cert.ProjRefIdeal.Value.run (F := Ideal) m ρ)

/-- The reference's frame: its run keeps the arguments, and it has no semaphore. -/
theorem frame_MergeRefIdeal : Cert.quiescent_MergeRefIdeal := by
  intro m ρ _
  exact (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The reference's frame: its run keeps the arguments, and it has no semaphore. -/
theorem frame_LatentRefIdeal : Cert.quiescent_LatentRefIdeal := by
  intro m ρ _
  exact (θ_run Cert.LatentRefIdeal.defs _ _).mono (fun r h => ⟨fun c => (h c).2.2.2, Idealize.ShloMosaic.sem_eq_zero_of_no_sems (by decide) r.2⟩)
    (Cert.LatentRefIdeal.Value.run (F := Ideal) m ρ)

/-- The reference's frame: its run keeps the arguments, and it has no semaphore. -/
theorem frame_MlaRefIdeal : Cert.quiescent_MlaRefIdeal := by
  intro m ρ _
  exact (θ_run Cert.MlaRefIdeal.defs _ _).mono (fun r h => ⟨fun c => (h c).2, Idealize.ShloMosaic.sem_eq_zero_of_no_sems (by decide) r.2⟩)
    (Cert.MlaRefIdeal.Value.run (F := Ideal) m ρ)

/-- Everything claimed. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Latent.Gen.facts, Cert.LatentIdeal.Gen.facts, Cert.LatentRefIdeal.Gen.facts, Cert.Mla.Gen.facts, Cert.MlaIdeal.Gen.facts, Cert.MlaRefIdeal.Gen.facts, Cert.Pre_finite_scores.Gen.facts,
  Cert.KernelIdeal.AdaBits.frame,
  fun m ρ _ => Cert.KernelIdeal.Ada.frame m ρ,
  frame_ReferenceIdeal,
  fun m ρ _ => Cert.Ffn.Gen.frame m ρ,
  fun m ρ _ => Cert.FfnIdeal.Gen.frame m ρ,
  frame_FfnRefIdeal,
  Cert.ProjIdeal.ProjBits.frame,
  fun m ρ _ => Cert.ProjIdeal.Proj.frame m ρ,
  frame_ProjRefIdeal,
  fun m ρ _ => Cert.Merge.Gen.frame m ρ,
  fun m ρ _ => Cert.MergeIdeal.Gen.frame m ρ,
  frame_MergeRefIdeal,
  fun m ρ _ => Cert.Latent.Gen.frame m ρ,
  fun m ρ _ => Cert.LatentIdeal.Gen.frame m ρ,
  frame_LatentRefIdeal,
  fun m ρ _ => Cert.Mla.Gen.frame m ρ,
  fun m ρ _ => Cert.MlaIdeal.Gen.frame m ρ,
  fun m ρ _ => Cert.MlaIdeal.Gen.frame m ρ,
  frame_MlaRefIdeal,
  fun m ρ _ => frame_MlaRefIdeal m ρ trivial,
  trivial, Cert.KernelIdeal.AdaValue.algebraic, trivial, Cert.FfnIdeal.FfnValue.algebraic, trivial, Cert.ProjIdeal.ProjValue.algebraic, trivial, Cert.MergeIdeal.MergeValue.algebraic, IdealRules.named_const.statement _ _ _ _ _ rfl, Cert.LatentIdeal.LatentValue.algebraic, IdealRules.named_const.statement _ _ _ _ _ rfl, Cert.MlaIdeal.MlaValue.algebraic⟩

end Cert.Proof

end
